-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sg_finite [hPre_sg_finite : Cert.Pre_sg_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sg_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_sg_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_sg_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_sg_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_sg_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_sg_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sg_finite [hPre_sg_finite : Cert.Pre_sg_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sg_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_sg_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_sg_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_sg_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_sg_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_sg_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_cg_finite [hPre_cg_finite : Cert.Pre_cg_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_cg_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_cg_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_cg_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_cg_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_cg_finite [hPre_cg_finite : Cert.Pre_cg_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_cg_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_cg_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_cg_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_cg_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_ln_finite [hPre_ln_finite : Cert.Pre_ln_finite.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_ln_finite.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))).1 = (fun _ => 1#1)
    ∧ (Cert.Pre_ln_finite.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))).2.1 = (fun _ => 1#1)
    ∧ (Cert.Pre_ln_finite.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))).2.2.1 = (fun _ => 1#1)
    ∧ (Cert.Pre_ln_finite.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))).2.2.2 = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_ln_finite [hPre_ln_finite : Cert.Pre_ln_finite.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_ln_finite.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))).1 = (fun _ => 1#1)
    ∧ (Cert.Pre_ln_finite.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))).2.1 = (fun _ => 1#1)
    ∧ (Cert.Pre_ln_finite.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))).2.2.1 = (fun _ => 1#1)
    ∧ (Cert.Pre_ln_finite.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))).2.2.2 = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_ln_finite [hPre_ln_finite : Cert.Pre_ln_finite.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_ln_finite.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))).1 = (fun _ => 1#1)
    ∧ (Cert.Pre_ln_finite.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))).2.1 = (fun _ => 1#1)
    ∧ (Cert.Pre_ln_finite.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))).2.2.1 = (fun _ => 1#1)
    ∧ (Cert.Pre_ln_finite.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))).2.2.2 = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_ln_finite [hPre_ln_finite : Cert.Pre_ln_finite.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_ln_finite.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3))).1 = (fun _ => 1#1)
    ∧ (Cert.Pre_ln_finite.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3))).2.1 = (fun _ => 1#1)
    ∧ (Cert.Pre_ln_finite.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3))).2.2.1 = (fun _ => 1#1)
    ∧ (Cert.Pre_ln_finite.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3))).2.2.2 = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_sg_finite [hKernelIdeal : Cert.KernelIdeal.Facts] [hPre_sg_finite : Cert.Pre_sg_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sg_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sg_finite [hReferenceIdeal : Cert.ReferenceIdeal.Facts] [hPre_sg_finite : Cert.Pre_sg_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sg_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_cg_finite [hKernel2Ideal : Cert.Kernel2Ideal.Facts] [hPre_cg_finite : Cert.Pre_cg_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_cg_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_cg_finite [hReference2Ideal : Cert.Reference2Ideal.Facts] [hPre_cg_finite : Cert.Pre_cg_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_cg_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Kernel19Ideal_pre_ln_finite [hKernel19Ideal : Cert.Kernel19Ideal.Facts] [hPre_ln_finite : Cert.Pre_ln_finite.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_ln_finite m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Reference19Ideal_pre_ln_finite [hReference19Ideal : Cert.Reference19Ideal.Facts] [hPre_ln_finite : Cert.Pre_ln_finite.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_ln_finite m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Kernel20Ideal_pre_ln_finite [hKernel20Ideal : Cert.Kernel20Ideal.Facts] [hPre_ln_finite : Cert.Pre_ln_finite.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_ln_finite m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Reference20Ideal_pre_ln_finite [hReference20Ideal : Cert.Reference20Ideal.Facts] [hPre_ln_finite : Cert.Pre_ln_finite.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_ln_finite m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt2pi" .f32 0x3ECC422A#32 (((Real.sqrt (2 * Real.pi))⁻¹ : ℝ) : EReal)

def algebraic_KernelIdeal_ReferenceIdeal_pre_sg_finite [hKernelIdeal : Cert.KernelIdeal.Facts] [hReferenceIdeal : Cert.ReferenceIdeal.Facts] [hPre_sg_finite : Cert.Pre_sg_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sg_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_v72) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_cg_finite [hKernel2Ideal : Cert.Kernel2Ideal.Facts] [hReference2Ideal : Cert.Reference2Ideal.Facts] [hPre_cg_finite : Cert.Pre_cg_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_cg_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_v73) = v1 c
          ∧ r.2.mem ((c.tc : Thread Cert.Reference2Ideal.nD Cert.Reference2Ideal.τ).loc Cert.Reference2Ideal.main_v66) = v2 c
          ∧ r.2.mem ((c.tc : Thread Cert.Reference2Ideal.nD Cert.Reference2Ideal.τ).loc Cert.Reference2Ideal.main_v35) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v11) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v10) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v10) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v21) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal_pre_ln_finite [hKernel19Ideal : Cert.Kernel19Ideal.Facts] [hReference19Ideal : Cert.Reference19Ideal.Facts] [hPre_ln_finite : Cert.Pre_ln_finite.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_ln_finite m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v52) = v0 c
          ∧ r.2.mem ((c.tc : Thread Cert.Reference19Ideal.nD Cert.Reference19Ideal.τ).loc Cert.Reference19Ideal.main_v53) = v1 c
          ∧ r.2.mem ((c.tc : Thread Cert.Reference19Ideal.nD Cert.Reference19Ideal.τ).loc Cert.Reference19Ideal.main_v28) = v2 c
          ∧ r.2.mem ((c.tc : Thread Cert.Reference19Ideal.nD Cert.Reference19Ideal.τ).loc Cert.Reference19Ideal.main_v25) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal_pre_ln_finite [hKernel20Ideal : Cert.Kernel20Ideal.Facts] [hReference20Ideal : Cert.Reference20Ideal.Facts] [hPre_ln_finite : Cert.Pre_ln_finite.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_ln_finite m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)) (v4 : (c : Dev Cert.Kernel20Ideal.nD) → Buf (Elt Ideal) ((c.tc : Thread Cert.Kernel20Ideal.nD Cert.Kernel20Ideal.τ).loc Cert.Kernel20Ideal.main_v0_4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_v0_4) = v4 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v66) = v0 c
          ∧ r.2.mem ((c.tc : Thread Cert.Reference20Ideal.nD Cert.Reference20Ideal.τ).loc Cert.Reference20Ideal.main_v67) = v1 c
          ∧ r.2.mem ((c.tc : Thread Cert.Reference20Ideal.nD Cert.Reference20Ideal.τ).loc Cert.Reference20Ideal.main_v42) = v2 c
          ∧ r.2.mem ((c.tc : Thread Cert.Reference20Ideal.nD Cert.Reference20Ideal.τ).loc Cert.Reference20Ideal.main_v39) = v3 c
          ∧ r.2.mem ((c.tc : Thread Cert.Reference20Ideal.nD Cert.Reference20Ideal.τ).loc Cert.Reference20Ideal.main_v68) = v4 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v19) = v0 c
          ∧ r.2.mem ((c.tc : Thread Cert.Reference21Ideal.nD Cert.Reference21Ideal.τ).loc Cert.Reference21Ideal.main_v20) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v30) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  IdealRules.named_const.Statement Cert.Kernel23Ideal.κ "inv_sqrt2" .f32 0x3F3504F3#32 (((Real.sqrt 2)⁻¹ : ℝ) : EReal)

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v44) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v24) = v0 c
          ∧ r.2.mem ((c.tc : Thread Cert.Reference24Ideal.nD Cert.Reference24Ideal.τ).loc Cert.Reference24Ideal.main_v5) = v1 c
          ∧ r.2.mem ((c.tc : Thread Cert.Reference24Ideal.nD Cert.Reference24Ideal.τ).loc Cert.Reference24Ideal.main_v11) = v2 c
          ∧ r.2.mem ((c.tc : Thread Cert.Reference24Ideal.nD Cert.Reference24Ideal.τ).loc Cert.Reference24Ideal.main_v0) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_v5) = v1 c
          ∧ r.2.mem ((c.tc : Thread Cert.Reference25Ideal.nD Cert.Reference25Ideal.τ).loc Cert.Reference25Ideal.main_v11) = v2 c
          ∧ r.2.mem ((c.tc : Thread Cert.Reference25Ideal.nD Cert.Reference25Ideal.τ).loc Cert.Reference25Ideal.main_v0) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_v5) = v1 c
          ∧ r.2.mem ((c.tc : Thread Cert.Reference26Ideal.nD Cert.Reference26Ideal.τ).loc Cert.Reference26Ideal.main_v11) = v2 c
          ∧ r.2.mem ((c.tc : Thread Cert.Reference26Ideal.nD Cert.Reference26Ideal.τ).loc Cert.Reference26Ideal.main_v0) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v26) = v0 c
          ∧ r.2.mem ((c.tc : Thread Cert.Reference27Ideal.nD Cert.Reference27Ideal.τ).loc Cert.Reference27Ideal.main_v7) = v1 c
          ∧ r.2.mem ((c.tc : Thread Cert.Reference27Ideal.nD Cert.Reference27Ideal.τ).loc Cert.Reference27Ideal.main_v13) = v2 c
          ∧ r.2.mem ((c.tc : Thread Cert.Reference27Ideal.nD Cert.Reference27Ideal.τ).loc Cert.Reference27Ideal.main_v2) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v26) = v0 c
          ∧ r.2.mem ((c.tc : Thread Cert.Reference28Ideal.nD Cert.Reference28Ideal.τ).loc Cert.Reference28Ideal.main_v7) = v1 c
          ∧ r.2.mem ((c.tc : Thread Cert.Reference28Ideal.nD Cert.Reference28Ideal.τ).loc Cert.Reference28Ideal.main_v13) = v2 c
          ∧ r.2.mem ((c.tc : Thread Cert.Reference28Ideal.nD Cert.Reference28Ideal.τ).loc Cert.Reference28Ideal.main_v2) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v24) = v0 c
          ∧ r.2.mem ((c.tc : Thread Cert.Reference29Ideal.nD Cert.Reference29Ideal.τ).loc Cert.Reference29Ideal.main_v5) = v1 c
          ∧ r.2.mem ((c.tc : Thread Cert.Reference29Ideal.nD Cert.Reference29Ideal.τ).loc Cert.Reference29Ideal.main_v11) = v2 c
          ∧ r.2.mem ((c.tc : Thread Cert.Reference29Ideal.nD Cert.Reference29Ideal.τ).loc Cert.Reference29Ideal.main_v0) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_sg_finite : Cert.Pre_sg_finite.Facts) (hPre_cg_finite : Cert.Pre_cg_finite.Facts) (hPre_ln_finite : Cert.Pre_ln_finite.Facts),
    quiescent_Kernel (hKernel := hKernel)
    ∧ quiescent_KernelIdeal (hKernelIdeal := hKernelIdeal)
    ∧ quiescent_KernelIdeal_pre_sg_finite (hKernelIdeal := hKernelIdeal) (hPre_sg_finite := hPre_sg_finite)
    ∧ quiescent_ReferenceIdeal (hReferenceIdeal := hReferenceIdeal)
    ∧ quiescent_ReferenceIdeal_pre_sg_finite (hReferenceIdeal := hReferenceIdeal) (hPre_sg_finite := hPre_sg_finite)
    ∧ quiescent_Kernel2 (hKernel2 := hKernel2)
    ∧ quiescent_Kernel2Ideal (hKernel2Ideal := hKernel2Ideal)
    ∧ quiescent_Kernel2Ideal_pre_cg_finite (hKernel2Ideal := hKernel2Ideal) (hPre_cg_finite := hPre_cg_finite)
    ∧ quiescent_Reference2Ideal (hReference2Ideal := hReference2Ideal)
    ∧ quiescent_Reference2Ideal_pre_cg_finite (hReference2Ideal := hReference2Ideal) (hPre_cg_finite := hPre_cg_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_ln_finite (hKernel19Ideal := hKernel19Ideal) (hPre_ln_finite := hPre_ln_finite)
    ∧ quiescent_Reference19Ideal (hReference19Ideal := hReference19Ideal)
    ∧ quiescent_Reference19Ideal_pre_ln_finite (hReference19Ideal := hReference19Ideal) (hPre_ln_finite := hPre_ln_finite)
    ∧ quiescent_Kernel20 (hKernel20 := hKernel20)
    ∧ quiescent_Kernel20Ideal (hKernel20Ideal := hKernel20Ideal)
    ∧ quiescent_Kernel20Ideal_pre_ln_finite (hKernel20Ideal := hKernel20Ideal) (hPre_ln_finite := hPre_ln_finite)
    ∧ quiescent_Reference20Ideal (hReference20Ideal := hReference20Ideal)
    ∧ quiescent_Reference20Ideal_pre_ln_finite (hReference20Ideal := hReference20Ideal) (hPre_ln_finite := hPre_ln_finite)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal_pre_sg_finite (hKernelIdeal := hKernelIdeal) (hReferenceIdeal := hReferenceIdeal) (hPre_sg_finite := hPre_sg_finite)
    ∧ preserves_Kernel2_Kernel2Ideal
    ∧ algebraic_Kernel2Ideal_Reference2Ideal_pre_cg_finite (hKernel2Ideal := hKernel2Ideal) (hReference2Ideal := hReference2Ideal) (hPre_cg_finite := hPre_cg_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_ln_finite (hKernel19Ideal := hKernel19Ideal) (hReference19Ideal := hReference19Ideal) (hPre_ln_finite := hPre_ln_finite)
    ∧ preserves_Kernel20_Kernel20Ideal
    ∧ algebraic_Kernel20Ideal_Reference20Ideal_pre_ln_finite (hKernel20Ideal := hKernel20Ideal) (hReference20Ideal := hReference20Ideal) (hPre_ln_finite := hPre_ln_finite)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_cg_finite.lean ====
abbrev S4096x11264 : Shape := ⟨2, ![4096, 11264]⟩
abbrev S4096x5632 : Shape := ⟨2, ![4096, 5632]⟩
abbrev S3x5632 : Shape := ⟨2, ![3, 5632]⟩
abbrev S1x5632 : Shape := ⟨2, ![1, 5632]⟩
abbrev S_ : Shape := ⟨0, ![]⟩

class Facts : Prop where
  bcast_S_S4096x11264 : S_.BroadcastsInDim S4096x11264 (![] : Fin 0 → Fin S4096x11264.rank)
  bcast_S_S4096x5632 : S_.BroadcastsInDim S4096x5632 (![] : Fin 0 → Fin S4096x5632.rank)
  bcast_S_S3x5632 : S_.BroadcastsInDim S3x5632 (![] : Fin 0 → Fin S3x5632.rank)
  bcast_S_S1x5632 : S_.BroadcastsInDim S1x5632 (![] : Fin 0 → Fin S1x5632.rank)

variable [Facts]

def fn {F : FTy → Type} [FloatOps F] (main_arg0 : FVec F S4096x11264 .f32) (main_arg1 : FVec F S4096x5632 .f32) (main_arg2 : FVec F S3x5632 .f32) (main_arg3 : FVec F S1x5632 .f32) : IVec S4096x11264 1 × IVec S4096x5632 1 × IVec S3x5632 1 × IVec S1x5632 1 :=
  let main_v0 : FVec F S4096x11264 .f32 := Host.absf main_arg0
  let main_cst : FVec F S_ .f32 := constant S_ .f32 0x7F800000#32
  let main_v1 : FVec F S4096x11264 .f32 := broadcastInDim S4096x11264 ![] bcast_S_S4096x11264 main_cst
  let main_v2 : IVec S4096x11264 1 := cmpf .olt main_v0 main_v1
  let main_v3 : FVec F S4096x5632 .f32 := Host.absf main_arg1
  let main_cst_0 : FVec F S_ .f32 := constant S_ .f32 0x7F800000#32
  let main_v4 : FVec F S4096x5632 .f32 := broadcastInDim S4096x5632 ![] bcast_S_S4096x5632 main_cst_0
  let main_v5 : IVec S4096x5632 1 := cmpf .olt main_v3 main_v4
  let main_v6 : FVec F S3x5632 .f32 := Host.absf main_arg2
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S1x5632 .f32 := Host.absf main_arg3
  let main_cst_2 : FVec F S_ .f32 := constant S_ .f32 0x7F800000#32
  let main_v10 : FVec F S1x5632 .f32 := broadcastInDim S1x5632 ![] bcast_S_S1x5632 main_cst_2
  let main_v11 : IVec S1x5632 1 := cmpf .olt main_v9 main_v10
  (main_v2, main_v5, main_v8, main_v11)
-- ==== Pre_ln_finite.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S4096x2048 .f32) (main_arg2 : FVec F S1x2048 .f32) (main_arg3 : FVec F S1x2048 .f32) : IVec S4096x2048 1 × IVec S4096x2048 1 × IVec S1x2048 1 × IVec S1x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  (main_v2, main_v5, main_v8, main_v11)
-- ==== Pre_sg_finite.lean ====
abbrev S4096x4096 : Shape := ⟨2, ![4096, 4096]⟩
abbrev S4096x2048 : Shape := ⟨2, ![4096, 2048]⟩
abbrev S1x2048 : Shape := ⟨2, ![1, 2048]⟩
abbrev S16x128x128 : Shape := ⟨3, ![16, 128, 128]⟩
abbrev S128x16 : Shape := ⟨2, ![128, 16]⟩
abbrev S_ : Shape := ⟨0, ![]⟩

class Facts : Prop where
  bcast_S_S4096x4096 : S_.BroadcastsInDim S4096x4096 (![] : Fin 0 → Fin S4096x4096.rank)
  bcast_S_S4096x2048 : S_.BroadcastsInDim S4096x2048 (![] : Fin 0 → Fin S4096x2048.rank)
  bcast_S_S1x2048 : S_.BroadcastsInDim S1x2048 (![] : Fin 0 → Fin S1x2048.rank)
  bcast_S_S16x128x128 : S_.BroadcastsInDim S16x128x128 (![] : Fin 0 → Fin S16x128x128.rank)
  bcast_S_S128x16 : S_.BroadcastsInDim S128x16 (![] : Fin 0 → Fin S128x16.rank)

variable [Facts]

def fn {F : FTy → Type} [FloatOps F] (main_arg0 : FVec F S4096x4096 .f32) (main_arg1 : FVec F S4096x2048 .f32) (main_arg2 : FVec F S1x2048 .f32) (main_arg3 : FVec F S1x2048 .f32) (main_arg4 : FVec F S16x128x128 .f32) (main_arg5 : FVec F S128x16 .f32) : IVec S4096x4096 1 × IVec S4096x2048 1 × IVec S1x2048 1 × IVec S1x2048 1 × IVec S16x128x128 1 × IVec S128x16 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S16x128x128 .f32 := Host.absf main_arg4
  let main_cst_3 : FVec F S_ .f32 := constant S_ .f32 0x7F800000#32
  let main_v13 : FVec F S16x128x128 .f32 := broadcastInDim S16x128x128 ![] bcast_S_S16x128x128 main_cst_3
  let main_v14 : IVec S16x128x128 1 := cmpf .olt main_v12 main_v13
  let main_v15 : FVec F S128x16 .f32 := Host.absf main_arg5
  let main_cst_4 : FVec F S_ .f32 := constant S_ .f32 0x7F800000#32
  let main_v16 : FVec F S128x16 .f32 := broadcastInDim S128x16 ![] bcast_S_S128x16 main_cst_4
  let main_v17 : IVec S128x16 1 := cmpf .olt main_v15 main_v16
  (main_v2, main_v5, main_v8, main_v11, main_v14, main_v17)
-- ==== Kernel.lean ====
abbrev S4096x4096 : Shape := ⟨2, ![4096, 4096]⟩
abbrev S4096x2048 : Shape := ⟨2, ![4096, 2048]⟩
abbrev S1x2048 : Shape := ⟨2, ![1, 2048]⟩
abbrev S16x128x128 : Shape := ⟨3, ![16, 128, 128]⟩
abbrev S128x16 : Shape := ⟨2, ![128, 16]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩
abbrev S2048 : Shape := ⟨1, ![2048]⟩

abbrev nBuf : Space → Nat
  | .hbm => 11
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S16x128x128, .f32⟩
  | .hbm, ⟨5, _⟩ => ⟨S128x16, .f32⟩
  | .hbm, ⟨6, _⟩ => ⟨S4096x4096, .bf16⟩
  | .hbm, ⟨7, _⟩ => ⟨S16x128x128, .f32⟩
  | .hbm, ⟨8, _⟩ => ⟨S128x16, .f32⟩
  | .hbm, ⟨9, _⟩ => ⟨S1x2048, .f32⟩
  | .hbm, ⟨10, _⟩ => ⟨S1x2048, .f32⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S16x128x128, .f32⟩
  | .local _ .vmem, ⟨7, _⟩ => ⟨S128x16, .f32⟩
  | .local _ .vmem, ⟨8, _⟩ => ⟨S128x4096, .bf16⟩
  | .local _ .vmem, ⟨9, _⟩ => ⟨S128x4096, .bf16⟩
  | .local _ .vmem, ⟨10, _⟩ => ⟨S16x128x128, .f32⟩
  | .local _ .vmem, ⟨11, _⟩ => ⟨S128x16, .f32⟩
  | .local _ .vmem, ⟨12, _⟩ => ⟨S1x2048, .f32⟩
  | .local _ .vmem, ⟨13, _⟩ => ⟨S1x2048, .f32⟩
  | .local _ .vmem, ⟨14, _⟩ => ⟨S128x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "inv_sqrt2" => some (((Real.sqrt 2)⁻¹ : ℝ) : EReal)
  | "inv_sqrt2pi" => some (((Real.sqrt (2 * Real.pi))⁻¹ : ℝ) : EReal)
  | _ => none
-- ==== ReferenceIdeal.lean ====
abbrev S4096x4096 : Shape := ⟨2, ![4096, 4096]⟩
abbrev S4096x2048 : Shape := ⟨2, ![4096, 2048]⟩
abbrev S1x2048 : Shape := ⟨2, ![1, 2048]⟩
abbrev S16x128x128 : Shape := ⟨3, ![16, 128, 128]⟩
abbrev S128x16 : Shape := ⟨2, ![128, 16]⟩
abbrev S_ : Shape := ⟨0, ![]⟩
abbrev S4096 : Shape := ⟨1, ![4096]⟩
abbrev S4096x1 : Shape := ⟨2, ![4096, 1]⟩
abbrev S32x128x16x128 : Shape := ⟨4, ![32, 128, 16, 128]⟩
abbrev S128x128 : Shape := ⟨2, ![128, 128]⟩
abbrev S1x128x128 : Shape := ⟨3, ![1, 128, 128]⟩
abbrev S16x32x128x128 : Shape := ⟨4, ![16, 32, 128, 128]⟩
abbrev S128x16x1 : Shape := ⟨3, ![128, 16, 1]⟩
abbrev S1x128x16x1 : Shape := ⟨4, ![1, 128, 16, 1]⟩
abbrev S2048 : Shape := ⟨1, ![2048]⟩

abbrev nBuf : Space → Nat
  | .hbm => 149
  | .vmem => 0
  | .smem => 0
  | _ => 0

abbrev hbmTy0_0 (i : Nat) : BufTy := match i % 128 with
  | 0 => ⟨S4096x4096, .f32⟩
  | 1 => ⟨S4096x2048, .f32⟩
  | 2 => ⟨S1x2048, .f32⟩
  | 3 => ⟨S1x2048, .f32⟩
  | 4 => ⟨S16x128x128, .f32⟩
  | 5 => ⟨S128x16, .f32⟩
  | 6 => ⟨S_, .f32⟩
  | 7 => ⟨S4096x4096, .f32⟩
  | 8 => ⟨S4096x4096, .f32⟩
  | 9 => ⟨S4096x4096, .f32⟩
  | 10 => ⟨S_, .f32⟩
  | 11 => ⟨S_, .f32⟩
  | 12 => ⟨S4096x4096, .f32⟩
  | 13 => ⟨S4096x4096, .f32⟩
  | 14 => ⟨S4096x4096, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S4096x4096, .f32⟩
  | 23 => ⟨S4096x4096, .f32⟩
  | 24 => ⟨S4096x4096, .f32⟩
  | 25 => ⟨S4096x4096, .f32⟩
  | 26 => ⟨S4096x4096, .f32⟩
  | 27 => ⟨S4096x4096, .f32⟩
  | 28 => ⟨S4096x2048, .f32⟩
  | 29 => ⟨S4096x2048, .f32⟩
  | 30 => ⟨S_, .f32⟩
  | 31 => ⟨S4096, .f32⟩
  | 32 => ⟨S4096x1, .f32⟩
  | 33 => ⟨S_, .f32⟩
  | 34 => ⟨S4096x1, .f32⟩
  | 35 => ⟨S4096x1, .f32⟩
  | 36 => ⟨S4096x2048, .f32⟩
  | 37 => ⟨S4096x2048, .f32⟩
  | 38 => ⟨S4096x2048, .f32⟩
  | 39 => ⟨S_, .f32⟩
  | 40 => ⟨S4096, .f32⟩
  | 41 => ⟨S4096x1, .f32⟩
  | 42 => ⟨S_, .f32⟩
  | 43 => ⟨S4096x1, .f32⟩
  | 44 => ⟨S4096x1, .f32⟩
  | 45 => ⟨S_, .f32⟩
  | 46 => ⟨S4096x1, .f32⟩
  | 47 => ⟨S4096x1, .f32⟩
  | 48 => ⟨S4096x1, .f32⟩
  | 49 => ⟨S4096x1, .f32⟩
  | 50 => ⟨S_, .f32⟩
  | 51 => ⟨S4096x1, .f32⟩
  | 52 => ⟨S4096x1, .f32⟩
  | 53 => ⟨S4096x2048, .f32⟩
  | 54 => ⟨S4096x2048, .f32⟩
  | 55 => ⟨S4096x2048, .f32⟩
  | 56 => ⟨S4096x2048, .f32⟩
  | 57 => ⟨S4096x2048, .f32⟩
  | 58 => ⟨S4096x2048, .f32⟩
  | 59 => ⟨S32x128x16x128, .f32⟩
  | 60 => ⟨S_, .f32⟩
  | 61 => ⟨S128x128, .f32⟩
  | 62 => ⟨S128x128, .i32⟩
  | 63 => ⟨S_, .i32⟩
  | 64 => ⟨S128x128, .i32⟩
  | 65 => ⟨S128x128, .i32⟩
  | 66 => ⟨S128x128, .i32⟩
  | 67 => ⟨S128x128, .i1⟩
  | 68 => ⟨S_, .f32⟩
  | 69 => ⟨S128x128, .f32⟩
  | 70 => ⟨S128x128, .f32⟩
  | 71 => ⟨S1x128x128, .f32⟩
  | 72 => ⟨S16x128x128, .f32⟩
  | 73 => ⟨S16x128x128, .f32⟩
  | 74 => ⟨S16x32x128x128, .f32⟩
  | 75 => ⟨S32x128x16x128, .f32⟩
  | 76 => ⟨S128x16x1, .f32⟩
  | 77 => ⟨S1x128x16x1, .f32⟩
  | 78 => ⟨S32x128x16x128, .f32⟩
  | 79 => ⟨S32x128x16x128, .f32⟩
  | 80 => ⟨S4096x2048, .f32⟩
  | 81 => ⟨S4096x2048, .f32⟩
  | 82 => ⟨S4096x2048, .f32⟩
  | 83 => ⟨S4096x2048, .f32⟩
  | 84 => ⟨S32x128x16x128, .f32⟩
  | 85 => ⟨S_, .f32⟩
  | 86 => ⟨S128x16, .f32⟩
  | 87 => ⟨S1x128x16x1, .f32⟩
  | 88 => ⟨S_, .f32⟩
  | 89 => ⟨S128x16, .f32⟩
  | 90 => ⟨S128x16x1, .f32⟩
  | 91 => ⟨S_, .f32⟩
  | 92 => ⟨S128x16, .f32⟩
  | 93 => ⟨S16x32x128x128, .f32⟩
  | 94 => ⟨S16x128x128, .f32⟩
  | 95 => ⟨S16x32x128x128, .f32⟩
  | 96 => ⟨S32x128x16x128, .f32⟩
  | 97 => ⟨S16x128x128, .f32⟩
  | 98 => ⟨S16x128x128, .f32⟩
  | 99 => ⟨S4096x2048, .f32⟩
  | 100 => ⟨S_, .f32⟩
  | 101 => ⟨S2048, .f32⟩
  | 102 => ⟨S1x2048, .f32⟩
  | 103 => ⟨S4096x2048, .f32⟩
  | 104 => ⟨S_, .f32⟩
  | 105 => ⟨S2048, .f32⟩
  | 106 => ⟨S1x2048, .f32⟩
  | 107 => ⟨S4096x2048, .f32⟩
  | 108 => ⟨S4096x2048, .f32⟩
  | 109 => ⟨S4096x2048, .f32⟩
  | 110 => ⟨S_, .f32⟩
  | 111 => ⟨S4096, .f32⟩
  | 112 => ⟨S4096x1, .f32⟩
  | 113 => ⟨S4096x2048, .f32⟩
  | 114 => ⟨S4096x2048, .f32⟩
  | 115 => ⟨S4096x1, .f32⟩
  | 116 => ⟨S_, .f32⟩
  | 117 => ⟨S4096x1, .f32⟩
  | 118 => ⟨S4096x1, .f32⟩
  | 119 => ⟨S_, .f32⟩
  | 120 => ⟨S4096, .f32⟩
  | 121 => ⟨S4096x2048, .f32⟩
  | 122 => ⟨S4096x2048, .f32⟩
  | 123 => ⟨S4096x2048, .f32⟩
  | 124 => ⟨S4096x2048, .f32⟩
  | 125 => ⟨S4096x2048, .f32⟩
  | 126 => ⟨S4096x2048, .f32⟩
  | 127 => ⟨S_, .f32⟩
  | _ => ⟨S4096x4096, .f32⟩

abbrev hbmTy0_1 (i : Nat) : BufTy := match i % 128 with
  | 0 => ⟨S4096, .f32⟩
  | 1 => ⟨S4096x1, .f32⟩
  | 2 => ⟨S_, .f32⟩
  | 3 => ⟨S4096x1, .f32⟩
  | 4 => ⟨S4096x1, .f32⟩
  | 5 => ⟨S_, .f32⟩
  | 6 => ⟨S4096, .f32⟩
  | 7 => ⟨S4096x2048, .f32⟩
  | 8 => ⟨S4096x2048, .f32⟩
  | 9 => ⟨S4096x4096, .f32⟩
  | 10 => ⟨S4096x4096, .f32⟩
  | 11 => ⟨S4096x4096, .f32⟩
  | 12 => ⟨S4096x4096, .f32⟩
  | 13 => ⟨S4096x4096, .f32⟩
  | 14 => ⟨S4096x4096, .f32⟩
  | 15 => ⟨S4096x4096, .f32⟩
  | 16 => ⟨S_, .f32⟩
  | 17 => ⟨S4096x4096, .f32⟩
  | 18 => ⟨S4096x4096, .f32⟩
  | 19 => ⟨S4096x4096, .f32⟩
  | 20 => ⟨S4096x4096, .bf16⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_call0_v0 : Ref sig .tc := ⟨.hbm, 62, rfl⟩
abbrev main_call0_c : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_cst : Ref sig .tc := ⟨.hbm, 68, rfl⟩
abbrev main_call0_v5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_17 : Ref sig .tc := ⟨.hbm, 116, rfl⟩
abbrev main_v84 : Ref sig .tc := ⟨.hbm, 117, rfl⟩
abbrev main_v85 : Ref sig .tc := ⟨.hbm, 118, rfl⟩
abbrev main_cst_18 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_v94 : Ref sig .tc := ⟨.hbm, 129, rfl⟩
abbrev main_cst_20 : Ref sig .tc := ⟨.hbm, 130, rfl⟩
abbrev main_v95 : Ref sig .tc := ⟨.hbm, 131, rfl⟩
abbrev main_v96 : Ref sig .tc := ⟨.hbm, 132, rfl⟩
abbrev main_cst_21 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_22 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩

abbrev nD : Nat := 1
abbrev τ : Topo := Topo.v7x

variable {F : FTy → Type} [FloatOps F]
-- ==== Kernel2.lean ====
abbrev S4096x11264 : Shape := ⟨2, ![4096, 11264]⟩
abbrev S4096x5632 : Shape := ⟨2, ![4096, 5632]⟩
abbrev S3x5632 : Shape := ⟨2, ![3, 5632]⟩
abbrev S1x5632 : Shape := ⟨2, ![1, 5632]⟩
abbrev S512x1408 : Shape := ⟨2, ![512, 1408]⟩
abbrev S8x1408 : Shape := ⟨2, ![8, 1408]⟩
abbrev S3x1408 : Shape := ⟨2, ![3, 1408]⟩
abbrev S1x1408 : Shape := ⟨2, ![1, 1408]⟩
abbrev S528x1408 : Shape := ⟨2, ![528, 1408]⟩
abbrev S520x1408 : Shape := ⟨2, ![520, 1408]⟩
abbrev S1408 : Shape := ⟨1, ![1408]⟩

abbrev nBuf : Space → Nat
  | .hbm => 8
  | .vmem => 26
  | .smem => 0
  | _ => 0

abbrev bufTy : (tb : Table) → Fin (tcTables nBuf tb) → BufTy
  | .hbm, ⟨0, _⟩ => ⟨S4096x11264, .f32⟩
  | .hbm, ⟨1, _⟩ => ⟨S4096x5632, .f32⟩
  | .hbm, ⟨2, _⟩ => ⟨S3x5632, .f32⟩
  | .hbm, ⟨3, _⟩ => ⟨S1x5632, .f32⟩
  | .hbm, ⟨4, _⟩ => ⟨S4096x5632, .bf16⟩
  | .hbm, ⟨5, _⟩ => ⟨S4096x5632, .bf16⟩
  | .hbm, ⟨6, _⟩ => ⟨S3x5632, .f32⟩
  | .hbm, ⟨7, _⟩ => ⟨S1x5632, .f32⟩
  | .local _ .vmem, ⟨0, _⟩ => ⟨S512x1408, .f32⟩
  | .local _ .vmem, ⟨1, _⟩ => ⟨S512x1408, .f32⟩
  | .local _ .vmem, ⟨2, _⟩ => ⟨S8x1408, .f32⟩
  | .local _ .vmem, ⟨3, _⟩ => ⟨S8x1408, .f32⟩
  | .local _ .vmem, ⟨4, _⟩ => ⟨S8x1408, .f32⟩
  | .local _ .vmem, ⟨5, _⟩ => ⟨S8x1408, .f32⟩
  | .local _ .vmem, ⟨6, _⟩ => ⟨S512x1408, .f32⟩
  | .local _ .vmem, ⟨7, _⟩ => ⟨S512x1408, .f32⟩
  | .local _ .vmem, ⟨8, _⟩ => ⟨S8x1408, .f32⟩
  | .local _ .vmem, ⟨9, _⟩ => ⟨S8x1408, .f32⟩
  | .local _ .vmem, ⟨10, _⟩ => ⟨S512x1408, .f32⟩
  | .local _ .vmem, ⟨11, _⟩ => ⟨S512x1408, .f32⟩
  | .local _ .vmem, ⟨12, _⟩ => ⟨S8x1408, .f32⟩
  | .local _ .vmem, ⟨13, _⟩ => ⟨S8x1408, .f32⟩
  | .local _ .vmem, ⟨14, _⟩ => ⟨S3x1408, .f32⟩
  | .local _ .vmem, ⟨15, _⟩ => ⟨S3x1408, .f32⟩
  | .local _ .vmem, ⟨16, _⟩ => ⟨S1x1408, .f32⟩
  | .local _ .vmem, ⟨17, _⟩ => ⟨S1x1408, .f32⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S3x1408, .f32⟩
  | .local _ .vmem, ⟨23, _⟩ => ⟨S3x1408, .f32⟩
  | .local _ .vmem, ⟨24, _⟩ => ⟨S1x1408, .f32⟩
  | .local _ .vmem, ⟨25, _⟩ => ⟨S1x1408, .f32⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c4_i32 : BitVec 32 := 4#32
  let v3 : BitVec 32 := Scalar.addi arg0 c4_i32
  let c0_i32 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S3x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference2Ideal.lean ====
abbrev S4096x11264 : Shape := ⟨2, ![4096, 11264]⟩
abbrev S4096x5632 : Shape := ⟨2, ![4096, 5632]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S4098x5632 : Shape := ⟨2, ![4098, 5632]⟩
abbrev S5632 : Shape := ⟨1, ![5632]⟩

abbrev nBuf : Space → Nat
  | .hbm => 109
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S4096x5632, .f32⟩
  | .hbm, ⟨2, _⟩ => ⟨S3x5632, .f32⟩
  | .hbm, ⟨3, _⟩ => ⟨S1x5632, .f32⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S2x5632, .f32⟩
  | .hbm, ⟨8, _⟩ => ⟨S4098x5632, .f32⟩
  | .hbm, ⟨9, _⟩ => ⟨S_, .f32⟩
  | .hbm, ⟨10, _⟩ => ⟨S2x5632, .f32⟩
  | .hbm, ⟨11, _⟩ => ⟨S1x5632, .f32⟩
  | .hbm, ⟨12, _⟩ => ⟨S5632, .f32⟩
  | .hbm, ⟨13, _⟩ => ⟨S4096x5632, .f32⟩
  | .hbm, ⟨14, _⟩ => ⟨S1x5632, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S1x5632, .f32⟩
  | .hbm, ⟨21, _⟩ => ⟨S5632, .f32⟩
  | .hbm, ⟨22, _⟩ => ⟨S4096x5632, .f32⟩
  | .hbm, ⟨23, _⟩ => ⟨S1x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S1x5632, .f32⟩
  | .hbm, ⟨28, _⟩ => ⟨S5632, .f32⟩
  | .hbm, ⟨29, _⟩ => ⟨S4096x5632, .f32⟩
  | .hbm, ⟨30, _⟩ => ⟨S1x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S_, .f32⟩
  | .hbm, ⟨39, _⟩ => ⟨S4096x5632, .f32⟩
  | .hbm, ⟨40, _⟩ => ⟨S4096x5632, .f32⟩
  | .hbm, ⟨41, _⟩ => ⟨S_, .f32⟩
  | .hbm, ⟨42, _⟩ => ⟨S4096x5632, .f32⟩
  | .hbm, ⟨43, _⟩ => ⟨S4096x5632, .f32⟩
  | .hbm, ⟨44, _⟩ => ⟨S_, .f32⟩
  | .hbm, ⟨45, _⟩ => ⟨S4096x5632, .f32⟩
  | .hbm, ⟨46, _⟩ => ⟨S4096x5632, .f32⟩
  | .hbm, ⟨47, _⟩ => ⟨S4096x5632, .f32⟩
  | .hbm, ⟨48, _⟩ => ⟨S4096x5632, .f32⟩
  | .hbm, ⟨49, _⟩ => ⟨S4096x5632, .f32⟩
  | .hbm, ⟨50, _⟩ => ⟨S4096x5632, .f32⟩
  | .hbm, ⟨51, _⟩ => ⟨S4096x5632, .f32⟩
  | .hbm, ⟨52, _⟩ => ⟨S4096x5632, .f32⟩
  | .hbm, ⟨53, _⟩ => ⟨S4096x5632, .f32⟩
  | .hbm, ⟨54, _⟩ => ⟨S4096x5632, .f32⟩
  | .hbm, ⟨55, _⟩ => ⟨S4096x5632, .f32⟩
  | .hbm, ⟨56, _⟩ => ⟨S_, .f32⟩
  | .hbm, ⟨57, _⟩ => ⟨S5632, .f32⟩
  | .hbm, ⟨58, _⟩ => ⟨S1x5632, .f32⟩
  | .hbm, ⟨59, _⟩ => ⟨S4096x5632, .f32⟩
  | .hbm, ⟨60, _⟩ => ⟨S4096x5632, .f32⟩
  | .hbm, ⟨61, _⟩ => ⟨S4096x5632, .f32⟩
  | .hbm, ⟨62, _⟩ => ⟨S_, .f32⟩
  | .hbm, ⟨63, _⟩ => ⟨S5632, .f32⟩
  | .hbm, ⟨64, _⟩ => ⟨S1x5632, .f32⟩
  | .hbm, ⟨65, _⟩ => ⟨S_, .f32⟩
  | .hbm, ⟨66, _⟩ => ⟨S5632, .f32⟩
  | .hbm, ⟨67, _⟩ => ⟨S_, .f32⟩
  | .hbm, ⟨68, _⟩ => ⟨S4098x5632, .f32⟩
  | .hbm, ⟨69, _⟩ => ⟨S1x5632, .f32⟩
  | .hbm, ⟨70, _⟩ => ⟨S_, .f32⟩
  | .hbm, ⟨71, _⟩ => ⟨S3x5632, .f32⟩
  | .hbm, ⟨72, _⟩ => ⟨S4096x5632, .f32⟩
  | .hbm, ⟨73, _⟩ => ⟨S4096x5632, .f32⟩
  | .hbm, ⟨74, _⟩ => ⟨S4096x5632, .f32⟩
  | .hbm, ⟨75, _⟩ => ⟨S_, .f32⟩
  | .hbm, ⟨76, _⟩ => ⟨S5632, .f32⟩
  | .hbm, ⟨77, _⟩ => ⟨S1x5632, .f32⟩
  | .hbm, ⟨78, _⟩ => ⟨S_, .f32⟩
  | .hbm, ⟨79, _⟩ => ⟨S5632, .f32⟩
  | .hbm, ⟨80, _⟩ => ⟨S_, .f32⟩
  | .hbm, ⟨81, _⟩ => ⟨S4098x5632, .f32⟩
  | .hbm, ⟨82, _⟩ => ⟨S4098x5632, .f32⟩
  | .hbm, ⟨83, _⟩ => ⟨S1x5632, .f32⟩
  | .hbm, ⟨84, _⟩ => ⟨S_, .f32⟩
  | .hbm, ⟨85, _⟩ => ⟨S3x5632, .f32⟩
  | .hbm, ⟨86, _⟩ => ⟨S3x5632, .f32⟩
  | .hbm, ⟨87, _⟩ => ⟨S4096x5632, .f32⟩
  | .hbm, ⟨88, _⟩ => ⟨S4096x5632, .f32⟩
  | .hbm, ⟨89, _⟩ => ⟨S4096x5632, .f32⟩
  | .hbm, ⟨90, _⟩ => ⟨S_, .f32⟩
  | .hbm, ⟨91, _⟩ => ⟨S5632, .f32⟩
  | .hbm, ⟨92, _⟩ => ⟨S1x5632, .f32⟩
  | .hbm, ⟨93, _⟩ => ⟨S_, .f32⟩
  | .hbm, ⟨94, _⟩ => ⟨S5632, .f32⟩
  | .hbm, ⟨95, _⟩ => ⟨S_, .f32⟩
  | .hbm, ⟨96, _⟩ => ⟨S4098x5632, .f32⟩
  | .hbm, ⟨97, _⟩ => ⟨S4098x5632, .f32⟩
  | .hbm, ⟨98, _⟩ => ⟨S1x5632, .f32⟩
  | .hbm, ⟨99, _⟩ => ⟨S_, .f32⟩
  | .hbm, ⟨100, _⟩ => ⟨S3x5632, .f32⟩
  | .hbm, ⟨101, _⟩ => ⟨S3x5632, .f32⟩
  | .hbm, ⟨102, _⟩ => ⟨S2x5632, .f32⟩
  | .hbm, ⟨103, _⟩ => ⟨S4096x5632, .f32⟩
  | .hbm, ⟨104, _⟩ => ⟨S4096x11264, .f32⟩
  | .hbm, ⟨105, _⟩ => ⟨S4096x5632, .f32⟩
  | .hbm, ⟨106, _⟩ => ⟨S4096x5632, .bf16⟩
  | .hbm, ⟨107, _⟩ => ⟨S4096x5632, .f32⟩
  | .hbm, ⟨108, _⟩ => ⟨S4096x5632, .bf16⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v29_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v29_1 : Ref sig .tc := ⟨.hbm, 47, rfl⟩
abbrev main_v29_0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v33 : Ref sig .tc := ⟨.hbm, 55, rfl⟩
abbrev main_cst_2 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_cst_5 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_cst_13 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩

abbrev nD : Nat := 1
abbrev τ : Topo := Topo.v7x

variable {F : FTy → Type} [FloatOps F]
-- ==== Kernel3.lean ====
abbrev S4096x2048 : Shape := ⟨2, ![4096, 2048]⟩
abbrev S4x1408x2048 : Shape := ⟨3, ![4, 1408, 2048]⟩
abbrev S1x5632x2048 : Shape := ⟨3, ![1, 5632, 2048]⟩
abbrev S4096x5632 : Shape := ⟨2, ![4096, 5632]⟩
abbrev S2048x2048 : Shape := ⟨2, ![2048, 2048]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x1408x2048, .bf16⟩
  | .hbm, ⟨2, _⟩ => ⟨S1x5632x2048, .bf16⟩
  | .hbm, ⟨3, _⟩ => ⟨S4096x5632, .f32⟩
  | .local _ .vmem, ⟨0, _⟩ => ⟨S2048x2048, .bf16⟩
  | .local _ .vmem, ⟨1, _⟩ => ⟨S2048x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S2048x512, .f32⟩
  | .local _ .vmem, ⟨5, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg0 c0_i32_6
  let c1_i32_7 : BitVec 32 := 1#32
  let v19 : BitVec 32 := Scalar.divsi arg2 c1_i32_7
  let c0_i32_8 : BitVec 32 := 0#32
  let v20 : BitVec 1 := Scalar.cmpi .sgt arg2 c0_i32_8
  let v21 : BitVec 32 := Scalar.extui v20
  let c0_i32_9 : BitVec 32 := 0#32
  let v22 : BitVec 1 := Scalar.cmpi .slt arg2 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg2 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c0_i32_14 : BitVec 32 := 0#32
  let v36 : BitVec 1 := Scalar.cmpi .eq v35 c0_i32_14
  let c1_i32_15 : BitVec 32 := 1#32
  let c0_i32_16 : BitVec 32 := 0#32
  let v37 : BitVec 1 := Scalar.cmpi .eq c1_i32_15 c0_i32_16
  let c1_i32_17 : BitVec 32 := 1#32
  let v38 : BitVec 32 := Scalar.select v37 c1_i32_17 c1_i32_15
  let v39 : BitVec 32 := Scalar.remsi arg2 v38
  let c0_i32_18 : BitVec 32 := 0#32
  let v40 : BitVec 1 := Scalar.cmpi .ne v39 c0_i32_18
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let v44 : BitVec 1 := Scalar.andi v43 v40
  let v45 : BitVec 32 := Scalar.addi v39 v38
  let v46 : BitVec 32 := Scalar.select v44 v45 v39
  let c0_i32_21 : BitVec 32 := 0#32
  let v47 : BitVec 32 := Scalar.select v36 v46 c0_i32_21
  let c0_i32_22 : BitVec 32 := 0#32
  ![v18.toNat, v47.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S4x1408x2048 : Shape := ⟨3, ![4, 1408, 2048]⟩
abbrev S_ : Shape := ⟨0, ![]⟩
abbrev S4096x5632 : Shape := ⟨2, ![4096, 5632]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1408x2048, .bf16⟩
  | .hbm, ⟨2, _⟩ => ⟨S_, .f32⟩
  | .hbm, ⟨3, _⟩ => ⟨S4096x5632, .f32⟩
  | .hbm, ⟨4, _⟩ => ⟨S5632x2048, .bf16⟩
  | .hbm, ⟨5, _⟩ => ⟨S5632x2048, .f32⟩
  | .hbm, ⟨6, _⟩ => ⟨S4096x2048, .f32⟩
  | .hbm, ⟨7, _⟩ => ⟨S4096x2048, .f32⟩
  | .hbm, ⟨8, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x5632 : Shape := ⟨2, ![4096, 5632]⟩
abbrev S4096x2048 : Shape := ⟨2, ![4096, 2048]⟩
abbrev S1x5632x2048 : Shape := ⟨3, ![1, 5632, 2048]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S1x5632x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .f32⟩
  | .local _ .vmem, ⟨5, _⟩ => ⟨S1x512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg2 c0_i32_5
  let c2_i32_6 : BitVec 32 := 2#32
  let v19 : BitVec 32 := Scalar.divsi arg1 c2_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c2_i32_6 c0_i32_9
  let v26 : BitVec 32 := Scalar.extui v25
  let c0_i32_10 : BitVec 32 := 0#32
  let v27 : BitVec 1 := Scalar.cmpi .slt c2_i32_6 c0_i32_10
  let v28 : BitVec 32 := Scalar.extui v27
  let v29 : BitVec 32 := Scalar.subi v26 v28
  let v30 : BitVec 1 := Scalar.cmpi .ne v24 v29
  let v31 : BitVec 32 := Scalar.remsi arg1 c2_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c0_i32_13 : BitVec 32 := 0#32
  let v36 : BitVec 1 := Scalar.cmpi .eq v35 c0_i32_13
  let c2_i32_14 : BitVec 32 := 2#32
  let c0_i32_15 : BitVec 32 := 0#32
  let v37 : BitVec 1 := Scalar.cmpi .eq c2_i32_14 c0_i32_15
  let c1_i32_16 : BitVec 32 := 1#32
  let v38 : BitVec 32 := Scalar.select v37 c1_i32_16 c2_i32_14
  let v39 : BitVec 32 := Scalar.remsi arg1 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x5632 : Shape := ⟨2, ![4096, 5632]⟩
abbrev S4096x2048 : Shape := ⟨2, ![4096, 2048]⟩
abbrev S_ : Shape := ⟨0, ![]⟩
abbrev S1x5632x2048 : Shape := ⟨3, ![1, 5632, 2048]⟩
abbrev S5632x2048 : Shape := ⟨2, ![5632, 2048]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S1x5632x2048, .f32⟩
  | .hbm, ⟨4, _⟩ => ⟨S5632x2048, .f32⟩
  | .hbm, ⟨5, _⟩ => ⟨S4096x5632, .f32⟩
  | .hbm, ⟨6, _⟩ => ⟨S4096x2048, .f32⟩
  | .hbm, ⟨7, _⟩ => ⟨S4096x2048, .f32⟩
  | .hbm, ⟨8, _⟩ => ⟨S2048x5632, .f32⟩
  | .hbm, ⟨9, _⟩ => ⟨S5632x2048, .f32⟩
  | .hbm, ⟨10, _⟩ => ⟨S1x5632x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x2048 : Shape := ⟨2, ![4096, 2048]⟩
abbrev S1x2048x2048 : Shape := ⟨3, ![1, 2048, 2048]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x2048x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .f32⟩
  | .local _ .vmem, ⟨5, _⟩ => ⟨S1x512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg2 c0_i32_5
  let c2_i32_6 : BitVec 32 := 2#32
  let v19 : BitVec 32 := Scalar.divsi arg1 c2_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c2_i32_6 c0_i32_9
  let v26 : BitVec 32 := Scalar.extui v25
  let c0_i32_10 : BitVec 32 := 0#32
  let v27 : BitVec 1 := Scalar.cmpi .slt c2_i32_6 c0_i32_10
  let v28 : BitVec 32 := Scalar.extui v27
  let v29 : BitVec 32 := Scalar.subi v26 v28
  let v30 : BitVec 1 := Scalar.cmpi .ne v24 v29
  let v31 : BitVec 32 := Scalar.remsi arg1 c2_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c0_i32_13 : BitVec 32 := 0#32
  let v36 : BitVec 1 := Scalar.cmpi .eq v35 c0_i32_13
  let c2_i32_14 : BitVec 32 := 2#32
  let c0_i32_15 : BitVec 32 := 0#32
  let v37 : BitVec 1 := Scalar.cmpi .eq c2_i32_14 c0_i32_15
  let c1_i32_16 : BitVec 32 := 1#32
  let v38 : BitVec 32 := Scalar.select v37 c1_i32_16 c2_i32_14
  let v39 : BitVec 32 := Scalar.remsi arg1 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S1x2048x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S1x2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x2048 : Shape := ⟨2, ![4096, 2048]⟩
abbrev S4096x4096 : Shape := ⟨2, ![4096, 4096]⟩
abbrev S4x2048x1024 : Shape := ⟨3, ![4, 2048, 1024]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4x2048x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .f32⟩
  | .local _ .vmem, ⟨5, _⟩ => ⟨S1x512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg2 c0_i32_5
  let c4_i32_6 : BitVec 32 := 4#32
  let v19 : BitVec 32 := Scalar.divsi arg1 c4_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi arg1 c4_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c0_i32_13 : BitVec 32 := 0#32
  let v36 : BitVec 1 := Scalar.cmpi .eq v35 c0_i32_13
  let c4_i32_14 : BitVec 32 := 4#32
  let c0_i32_15 : BitVec 32 := 0#32
  let v37 : BitVec 1 := Scalar.cmpi .eq c4_i32_14 c0_i32_15
  let c1_i32_16 : BitVec 32 := 1#32
  let v38 : BitVec 32 := Scalar.select v37 c1_i32_16 c4_i32_14
  let v39 : BitVec 32 := Scalar.remsi arg1 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S4096x4096 : Shape := ⟨2, ![4096, 4096]⟩
abbrev S_ : Shape := ⟨0, ![]⟩
abbrev S4x2048x1024 : Shape := ⟨3, ![4, 2048, 1024]⟩
abbrev S2048x4x1024 : Shape := ⟨3, ![2048, 4, 1024]⟩
abbrev S2048x4096 : Shape := ⟨2, ![2048, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S4x2048x1024, .f32⟩
  | .hbm, ⟨4, _⟩ => ⟨S2048x4x1024, .f32⟩
  | .hbm, ⟨5, _⟩ => ⟨S2048x4096, .f32⟩
  | .hbm, ⟨6, _⟩ => ⟨S4096x2048, .f32⟩
  | .hbm, ⟨7, _⟩ => ⟨S4096x4096, .f32⟩
  | .hbm, ⟨8, _⟩ => ⟨S4096x4096, .f32⟩
  | .hbm, ⟨9, _⟩ => ⟨S4096x2048, .f32⟩
  | .hbm, ⟨10, _⟩ => ⟨S2048x4096, .f32⟩
  | .hbm, ⟨11, _⟩ => ⟨S2048x4x1024, .f32⟩
  | .hbm, ⟨12, _⟩ => ⟨S4x2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel7.lean ====
abbrev S4096x4096 : Shape := ⟨2, ![4096, 4096]⟩
abbrev S4x2048x1024 : Shape := ⟨3, ![4, 2048, 1024]⟩
abbrev S4096x2048 : Shape := ⟨2, ![4096, 2048]⟩
abbrev S2048x1024 : Shape := ⟨2, ![2048, 1024]⟩
abbrev S1x512x1024 : Shape := ⟨3, ![1, 512, 1024]⟩
abbrev S2048x512 : Shape := ⟨2, ![2048, 512]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4x2048x1024, .bf16⟩
  | .hbm, ⟨2, _⟩ => ⟨S4096x2048, .f32⟩
  | .hbm, ⟨3, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg0 c0_i32_5
  let c4_i32_6 : BitVec 32 := 4#32
  let v19 : BitVec 32 := Scalar.divsi arg2 c4_i32_6
  let c0_i32_7 : BitVec 32 := 0#32
  let v20 : BitVec 1 := Scalar.cmpi .sgt arg2 c0_i32_7
  let v21 : BitVec 32 := Scalar.extui v20
  let c0_i32_8 : BitVec 32 := 0#32
  let v22 : BitVec 1 := Scalar.cmpi .slt arg2 c0_i32_8
  let v23 : BitVec 32 := Scalar.extui v22
  let v24 : BitVec 32 := Scalar.subi v21 v23
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi arg2 c4_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c0_i32_13 : BitVec 32 := 0#32
  let v36 : BitVec 1 := Scalar.cmpi .eq v35 c0_i32_13
  let c4_i32_14 : BitVec 32 := 4#32
  let c0_i32_15 : BitVec 32 := 0#32
  let v37 : BitVec 1 := Scalar.cmpi .eq c4_i32_14 c0_i32_15
  let c1_i32_16 : BitVec 32 := 1#32
  let v38 : BitVec 32 := Scalar.select v37 c1_i32_16 c4_i32_14
  let v39 : BitVec 32 := Scalar.remsi arg2 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x4096 : Shape := ⟨2, ![4096, 4096]⟩
abbrev S4x2048x1024 : Shape := ⟨3, ![4, 2048, 1024]⟩
abbrev S4096x2048 : Shape := ⟨2, ![4096, 2048]⟩
abbrev S_ : Shape := ⟨0, ![]⟩
abbrev S2048x4x1024 : Shape := ⟨3, ![2048, 4, 1024]⟩
abbrev S2048x4096 : Shape := ⟨2, ![2048, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x2048x1024, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S2048x4x1024, .bf16⟩
  | .hbm, ⟨9, _⟩ => ⟨S2048x4096, .bf16⟩
  | .hbm, ⟨10, _⟩ => ⟨S2048x4096, .f32⟩
  | .hbm, ⟨11, _⟩ => ⟨S4096x4096, .f32⟩
  | .hbm, ⟨12, _⟩ => ⟨S4096x4096, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel8.lean ====
abbrev S4096x2048 : Shape := ⟨2, ![4096, 2048]⟩
abbrev S4x2048x2816 : Shape := ⟨3, ![4, 2048, 2816]⟩
abbrev S4096x11264 : Shape := ⟨2, ![4096, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S4096x11264 : Shape := ⟨2, ![4096, 11264]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S2048x4x2816, .bf16⟩
  | .hbm, ⟨3, _⟩ => ⟨S2048x11264, .bf16⟩
  | .hbm, ⟨4, _⟩ => ⟨S4096x2048, .f32⟩
  | .hbm, ⟨5, _⟩ => ⟨S2048x11264, .f32⟩
  | .hbm, ⟨6, _⟩ => ⟨S4096x11264, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S4096x5632 : Shape := ⟨2, ![4096, 5632]⟩
abbrev S4x1408x2048 : Shape := ⟨3, ![4, 1408, 2048]⟩
abbrev S4096x2048 : Shape := ⟨2, ![4096, 2048]⟩
abbrev S1x5632x2048 : Shape := ⟨3, ![1, 5632, 2048]⟩
abbrev S512x5632 : Shape := ⟨2, ![512, 5632]⟩
abbrev S1x5632x1024 : Shape := ⟨3, ![1, 5632, 1024]⟩
abbrev S512x1024 : Shape := ⟨2, ![512, 1024]⟩
abbrev S5632x1024 : Shape := ⟨2, ![5632, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S4x1408x2048, .bf16⟩
  | .hbm, ⟨2, _⟩ => ⟨S4096x2048, .f32⟩
  | .hbm, ⟨3, _⟩ => ⟨S1x5632x2048, .bf16⟩
  | .hbm, ⟨4, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x1024, .bf16⟩
  | .local _ .vmem, ⟨3, _⟩ => ⟨S1x5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x5632 : Shape := ⟨2, ![4096, 5632]⟩
abbrev S4x1408x2048 : Shape := ⟨3, ![4, 1408, 2048]⟩
abbrev S4096x2048 : Shape := ⟨2, ![4096, 2048]⟩
abbrev S5632x2048 : Shape := ⟨2, ![5632, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x1408x2048, .bf16⟩
  | .hbm, ⟨2, _⟩ => ⟨S4096x2048, .f32⟩
  | .hbm, ⟨3, _⟩ => ⟨S5632x2048, .bf16⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x5632, .f32⟩
  | .hbm, ⟨8, _⟩ => ⟨S5632x2048, .f32⟩
  | .hbm, ⟨9, _⟩ => ⟨S4096x2048, .f32⟩
  | .hbm, ⟨10, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel10.lean ====
abbrev S4096x2048 : Shape := ⟨2, ![4096, 2048]⟩
abbrev S4x512x2048 : Shape := ⟨3, ![4, 512, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S4096x2048, .f32⟩
  | .hbm, ⟨3, _⟩ => ⟨S1x2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4096x2048 : Shape := ⟨2, ![4096, 2048]⟩
abbrev S4x512x2048 : Shape := ⟨3, ![4, 512, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S4096x2048, .f32⟩
  | .hbm, ⟨3, _⟩ => ⟨S2048x2048, .bf16⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S4096x2048, .f32⟩
  | .hbm, ⟨10, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel11.lean ====
abbrev S4096x2048 : Shape := ⟨2, ![4096, 2048]⟩
abbrev S4x2048x2048 : Shape := ⟨3, ![4, 2048, 2048]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S4096x8192 : Shape := ⟨2, ![4096, 8192]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S2048x4x2048, .bf16⟩
  | .hbm, ⟨3, _⟩ => ⟨S2048x8192, .bf16⟩
  | .hbm, ⟨4, _⟩ => ⟨S4096x2048, .f32⟩
  | .hbm, ⟨5, _⟩ => ⟨S2048x8192, .f32⟩
  | .hbm, ⟨6, _⟩ => ⟨S4096x8192, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S4096x2048 : Shape := ⟨2, ![4096, 2048]⟩
abbrev S4x2048x1024 : Shape := ⟨3, ![4, 2048, 1024]⟩
abbrev S4096x4096 : Shape := ⟨2, ![4096, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S2048x4x1024, .bf16⟩
  | .hbm, ⟨3, _⟩ => ⟨S2048x4096, .bf16⟩
  | .hbm, ⟨4, _⟩ => ⟨S4096x2048, .f32⟩
  | .hbm, ⟨5, _⟩ => ⟨S2048x4096, .f32⟩
  | .hbm, ⟨6, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S4096x2048 : Shape := ⟨2, ![4096, 2048]⟩
abbrev S4x512x2048 : Shape := ⟨3, ![4, 512, 2048]⟩
abbrev S1x2048x2048 : Shape := ⟨3, ![1, 2048, 2048]⟩
abbrev S2048x2048 : Shape := ⟨2, ![2048, 2048]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S1x2048x2048, .bf16⟩
  | .hbm, ⟨3, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S2048x512, .f32⟩
  | .local _ .vmem, ⟨5, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg0 c0_i32_6
  let c1_i32_7 : BitVec 32 := 1#32
  let v19 : BitVec 32 := Scalar.divsi arg2 c1_i32_7
  let c0_i32_8 : BitVec 32 := 0#32
  let v20 : BitVec 1 := Scalar.cmpi .sgt arg2 c0_i32_8
  let v21 : BitVec 32 := Scalar.extui v20
  let c0_i32_9 : BitVec 32 := 0#32
  let v22 : BitVec 1 := Scalar.cmpi .slt arg2 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg2 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c0_i32_14 : BitVec 32 := 0#32
  let v36 : BitVec 1 := Scalar.cmpi .eq v35 c0_i32_14
  let c1_i32_15 : BitVec 32 := 1#32
  let c0_i32_16 : BitVec 32 := 0#32
  let v37 : BitVec 1 := Scalar.cmpi .eq c1_i32_15 c0_i32_16
  let c1_i32_17 : BitVec 32 := 1#32
  let v38 : BitVec 32 := Scalar.select v37 c1_i32_17 c1_i32_15
  let v39 : BitVec 32 := Scalar.remsi arg2 v38
  let c0_i32_18 : BitVec 32 := 0#32
  let v40 : BitVec 1 := Scalar.cmpi .ne v39 c0_i32_18
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let v44 : BitVec 1 := Scalar.andi v43 v40
  let v45 : BitVec 32 := Scalar.addi v39 v38
  let v46 : BitVec 32 := Scalar.select v44 v45 v39
  let c0_i32_21 : BitVec 32 := 0#32
  let v47 : BitVec 32 := Scalar.select v36 v46 c0_i32_21
  let c0_i32_22 : BitVec 32 := 0#32
  ![v18.toNat, v47.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S4x512x2048 : Shape := ⟨3, ![4, 512, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S_, .f32⟩
  | .hbm, ⟨3, _⟩ => ⟨S4096x2048, .f32⟩
  | .hbm, ⟨4, _⟩ => ⟨S2048x2048, .bf16⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4096x2048 : Shape := ⟨2, ![4096, 2048]⟩
abbrev S4x2048x2048 : Shape := ⟨3, ![4, 2048, 2048]⟩
abbrev S2048x2048 : Shape := ⟨2, ![2048, 2048]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x2048, .f32⟩
  | .hbm, ⟨3, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg0 c0_i32_6
  let c1_i32_7 : BitVec 32 := 1#32
  let v19 : BitVec 32 := Scalar.divsi arg2 c1_i32_7
  let c0_i32_8 : BitVec 32 := 0#32
  let v20 : BitVec 1 := Scalar.cmpi .sgt arg2 c0_i32_8
  let v21 : BitVec 32 := Scalar.extui v20
  let c0_i32_9 : BitVec 32 := 0#32
  let v22 : BitVec 1 := Scalar.cmpi .slt arg2 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg2 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c0_i32_14 : BitVec 32 := 0#32
  let v36 : BitVec 1 := Scalar.cmpi .eq v35 c0_i32_14
  let c1_i32_15 : BitVec 32 := 1#32
  let c0_i32_16 : BitVec 32 := 0#32
  let v37 : BitVec 1 := Scalar.cmpi .eq c1_i32_15 c0_i32_16
  let c1_i32_17 : BitVec 32 := 1#32
  let v38 : BitVec 32 := Scalar.select v37 c1_i32_17 c1_i32_15
  let v39 : BitVec 32 := Scalar.remsi arg2 v38
  let c0_i32_18 : BitVec 32 := 0#32
  let v40 : BitVec 1 := Scalar.cmpi .ne v39 c0_i32_18
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let v44 : BitVec 1 := Scalar.andi v43 v40
  let v45 : BitVec 32 := Scalar.addi v39 v38
  let v46 : BitVec 32 := Scalar.select v44 v45 v39
  let c0_i32_21 : BitVec 32 := 0#32
  let v47 : BitVec 32 := Scalar.select v36 v46 c0_i32_21
  let c0_i32_22 : BitVec 32 := 0#32
  ![v18.toNat, v47.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4096x2048 : Shape := ⟨2, ![4096, 2048]⟩
abbrev S4x2048x2048 : Shape := ⟨3, ![4, 2048, 2048]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S1x2048x2048, .bf16⟩
  | .hbm, ⟨9, _⟩ => ⟨S2048x2048, .bf16⟩
  | .hbm, ⟨10, _⟩ => ⟨S2048x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel15.lean ====
abbrev S4096x2048 : Shape := ⟨2, ![4096, 2048]⟩
abbrev S4096x5632 : Shape := ⟨2, ![4096, 5632]⟩
abbrev S4x2048x2816 : Shape := ⟨3, ![4, 2048, 2816]⟩
abbrev S2048x512 : Shape := ⟨2, ![2048, 512]⟩
abbrev S2048x1408 : Shape := ⟨2, ![2048, 1408]⟩
abbrev S1x512x1408 : Shape := ⟨3, ![1, 512, 1408]⟩
abbrev S512x1408 : Shape := ⟨2, ![512, 1408]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S4x2048x2816, .f32⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x512x1408, .f32⟩
  | .local _ .vmem, ⟨7, _⟩ => ⟨S1x512x1408, .f32⟩
  | .local _ .vmem, ⟨8, _⟩ => ⟨S512x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 2], ![false, false, false]⟩

def k0_cond4 (i : grid0.Coords) : BitVec 1 :=
  let arg2 : BitVec 32 := BitVec.ofNat 32 (i 2).val
  let c1_i32_10 : BitVec 32 := 1#32
  let v26 : BitVec 1 := Scalar.cmpi .eq arg2 c1_i32_10
  let v27 : BitVec 32 := Scalar.extui v26
  let c0_i32_11 : BitVec 32 := 0#32
  let v28 : BitVec 1 := Scalar.cmpi .ne v27 c0_i32_11
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg2 c0_i32_5
  let c4_i32_6 : BitVec 32 := 4#32
  let v19 : BitVec 32 := Scalar.divsi arg1 c4_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi arg1 c4_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c0_i32_13 : BitVec 32 := 0#32
  let v36 : BitVec 1 := Scalar.cmpi .eq v35 c0_i32_13
  let c4_i32_14 : BitVec 32 := 4#32
  let c0_i32_15 : BitVec 32 := 0#32
  let v37 : BitVec 1 := Scalar.cmpi .eq c4_i32_14 c0_i32_15
  let c1_i32_16 : BitVec 32 := 1#32
  let v38 : BitVec 32 := Scalar.select v37 c1_i32_16 c4_i32_14
  let v39 : BitVec 32 := Scalar.remsi arg1 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c0_i32_5 : BitVec 32 := 0#32
  let v18 : BitVec 32 := Scalar.select v17 arg2 c0_i32_5
  let c4_i32_6 : BitVec 32 := 4#32
  let v19 : BitVec 32 := Scalar.divsi arg1 c4_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi arg1 c4_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c1_i32_13 : BitVec 32 := 1#32
  let v36 : BitVec 1 := Scalar.cmpi .eq v35 c1_i32_13
  let c4_i32_14 : BitVec 32 := 4#32
  let c0_i32_15 : BitVec 32 := 0#32
  let v37 : BitVec 1 := Scalar.cmpi .eq c4_i32_14 c0_i32_15
  let c1_i32_16 : BitVec 32 := 1#32
  let v38 : BitVec 32 := Scalar.select v37 c1_i32_16 c4_i32_14
  let v39 : BitVec 32 := Scalar.remsi arg1 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S4096x2048 : Shape := ⟨2, ![4096, 2048]⟩
abbrev S4096x5632 : Shape := ⟨2, ![4096, 5632]⟩
abbrev S_ : Shape := ⟨0, ![]⟩
abbrev S4x2048x2816 : Shape := ⟨3, ![4, 2048, 2816]⟩
abbrev S4096x11264 : Shape := ⟨2, ![4096, 11264]⟩
abbrev S2048x4x2816 : Shape := ⟨3, ![2048, 4, 2816]⟩
abbrev S2048x11264 : Shape := ⟨2, ![2048, 11264]⟩
abbrev S11264x2048 : Shape := ⟨2, ![11264, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S_, .f32⟩
  | .hbm, ⟨4, _⟩ => ⟨S4x2048x2816, .f32⟩
  | .hbm, ⟨5, _⟩ => ⟨S4096x11264, .bf16⟩
  | .hbm, ⟨6, _⟩ => ⟨S4096x11264, .f32⟩
  | .hbm, ⟨7, _⟩ => ⟨S2048x4x2816, .f32⟩
  | .hbm, ⟨8, _⟩ => ⟨S2048x11264, .f32⟩
  | .hbm, ⟨9, _⟩ => ⟨S4096x2048, .f32⟩
  | .hbm, ⟨10, _⟩ => ⟨S4096x11264, .f32⟩
  | .hbm, ⟨11, _⟩ => ⟨S11264x2048, .f32⟩
  | .hbm, ⟨12, _⟩ => ⟨S2048x11264, .f32⟩
  | .hbm, ⟨13, _⟩ => ⟨S2048x4x2816, .f32⟩
  | .hbm, ⟨14, _⟩ => ⟨S4x2048x2816, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel16.lean ====
abbrev S4096x5632 : Shape := ⟨2, ![4096, 5632]⟩
abbrev S4x2048x2816 : Shape := ⟨3, ![4, 2048, 2816]⟩
abbrev S4096x2048 : Shape := ⟨2, ![4096, 2048]⟩
abbrev S512x2816 : Shape := ⟨2, ![512, 2816]⟩
abbrev S1x1024x2816 : Shape := ⟨3, ![1, 1024, 2816]⟩
abbrev S512x1024 : Shape := ⟨2, ![512, 1024]⟩
abbrev S1024x2816 : Shape := ⟨2, ![1024, 2816]⟩

abbrev nBuf : Space → Nat
  | .hbm => 5
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4x2048x2816, .bf16⟩
  | .hbm, ⟨3, _⟩ => ⟨S4096x2048, .f32⟩
  | .hbm, ⟨4, _⟩ => ⟨S4096x2048, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def k0_cond4 (i : grid0.Coords) : BitVec 1 :=
  let arg2 : BitVec 32 := BitVec.ofNat 32 (i 2).val
  let c3_i32 : BitVec 32 := 3#32
  let v26 : BitVec 1 := Scalar.cmpi .eq arg2 c3_i32
  let v27 : BitVec 32 := Scalar.extui v26
  let c0_i32_10 : BitVec 32 := 0#32
  let v28 : BitVec 1 := Scalar.cmpi .ne v27 c0_i32_10
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg0 c0_i32_5
  let c2_i32_6 : BitVec 32 := 2#32
  let v19 : BitVec 32 := Scalar.divsi arg2 c2_i32_6
  let c0_i32_7 : BitVec 32 := 0#32
  let v20 : BitVec 1 := Scalar.cmpi .sgt arg2 c0_i32_7
  let v21 : BitVec 32 := Scalar.extui v20
  let c0_i32_8 : BitVec 32 := 0#32
  let v22 : BitVec 1 := Scalar.cmpi .slt arg2 c0_i32_8
  let v23 : BitVec 32 := Scalar.extui v22
  let v24 : BitVec 32 := Scalar.subi v21 v23
  let c0_i32_9 : BitVec 32 := 0#32
  let v25 : BitVec 1 := Scalar.cmpi .sgt c2_i32_6 c0_i32_9
  let v26 : BitVec 32 := Scalar.extui v25
  let c0_i32_10 : BitVec 32 := 0#32
  let v27 : BitVec 1 := Scalar.cmpi .slt c2_i32_6 c0_i32_10
  let v28 : BitVec 32 := Scalar.extui v27
  let v29 : BitVec 32 := Scalar.subi v26 v28
  let v30 : BitVec 1 := Scalar.cmpi .ne v24 v29
  let v31 : BitVec 32 := Scalar.remsi arg2 c2_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c0_i32_13 : BitVec 32 := 0#32
  let v36 : BitVec 1 := Scalar.cmpi .eq v35 c0_i32_13
  let c2_i32_14 : BitVec 32 := 2#32
  let c0_i32_15 : BitVec 32 := 0#32
  let v37 : BitVec 1 := Scalar.cmpi .eq c2_i32_14 c0_i32_15
  let c1_i32_16 : BitVec 32 := 1#32
  let v38 : BitVec 32 := Scalar.select v37 c1_i32_16 c2_i32_14
  let v39 : BitVec 32 := Scalar.remsi arg2 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c0_i32_5 : BitVec 32 := 0#32
  let v18 : BitVec 32 := Scalar.select v17 arg0 c0_i32_5
  let c2_i32_6 : BitVec 32 := 2#32
  let v19 : BitVec 32 := Scalar.divsi arg2 c2_i32_6
  let c0_i32_7 : BitVec 32 := 0#32
  let v20 : BitVec 1 := Scalar.cmpi .sgt arg2 c0_i32_7
  let v21 : BitVec 32 := Scalar.extui v20
  let c0_i32_8 : BitVec 32 := 0#32
  let v22 : BitVec 1 := Scalar.cmpi .slt arg2 c0_i32_8
  let v23 : BitVec 32 := Scalar.extui v22
  let v24 : BitVec 32 := Scalar.subi v21 v23
  let c0_i32_9 : BitVec 32 := 0#32
  let v25 : BitVec 1 := Scalar.cmpi .sgt c2_i32_6 c0_i32_9
  let v26 : BitVec 32 := Scalar.extui v25
  let c0_i32_10 : BitVec 32 := 0#32
  let v27 : BitVec 1 := Scalar.cmpi .slt c2_i32_6 c0_i32_10
  let v28 : BitVec 32 := Scalar.extui v27
  let v29 : BitVec 32 := Scalar.subi v26 v28
  let v30 : BitVec 1 := Scalar.cmpi .ne v24 v29
  let v31 : BitVec 32 := Scalar.remsi arg2 c2_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c1_i32_13 : BitVec 32 := 1#32
  let v36 : BitVec 1 := Scalar.cmpi .eq v35 c1_i32_13
  let c2_i32_14 : BitVec 32 := 2#32
  let c0_i32_15 : BitVec 32 := 0#32
  let v37 : BitVec 1 := Scalar.cmpi .eq c2_i32_14 c0_i32_15
  let c1_i32_16 : BitVec 32 := 1#32
  let v38 : BitVec 32 := Scalar.select v37 c1_i32_16 c2_i32_14
  let v39 : BitVec 32 := Scalar.remsi arg2 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg1.toNat, v27.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference16Ideal.lean ====
abbrev S4096x5632 : Shape := ⟨2, ![4096, 5632]⟩
abbrev S4x2048x2816 : Shape := ⟨3, ![4, 2048, 2816]⟩
abbrev S4096x2048 : Shape := ⟨2, ![4096, 2048]⟩
abbrev S_ : Shape := ⟨0, ![]⟩
abbrev S4096x11264 : Shape := ⟨2, ![4096, 11264]⟩
abbrev S2048x4x2816 : Shape := ⟨3, ![2048, 4, 2816]⟩
abbrev S2048x11264 : Shape := ⟨2, ![2048, 11264]⟩

abbrev nBuf : Space → Nat
  | .hbm => 20
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4x2048x2816, .bf16⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x11264, .bf16⟩
  | .hbm, ⟨7, _⟩ => ⟨S4096x11264, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S2048x4x2816, .bf16⟩
  | .hbm, ⟨12, _⟩ => ⟨S2048x11264, .bf16⟩
  | .hbm, ⟨13, _⟩ => ⟨S2048x11264, .f32⟩
  | .hbm, ⟨14, _⟩ => ⟨S4096x11264, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel17.lean ====
abbrev S4096x2048 : Shape := ⟨2, ![4096, 2048]⟩
abbrev S4x2048x2048 : Shape := ⟨3, ![4, 2048, 2048]⟩
abbrev S1024x1024 : Shape := ⟨2, ![1024, 1024]⟩
abbrev S1x1024x1024 : Shape := ⟨3, ![1, 1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4x2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024x1024, .f32⟩
  | .local _ .vmem, ⟨11, _⟩ => ⟨S1x1024x1024, .f32⟩
  | .local _ .vmem, ⟨12, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 4], ![false, false, false]⟩

def k0_cond6 (i : grid0.Coords) : BitVec 1 :=
  let arg2 : BitVec 32 := BitVec.ofNat 32 (i 2).val
  let c3_i32_13 : BitVec 32 := 3#32
  let v32 : BitVec 1 := Scalar.cmpi .eq arg2 c3_i32_13
  let v33 : BitVec 32 := Scalar.extui v32
  let c0_i32_14 : BitVec 32 := 0#32
  let v34 : BitVec 1 := Scalar.cmpi .ne v33 c0_i32_14
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg2 c0_i32_5
  let c2_i32_6 : BitVec 32 := 2#32
  let v19 : BitVec 32 := Scalar.divsi arg1 c2_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c2_i32_6 c0_i32_9
  let v26 : BitVec 32 := Scalar.extui v25
  let c0_i32_10 : BitVec 32 := 0#32
  let v27 : BitVec 1 := Scalar.cmpi .slt c2_i32_6 c0_i32_10
  let v28 : BitVec 32 := Scalar.extui v27
  let v29 : BitVec 32 := Scalar.subi v26 v28
  let v30 : BitVec 1 := Scalar.cmpi .ne v24 v29
  let v31 : BitVec 32 := Scalar.remsi arg1 c2_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c0_i32_13 : BitVec 32 := 0#32
  let v36 : BitVec 1 := Scalar.cmpi .eq v35 c0_i32_13
  let c2_i32_14 : BitVec 32 := 2#32
  let c0_i32_15 : BitVec 32 := 0#32
  let v37 : BitVec 1 := Scalar.cmpi .eq c2_i32_14 c0_i32_15
  let c1_i32_16 : BitVec 32 := 1#32
  let v38 : BitVec 32 := Scalar.select v37 c1_i32_16 c2_i32_14
  let v39 : BitVec 32 := Scalar.remsi arg1 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c0_i32_5 : BitVec 32 := 0#32
  let v18 : BitVec 32 := Scalar.select v17 arg2 c0_i32_5
  let c2_i32_6 : BitVec 32 := 2#32
  let v19 : BitVec 32 := Scalar.divsi arg1 c2_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c2_i32_6 c0_i32_9
  let v26 : BitVec 32 := Scalar.extui v25
  let c0_i32_10 : BitVec 32 := 0#32
  let v27 : BitVec 1 := Scalar.cmpi .slt c2_i32_6 c0_i32_10
  let v28 : BitVec 32 := Scalar.extui v27
  let v29 : BitVec 32 := Scalar.subi v26 v28
  let v30 : BitVec 1 := Scalar.cmpi .ne v24 v29
  let v31 : BitVec 32 := Scalar.remsi arg1 c2_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c1_i32_13 : BitVec 32 := 1#32
  let v36 : BitVec 1 := Scalar.cmpi .eq v35 c1_i32_13
  let c2_i32_14 : BitVec 32 := 2#32
  let c0_i32_15 : BitVec 32 := 0#32
  let v37 : BitVec 1 := Scalar.cmpi .eq c2_i32_14 c0_i32_15
  let c1_i32_16 : BitVec 32 := 1#32
  let v38 : BitVec 32 := Scalar.select v37 c1_i32_16 c2_i32_14
  let v39 : BitVec 32 := Scalar.remsi arg1 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 1 := Scalar.cmpi .eq v16 c2_i32_4
  let c0_i32_5 : BitVec 32 := 0#32
  let v18 : BitVec 32 := Scalar.select v17 arg2 c0_i32_5
  let c2_i32_6 : BitVec 32 := 2#32
  let v19 : BitVec 32 := Scalar.divsi arg1 c2_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c2_i32_6 c0_i32_9
  let v26 : BitVec 32 := Scalar.extui v25
  let c0_i32_10 : BitVec 32 := 0#32
  let v27 : BitVec 1 := Scalar.cmpi .slt c2_i32_6 c0_i32_10
  let v28 : BitVec 32 := Scalar.extui v27
  let v29 : BitVec 32 := Scalar.subi v26 v28
  let v30 : BitVec 1 := Scalar.cmpi .ne v24 v29
  let v31 : BitVec 32 := Scalar.remsi arg1 c2_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c2_i32_13 : BitVec 32 := 2#32
  let v36 : BitVec 1 := Scalar.cmpi .eq v35 c2_i32_13
  let c2_i32_14 : BitVec 32 := 2#32
  let c0_i32_15 : BitVec 32 := 0#32
  let v37 : BitVec 1 := Scalar.cmpi .eq c2_i32_14 c0_i32_15
  let c1_i32_16 : BitVec 32 := 1#32
  let v38 : BitVec 32 := Scalar.select v37 c1_i32_16 c2_i32_14
  let v39 : BitVec 32 := Scalar.remsi arg1 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 1 := Scalar.cmpi .eq v16 c3_i32
  let c0_i32_4 : BitVec 32 := 0#32
  let v18 : BitVec 32 := Scalar.select v17 arg2 c0_i32_4
  let c2_i32_5 : BitVec 32 := 2#32
  let v19 : BitVec 32 := Scalar.divsi arg1 c2_i32_5
  let c0_i32_6 : BitVec 32 := 0#32
  let v20 : BitVec 1 := Scalar.cmpi .sgt arg1 c0_i32_6
  let v21 : BitVec 32 := Scalar.extui v20
  let c0_i32_7 : BitVec 32 := 0#32
  let v22 : BitVec 1 := Scalar.cmpi .slt arg1 c0_i32_7
  let v23 : BitVec 32 := Scalar.extui v22
  let v24 : BitVec 32 := Scalar.subi v21 v23
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi arg1 c2_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c3_i32_12 : BitVec 32 := 3#32
  let v36 : BitVec 1 := Scalar.cmpi .eq v35 c3_i32_12
  let c2_i32_13 : BitVec 32 := 2#32
  let c0_i32_14 : BitVec 32 := 0#32
  let v37 : BitVec 1 := Scalar.cmpi .eq c2_i32_13 c0_i32_14
  let c1_i32_15 : BitVec 32 := 1#32
  let v38 : BitVec 32 := Scalar.select v37 c1_i32_15 c2_i32_13
  let v39 : BitVec 32 := Scalar.remsi arg1 v38
  let c0_i32_16 : BitVec 32 := 0#32
  let v40 : BitVec 1 := Scalar.cmpi .ne v39 c0_i32_16
  let c0_i32_17 : BitVec 32 := 0#32
  let v41 : BitVec 1 := Scalar.cmpi .slt v39 c0_i32_17
  let c0_i32_18 : BitVec 32 := 0#32
  let v42 : BitVec 1 := Scalar.cmpi .slt v38 c0_i32_18
  let v43 : BitVec 1 := Scalar.xori v41 v42
  let v44 : BitVec 1 := Scalar.andi v43 v40
  let v45 : BitVec 32 := Scalar.addi v39 v38
  let v46 : BitVec 32 := Scalar.select v44 v45 v39
  let c0_i32_19 : BitVec 32 := 0#32
  let v47 : BitVec 32 := Scalar.select v36 v46 c0_i32_19
  let c0_i32_20 : BitVec 32 := 0#32
  ![v18.toNat, v47.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference17Ideal.lean ====
abbrev S4096x2048 : Shape := ⟨2, ![4096, 2048]⟩
abbrev S_ : Shape := ⟨0, ![]⟩
abbrev S4x2048x2048 : Shape := ⟨3, ![4, 2048, 2048]⟩
abbrev S4096x8192 : Shape := ⟨2, ![4096, 8192]⟩
abbrev S2048x4x2048 : Shape := ⟨3, ![2048, 4, 2048]⟩
abbrev S2048x8192 : Shape := ⟨2, ![2048, 8192]⟩
abbrev S8192x2048 : Shape := ⟨2, ![8192, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S_, .f32⟩
  | .hbm, ⟨6, _⟩ => ⟨S4x2048x2048, .f32⟩
  | .hbm, ⟨7, _⟩ => ⟨S4096x8192, .bf16⟩
  | .hbm, ⟨8, _⟩ => ⟨S4096x8192, .f32⟩
  | .hbm, ⟨9, _⟩ => ⟨S2048x4x2048, .f32⟩
  | .hbm, ⟨10, _⟩ => ⟨S2048x8192, .f32⟩
  | .hbm, ⟨11, _⟩ => ⟨S4096x2048, .f32⟩
  | .hbm, ⟨12, _⟩ => ⟨S4096x8192, .f32⟩
  | .hbm, ⟨13, _⟩ => ⟨S8192x2048, .f32⟩
  | .hbm, ⟨14, _⟩ => ⟨S2048x8192, .f32⟩
  | .hbm, ⟨15, _⟩ => ⟨S2048x4x2048, .f32⟩
  | .hbm, ⟨16, _⟩ => ⟨S4x2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel18.lean ====
abbrev S4096x2048 : Shape := ⟨2, ![4096, 2048]⟩
abbrev S4x2048x2048 : Shape := ⟨3, ![4, 2048, 2048]⟩
abbrev S512x2048 : Shape := ⟨2, ![512, 2048]⟩
abbrev S1x1024x2048 : Shape := ⟨3, ![1, 1024, 2048]⟩
abbrev S512x1024 : Shape := ⟨2, ![512, 1024]⟩
abbrev S1024x2048 : Shape := ⟨2, ![1024, 2048]⟩

abbrev nBuf : Space → Nat
  | .hbm => 6
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4x2048x2048, .bf16⟩
  | .hbm, ⟨4, _⟩ => ⟨S4096x2048, .f32⟩
  | .hbm, ⟨5, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 3], ![false, false, false]⟩

def k0_cond5 (i : grid0.Coords) : BitVec 1 :=
  let arg2 : BitVec 32 := BitVec.ofNat 32 (i 2).val
  let c2_i32_12 : BitVec 32 := 2#32
  let v29 : BitVec 1 := Scalar.cmpi .eq arg2 c2_i32_12
  let v30 : BitVec 32 := Scalar.extui v29
  let c0_i32_13 : BitVec 32 := 0#32
  let v31 : BitVec 1 := Scalar.cmpi .ne v30 c0_i32_13
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg0 c0_i32_6
  let c1_i32_7 : BitVec 32 := 1#32
  let v19 : BitVec 32 := Scalar.divsi arg2 c1_i32_7
  let c0_i32_8 : BitVec 32 := 0#32
  let v20 : BitVec 1 := Scalar.cmpi .sgt arg2 c0_i32_8
  let v21 : BitVec 32 := Scalar.extui v20
  let c0_i32_9 : BitVec 32 := 0#32
  let v22 : BitVec 1 := Scalar.cmpi .slt arg2 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg2 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c0_i32_14 : BitVec 32 := 0#32
  let v36 : BitVec 1 := Scalar.cmpi .eq v35 c0_i32_14
  let c1_i32_15 : BitVec 32 := 1#32
  let c0_i32_16 : BitVec 32 := 0#32
  let v37 : BitVec 1 := Scalar.cmpi .eq c1_i32_15 c0_i32_16
  let c1_i32_17 : BitVec 32 := 1#32
  let v38 : BitVec 32 := Scalar.select v37 c1_i32_17 c1_i32_15
  let v39 : BitVec 32 := Scalar.remsi arg2 v38
  let c0_i32_18 : BitVec 32 := 0#32
  let v40 : BitVec 1 := Scalar.cmpi .ne v39 c0_i32_18
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let v44 : BitVec 1 := Scalar.andi v43 v40
  let v45 : BitVec 32 := Scalar.addi v39 v38
  let v46 : BitVec 32 := Scalar.select v44 v45 v39
  let c0_i32_21 : BitVec 32 := 0#32
  let v47 : BitVec 32 := Scalar.select v36 v46 c0_i32_21
  let c0_i32_22 : BitVec 32 := 0#32
  ![v18.toNat, v47.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c0_i32_6 : BitVec 32 := 0#32
  let v18 : BitVec 32 := Scalar.select v17 arg0 c0_i32_6
  let c1_i32_7 : BitVec 32 := 1#32
  let v19 : BitVec 32 := Scalar.divsi arg2 c1_i32_7
  let c0_i32_8 : BitVec 32 := 0#32
  let v20 : BitVec 1 := Scalar.cmpi .sgt arg2 c0_i32_8
  let v21 : BitVec 32 := Scalar.extui v20
  let c0_i32_9 : BitVec 32 := 0#32
  let v22 : BitVec 1 := Scalar.cmpi .slt arg2 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg2 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c1_i32_14 : BitVec 32 := 1#32
  let v36 : BitVec 1 := Scalar.cmpi .eq v35 c1_i32_14
  let c1_i32_15 : BitVec 32 := 1#32
  let c0_i32_16 : BitVec 32 := 0#32
  let v37 : BitVec 1 := Scalar.cmpi .eq c1_i32_15 c0_i32_16
  let c1_i32_17 : BitVec 32 := 1#32
  let v38 : BitVec 32 := Scalar.select v37 c1_i32_17 c1_i32_15
  let v39 : BitVec 32 := Scalar.remsi arg2 v38
  let c0_i32_18 : BitVec 32 := 0#32
  let v40 : BitVec 1 := Scalar.cmpi .ne v39 c0_i32_18
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let v44 : BitVec 1 := Scalar.andi v43 v40
  let v45 : BitVec 32 := Scalar.addi v39 v38
  let v46 : BitVec 32 := Scalar.select v44 v45 v39
  let c0_i32_21 : BitVec 32 := 0#32
  let v47 : BitVec 32 := Scalar.select v36 v46 c0_i32_21
  let c0_i32_22 : BitVec 32 := 0#32
  ![v18.toNat, v47.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 1 := Scalar.cmpi .eq v16 c2_i32
  let c0_i32_5 : BitVec 32 := 0#32
  let v18 : BitVec 32 := Scalar.select v17 arg0 c0_i32_5
  let c1_i32_6 : BitVec 32 := 1#32
  let v19 : BitVec 32 := Scalar.divsi arg2 c1_i32_6
  let c0_i32_7 : BitVec 32 := 0#32
  let v20 : BitVec 1 := Scalar.cmpi .sgt arg2 c0_i32_7
  let v21 : BitVec 32 := Scalar.extui v20
  let c0_i32_8 : BitVec 32 := 0#32
  let v22 : BitVec 1 := Scalar.cmpi .slt arg2 c0_i32_8
  let v23 : BitVec 32 := Scalar.extui v22
  let v24 : BitVec 32 := Scalar.subi v21 v23
  let c0_i32_9 : BitVec 32 := 0#32
  let v25 : BitVec 1 := Scalar.cmpi .sgt c1_i32_6 c0_i32_9
  let v26 : BitVec 32 := Scalar.extui v25
  let c0_i32_10 : BitVec 32 := 0#32
  let v27 : BitVec 1 := Scalar.cmpi .slt c1_i32_6 c0_i32_10
  let v28 : BitVec 32 := Scalar.extui v27
  let v29 : BitVec 32 := Scalar.subi v26 v28
  let v30 : BitVec 1 := Scalar.cmpi .ne v24 v29
  let v31 : BitVec 32 := Scalar.remsi arg2 c1_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c2_i32_13 : BitVec 32 := 2#32
  let v36 : BitVec 1 := Scalar.cmpi .eq v35 c2_i32_13
  let c1_i32_14 : BitVec 32 := 1#32
  let c0_i32_15 : BitVec 32 := 0#32
  let v37 : BitVec 1 := Scalar.cmpi .eq c1_i32_14 c0_i32_15
  let c1_i32_16 : BitVec 32 := 1#32
  let v38 : BitVec 32 := Scalar.select v37 c1_i32_16 c1_i32_14
  let v39 : BitVec 32 := Scalar.remsi arg2 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi c1_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg1.toNat, v27.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference18Ideal.lean ====
abbrev S4096x2048 : Shape := ⟨2, ![4096, 2048]⟩
abbrev S4x2048x2048 : Shape := ⟨3, ![4, 2048, 2048]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4x2048x2048, .bf16⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S1x2048x2048, .bf16⟩
  | .hbm, ⟨8, _⟩ => ⟨S2048x2048, .bf16⟩
  | .hbm, ⟨9, _⟩ => ⟨S2048x2048, .f32⟩
  | .hbm, ⟨10, _⟩ => ⟨S4096x2048, .f32⟩
  | .hbm, ⟨11, _⟩ => ⟨S1x2048x2048, .bf16⟩
  | .hbm, ⟨12, _⟩ => ⟨S2048x2048, .bf16⟩
  | .hbm, ⟨13, _⟩ => ⟨S2048x2048, .f32⟩
  | .hbm, ⟨14, _⟩ => ⟨S4096x2048, .f32⟩
  | .hbm, ⟨15, _⟩ => ⟨S1x2048x2048, .bf16⟩
  | .hbm, ⟨16, _⟩ => ⟨S2048x2048, .bf16⟩
  | .hbm, ⟨17, _⟩ => ⟨S2048x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel19.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference19Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 72
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x2048, .f32⟩
  | .hbm, ⟨48, _⟩ => ⟨S4096x2048, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x2048, .f32⟩
  | .hbm, ⟨70, _⟩ => ⟨S4096x2048, .f32⟩
  | .hbm, ⟨71, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Kernel20.lean ====
abbrev S4096x2048 : Shape := ⟨2, ![4096, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .hbm, ⟨7, _⟩ => ⟨S1x2048, .f32⟩
  | .hbm, ⟨8, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S1x2048, .f32⟩
  | .local _ .vmem, ⟨12, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference20Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 95
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S4096, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S4096x2048, .f32⟩
  | .hbm, ⟨60, _⟩ => ⟨S_, .f32⟩
  | .hbm, ⟨61, _⟩ => ⟨S2048, .f32⟩
  | .hbm, ⟨62, _⟩ => ⟨S1x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x2048, .f32⟩
  | .hbm, ⟨70, _⟩ => ⟨S4096x2048, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S4096x2048, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x2048, .f32⟩
  | .hbm, ⟨92, _⟩ => ⟨S4096x2048, .f32⟩
  | .hbm, ⟨93, _⟩ => ⟨S4096x2048, .bf16⟩
  | .hbm, ⟨94, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_cst_10 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_cst_12 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_13 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_14 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_16 : Ref sig .tc := ⟨.hbm, 72, rfl⟩
abbrev main_v51 : Ref sig .tc := ⟨.hbm, 73, rfl⟩
abbrev main_v52 : Ref sig .tc := ⟨.hbm, 74, rfl⟩
abbrev main_cst_17 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_18 : Ref sig .tc := ⟨.hbm, 83, rfl⟩
abbrev main_v60 : Ref sig .tc := ⟨.hbm, 84, rfl⟩
abbrev main_v61 : Ref sig .tc := ⟨.hbm, 85, rfl⟩
abbrev main_cst_19 : Ref sig .tc := ⟨.hbm, 86, rfl⟩
abbrev main_v62 : Ref sig .tc := ⟨.hbm, 87, rfl⟩
abbrev main_v63 : Ref sig .tc := ⟨.hbm, 88, rfl⟩
abbrev main_cst_20 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]
-- ==== Kernel21.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference21Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel22.lean ====
abbrev S4096x11264 : Shape := ⟨2, ![4096, 11264]⟩
abbrev S3x5632 : Shape := ⟨2, ![3, 5632]⟩
abbrev S1x5632 : Shape := ⟨2, ![1, 5632]⟩
abbrev S4096x5632 : Shape := ⟨2, ![4096, 5632]⟩
abbrev S512x1408 : Shape := ⟨2, ![512, 1408]⟩
abbrev S8x1408 : Shape := ⟨2, ![8, 1408]⟩
abbrev S3x1408 : Shape := ⟨2, ![3, 1408]⟩
abbrev S1x1408 : Shape := ⟨2, ![1, 1408]⟩

abbrev nBuf : Space → Nat
  | .hbm => 4
  | .vmem => 12
  | .smem => 0
  | _ => 0

abbrev bufTy : (tb : Table) → Fin (tcTables nBuf tb) → BufTy
  | .hbm, ⟨0, _⟩ => ⟨S4096x11264, .f32⟩
  | .hbm, ⟨1, _⟩ => ⟨S3x5632, .f32⟩
  | .hbm, ⟨2, _⟩ => ⟨S1x5632, .f32⟩
  | .hbm, ⟨3, _⟩ => ⟨S4096x5632, .bf16⟩
  | .local _ .vmem, ⟨0, _⟩ => ⟨S512x1408, .f32⟩
  | .local _ .vmem, ⟨1, _⟩ => ⟨S512x1408, .f32⟩
  | .local _ .vmem, ⟨2, _⟩ => ⟨S8x1408, .f32⟩
  | .local _ .vmem, ⟨3, _⟩ => ⟨S8x1408, .f32⟩
  | .local _ .vmem, ⟨4, _⟩ => ⟨S512x1408, .f32⟩
  | .local _ .vmem, ⟨5, _⟩ => ⟨S512x1408, .f32⟩
  | .local _ .vmem, ⟨6, _⟩ => ⟨S3x1408, .f32⟩
  | .local _ .vmem, ⟨7, _⟩ => ⟨S3x1408, .f32⟩
  | .local _ .vmem, ⟨8, _⟩ => ⟨S1x1408, .f32⟩
  | .local _ .vmem, ⟨9, _⟩ => ⟨S1x1408, .f32⟩
  | .local _ .vmem, ⟨10, _⟩ => ⟨S512x1408, .bf16⟩
  | .local _ .vmem, ⟨11, _⟩ => ⟨S512x1408, .bf16⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference22Ideal.lean ====
abbrev S4096x11264 : Shape := ⟨2, ![4096, 11264]⟩
abbrev S3x5632 : Shape := ⟨2, ![3, 5632]⟩
abbrev S1x5632 : Shape := ⟨2, ![1, 5632]⟩
abbrev S4096x5632 : Shape := ⟨2, ![4096, 5632]⟩
abbrev S_ : Shape := ⟨0, ![]⟩
abbrev S2x5632 : Shape := ⟨2, ![2, 5632]⟩
abbrev S4098x5632 : Shape := ⟨2, ![4098, 5632]⟩
abbrev S5632 : Shape := ⟨1, ![5632]⟩

abbrev nBuf : Space → Nat
  | .hbm => 44
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S3x5632, .f32⟩
  | .hbm, ⟨2, _⟩ => ⟨S1x5632, .f32⟩
  | .hbm, ⟨3, _⟩ => ⟨S4096x5632, .f32⟩
  | .hbm, ⟨4, _⟩ => ⟨S4096x5632, .f32⟩
  | .hbm, ⟨5, _⟩ => ⟨S_, .f32⟩
  | .hbm, ⟨6, _⟩ => ⟨S2x5632, .f32⟩
  | .hbm, ⟨7, _⟩ => ⟨S4098x5632, .f32⟩
  | .hbm, ⟨8, _⟩ => ⟨S1x5632, .f32⟩
  | .hbm, ⟨9, _⟩ => ⟨S5632, .f32⟩
  | .hbm, ⟨10, _⟩ => ⟨S4096x5632, .f32⟩
  | .hbm, ⟨11, _⟩ => ⟨S1x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S1x5632, .f32⟩
  | .hbm, ⟨18, _⟩ => ⟨S5632, .f32⟩
  | .hbm, ⟨19, _⟩ => ⟨S4096x5632, .f32⟩
  | .hbm, ⟨20, _⟩ => ⟨S1x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S1x5632, .f32⟩
  | .hbm, ⟨25, _⟩ => ⟨S5632, .f32⟩
  | .hbm, ⟨26, _⟩ => ⟨S4096x5632, .f32⟩
  | .hbm, ⟨27, _⟩ => ⟨S1x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S_, .f32⟩
  | .hbm, ⟨36, _⟩ => ⟨S4096x5632, .f32⟩
  | .hbm, ⟨37, _⟩ => ⟨S4096x5632, .f32⟩
  | .hbm, ⟨38, _⟩ => ⟨S_, .f32⟩
  | .hbm, ⟨39, _⟩ => ⟨S4096x5632, .f32⟩
  | .hbm, ⟨40, _⟩ => ⟨S4096x5632, .f32⟩
  | .hbm, ⟨41, _⟩ => ⟨S4096x5632, .f32⟩
  | .hbm, ⟨42, _⟩ => ⟨S4096x5632, .f32⟩
  | .hbm, ⟨43, _⟩ => ⟨S4096x5632, .bf16⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel23.lean ====
abbrev S4096x4096 : Shape := ⟨2, ![4096, 4096]⟩
abbrev S1x2048 : Shape := ⟨2, ![1, 2048]⟩
abbrev S16x128x128 : Shape := ⟨3, ![16, 128, 128]⟩
abbrev S128x16 : Shape := ⟨2, ![128, 16]⟩
abbrev S4096x2048 : Shape := ⟨2, ![4096, 2048]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩

abbrev nBuf : Space → Nat
  | .hbm => 6
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S1x2048, .f32⟩
  | .hbm, ⟨2, _⟩ => ⟨S1x2048, .f32⟩
  | .hbm, ⟨3, _⟩ => ⟨S16x128x128, .f32⟩
  | .hbm, ⟨4, _⟩ => ⟨S128x16, .f32⟩
  | .hbm, ⟨5, _⟩ => ⟨S4096x2048, .bf16⟩
  | .local _ .vmem, ⟨0, _⟩ => ⟨S128x4096, .f32⟩
  | .local _ .vmem, ⟨1, _⟩ => ⟨S128x4096, .f32⟩
  | .local _ .vmem, ⟨2, _⟩ => ⟨S1x2048, .f32⟩
  | .local _ .vmem, ⟨3, _⟩ => ⟨S1x2048, .f32⟩
  | .local _ .vmem, ⟨4, _⟩ => ⟨S16x128x128, .f32⟩
  | .local _ .vmem, ⟨5, _⟩ => ⟨S128x16, .f32⟩
  | .local _ .vmem, ⟨6, _⟩ => ⟨S128x2048, .bf16⟩
  | .local _ .vmem, ⟨7, _⟩ => ⟨S128x2048, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel23Ideal.lean ====
variable {F : FTy → Type} [FloatOps F] [Named F]
def κ : String → Option EReal := fun
  | "inv_sqrt2" => some (((Real.sqrt 2)⁻¹ : ℝ) : EReal)
  | _ => none
-- ==== Reference23Ideal.lean ====
abbrev S4096x4096 : Shape := ⟨2, ![4096, 4096]⟩
abbrev S1x2048 : Shape := ⟨2, ![1, 2048]⟩
abbrev S16x128x128 : Shape := ⟨3, ![16, 128, 128]⟩
abbrev S128x16 : Shape := ⟨2, ![128, 16]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S32x128x16x128 : Shape := ⟨4, ![32, 128, 16, 128]⟩
abbrev S128x128 : Shape := ⟨2, ![128, 128]⟩
abbrev S1x128x128 : Shape := ⟨3, ![1, 128, 128]⟩
abbrev S16x32x128x128 : Shape := ⟨4, ![16, 32, 128, 128]⟩
abbrev S128x16x1 : Shape := ⟨3, ![128, 16, 1]⟩
abbrev S1x128x16x1 : Shape := ⟨4, ![1, 128, 16, 1]⟩

abbrev nBuf : Space → Nat
  | .hbm => 66
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x2048, .f32⟩
  | .hbm, ⟨2, _⟩ => ⟨S1x2048, .f32⟩
  | .hbm, ⟨3, _⟩ => ⟨S16x128x128, .f32⟩
  | .hbm, ⟨4, _⟩ => ⟨S128x16, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S32x128x16x128, .f32⟩
  | .hbm, ⟨43, _⟩ => ⟨S_, .f32⟩
  | .hbm, ⟨44, _⟩ => ⟨S128x128, .f32⟩
  | .hbm, ⟨45, _⟩ => ⟨S128x128, .i32⟩
  | .hbm, ⟨46, _⟩ => ⟨S_, .i32⟩
  | .hbm, ⟨47, _⟩ => ⟨S128x128, .i32⟩
  | .hbm, ⟨48, _⟩ => ⟨S128x128, .i32⟩
  | .hbm, ⟨49, _⟩ => ⟨S128x128, .i32⟩
  | .hbm, ⟨50, _⟩ => ⟨S128x128, .i1⟩
  | .hbm, ⟨51, _⟩ => ⟨S_, .f32⟩
  | .hbm, ⟨52, _⟩ => ⟨S128x128, .f32⟩
  | .hbm, ⟨53, _⟩ => ⟨S128x128, .f32⟩
  | .hbm, ⟨54, _⟩ => ⟨S1x128x128, .f32⟩
  | .hbm, ⟨55, _⟩ => ⟨S16x128x128, .f32⟩
  | .hbm, ⟨56, _⟩ => ⟨S16x128x128, .f32⟩
  | .hbm, ⟨57, _⟩ => ⟨S16x32x128x128, .f32⟩
  | .hbm, ⟨58, _⟩ => ⟨S32x128x16x128, .f32⟩
  | .hbm, ⟨59, _⟩ => ⟨S128x16x1, .f32⟩
  | .hbm, ⟨60, _⟩ => ⟨S1x128x16x1, .f32⟩
  | .hbm, ⟨61, _⟩ => ⟨S32x128x16x128, .f32⟩
  | .hbm, ⟨62, _⟩ => ⟨S32x128x16x128, .f32⟩
  | .hbm, ⟨63, _⟩ => ⟨S4096x2048, .f32⟩
  | .hbm, ⟨64, _⟩ => ⟨S4096x2048, .f32⟩
  | .hbm, ⟨65, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_call0_v0 : Ref sig .tc := ⟨.hbm, 45, rfl⟩
abbrev main_call0_c : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_cst : Ref sig .tc := ⟨.hbm, 51, rfl⟩
abbrev main_call0_v5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Kernel24.lean ====
abbrev S1x512x2048 : Shape := ⟨3, ![1, 512, 2048]⟩
abbrev S512x2048 : Shape := ⟨2, ![512, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S512x2048, .f32⟩
  | .hbm, ⟨4, _⟩ => ⟨S1x512x2048, .f32⟩
  | .hbm, ⟨5, _⟩ => ⟨S1x512x2048, .f32⟩
  | .hbm, ⟨6, _⟩ => ⟨S1x512x2048, .f32⟩
  | .hbm, ⟨7, _⟩ => ⟨S1x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S128x2048, .f32⟩
  | .local _ .vmem, ⟨7, _⟩ => ⟨S128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference24Ideal.lean ====
abbrev S1x512x2048 : Shape := ⟨3, ![1, 512, 2048]⟩
abbrev S512x2048 : Shape := ⟨2, ![512, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S512x2048, .f32⟩
  | .hbm, ⟨4, _⟩ => ⟨S1x512x2048, .f32⟩
  | .hbm, ⟨5, _⟩ => ⟨S_, .f32⟩
  | .hbm, ⟨6, _⟩ => ⟨S1x512x2048, .f32⟩
  | .hbm, ⟨7, _⟩ => ⟨S1x512x2048, .f32⟩
  | .hbm, ⟨8, _⟩ => ⟨S_, .f32⟩
  | .hbm, ⟨9, _⟩ => ⟨S1x512x2048, .f32⟩
  | .hbm, ⟨10, _⟩ => ⟨S1x512x2048, .f32⟩
  | .hbm, ⟨11, _⟩ => ⟨S1x512x2048, .f32⟩
  | .hbm, ⟨12, _⟩ => ⟨S_, .f32⟩
  | .hbm, ⟨13, _⟩ => ⟨S1x512x2048, .f32⟩
  | .hbm, ⟨14, _⟩ => ⟨S1x512x2048, .f32⟩
  | .hbm, ⟨15, _⟩ => ⟨S1x512x2048, .f32⟩
  | .hbm, ⟨16, _⟩ => ⟨S_, .f32⟩
  | .hbm, ⟨17, _⟩ => ⟨S1x512x2048, .f32⟩
  | .hbm, ⟨18, _⟩ => ⟨S1x512x2048, .f32⟩
  | .hbm, ⟨19, _⟩ => ⟨S1x512x2048, .f32⟩
  | .hbm, ⟨20, _⟩ => ⟨S_, .f32⟩
  | .hbm, ⟨21, _⟩ => ⟨S1x512x2048, .f32⟩
  | .hbm, ⟨22, _⟩ => ⟨S1x512x2048, .f32⟩
  | .hbm, ⟨23, _⟩ => ⟨S_, .f32⟩
  | .hbm, ⟨24, _⟩ => ⟨S1x512x2048, .f32⟩
  | .hbm, ⟨25, _⟩ => ⟨S1x512x2048, .f32⟩
  | .hbm, ⟨26, _⟩ => ⟨S1x512x2048, .f32⟩
  | .hbm, ⟨27, _⟩ => ⟨S_, .f32⟩
  | .hbm, ⟨28, _⟩ => ⟨S1x512x2048, .f32⟩
  | .hbm, ⟨29, _⟩ => ⟨S1x512x2048, .f32⟩
  | .hbm, ⟨30, _⟩ => ⟨S1x512x2048, .f32⟩
  | .hbm, ⟨31, _⟩ => ⟨S_, .f32⟩
  | .hbm, ⟨32, _⟩ => ⟨S1x512x2048, .f32⟩
  | .hbm, ⟨33, _⟩ => ⟨S1x512x2048, .f32⟩
  | .hbm, ⟨34, _⟩ => ⟨S1x512x2048, .f32⟩
  | .hbm, ⟨35, _⟩ => ⟨S_, .f32⟩
  | .hbm, ⟨36, _⟩ => ⟨S1x512x2048, .f32⟩
  | .hbm, ⟨37, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel25.lean ====
abbrev S1x2048x1024 : Shape := ⟨3, ![1, 2048, 1024]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S2048x1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference25Ideal.lean ====
abbrev S1x2048x1024 : Shape := ⟨3, ![1, 2048, 1024]⟩
abbrev S2048x1024 : Shape := ⟨2, ![2048, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S2048x1024, .f32⟩
  | .hbm, ⟨4, _⟩ => ⟨S1x2048x1024, .f32⟩
  | .hbm, ⟨5, _⟩ => ⟨S_, .f32⟩
  | .hbm, ⟨6, _⟩ => ⟨S1x2048x1024, .f32⟩
  | .hbm, ⟨7, _⟩ => ⟨S1x2048x1024, .f32⟩
  | .hbm, ⟨8, _⟩ => ⟨S_, .f32⟩
  | .hbm, ⟨9, _⟩ => ⟨S1x2048x1024, .f32⟩
  | .hbm, ⟨10, _⟩ => ⟨S1x2048x1024, .f32⟩
  | .hbm, ⟨11, _⟩ => ⟨S1x2048x1024, .f32⟩
  | .hbm, ⟨12, _⟩ => ⟨S_, .f32⟩
  | .hbm, ⟨13, _⟩ => ⟨S1x2048x1024, .f32⟩
  | .hbm, ⟨14, _⟩ => ⟨S1x2048x1024, .f32⟩
  | .hbm, ⟨15, _⟩ => ⟨S1x2048x1024, .f32⟩
  | .hbm, ⟨16, _⟩ => ⟨S_, .f32⟩
  | .hbm, ⟨17, _⟩ => ⟨S1x2048x1024, .f32⟩
  | .hbm, ⟨18, _⟩ => ⟨S1x2048x1024, .f32⟩
  | .hbm, ⟨19, _⟩ => ⟨S1x2048x1024, .f32⟩
  | .hbm, ⟨20, _⟩ => ⟨S_, .f32⟩
  | .hbm, ⟨21, _⟩ => ⟨S1x2048x1024, .f32⟩
  | .hbm, ⟨22, _⟩ => ⟨S1x2048x1024, .f32⟩
  | .hbm, ⟨23, _⟩ => ⟨S_, .f32⟩
  | .hbm, ⟨24, _⟩ => ⟨S1x2048x1024, .f32⟩
  | .hbm, ⟨25, _⟩ => ⟨S1x2048x1024, .f32⟩
  | .hbm, ⟨26, _⟩ => ⟨S1x2048x1024, .f32⟩
  | .hbm, ⟨27, _⟩ => ⟨S_, .f32⟩
  | .hbm, ⟨28, _⟩ => ⟨S1x2048x1024, .f32⟩
  | .hbm, ⟨29, _⟩ => ⟨S1x2048x1024, .f32⟩
  | .hbm, ⟨30, _⟩ => ⟨S1x2048x1024, .f32⟩
  | .hbm, ⟨31, _⟩ => ⟨S_, .f32⟩
  | .hbm, ⟨32, _⟩ => ⟨S1x2048x1024, .f32⟩
  | .hbm, ⟨33, _⟩ => ⟨S1x2048x1024, .f32⟩
  | .hbm, ⟨34, _⟩ => ⟨S1x2048x1024, .f32⟩
  | .hbm, ⟨35, _⟩ => ⟨S_, .f32⟩
  | .hbm, ⟨36, _⟩ => ⟨S1x2048x1024, .f32⟩
  | .hbm, ⟨37, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel26.lean ====
abbrev S1x2048x2048 : Shape := ⟨3, ![1, 2048, 2048]⟩
abbrev S2048x2048 : Shape := ⟨2, ![2048, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048x2048, .f32⟩
  | .hbm, ⟨3, _⟩ => ⟨S2048x2048, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S1x2048x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S128x2048, .f32⟩
  | .local _ .vmem, ⟨7, _⟩ => ⟨S128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference26Ideal.lean ====
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048x2048, .f32⟩
  | .hbm, ⟨3, _⟩ => ⟨S2048x2048, .f32⟩
  | .hbm, ⟨4, _⟩ => ⟨S1x2048x2048, .f32⟩
  | .hbm, ⟨5, _⟩ => ⟨S_, .f32⟩
  | .hbm, ⟨6, _⟩ => ⟨S1x2048x2048, .f32⟩
  | .hbm, ⟨7, _⟩ => ⟨S1x2048x2048, .f32⟩
  | .hbm, ⟨8, _⟩ => ⟨S_, .f32⟩
  | .hbm, ⟨9, _⟩ => ⟨S1x2048x2048, .f32⟩
  | .hbm, ⟨10, _⟩ => ⟨S1x2048x2048, .f32⟩
  | .hbm, ⟨11, _⟩ => ⟨S1x2048x2048, .f32⟩
  | .hbm, ⟨12, _⟩ => ⟨S_, .f32⟩
  | .hbm, ⟨13, _⟩ => ⟨S1x2048x2048, .f32⟩
  | .hbm, ⟨14, _⟩ => ⟨S1x2048x2048, .f32⟩
  | .hbm, ⟨15, _⟩ => ⟨S1x2048x2048, .f32⟩
  | .hbm, ⟨16, _⟩ => ⟨S_, .f32⟩
  | .hbm, ⟨17, _⟩ => ⟨S1x2048x2048, .f32⟩
  | .hbm, ⟨18, _⟩ => ⟨S1x2048x2048, .f32⟩
  | .hbm, ⟨19, _⟩ => ⟨S1x2048x2048, .f32⟩
  | .hbm, ⟨20, _⟩ => ⟨S_, .f32⟩
  | .hbm, ⟨21, _⟩ => ⟨S1x2048x2048, .f32⟩
  | .hbm, ⟨22, _⟩ => ⟨S1x2048x2048, .f32⟩
  | .hbm, ⟨23, _⟩ => ⟨S_, .f32⟩
  | .hbm, ⟨24, _⟩ => ⟨S1x2048x2048, .f32⟩
  | .hbm, ⟨25, _⟩ => ⟨S1x2048x2048, .f32⟩
  | .hbm, ⟨26, _⟩ => ⟨S1x2048x2048, .f32⟩
  | .hbm, ⟨27, _⟩ => ⟨S_, .f32⟩
  | .hbm, ⟨28, _⟩ => ⟨S1x2048x2048, .f32⟩
  | .hbm, ⟨29, _⟩ => ⟨S1x2048x2048, .f32⟩
  | .hbm, ⟨30, _⟩ => ⟨S1x2048x2048, .f32⟩
  | .hbm, ⟨31, _⟩ => ⟨S_, .f32⟩
  | .hbm, ⟨32, _⟩ => ⟨S1x2048x2048, .f32⟩
  | .hbm, ⟨33, _⟩ => ⟨S1x2048x2048, .f32⟩
  | .hbm, ⟨34, _⟩ => ⟨S1x2048x2048, .f32⟩
  | .hbm, ⟨35, _⟩ => ⟨S_, .f32⟩
  | .hbm, ⟨36, _⟩ => ⟨S1x2048x2048, .f32⟩
  | .hbm, ⟨37, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel27.lean ====
abbrev S2x2048x2816 : Shape := ⟨3, ![2, 2048, 2816]⟩
abbrev S2048x2816 : Shape := ⟨2, ![2048, 2816]⟩
abbrev S1x128x2816 : Shape := ⟨3, ![1, 128, 2816]⟩
abbrev S128x2816 : Shape := ⟨2, ![128, 2816]⟩

abbrev nBuf : Space → Nat
  | .hbm => 9
  | .vmem => 18
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2x2048x2816, .f32⟩
  | .hbm, ⟨3, _⟩ => ⟨S2048x2816, .f32⟩
  | .hbm, ⟨4, _⟩ => ⟨S2048x2816, .f32⟩
  | .hbm, ⟨5, _⟩ => ⟨S2x2048x2816, .f32⟩
  | .hbm, ⟨6, _⟩ => ⟨S2x2048x2816, .f32⟩
  | .hbm, ⟨7, _⟩ => ⟨S2x2048x2816, .f32⟩
  | .hbm, ⟨8, _⟩ => ⟨S2x2048x2816, .f32⟩
  | .local _ .vmem, ⟨0, _⟩ => ⟨S1x128x2816, .f32⟩
  | .local _ .vmem, ⟨1, _⟩ => ⟨S1x128x2816, .f32⟩
  | .local _ .vmem, ⟨2, _⟩ => ⟨S1x128x2816, .f32⟩
  | .local _ .vmem, ⟨3, _⟩ => ⟨S1x128x2816, .f32⟩
  | .local _ .vmem, ⟨4, _⟩ => ⟨S1x128x2816, .f32⟩
  | .local _ .vmem, ⟨5, _⟩ => ⟨S1x128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S1x128x2816, .f32⟩
  | .local _ .vmem, ⟨11, _⟩ => ⟨S1x128x2816, .f32⟩
  | .local _ .vmem, ⟨12, _⟩ => ⟨S1x128x2816, .f32⟩
  | .local _ .vmem, ⟨13, _⟩ => ⟨S1x128x2816, .f32⟩
  | .local _ .vmem, ⟨14, _⟩ => ⟨S1x128x2816, .f32⟩
  | .local _ .vmem, ⟨15, _⟩ => ⟨S1x128x2816, .f32⟩
  | .local _ .vmem, ⟨16, _⟩ => ⟨S1x128x2816, .f32⟩
  | .local _ .vmem, ⟨17, _⟩ => ⟨S1x128x2816, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference27Ideal.lean ====
abbrev S2x2048x2816 : Shape := ⟨3, ![2, 2048, 2816]⟩
abbrev S2048x2816 : Shape := ⟨2, ![2048, 2816]⟩
abbrev S1x2048x2816 : Shape := ⟨3, ![1, 2048, 2816]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2x2048x2816, .f32⟩
  | .hbm, ⟨3, _⟩ => ⟨S2048x2816, .f32⟩
  | .hbm, ⟨4, _⟩ => ⟨S2048x2816, .f32⟩
  | .hbm, ⟨5, _⟩ => ⟨S1x2048x2816, .f32⟩
  | .hbm, ⟨6, _⟩ => ⟨S1x2048x2816, .f32⟩
  | .hbm, ⟨7, _⟩ => ⟨S2x2048x2816, .f32⟩
  | .hbm, ⟨8, _⟩ => ⟨S_, .f32⟩
  | .hbm, ⟨9, _⟩ => ⟨S2x2048x2816, .f32⟩
  | .hbm, ⟨10, _⟩ => ⟨S2x2048x2816, .f32⟩
  | .hbm, ⟨11, _⟩ => ⟨S_, .f32⟩
  | .hbm, ⟨12, _⟩ => ⟨S2x2048x2816, .f32⟩
  | .hbm, ⟨13, _⟩ => ⟨S2x2048x2816, .f32⟩
  | .hbm, ⟨14, _⟩ => ⟨S2x2048x2816, .f32⟩
  | .hbm, ⟨15, _⟩ => ⟨S_, .f32⟩
  | .hbm, ⟨16, _⟩ => ⟨S2x2048x2816, .f32⟩
  | .hbm, ⟨17, _⟩ => ⟨S2x2048x2816, .f32⟩
  | .hbm, ⟨18, _⟩ => ⟨S2x2048x2816, .f32⟩
  | .hbm, ⟨19, _⟩ => ⟨S_, .f32⟩
  | .hbm, ⟨20, _⟩ => ⟨S2x2048x2816, .f32⟩
  | .hbm, ⟨21, _⟩ => ⟨S2x2048x2816, .f32⟩
  | .hbm, ⟨22, _⟩ => ⟨S2x2048x2816, .f32⟩
  | .hbm, ⟨23, _⟩ => ⟨S_, .f32⟩
  | .hbm, ⟨24, _⟩ => ⟨S2x2048x2816, .f32⟩
  | .hbm, ⟨25, _⟩ => ⟨S2x2048x2816, .f32⟩
  | .hbm, ⟨26, _⟩ => ⟨S_, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S_, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S_, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S_, .f32⟩
  | .hbm, ⟨39, _⟩ => ⟨S2x2048x2816, .f32⟩
  | .hbm, ⟨40, _⟩ => ⟨S2x2048x2816, .f32⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel28.lean ====
abbrev S2x1408x2048 : Shape := ⟨3, ![2, 1408, 2048]⟩
abbrev S1408x2048 : Shape := ⟨2, ![1408, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S1408x2048, .f32⟩
  | .hbm, ⟨4, _⟩ => ⟨S1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference28Ideal.lean ====
abbrev S2x1408x2048 : Shape := ⟨3, ![2, 1408, 2048]⟩
abbrev S1408x2048 : Shape := ⟨2, ![1408, 2048]⟩
abbrev S1x1408x2048 : Shape := ⟨3, ![1, 1408, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S1408x2048, .f32⟩
  | .hbm, ⟨4, _⟩ => ⟨S1408x2048, .f32⟩
  | .hbm, ⟨5, _⟩ => ⟨S1x1408x2048, .f32⟩
  | .hbm, ⟨6, _⟩ => ⟨S1x1408x2048, .f32⟩
  | .hbm, ⟨7, _⟩ => ⟨S2x1408x2048, .f32⟩
  | .hbm, ⟨8, _⟩ => ⟨S_, .f32⟩
  | .hbm, ⟨9, _⟩ => ⟨S2x1408x2048, .f32⟩
  | .hbm, ⟨10, _⟩ => ⟨S2x1408x2048, .f32⟩
  | .hbm, ⟨11, _⟩ => ⟨S_, .f32⟩
  | .hbm, ⟨12, _⟩ => ⟨S2x1408x2048, .f32⟩
  | .hbm, ⟨13, _⟩ => ⟨S2x1408x2048, .f32⟩
  | .hbm, ⟨14, _⟩ => ⟨S2x1408x2048, .f32⟩
  | .hbm, ⟨15, _⟩ => ⟨S_, .f32⟩
  | .hbm, ⟨16, _⟩ => ⟨S2x1408x2048, .f32⟩
  | .hbm, ⟨17, _⟩ => ⟨S2x1408x2048, .f32⟩
  | .hbm, ⟨18, _⟩ => ⟨S2x1408x2048, .f32⟩
  | .hbm, ⟨19, _⟩ => ⟨S_, .f32⟩
  | .hbm, ⟨20, _⟩ => ⟨S2x1408x2048, .f32⟩
  | .hbm, ⟨21, _⟩ => ⟨S2x1408x2048, .f32⟩
  | .hbm, ⟨22, _⟩ => ⟨S2x1408x2048, .f32⟩
  | .hbm, ⟨23, _⟩ => ⟨S_, .f32⟩
  | .hbm, ⟨24, _⟩ => ⟨S2x1408x2048, .f32⟩
  | .hbm, ⟨25, _⟩ => ⟨S2x1408x2048, .f32⟩
  | .hbm, ⟨26, _⟩ => ⟨S_, .f32⟩
  | .hbm, ⟨27, _⟩ => ⟨S2x1408x2048, .f32⟩
  | .hbm, ⟨28, _⟩ => ⟨S2x1408x2048, .f32⟩
  | .hbm, ⟨29, _⟩ => ⟨S2x1408x2048, .f32⟩
  | .hbm, ⟨30, _⟩ => ⟨S_, .f32⟩
  | .hbm, ⟨31, _⟩ => ⟨S2x1408x2048, .f32⟩
  | .hbm, ⟨32, _⟩ => ⟨S2x1408x2048, .f32⟩
  | .hbm, ⟨33, _⟩ => ⟨S2x1408x2048, .f32⟩
  | .hbm, ⟨34, _⟩ => ⟨S_, .f32⟩
  | .hbm, ⟨35, _⟩ => ⟨S2x1408x2048, .f32⟩
  | .hbm, ⟨36, _⟩ => ⟨S2x1408x2048, .f32⟩
  | .hbm, ⟨37, _⟩ => ⟨S2x1408x2048, .f32⟩
  | .hbm, ⟨38, _⟩ => ⟨S_, .f32⟩
  | .hbm, ⟨39, _⟩ => ⟨S2x1408x2048, .f32⟩
  | .hbm, ⟨40, _⟩ => ⟨S2x1408x2048, .f32⟩
  | _, _ => ⟨S2x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel29.lean ====
abbrev S1x2560x128 : Shape := ⟨3, ![1, 2560, 128]⟩
abbrev S2560x128 : Shape := ⟨2, ![2560, 128]⟩
abbrev S1x512x128 : Shape := ⟨3, ![1, 512, 128]⟩
abbrev S512x128 : Shape := ⟨2, ![512, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x2560x128, .f32⟩
  | .hbm, ⟨1, _⟩ => ⟨S1x2560x128, .f32⟩
  | .hbm, ⟨2, _⟩ => ⟨S1x2560x128, .f32⟩
  | .hbm, ⟨3, _⟩ => ⟨S2560x128, .f32⟩
  | .hbm, ⟨4, _⟩ => ⟨S1x2560x128, .f32⟩
  | .hbm, ⟨5, _⟩ => ⟨S1x2560x128, .f32⟩
  | .hbm, ⟨6, _⟩ => ⟨S1x2560x128, .f32⟩
  | .hbm, ⟨7, _⟩ => ⟨S1x2560x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S512x128, .f32⟩
  | .local _ .vmem, ⟨7, _⟩ => ⟨S512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | _, _ => ⟨S1x2560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference29Ideal.lean ====
abbrev S1x2560x128 : Shape := ⟨3, ![1, 2560, 128]⟩
abbrev S2560x128 : Shape := ⟨2, ![2560, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x2560x128, .f32⟩
  | .hbm, ⟨1, _⟩ => ⟨S1x2560x128, .f32⟩
  | .hbm, ⟨2, _⟩ => ⟨S1x2560x128, .f32⟩
  | .hbm, ⟨3, _⟩ => ⟨S2560x128, .f32⟩
  | .hbm, ⟨4, _⟩ => ⟨S1x2560x128, .f32⟩
  | .hbm, ⟨5, _⟩ => ⟨S_, .f32⟩
  | .hbm, ⟨6, _⟩ => ⟨S1x2560x128, .f32⟩
  | .hbm, ⟨7, _⟩ => ⟨S1x2560x128, .f32⟩
  | .hbm, ⟨8, _⟩ => ⟨S_, .f32⟩
  | .hbm, ⟨9, _⟩ => ⟨S1x2560x128, .f32⟩
  | .hbm, ⟨10, _⟩ => ⟨S1x2560x128, .f32⟩
  | .hbm, ⟨11, _⟩ => ⟨S1x2560x128, .f32⟩
  | .hbm, ⟨12, _⟩ => ⟨S_, .f32⟩
  | .hbm, ⟨13, _⟩ => ⟨S1x2560x128, .f32⟩
  | .hbm, ⟨14, _⟩ => ⟨S1x2560x128, .f32⟩
  | .hbm, ⟨15, _⟩ => ⟨S1x2560x128, .f32⟩
  | .hbm, ⟨16, _⟩ => ⟨S_, .f32⟩
  | .hbm, ⟨17, _⟩ => ⟨S1x2560x128, .f32⟩
  | .hbm, ⟨18, _⟩ => ⟨S1x2560x128, .f32⟩
  | .hbm, ⟨19, _⟩ => ⟨S1x2560x128, .f32⟩
  | .hbm, ⟨20, _⟩ => ⟨S_, .f32⟩
  | .hbm, ⟨21, _⟩ => ⟨S1x2560x128, .f32⟩
  | .hbm, ⟨22, _⟩ => ⟨S1x2560x128, .f32⟩
  | .hbm, ⟨23, _⟩ => ⟨S_, .f32⟩
  | .hbm, ⟨24, _⟩ => ⟨S1x2560x128, .f32⟩
  | .hbm, ⟨25, _⟩ => ⟨S1x2560x128, .f32⟩
  | .hbm, ⟨26, _⟩ => ⟨S1x2560x128, .f32⟩
  | .hbm, ⟨27, _⟩ => ⟨S_, .f32⟩
  | .hbm, ⟨28, _⟩ => ⟨S1x2560x128, .f32⟩
  | .hbm, ⟨29, _⟩ => ⟨S1x2560x128, .f32⟩
  | .hbm, ⟨30, _⟩ => ⟨S1x2560x128, .f32⟩
  | .hbm, ⟨31, _⟩ => ⟨S_, .f32⟩
  | .hbm, ⟨32, _⟩ => ⟨S1x2560x128, .f32⟩
  | .hbm, ⟨33, _⟩ => ⟨S1x2560x128, .f32⟩
  | .hbm, ⟨34, _⟩ => ⟨S1x2560x128, .f32⟩
  | .hbm, ⟨35, _⟩ => ⟨S_, .f32⟩
  | .hbm, ⟨36, _⟩ => ⟨S1x2560x128, .f32⟩
  | .hbm, ⟨37, _⟩ => ⟨S1x2560x128, .f32⟩
  | _, _ => ⟨S1x2560x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Proof.Finite.lean ====
/- Finite arrays of extended reals: an array all of whose entries are finite is the image of its table of real entries. -/
module

public import Idealize.ShloMosaic.Lib.Pointwise
public import Idealize.ShloMosaic.PureOps.Ideal.Laws

@[expose] public section

noncomputable section

namespace Cert.Finite

open Idealize.ShloMosaic

/-- Entry `(r, c)` of a matrix as a real number; zero outside the matrix. -/
def ent {n m : ℕ} (x : (⟨2, ![n, m]⟩ : Shape).Idx → EReal) (r c : ℕ) : ℝ :=
  if h : r < n ∧ c < m then (x (ix2 ⟨r, h.1⟩ ⟨c, h.2⟩)).toReal else 0

/-- A matrix of finite entries, read through its real table. -/
theorem eq_ent {n m : ℕ} {x : (⟨2, ![n, m]⟩ : Shape).Idx → EReal} (hx : ∀ i, x i ≠ ⊤ ∧ x i ≠ ⊥)
    (i : (⟨2, ![n, m]⟩ : Shape).Idx) : x i = ((ent x (i 0).val (i 1).val : ℝ) : EReal) := by
  have h : (i 0).val < n ∧ (i 1).val < m := ⟨(i 0).isLt, (i 1).isLt⟩
  have e : ix2 (n0 := n) (n1 := m) ⟨(i 0).val, h.1⟩ ⟨(i 1).val, h.2⟩ = i := (eq_ix2 i).symm
  unfold ent
  rw [dif_pos h, e, EReal.coe_toReal (hx i).1 (hx i).2]

/-- Entry `(g, r, c)` of an array of rank three as a real number; zero outside the array. -/
def ent3 {k n m : ℕ} (x : (⟨3, ![k, n, m]⟩ : Shape).Idx → EReal) (g r c : ℕ) : ℝ :=
  if h : g < k ∧ r < n ∧ c < m then (x (ix3 ⟨g, h.1⟩ ⟨r, h.2.1⟩ ⟨c, h.2.2⟩)).toReal else 0

/-- An array of rank three with finite entries, read through its real table. -/
theorem eq_ent3 {k n m : ℕ} {x : (⟨3, ![k, n, m]⟩ : Shape).Idx → EReal} (hx : ∀ i, x i ≠ ⊤ ∧ x i ≠ ⊥)
    (i : (⟨3, ![k, n, m]⟩ : Shape).Idx) : x i = ((ent3 x (i 0).val (i 1).val (i 2).val : ℝ) : EReal) := by
  have h : (i 0).val < k ∧ (i 1).val < n ∧ (i 2).val < m := ⟨(i 0).isLt, (i 1).isLt, (i 2).isLt⟩
  have e : ix3 (n0 := k) (n1 := n) (n2 := m) ⟨(i 0).val, h.1⟩ ⟨(i 1).val, h.2.1⟩ ⟨(i 2).val, h.2.2⟩ = i := (eq_ix3 i).symm
  unfold ent3
  rw [dif_pos h, e, EReal.coe_toReal (hx i).1 (hx i).2]

/-- The infinite pattern denotes the top element. -/
theorem ofBits_inf : Ideal.ofBits .f32 0x7F800000#32 = ⊤ := by
  simp [Ideal.ofBits, Ideal.ieee]

/-- An entry whose absolute value compares below the infinite pattern is finite. -/
theorem finite_of_cmp {x : EReal} (h : Ideal.cmp .olt (max x (-x)) (Ideal.ofBits .f32 0x7F800000#32) = 1#1) : x ≠ ⊤ ∧ x ≠ ⊥ := by
  rw [ofBits_inf] at h
  constructor
  · rintro rfl
    simp [Ideal.cmp] at h
  · rintro rfl
    simp [Ideal.cmp] at h

/-- The whole array at once: where the comparison of absolute values holds at every index, every entry is finite. -/
theorem finite_of_cmpf {s : Shape} {x b : FVec Ideal s .f32} (hb : ∀ i, b i = Ideal.ofBits .f32 0x7F800000#32)
    (h : cmpf .olt (Host.absf x) b = fun _ => 1#1) (i : s.Idx) : (x i : EReal) ≠ ⊤ ∧ (x i : EReal) ≠ ⊥ := by
  have h' := congrFun h i
  refine finite_of_cmp ?_
  rw [← hb i]
  exact h'

/-- A half, as the f32 pattern denotes it. -/
theorem ofBits_half : Ideal.ofBits .f32 0x3F000000#32 = ((1 / 2 : ℝ) : EReal) := by
  simp [Ideal.ofBits, Ideal.ieee, -EReal.coe_mul]; norm_num

/-- One, as the f32 pattern denotes it. -/
theorem ofBits_one : Ideal.ofBits .f32 0x3F800000#32 = ((1 : ℝ) : EReal) := by
  rw [Ideal.ofBits_one_f32]; rfl

/-- A quotient of reals with a divisor that is not zero. -/
theorem div_real (a : ℝ) {b : ℝ} (hb : b ≠ 0) : Ideal.div (a : EReal) (b : EReal) = ((a / b : ℝ) : EReal) := by
  rw [Ideal.div_coe hb, ← EReal.coe_mul, mul_one_div]

/-- A sum of finite terms is finite. -/
theorem coe_sum {ι : Type*} (s : Finset ι) (f : ι → ℝ) : ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

end Cert.Finite

end
-- ==== Proof.ConvRef.lean ====
/- The gated convolution's gradient, in real numbers, and the reference read at an index as those numbers. -/
module

public import proofs.«01_k».proof.Proof.Gen.Reference2Ideal.Read
public import proofs.«01_k».proof.Proof.Finite

@[expose] public section

set_option maxRecDepth 16384

noncomputable section

open Idealize.ShloMosaic Idealize.ShloMosaic.TcCoe Idealize.SL.Sem

namespace Cert.Conv

/-- The logistic function. -/
def sg (x : ℝ) : ℝ := 1 / (1 + Real.exp (-x))

variable (U DG W CB : ℕ → ℕ → ℝ)

/-- The first half of `u`, two zero rows before it. -/
def ap (t c : ℕ) : ℝ := if t < 2 then 0 else U (t - 2) c

/-- The convolution's result before the gate. -/
def pre (t c : ℕ) : ℝ := W 0 c * ap U t c + W 1 c * ap U (t + 1) c + W 2 c * ap U (t + 2) c + CB 0 c

/-- The gradient with respect to the convolution's result. -/
def dA (t c : ℕ) : ℝ :=
  DG t c * U t (5632 + c) * (sg (pre U W CB t c) + pre U W CB t c * (sg (pre U W CB t c) * (1 - sg (pre U W CB t c))))

/-- That gradient, zero past the last row. -/
def dAz (t c : ℕ) : ℝ := if t < 4096 then dA U DG W CB t c else 0

/-- The gradient with respect to the gate's first half. -/
def ga (t c : ℕ) : ℝ := W 2 c * dA U DG W CB t c + W 1 c * dAz U DG W CB (t + 1) c + W 0 c * dAz U DG W CB (t + 2) c

/-- The gradient with respect to the gate's second half. -/
def gb (t c : ℕ) : ℝ := pre U W CB t c * sg (pre U W CB t c) * DG t c

/-- The gradient with respect to row `k` of the convolution's weights. -/
def gw (k c : ℕ) : ℝ := ∑ t ∈ Finset.range 4096, dA U DG W CB t c * ap U (t + k) c

/-- The gradient with respect to the convolution's bias. -/
def gc (c : ℕ) : ℝ := ∑ t ∈ Finset.range 4096, dA U DG W CB t c

end Cert.Conv

namespace Cert.Reference2Ideal.Conv

open Cert.Reference2Ideal Cert.Reference2Ideal.Gen Cert.Reference2Ideal.Read Cert.Conv

variable {U DG W CB : ℕ → ℕ → ℝ}
variable {x0 : (⟨S4096x11264, .f32⟩ : BufTy).Contents (Elt Ideal)} {x1 : (⟨S4096x5632, .f32⟩ : BufTy).Contents (Elt Ideal)}
  {x2 : (⟨S3x5632, .f32⟩ : BufTy).Contents (Elt Ideal)} {x3 : (⟨S1x5632, .f32⟩ : BufTy).Contents (Elt Ideal)}
variable (h0 : ∀ i, x0 i = ((U (i 0).val (i 1).val : ℝ) : EReal)) (h1 : ∀ i, x1 i = ((DG (i 0).val (i 1).val : ℝ) : EReal))
  (h2 : ∀ i, x2 i = ((W (i 0).val (i 1).val : ℝ) : EReal)) (h3 : ∀ i, x3 i = ((CB (i 0).val (i 1).val : ℝ) : EReal))

include h0 in
theorem v3_eq (i : S4098x5632.Idx) : val_main_v3 (F := Ideal) x0 i = ((ap U (i 0).val (i 1).val : ℝ) : EReal) := by
  unfold val_main_v3 ap
  pointwise [val_main_v2_apply, val_main_cst_apply, val_main_v0_apply, h0]
  split_ifs <;> rfl

include h0 h2 h3 in
theorem v28_eq (i : S4096x5632.Idx) : val_main_v28 (F := Ideal) x0 x2 x3 i = ((pre U W CB (i 0).val (i 1).val : ℝ) : EReal) := by
  have b (k : ℕ) (hk : k < 5632) : k % 5632 = k := Nat.mod_eq_of_lt hk
  have hi : (i 1).val < 5632 := (i 1).isLt
  simp only [val_main_v28_apply, val_main_v26_apply, val_main_v27_apply, val_main_v25_apply, val_main_v24_apply, val_main_v23_apply,
    val_main_v22_apply, val_main_v21_apply, val_main_v20_apply, val_main_v19_apply, val_main_v18_apply, val_main_v17_apply,
    val_main_v16_apply, val_main_v15_apply, val_main_v14_apply, val_main_v13_apply, val_main_v12_apply, val_main_v11_apply,
    val_main_cst_1_apply, val_main_v10_apply, val_main_v9_apply, val_main_v8_apply, val_main_v7_apply, val_main_v6_apply,
    val_main_v5_apply, v3_eq h0, h2, h3, Ideal.addf_def, Ideal.mulf_def, Ideal.ofBits_def, Ideal.ofBits_zero_f32, zero_add,
    ← EReal.coe_mul, ← EReal.coe_add, b _ hi]
  unfold pre
  simp only [Nat.add_comm _ (i 0).val, Nat.add_zero]

/-- The logistic function as the reference spells it. -/
theorem logistic_eq (x : ℝ) : Ideal.div ((1 : ℝ) : EReal) (((1 : ℝ) : EReal) + Ideal.exp (-(x : EReal))) = ((sg x : ℝ) : EReal) := by
  rw [← EReal.coe_neg, show Ideal.exp ((-x : ℝ) : EReal) = ((Real.exp (-x) : ℝ) : EReal) from rfl, ← EReal.coe_add,
    Cert.Finite.div_real _ (by positivity)]
  rfl

include h0 h2 h3 in
theorem v29_eq (i : S4096x5632.Idx) :
    val_main_v29_2 (F := Ideal) x0 x2 x3 i = ((sg (pre U W CB (i 0).val (i 1).val) : ℝ) : EReal) := by
  rw [← logistic_eq]
  simp only [val_main_v29_2_apply, val_main_call0_v4_apply, val_main_call0_cst_0_apply, val_main_call0_v3_apply, val_main_call0_v2_apply,
    val_main_call0_cst_apply, val_main_call0_v1_apply, val_main_call0_v0_apply, v28_eq h0 h2 h3, Ideal.ofBits_def, Cert.Finite.ofBits_one]
  rfl

include h0 in
theorem v1_eq (i : S4096x5632.Idx) : val_main_v1 (F := Ideal) x0 i = ((U (i 0).val (5632 + (i 1).val) : ℝ) : EReal) := by
  simp only [val_main_v1_apply, h0, Nat.add_comm _ (i 1).val]

include h0 h1 h2 h3 in
theorem v33_eq (i : S4096x5632.Idx) :
    val_main_v33 (F := Ideal) x0 x1 x2 x3 i = ((dA U DG W CB (i 0).val (i 1).val : ℝ) : EReal) := by
  simp only [val_main_v33_apply, val_main_call1_v0_apply, val_main_call1_v1_apply, val_main_call1_v2_apply, val_main_v32_apply,
    val_main_v29_1_apply, val_main_call0_v7_apply, val_main_call0_v6_apply, val_main_call0_cst_1_apply, v29_eq h0 h2 h3, v28_eq h0 h2 h3,
    v1_eq h0, h1, Ideal.ofBits_def, Cert.Finite.ofBits_one, Ideal.addf_def, Ideal.mulf_def, Ideal.subf_def, ← EReal.coe_mul,
    ← EReal.coe_add, ← EReal.coe_sub]
  unfold dA
  congr 1
  ring

include h0 h1 h2 h3 in
theorem v31_eq (i : S4096x5632.Idx) :
    val_main_v31 (F := Ideal) x0 x1 x2 x3 i = ((gb U DG W CB (i 0).val (i 1).val : ℝ) : EReal) := by
  simp only [val_main_v31_apply, val_main_v29_0_apply, v29_eq h0 h2 h3, v28_eq h0 h2 h3, h1, Ideal.mulf_def, ← EReal.coe_mul]
  rfl

/-- A sum over the rows, as a sum over a range. -/
theorem sum_rows (f : ℕ → ℝ) : (0 : EReal) + ∑ k : Fin 4096, ((f k.val : ℝ) : EReal) = ((∑ t ∈ Finset.range 4096, f t : ℝ) : EReal) := by
  rw [zero_add, Cert.Finite.coe_sum, Finset.sum_range]

include h0 h1 h2 h3 in
theorem v34_eq (i : S5632.Idx) : val_main_v34 (F := Ideal) x0 x1 x2 x3 i = ((gc U DG W CB (i 0).val : ℝ) : EReal) := by
  simp only [val_main_v34_apply, v33_eq h0 h1 h2 h3, val_main_cst_2_apply, Ideal.ofBits_def, Ideal.ofBits_zero_f32]
  exact sum_rows fun t => dA U DG W CB t (i 0).val

include h0 h1 h2 h3 in
theorem v35_eq (i : S1x5632.Idx) : val_main_v35 (F := Ideal) x0 x1 x2 x3 i = ((gc U DG W CB (i 1).val : ℝ) : EReal) := by
  have h : (i 0).val = 0 := by have := (i 0).isLt; simpa using this
  simp only [val_main_v35_apply, v34_eq h0 h1 h2 h3, h, Nat.zero_mul, Nat.zero_add]

include h0 in
theorem v7_eq (i : S4096x5632.Idx) : val_main_v7 (F := Ideal) x0 i = ((ap U (i 0).val (i 1).val : ℝ) : EReal) := by
  simp only [val_main_v7_apply, v3_eq h0]

include h0 in
theorem v15_eq (i : S4096x5632.Idx) : val_main_v15 (F := Ideal) x0 i = ((ap U ((i 0).val + 1) (i 1).val : ℝ) : EReal) := by
  simp only [val_main_v15_apply, v3_eq h0, Nat.add_comm _ (i 0).val]

include h0 in
theorem v22_eq (i : S4096x5632.Idx) : val_main_v22 (F := Ideal) x0 i = ((ap U ((i 0).val + 2) (i 1).val : ℝ) : EReal) := by
  simp only [val_main_v22_apply, v3_eq h0, Nat.add_comm _ (i 0).val]

include h0 h1 h2 h3 in
theorem v43_eq (i : S1x5632.Idx) : val_main_v43 (F := Ideal) x0 x1 x2 x3 i = ((gw U DG W CB 2 (i 1).val : ℝ) : EReal) := by
  have h (j : S5632.Idx) : val_main_v39 (F := Ideal) x0 x1 x2 x3 j = ((gw U DG W CB 2 (j 0).val : ℝ) : EReal) := by
    simp only [val_main_v39_apply, val_main_v38_apply, v33_eq h0 h1 h2 h3, v22_eq h0, val_main_cst_3_apply, Ideal.ofBits_def,
      Ideal.ofBits_zero_f32, Ideal.mulf_def, ← EReal.coe_mul]
    exact sum_rows fun t => dA U DG W CB t (j 0).val * ap U (t + 2) (j 0).val
  simp only [val_main_v43_apply, val_main_v41_apply, val_main_v40_apply, h, val_main_cst_4_apply, Ideal.ofBits_def,
    Ideal.ofBits_zero_f32, Fin.sum_univ_one, zero_add, Fin.val_zero, Nat.zero_mul, Nat.zero_add]

include h0 h1 h2 h3 in
theorem v53_eq (i : S1x5632.Idx) : val_main_v53 (F := Ideal) x0 x1 x2 x3 i = ((gw U DG W CB 1 (i 1).val : ℝ) : EReal) := by
  have h (j : S5632.Idx) : val_main_v48 (F := Ideal) x0 x1 x2 x3 j = ((gw U DG W CB 1 (j 0).val : ℝ) : EReal) := by
    simp only [val_main_v48_apply, val_main_v47_apply, v33_eq h0 h1 h2 h3, v15_eq h0, val_main_cst_7_apply, Ideal.ofBits_def,
      Ideal.ofBits_zero_f32, Ideal.mulf_def, ← EReal.coe_mul]
    exact sum_rows fun t => dA U DG W CB t (j 0).val * ap U (t + 1) (j 0).val
  simp only [val_main_v53_apply, val_main_v50_apply, val_main_v49_apply, h, val_main_cst_8_apply, Ideal.ofBits_def,
    Ideal.ofBits_zero_f32, Fin.sum_univ_one, zero_add, Fin.val_zero, Nat.zero_mul, Nat.zero_add]

include h0 h1 h2 h3 in
theorem v64_eq (i : S1x5632.Idx) : val_main_v64 (F := Ideal) x0 x1 x2 x3 i = ((gw U DG W CB 0 (i 1).val : ℝ) : EReal) := by
  have h (j : S5632.Idx) : val_main_v59 (F := Ideal) x0 x1 x2 x3 j = ((gw U DG W CB 0 (j 0).val : ℝ) : EReal) := by
    simp only [val_main_v59_apply, val_main_v58_apply, v33_eq h0 h1 h2 h3, v7_eq h0, val_main_cst_11_apply, Ideal.ofBits_def,
      Ideal.ofBits_zero_f32, Ideal.mulf_def, ← EReal.coe_mul]
    exact sum_rows fun t => dA U DG W CB t (j 0).val * ap U t (j 0).val
  simp only [val_main_v64_apply, val_main_v61_apply, val_main_v60_apply, h, val_main_cst_12_apply, Ideal.ofBits_def,
    Ideal.ofBits_zero_f32, Fin.sum_univ_one, zero_add, Fin.val_zero, Nat.zero_mul, Nat.zero_add]

include h0 h1 h2 h3 in
/-- The weights' gradient. -/
theorem v66_eq (i : S3x5632.Idx) : val_main_v66 (F := Ideal) x0 x1 x2 x3 i = ((gw U DG W CB (i 0).val (i 1).val : ℝ) : EReal) := by
  have hi : (i 0).val < 3 := (i 0).isLt
  rw [val_main_v66_apply, val_main_v55_apply]
  unfold val_main_v44 val_main_v54 val_main_v65
  pointwise [v43_eq h0 h1 h2 h3, v53_eq h0 h1 h2 h3, v64_eq h0 h1 h2 h3]
  simp only [val_main_cst_6_apply, val_main_cst_10_apply, val_main_cst_14_apply, Ideal.ofBits_def, Ideal.ofBits_zero_f32]
  generalize (i 0).val = k at *
  obtain rfl | rfl | rfl : k = 0 ∨ k = 1 ∨ k = 2 := by omega
  all_goals simp

include h2 in
theorem v36_eq (i : S4096x5632.Idx) : val_main_v36 (F := Ideal) x2 i = ((W 2 (i 1).val : ℝ) : EReal) := by
  have hi : (i 1).val < 5632 := (i 1).isLt
  simp only [val_main_v36_apply, val_main_v23_apply, val_main_v21_apply, val_main_v20_apply, h2, Nat.mod_eq_of_lt hi]

include h2 in
theorem v45_eq (i : S4096x5632.Idx) : val_main_v45 (F := Ideal) x2 i = ((W 1 (i 1).val : ℝ) : EReal) := by
  have hi : (i 1).val < 5632 := (i 1).isLt
  simp only [val_main_v45_apply, val_main_v16_apply, val_main_v14_apply, val_main_v13_apply, h2, Nat.mod_eq_of_lt hi]

include h2 in
theorem v56_eq (i : S4096x5632.Idx) : val_main_v56 (F := Ideal) x2 i = ((W 0 (i 1).val : ℝ) : EReal) := by
  have hi : (i 1).val < 5632 := (i 1).isLt
  simp only [val_main_v56_apply, val_main_v8_apply, val_main_v6_apply, val_main_v5_apply, h2, Nat.mod_eq_of_lt hi]

include h0 h1 h2 h3 in
/-- The gradient with respect to the first half. -/
theorem v68_eq (i : S4096x5632.Idx) : val_main_v68 (F := Ideal) x0 x1 x2 x3 i = ((ga U DG W CB (i 0).val (i 1).val : ℝ) : EReal) := by
  have hi : (i 0).val < 4096 := (i 0).isLt
  rw [val_main_v68_apply, val_main_v63_apply, val_main_v52_apply]
  unfold val_main_v42 val_main_v51 val_main_v62
  pointwise [val_main_v37_apply, val_main_v46_apply, val_main_v57_apply, v33_eq h0 h1 h2 h3]
  have e : 2 + (i 0).val - 1 = (i 0).val + 1 := by omega
  simp only [v36_eq h2, v45_eq h2, v56_eq h2, val_main_cst_9_apply, val_main_cst_13_apply, Ideal.ofBits_def, Ideal.ofBits_zero_f32, e,
    Nat.add_comm 2 _, ix2_1]
  unfold ga dAz
  have e' : (i 0).val + 2 - 1 = (i 0).val + 1 := by omega
  split_ifs <;> first
    | omega
    | (simp only [← EReal.coe_mul, ← EReal.coe_add, add_zero, mul_zero]; rfl)
    | (simp only [← EReal.coe_mul, ← EReal.coe_add, add_zero, mul_zero])

include h0 h1 h2 h3 in
theorem v71_eq (i : S4096x5632.Idx) : val_main_v71 (F := Ideal) x0 x1 x2 x3 i = ((ga U DG W CB (i 0).val (i 1).val : ℝ) : EReal) := by
  rw [val_main_v71_apply, val_main_v70_apply]
  unfold val_main_v69
  pointwise [v68_eq h0 h1 h2 h3]

include h0 h1 h2 h3 in
theorem v73_eq (i : S4096x5632.Idx) : val_main_v73 (F := Ideal) x0 x1 x2 x3 i = ((gb U DG W CB (i 0).val (i 1).val : ℝ) : EReal) := by
  rw [val_main_v73_apply, val_main_v72_apply]
  unfold val_main_v69
  pointwise [v31_eq h0 h1 h2 h3]

end Cert.Reference2Ideal.Conv

end
-- ==== Proof.ConvPay.lean ====
/- The gated convolution's gradient kernel: what its body computes at one grid point, in real numbers. -/
module

public import proofs.«01_k».proof.Proof.Gen.Kernel2Ideal.Value
public import proofs.«01_k».proof.Proof.ConvRef

@[expose] public section

set_option maxRecDepth 16384

noncomputable section

open Idealize.ShloMosaic Idealize.ShloMosaic.TcCoe Idealize.SL.Sem

namespace Cert.Kernel2Ideal.Conv

open Cert.Kernel2Ideal Cert.Kernel2Ideal.Gen Cert.Conv

/-- Half of one plus the hyperbolic tangent of half of `x` is the logistic function of `x`. -/
theorem half_tanh (x : ℝ) : 1 / 2 + 1 / 2 * Real.tanh (1 / 2 * x) = sg x := by
  obtain ⟨y, rfl⟩ : ∃ y : ℝ, x = 2 * y := ⟨x / 2, by ring⟩
  rw [show (1 / 2 : ℝ) * (2 * y) = y by ring, Real.tanh_eq_sinh_div_cosh, Real.sinh_eq, Real.cosh_eq, sg,
    show Real.exp (-(2 * y)) = Real.exp (-y) * Real.exp (-y) by rw [← Real.exp_add]; congr 1; ring]
  have h4 : Real.exp y * Real.exp (-y) = 1 := by rw [← Real.exp_add]; simp
  have h2 : 0 < Real.exp y := Real.exp_pos y
  have h3 : 0 < Real.exp (-y) := Real.exp_pos (-y)
  generalize Real.exp y = a at *
  generalize Real.exp (-y) = b at *
  have h5 : a + b ≠ 0 := by positivity
  have h6 : 1 + b * b ≠ 0 := by positivity
  field_simp
  linear_combination 2 * b * h4

/-- A choice by whether a small coordinate is positive. -/
theorem sel_pos {α : Type} {n : ℕ} (hn : n ≤ 7) (x y : α) :
    Scalar.select (Scalar.cmpi CmpIPredicate.sgt (BitVec.ofNat 32 n) 0#32) x y = if 0 < n then x else y := by
  interval_cases n <;> rfl

/-- A choice by whether a small coordinate is below seven. -/
theorem sel_lt {α : Type} {n : ℕ} (hn : n ≤ 7) (x y : α) :
    Scalar.select (Scalar.cmpi CmpIPredicate.slt (BitVec.ofNat 32 n) 7#32) x y = if n < 7 then x else y := by
  interval_cases n <;> rfl

variable (U DG W CB : ℕ → ℕ → ℝ) (R C n2 n4 n6 : ℕ)

/-- The 528 rows of the first half that a point reads, 8 before its block and 8 after. -/
def ext (q c : ℕ) : ℝ :=
  if q < 8 then (if 0 < R then U (512 * R - 8 + q) (1408 * C + c) else 0)
  else if q < 520 then U (512 * R + (q - 8)) (1408 * C + c) else U (8 * n2 + (q - 520)) (1408 * C + c)

/-- The convolution on the 520 rows from the block's first. -/
def xk (s c : ℕ) : ℝ :=
  W 2 (1408 * C + c) * ext U R C n2 (s + 8) c + W 1 (1408 * C + c) * ext U R C n2 (s + 7) c
    + W 0 (1408 * C + c) * ext U R C n2 (s + 6) c + CB 0 (1408 * C + c)

/-- The second half on those rows. -/
def bk (s c : ℕ) : ℝ :=
  if s < 512 then U (512 * R + s) (5632 + (1408 * C + c)) else U (8 * n4 + (s - 512)) (5632 + (1408 * C + c))

/-- The incoming gradient on those rows, zero after the array's last. -/
def gk (s c : ℕ) : ℝ :=
  if s < 512 then DG (512 * R + s) (1408 * C + c) else if R < 7 then DG (8 * n6 + (s - 512)) (1408 * C + c) else 0

variable {U DG W CB R C n2 n4 n6}

theorem ext_eq (hn2 : R < 7 → n2 = 64 * R + 64) {q c : ℕ} (h6 : 6 ≤ q) (hq : q < 528) (h : q < 520 ∨ R < 7) :
    ext U R C n2 q c = ap U (512 * R + q - 6) (1408 * C + c) := by
  unfold ext ap
  split_ifs <;> first
    | omega
    | rfl
    | (congr 1; omega)

theorem xk_eq (hn2 : R < 7 → n2 = 64 * R + 64) {s c : ℕ} (hs : s < 520) (h : s < 512 ∨ R < 7) :
    xk U W CB R C n2 s c = pre U W CB (512 * R + s) (1408 * C + c) := by
  unfold xk pre
  rw [ext_eq hn2 (by omega) (by omega) (by omega), ext_eq hn2 (by omega) (by omega) (by omega), ext_eq hn2 (by omega) (by omega) (by omega),
    show 512 * R + (s + 8) - 6 = 512 * R + s + 2 by omega, show 512 * R + (s + 7) - 6 = 512 * R + s + 1 by omega,
    show 512 * R + (s + 6) - 6 = 512 * R + s by omega]
  ring

/-- The gradient with respect to the convolution's result, as the kernel computes it. -/
theorem da_eq (hn2 : R < 7 → n2 = 64 * R + 64) (hn4 : R < 7 → n4 = 64 * R + 64) (hn6 : R < 7 → n6 = 64 * R + 64) (hR : R ≤ 7)
    {s c : ℕ} (hs : s < 520) :
    gk DG R C n6 s c * bk U R C n4 s c * (sg (xk U W CB R C n2 s c) * (1 + xk U W CB R C n2 s c * (1 - sg (xk U W CB R C n2 s c))))
      = dAz U DG W CB (512 * R + s) (1408 * C + c) := by
  unfold dAz
  by_cases h : s < 512 ∨ R < 7
  · rw [xk_eq hn2 hs h, if_pos (by omega), dA]
    have hg : gk DG R C n6 s c = DG (512 * R + s) (1408 * C + c) := by
      unfold gk
      split_ifs <;> first
        | omega
        | rfl
        | (congr 1; omega)
    have hb : bk U R C n4 s c = U (512 * R + s) (5632 + (1408 * C + c)) := by
      unfold bk
      split_ifs <;> first
        | omega
        | rfl
        | (congr 1; omega)
    rw [hg, hb]
    ring
  · have hg : gk DG R C n6 s c = 0 := by
      unfold gk
      rw [if_neg (by omega), if_neg (by omega)]
    rw [hg, if_neg (by omega), zero_mul, zero_mul]

variable {i : grid0.Coords} (hi : (i 1).val = R)
  {v0 : Vec Ideal S512x1408 .f32} (hv0 : ∀ r c, v0 (ix2 r c) = ((U (512 * R + r.val) (1408 * C + c.val) : ℝ) : EReal))
  {v3 : Vec Ideal S8x1408 .f32} (hv3 : 0 < R → ∀ r c, v3 (ix2 r c) = ((U (512 * R - 8 + r.val) (1408 * C + c.val) : ℝ) : EReal))
  {v6 : Vec Ideal S8x1408 .f32} (hv6 : ∀ r c, v6 (ix2 r c) = ((U (8 * n2 + r.val) (1408 * C + c.val) : ℝ) : EReal))
  {v1 : Vec Ideal S3x1408 .f32} (hv1 : ∀ r c, v1 (ix2 r c) = ((W r.val (1408 * C + c.val) : ℝ) : EReal))
  {v21 : Vec Ideal S1x1408 .f32} (hv21 : ∀ r c, v21 (ix2 r c) = ((CB r.val (1408 * C + c.val) : ℝ) : EReal))
  {v25 : Vec Ideal S512x1408 .f32} (hv25 : ∀ r c, v25 (ix2 r c) = ((U (512 * R + r.val) (5632 + (1408 * C + c.val)) : ℝ) : EReal))
  {v26 : Vec Ideal S8x1408 .f32} (hv26 : ∀ r c, v26 (ix2 r c) = ((U (8 * n4 + r.val) (5632 + (1408 * C + c.val)) : ℝ) : EReal))
  {v28 : Vec Ideal S512x1408 .f32} (hv28 : ∀ r c, v28 (ix2 r c) = ((DG (512 * R + r.val) (1408 * C + c.val) : ℝ) : EReal))
  {v30 : Vec Ideal S8x1408 .f32} (hv30 : ∀ r c, v30 (ix2 r c) = ((DG (8 * n6 + r.val) (1408 * C + c.val) : ℝ) : EReal))

include hi hv0 hv3 hv6 in
theorem pay3_eq (hR : R ≤ 7) (q : Fin 528) (c : Fin 1408) : k0_pay3 i v0 v3 v6 (ix2 q c) = ((ext U R C n2 q.val c.val : ℝ) : EReal) := by
  pointwise [k0_pay3, hv0, hv6]
  simp only [hi, sel_pos hR]
  unfold ext
  have := q.isLt
  split_ifs <;> first
    | omega
    | exact hv3 ‹_› _ _
    | rfl
    | (congr 2; omega)

include hi hv28 hv30 in
theorem pay8_eq (hR : R ≤ 7) (q : Fin 520) (c : Fin 1408) : k0_pay8 i v28 v30 (ix2 q c) = ((gk DG R C n6 q.val c.val : ℝ) : EReal) := by
  pointwise [k0_pay8, hv28, hv30]
  simp only [hi, sel_lt hR]
  unfold gk
  split_ifs <;> first
    | omega
    | rfl

include hv25 hv26 in
theorem pay7_eq (q : Fin 520) (c : Fin 1408) : k0_pay7 v25 v26 (ix2 q c) = ((bk U R C n4 q.val c.val : ℝ) : EReal) := by
  pointwise [k0_pay7, hv25, hv26]
  unfold bk
  split_ifs <;> rfl

include hi hv0 hv1 hv3 hv6 hv21 in
theorem pay6_eq (hR : R ≤ 7) (q : Fin 520) (c : Fin 1408) :
    k0_pay6 i v0 v1 v3 v6 v21 (ix2 q c) = ((xk U W CB R C n2 q.val c.val : ℝ) : EReal) := by
  pointwise [k0_pay6, k0_pay4, k0_pay5, pay3_eq hi hv0 hv3 hv6 hR, hv1, hv21]
  have := q.isLt
  rw [show (8 + q.val + 528 - 1) % 528 = q.val + 7 by omega, show (8 + q.val + 528 - 2) % 528 = q.val + 6 by omega, Nat.add_comm 8]
  simp only [← EReal.coe_mul, ← EReal.coe_add]
  rfl

variable {x b g : ℕ → ℕ → ℝ}
  {v24 : FVec Ideal S520x1408 .f32} (hv24 : ∀ r c, v24 (ix2 r c) = ((x r.val c.val : ℝ) : EReal))
  {v27 : FVec Ideal S520x1408 .f32} (hv27 : ∀ r c, v27 (ix2 r c) = ((b r.val c.val : ℝ) : EReal))
  {v33 : FVec Ideal S520x1408 .f32} (hv33 : ∀ r c, v33 (ix2 r c) = ((g r.val c.val : ℝ) : EReal))

include hv24 in
theorem pay9_eq (q : Fin 520) (c : Fin 1408) : k0_pay9 v24 (ix2 q c) = ((1 / 2 * Real.tanh (1 / 2 * x q.val c.val) : ℝ) : EReal) := by
  pointwise [k0_pay9, hv24]
  rw [Cert.Finite.ofBits_half, ← EReal.coe_mul, Ideal.tanh_coe, ← EReal.coe_mul]

include hv24 in
theorem pay10_eq (q : Fin 520) (c : Fin 1408) : k0_pay10 v24 (ix2 q c) = ((sg (x q.val c.val) : ℝ) : EReal) := by
  pointwise [k0_pay10, pay9_eq hv24]
  rw [Cert.Finite.ofBits_half, ← EReal.coe_add, half_tanh]

include hv24 hv27 hv33 in
theorem pay11_eq (q : Fin 520) (c : Fin 1408) : k0_pay11 v24 v27 v33 (ix2 q c)
    = ((g q.val c.val * b q.val c.val * (sg (x q.val c.val) * (1 + x q.val c.val * (1 - sg (x q.val c.val)))) : ℝ) : EReal) := by
  pointwise [k0_pay11, pay9_eq hv24, pay10_eq hv24, hv24, hv27, hv33]
  rw [Cert.Finite.ofBits_half, show (1 : EReal) = ((1 : ℝ) : EReal) from rfl]
  simp only [← EReal.coe_mul, ← EReal.coe_add, ← EReal.coe_sub]
  have h := half_tanh (x q.val c.val)
  rw [show (1 / 2 - 1 / 2 * Real.tanh (1 / 2 * x q.val c.val) : ℝ) = 1 - sg (x q.val c.val) by linarith]

include hv1 hv24 hv27 hv33 in
theorem pay12_eq {d : ℕ → ℕ → ℝ}
    (hd : ∀ s c, s < 520 → g s c * b s c * (sg (x s c) * (1 + x s c * (1 - sg (x s c)))) = d s c) (q : Fin 512) (c : Fin 1408) :
    k0_pay12 v1 v24 v27 v33 (ix2 q c)
      = ((W 2 (1408 * C + c.val) * d q.val c.val + W 1 (1408 * C + c.val) * d (q.val + 1) c.val
          + W 0 (1408 * C + c.val) * d (q.val + 2) c.val : ℝ) : EReal) := by
  pointwise [k0_pay12, pay11_eq hv24 hv27 hv33, hv1]
  have := q.isLt
  rw [show (q.val + 520 - 519) % 520 = q.val + 1 by omega, show (q.val + 520 - 518) % 520 = q.val + 2 by omega,
    hd _ _ (by omega), hd _ _ (by omega), hd _ _ (by omega)]
  simp only [← EReal.coe_mul, ← EReal.coe_add]

include hv24 in
theorem pay13_eq {v65 : FVec Ideal S512x1408 .f32} {y : ℕ → ℕ → ℝ} (hv65 : ∀ r c, v65 (ix2 r c) = ((y r.val c.val : ℝ) : EReal))
    (q : Fin 512) (c : Fin 1408) : k0_pay13 v24 v65 (ix2 q c) = ((y q.val c.val * (x q.val c.val * sg (x q.val c.val)) : ℝ) : EReal) := by
  pointwise [k0_pay13, pay10_eq hv24, hv24, hv65]
  simp only [← EReal.coe_mul]

include hv24 hv27 hv33 in
theorem pay14_eq {d : ℕ → ℕ → ℝ}
    (hd : ∀ s c, s < 520 → g s c * b s c * (sg (x s c) * (1 + x s c * (1 - sg (x s c)))) = d s c) (q : Fin 512) (c : Fin 1408) :
    k0_pay14 v24 v27 v33 (ix2 q c) = ((d q.val c.val : ℝ) : EReal) := by
  pointwise [k0_pay14, pay11_eq hv24 hv27 hv33]
  rw [hd _ _ (by omega)]

include hi hv0 hv3 hv6 in
theorem pay1_eq {v71 : FVec Ideal S512x1408 .f32} {d : ℕ → ℕ → ℝ} (hv71 : ∀ r c, v71 (ix2 r c) = ((d r.val c.val : ℝ) : EReal))
    (v87 : Vec Ideal S3x1408 .f32) (hn2 : R < 7 → n2 = 64 * R + 64) (hR : R ≤ 7) (k : Fin 3) (c : Fin 1408) :
    k0_pay1 v0 (k0_pay4 i v0 v3 v6) v71 (k0_pay17 (k0_pay5 i v0 v3 v6)) v87 (ix2 k c)
      = v87 (ix2 k c) + ((∑ s ∈ Finset.range 512, d s c.val * ap U (512 * R + s + k.val) (1408 * C + c.val) : ℝ) : EReal) := by
  pointwise [k0_pay1, k0_pay4, k0_pay5, k0_pay17, pay3_eq hi hv0 hv3 hv6 hR, hv71, hv0]
  have e : ∀ s : Fin 512, ext U R C n2 ((8 + s.val + 528 - 2) % 528) c.val = ap U (512 * R + s.val + 0) (1408 * C + c.val) := fun s => by
    rw [ext_eq hn2 (by omega) (by omega) (by omega)]
    congr 1
    omega
  have e' : ∀ s : Fin 512, ext U R C n2 ((8 + s.val + 528 - 1) % 528) c.val = ap U (512 * R + s.val + 1) (1408 * C + c.val) := fun s => by
    rw [ext_eq hn2 (by omega) (by omega) (by omega)]
    congr 1
    omega
  have e'' : ∀ s : Fin 512, U (512 * R + s.val) (1408 * C + c.val) = ap U (512 * R + s.val + 2) (1408 * C + c.val) := fun s => by
    unfold ap
    rw [if_neg (by omega), Nat.add_sub_cancel]
  simp only [e, e', e'', ← EReal.coe_mul, Cert.Finite.coe_sum]
  rw [Finset.sum_range]
  obtain ⟨k, hk⟩ := k
  obtain rfl | rfl | rfl : k = 0 ∨ k = 1 ∨ k = 2 := by omega
  · rfl
  · rfl
  · rfl

theorem pay2_eq {v71 : FVec Ideal S512x1408 .f32} {d : ℕ → ℕ → ℝ} (hv71 : ∀ r c, v71 (ix2 r c) = ((d r.val c.val : ℝ) : EReal))
    (v91 : Vec Ideal S1x1408 .f32) (k : Fin 1) (c : Fin 1408) :
    k0_pay2 v71 v91 (ix2 k c) = v91 (ix2 k c) + ((∑ s ∈ Finset.range 512, d s c.val : ℝ) : EReal) := by
  pointwise [k0_pay2, hv71]
  rw [Cert.Finite.coe_sum, Finset.sum_range]

theorem pay15_eq (j : S3x1408.Idx) : (k0_pay15 (F := Ideal)) j = (0 : EReal) := by
  pointwise [k0_pay15]

theorem pay16_eq (j : S1x1408.Idx) : (k0_pay16 (F := Ideal)) j = (0 : EReal) := by
  pointwise [k0_pay16]

end Cert.Kernel2Ideal.Conv

end
-- ==== Proof.ConvVal.lean ====
/- The gated convolution's gradient kernel: its result arrays after the run, in real numbers. -/
module

public import proofs.«01_k».proof.Proof.ConvPay
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Conv

open Cert.Kernel2Ideal Cert.Kernel2Ideal.Gen Cert.Conv

/-- The block of 8 rows that a point reads after its own. -/
def nb (t : ℕ) : ℕ := if t % 8 < 7 then 64 * (t % 8) + 64 else 511

theorem coord0 : ∀ t : Fin cfg0.N, (grid0.coords t 0).val = t.val / 8 :=
  (by decide +kernel : ∀ t : Fin grid0.N, (grid0.coords t 0).val = t.val / 8)
theorem coord1 : ∀ t : Fin cfg0.N, (grid0.coords t 1).val = t.val % 8 :=
  (by decide +kernel : ∀ t : Fin grid0.N, (grid0.coords t 1).val = t.val % 8)
theorem idx0 : ∀ t : Fin cfg0.N, win0_0.index t = ![t.val % 8, t.val / 8] :=
  (by decide +kernel : ∀ t : Fin grid0.N, win0_0.index t = ![t.val % 8, t.val / 8])
theorem idx1 : ∀ t : Fin cfg0.N, win0_1.index t = ![64 * (t.val % 8) - 1, t.val / 8] :=
  (by decide +kernel : ∀ t : Fin grid0.N, win0_1.index t = ![64 * (t.val % 8) - 1, t.val / 8])
theorem idx2 : ∀ t : Fin cfg0.N, win0_2.index t = ![nb t.val, t.val / 8] :=
  (by decide +kernel : ∀ t : Fin grid0.N, win0_2.index t = ![nb t.val, t.val / 8])
theorem idx3 : ∀ t : Fin cfg0.N, win0_3.index t = ![t.val % 8, 4 + t.val / 8] :=
  (by decide +kernel : ∀ t : Fin grid0.N, win0_3.index t = ![t.val % 8, 4 + t.val / 8])
theorem idx4 : ∀ t : Fin cfg0.N, win0_4.index t = ![nb t.val, 4 + t.val / 8] :=
  (by decide +kernel : ∀ t : Fin grid0.N, win0_4.index t = ![nb t.val, 4 + t.val / 8])
theorem idx5 : ∀ t : Fin cfg0.N, win0_5.index t = ![t.val % 8, t.val / 8] :=
  (by decide +kernel : ∀ t : Fin grid0.N, win0_5.index t = ![t.val % 8, t.val / 8])
theorem idx6 : ∀ t : Fin cfg0.N, win0_6.index t = ![nb t.val, t.val / 8] :=
  (by decide +kernel : ∀ t : Fin grid0.N, win0_6.index t = ![nb t.val, t.val / 8])
theorem idx7 : ∀ t : Fin cfg0.N, win0_7.index t = ![0, t.val / 8] :=
  (by decide +kernel : ∀ t : Fin grid0.N, win0_7.index t = ![0, t.val / 8])
theorem idx8 : ∀ t : Fin cfg0.N, win0_8.index t = ![0, t.val / 8] :=
  (by decide +kernel : ∀ t : Fin grid0.N, win0_8.index t = ![0, t.val / 8])
theorem idx9 : ∀ t : Fin cfg0.N, win0_9.index t = ![t.val % 8, t.val / 8] :=
  (by decide +kernel : ∀ t : Fin grid0.N, win0_9.index t = ![t.val % 8, t.val / 8])
theorem idx10 : ∀ t : Fin cfg0.N, win0_10.index t = ![t.val % 8, t.val / 8] :=
  (by decide +kernel : ∀ t : Fin grid0.N, win0_10.index t = ![t.val % 8, t.val / 8])
theorem idx11 : ∀ t : Fin cfg0.N, win0_11.index t = ![0, t.val / 8] :=
  (by decide +kernel : ∀ t : Fin grid0.N, win0_11.index t = ![0, t.val / 8])
theorem idx12 : ∀ t : Fin cfg0.N, win0_12.index t = ![0, t.val / 8] :=
  (by decide +kernel : ∀ t : Fin grid0.N, win0_12.index t = ![0, t.val / 8])

variable {U DG W CB : ℕ → ℕ → ℝ}
variable (m : (ℓ : Loc nD τ sig) → Buf (Elt Ideal) ℓ) (c : Dev nD)
variable (h0 : ∀ i : S4096x11264.Idx, m (c.tc.loc main_arg0) i = ((U (i 0).val (i 1).val : ℝ) : EReal))
  (h1 : ∀ i : S4096x5632.Idx, m (c.tc.loc main_arg1) i = ((DG (i 0).val (i 1).val : ℝ) : EReal))
  (h2 : ∀ i : S3x5632.Idx, m (c.tc.loc main_arg2) i = ((W (i 0).val (i 1).val : ℝ) : EReal))
  (h3 : ∀ i : S1x5632.Idx, m (c.tc.loc main_arg3) i = ((CB (i 0).val (i 1).val : ℝ) : EReal))

include h0 in
theorem blk0 (t : Fin cfg0.N) (r : Fin 512) (k : Fin 1408) :
    iblk m c 0 t (ix2 r k) = ((U (512 * (t.val % 8) + r.val) (1408 * (t.val / 8) + k.val) : ℝ) : EReal) := by
  have hN : t.val < 32 := t.isLt
  blk_simp [iblk, V]
  rw [h0]
  congr 2 <;> blk_simp [idx0] <;> first | rfl | omega

include h0 in
theorem blk1 (t : Fin cfg0.N) (ht : 0 < t.val % 8) (r : Fin 8) (k : Fin 1408) :
    iblk m c 1 t (ix2 r k) = ((U (512 * (t.val % 8) - 8 + r.val) (1408 * (t.val / 8) + k.val) : ℝ) : EReal) := by
  have hN : t.val < 32 := t.isLt
  blk_simp [iblk, V]
  rw [h0]
  congr 2 <;> blk_simp [idx1] <;> first | rfl | omega

include h0 in
theorem blk2 (t : Fin cfg0.N) (r : Fin 8) (k : Fin 1408) :
    iblk m c 2 t (ix2 r k) = ((U (8 * nb t.val + r.val) (1408 * (t.val / 8) + k.val) : ℝ) : EReal) := by
  have hN : t.val < 32 := t.isLt
  blk_simp [iblk, V]
  rw [h0]
  congr 2 <;> blk_simp [idx2] <;> first | rfl | omega

include h0 in
theorem blk3 (t : Fin cfg0.N) (r : Fin 512) (k : Fin 1408) :
    iblk m c 3 t (ix2 r k) = ((U (512 * (t.val % 8) + r.val) (5632 + (1408 * (t.val / 8) + k.val)) : ℝ) : EReal) := by
  have hN : t.val < 32 := t.isLt
  blk_simp [iblk, V]
  rw [h0]
  congr 2 <;> blk_simp [idx3] <;> first | rfl | omega

include h0 in
theorem blk4 (t : Fin cfg0.N) (r : Fin 8) (k : Fin 1408) :
    iblk m c 4 t (ix2 r k) = ((U (8 * nb t.val + r.val) (5632 + (1408 * (t.val / 8) + k.val)) : ℝ) : EReal) := by
  have hN : t.val < 32 := t.isLt
  blk_simp [iblk, V]
  rw [h0]
  congr 2 <;> blk_simp [idx4] <;> first | rfl | omega

include h1 in
theorem blk5 (t : Fin cfg0.N) (r : Fin 512) (k : Fin 1408) :
    iblk m c 5 t (ix2 r k) = ((DG (512 * (t.val % 8) + r.val) (1408 * (t.val / 8) + k.val) : ℝ) : EReal) := by
  have hN : t.val < 32 := t.isLt
  blk_simp [iblk, V]
  rw [h1]
  congr 2 <;> blk_simp [idx5] <;> first | rfl | omega

include h1 in
theorem blk6 (t : Fin cfg0.N) (r : Fin 8) (k : Fin 1408) :
    iblk m c 6 t (ix2 r k) = ((DG (8 * nb t.val + r.val) (1408 * (t.val / 8) + k.val) : ℝ) : EReal) := by
  have hN : t.val < 32 := t.isLt
  blk_simp [iblk, V]
  rw [h1]
  congr 2 <;> blk_simp [idx6] <;> first | rfl | omega

include h2 in
theorem blk7 (t : Fin cfg0.N) (r : Fin 3) (k : Fin 1408) :
    iblk m c 7 t (ix2 r k) = ((W r.val (1408 * (t.val / 8) + k.val) : ℝ) : EReal) := by
  have hN : t.val < 32 := t.isLt
  blk_simp [iblk, V]
  rw [h2]
  congr 2 <;> blk_simp [idx7] <;> first | rfl | omega

include h3 in
theorem blk8 (t : Fin cfg0.N) (r : Fin 1) (k : Fin 1408) :
    iblk m c 8 t (ix2 r k) = ((CB r.val (1408 * (t.val / 8) + k.val) : ℝ) : EReal) := by
  have hN : t.val < 32 := t.isLt
  blk_simp [iblk, V]
  rw [h3]
  congr 2 <;> blk_simp [idx8] <;> first | rfl | omega

/-- The payload arguments at a point, each in real numbers. -/
theorem nb_eq (t : ℕ) : t % 8 < 7 → nb t = 64 * (t % 8) + 64 := fun h => by
  unfold nb
  rw [if_pos h]

include h0 h2 h3 in
theorem conv_eq (t : Fin cfg0.N) (q : Fin 520) (k : Fin 1408) :
    k0_pay6 (grid0.coords t) (iblk m c 0 t) (iblk m c 7 t) (iblk m c 1 t) (iblk m c 2 t) (iblk m c 8 t) (ix2 q k)
      = ((xk U W CB (t.val % 8) (t.val / 8) (nb t.val) q.val k.val : ℝ) : EReal) :=
  pay6_eq (coord1 t) (blk0 m c h0 t) (fun ht => blk1 m c h0 t ht) (blk2 m c h0 t) (blk7 m c h2 t) (blk8 m c h3 t) (by omega) q k

include h0 in
theorem half_eq (t : Fin cfg0.N) (q : Fin 520) (k : Fin 1408) :
    k0_pay7 (iblk m c 3 t) (iblk m c 4 t) (ix2 q k) = ((bk U (t.val % 8) (t.val / 8) (nb t.val) q.val k.val : ℝ) : EReal) :=
  pay7_eq (blk3 m c h0 t) (blk4 m c h0 t) q k

include h1 in
theorem grad_eq (t : Fin cfg0.N) (q : Fin 520) (k : Fin 1408) :
    k0_pay8 (grid0.coords t) (iblk m c 5 t) (iblk m c 6 t) (ix2 q k)
      = ((gk DG (t.val % 8) (t.val / 8) (nb t.val) q.val k.val : ℝ) : EReal) :=
  pay8_eq (coord1 t) (blk5 m c h1 t) (blk6 m c h1 t) (by omega) q k

include h0 h1 h2 h3 in
theorem out9 (t : Fin cfg0.N) (q : Fin 512) (k : Fin 1408) : (outsAt0 m c t.val t.isLt).1 (ix2 q k)
    = ((ga U DG W CB (512 * (t.val % 8) + q.val) (1408 * (t.val / 8) + k.val) : ℝ) : EReal) := by
  have hq := q.isLt
  have key := pay12_eq (blk7 m c h2 t) (conv_eq m c h0 h2 h3 t) (half_eq m c h0 t) (grad_eq m c h1 t)
    (fun s k hs => da_eq (W := W) (CB := CB) (nb_eq t.val) (nb_eq t.val) (nb_eq t.val) (by omega) hs) q k
  have e : dAz U DG W CB (512 * (t.val % 8) + q.val) (1408 * (t.val / 8) + k.val)
      = dA U DG W CB (512 * (t.val % 8) + q.val) (1408 * (t.val / 8) + k.val) := if_pos (by omega)
  rw [e] at key
  by_cases h : t.val % 8 = 0
  · rw [outsAt0_A m c t h]
    frame_out
    exact key
  · rw [outsAt0_B m c t h]
    frame_out
    exact key

include h0 h1 h2 h3 in
theorem out10 (t : Fin cfg0.N) (q : Fin 512) (k : Fin 1408) : (outsAt0 m c t.val t.isLt).2.1 (ix2 q k)
    = ((gb U DG W CB (512 * (t.val % 8) + q.val) (1408 * (t.val / 8) + k.val) : ℝ) : EReal) := by
  have hq := q.isLt
  have key := pay13_eq (conv_eq m c h0 h2 h3 t)
    (y := fun r k => DG (512 * (t.val % 8) + r) (1408 * (t.val / 8) + k)) (blk5 m c h1 t) q k
  rw [xk_eq (nb_eq t.val) (by omega) (by omega), mul_comm] at key
  by_cases h : t.val % 8 = 0
  · rw [outsAt0_A m c t h]
    frame_out
    exact key
  · rw [outsAt0_B m c t h]
    frame_out
    exact key

include h0 h1 h2 h3 in
/-- The gradient with respect to the gate's first half, the kernel's first result. -/
theorem arr9 : (dats m 0 c).arrAt 9 cfg0.N = fun i : S4096x5632.Idx => ((ga U DG W CB (i 0).val (i 1).val : ℝ) : EReal) := by
  refine (dats m 0 c).arrAt_eq_of_covers 9 _ (by decide +kernel) fun t hf y => ?_
  blk_simp
  rw [after0_9]
  refine (congrArg _ (eq_ix2 (n0 := 512) (n1 := 1408) y)).trans ((out9 m c h0 h1 h2 h3 t (y 0) (y 1)).trans ?_)
  blk_simp [idx9]
  congr 2 <;> omega

include h0 h1 h2 h3 in
/-- The gradient with respect to the gate's second half, the kernel's second result. -/
theorem arr10 : (dats m 0 c).arrAt 10 cfg0.N = fun i : S4096x5632.Idx => ((gb U DG W CB (i 0).val (i 1).val : ℝ) : EReal) := by
  refine (dats m 0 c).arrAt_eq_of_covers 10 _ (by decide +kernel) fun t hf y => ?_
  blk_simp
  rw [after0_10]
  refine (congrArg _ (eq_ix2 (n0 := 512) (n1 := 1408) y)).trans ((out10 m c h0 h1 h2 h3 t (y 0) (y 1)).trans ?_)
  blk_simp [idx10]
  congr 2 <;> omega

/-- What a point adds to the weights' gradient of its columns. -/
def addW (U DG W CB : ℕ → ℕ → ℝ) (t : ℕ) (k : S3x1408.Idx) : EReal :=
  ((∑ s ∈ Finset.range 512, dAz U DG W CB (512 * (t % 8) + s) (1408 * (t / 8) + (k 1).val)
      * ap U (512 * (t % 8) + s + (k 0).val) (1408 * (t / 8) + (k 1).val) : ℝ) : EReal)

/-- What a point adds to the bias's gradient of its columns. -/
def addB (U DG W CB : ℕ → ℕ → ℝ) (t : ℕ) (k : S1x1408.Idx) : EReal :=
  ((∑ s ∈ Finset.range 512, dAz U DG W CB (512 * (t % 8) + s) (1408 * (t / 8) + (k 1).val) : ℝ) : EReal)

include h0 h1 h2 h3 in
theorem pay14_at (t : Fin cfg0.N) (q : Fin 512) (k : Fin 1408) :
    k0_pay14 (k0_pay6 (grid0.coords t) (iblk m c 0 t) (iblk m c 7 t) (iblk m c 1 t) (iblk m c 2 t) (iblk m c 8 t))
        (k0_pay7 (iblk m c 3 t) (iblk m c 4 t)) (k0_pay8 (grid0.coords t) (iblk m c 5 t) (iblk m c 6 t)) (ix2 q k)
      = ((dAz U DG W CB (512 * (t.val % 8) + q.val) (1408 * (t.val / 8) + k.val) : ℝ) : EReal) :=
  pay14_eq (d := fun s k => dAz U DG W CB (512 * (t.val % 8) + s) (1408 * (t.val / 8) + k))
    (conv_eq m c h0 h2 h3 t) (half_eq m c h0 t) (grad_eq m c h1 t)
    (fun s k hs => da_eq (W := W) (CB := CB) (nb_eq t.val) (nb_eq t.val) (nb_eq t.val) (by omega) hs) q k

include h0 h1 h2 h3 in
theorem step11 (t : Fin cfg0.N) (v : Vec Ideal S3x1408 .f32) (j : S3x1408.Idx) :
    k0_pay1 (iblk m c 0 t) (k0_pay4 (grid0.coords t) (iblk m c 0 t) (iblk m c 1 t) (iblk m c 2 t))
      (k0_pay14 (k0_pay6 (grid0.coords t) (iblk m c 0 t) (iblk m c 7 t) (iblk m c 1 t) (iblk m c 2 t) (iblk m c 8 t))
        (k0_pay7 (iblk m c 3 t) (iblk m c 4 t)) (k0_pay8 (grid0.coords t) (iblk m c 5 t) (iblk m c 6 t)))
      (k0_pay17 (k0_pay5 (grid0.coords t) (iblk m c 0 t) (iblk m c 1 t) (iblk m c 2 t))) v j = v j + addW U DG W CB t.val j := by
  rw [eq_ix2 j]
  exact pay1_eq (d := fun s k => dAz U DG W CB (512 * (t.val % 8) + s) (1408 * (t.val / 8) + k))
    (coord1 t) (blk0 m c h0 t) (fun ht => blk1 m c h0 t ht) (blk2 m c h0 t) (pay14_at m c h0 h1 h2 h3 t) v (nb_eq t.val) (by omega) _ _

include h0 h1 h2 h3 in
theorem step12 (t : Fin cfg0.N) (v : Vec Ideal S1x1408 .f32) (j : S1x1408.Idx) :
    k0_pay2 (k0_pay14 (k0_pay6 (grid0.coords t) (iblk m c 0 t) (iblk m c 7 t) (iblk m c 1 t) (iblk m c 2 t) (iblk m c 8 t))
        (k0_pay7 (iblk m c 3 t) (iblk m c 4 t)) (k0_pay8 (grid0.coords t) (iblk m c 5 t) (iblk m c 6 t))) v j
      = v j + addB U DG W CB t.val j := by
  rw [eq_ix2 j]
  exact pay2_eq (d := fun s k => dAz U DG W CB (512 * (t.val % 8) + s) (1408 * (t.val / 8) + k)) (pay14_at m c h0 h1 h2 h3 t) v _ _

include h0 h1 h2 h3 in
theorem out11 (t : Fin cfg0.N) (j : S3x1408.Idx) :
    (outsAt0 m c t.val t.isLt).2.2.1 j = 0 + ∑ k ∈ Finset.range (t.val % 8 + 1), addW U DG W CB (8 * (t.val / 8) + k) j := by
  refine Pipeline.eq_sum_of_reset_step_apply (fun n h => (outsAt0 m c n h).2.2.1) 8 (fun _ => (0 : EReal)) (addW U DG W CB) (fun t h j => ?_) (fun t h j => ?_) t j
  · rw [outsAt0_A m c t h]
    frame_out
    rw [step11 m c h0 h1 h2 h3 t, pay15_eq]
  · rw [outsAt0_B m c t h]
    frame_out
    rw [step11 m c h0 h1 h2 h3 t]

include h0 h1 h2 h3 in
theorem out12 (t : Fin cfg0.N) (j : S1x1408.Idx) :
    (outsAt0 m c t.val t.isLt).2.2.2 j = 0 + ∑ k ∈ Finset.range (t.val % 8 + 1), addB U DG W CB (8 * (t.val / 8) + k) j := by
  refine Pipeline.eq_sum_of_reset_step_apply (fun n h => (outsAt0 m c n h).2.2.2) 8 (fun _ => (0 : EReal)) (addB U DG W CB) (fun t h j => ?_) (fun t h j => ?_) t j
  · rw [outsAt0_A m c t h]
    frame_out
    rw [step12 m c h0 h1 h2 h3 t, pay16_eq]
  · rw [outsAt0_B m c t h]
    frame_out
    rw [step12 m c h0 h1 h2 h3 t]

/-- Eight blocks of 512 rows are the 4096 rows. -/
theorem sum_blocks (f : ℕ → ℝ) : ∑ k ∈ Finset.range 8, ∑ s ∈ Finset.range 512, f (512 * k + s) = ∑ t ∈ Finset.range 4096, f t := by
  simp only [Nat.mul_comm 512 _]
  exact Finset.sum_range_range_mul_add 8 512 f

/-- A column block's points add up to the whole sum over the rows. -/
theorem sum_points (f : ℕ → ℕ → ℝ) (b : ℕ) :
    (0 : EReal) + ∑ k ∈ Finset.range 8, ((∑ s ∈ Finset.range 512, f (512 * ((8 * b + k) % 8) + s) ((8 * b + k) / 8) : ℝ) : EReal)
      = ((∑ t ∈ Finset.range 4096, f t b : ℝ) : EReal) := by
  rw [zero_add, Cert.Finite.coe_sum, ← sum_blocks]
  congr 1
  refine Finset.sum_congr rfl fun k hk => ?_
  have hk := Finset.mem_range.mp hk
  rw [show (8 * b + k) % 8 = k by omega, show (8 * b + k) / 8 = b by omega]

include h0 h1 h2 h3 in
/-- The weights' gradient, the kernel's third result. -/
theorem arr11 : (dats m 0 c).arrAt 11 cfg0.N = fun i : S3x5632.Idx => ((gw U DG W CB (i 0).val (i 1).val : ℝ) : EReal) := by
  refine (dats m 0 c).arrAt_eq_of_covers 11 _ (by decide +kernel) fun t hf y => ?_
  have ht := (flush0_11 t).mp hf
  blk_simp
  rw [after0_11, out11 m c h0 h1 h2 h3 t, ht]
  blk_simp [idx11]
  unfold addW gw
  have key := sum_points (fun t b => dAz U DG W CB t (1408 * b + (y 1).val) * ap U (t + (y 0).val) (1408 * b + (y 1).val)) (t.val / 8)
  refine key.trans ?_
  congr 1
  refine Finset.sum_congr rfl fun s hs => ?_
  have hs := Finset.mem_range.mp hs
  unfold dAz
  rw [if_pos hs, Nat.mul_comm 1408]

include h0 h1 h2 h3 in
/-- The bias's gradient, the kernel's fourth result. -/
theorem arr12 : (dats m 0 c).arrAt 12 cfg0.N = fun i : S1x5632.Idx => ((gc U DG W CB (i 1).val : ℝ) : EReal) := by
  refine (dats m 0 c).arrAt_eq_of_covers 12 _ (by decide +kernel) fun t hf y => ?_
  have ht := (flush0_12 t).mp hf
  blk_simp
  rw [after0_12, out12 m c h0 h1 h2 h3 t, ht]
  blk_simp [idx12]
  unfold addB gc
  have key := sum_points (fun t b => dAz U DG W CB t (1408 * b + (y 1).val)) (t.val / 8)
  refine key.trans ?_
  congr 1
  refine Finset.sum_congr rfl fun s hs => ?_
  have hs := Finset.mem_range.mp hs
  unfold dAz
  rw [if_pos hs, Nat.mul_comm 1408]

end Cert.Kernel2Ideal.Conv

end
-- ==== Proof.ConvTie.lean ====
/- The gated convolution's gradient: the kernel's results and the reference's are the same real arrays. -/
module

public import proofs.«01_k».proof.Defs
public import proofs.«01_k».proof.Proof.ConvVal
public import proofs.«01_k».proof.Proof.Gen.Reference2Ideal.Run

@[expose] public section

set_option maxRecDepth 16384

noncomputable section

open Idealize.ShloMosaic Idealize.ShloMosaic.TcCoe Idealize.SL.Sem

namespace Cert.ConvTie

open Cert.Conv Cert.Finite

theorem preFacts : Cert.Pre_cg_finite.Facts where
  bcast_S_S4096x11264 := by decide
  bcast_S_S4096x5632 := by decide
  bcast_S_S3x5632 := by decide
  bcast_S_S1x5632 := by decide

/-- The precondition: all entries of the four arguments are finite. -/
theorem finite_of_pre [Cert.Pre_cg_finite.Facts] {x0 : FVec Ideal Cert.Pre_cg_finite.S4096x11264 .f32}
    {x1 : FVec Ideal Cert.Pre_cg_finite.S4096x5632 .f32} {x2 : FVec Ideal Cert.Pre_cg_finite.S3x5632 .f32}
    {x3 : FVec Ideal Cert.Pre_cg_finite.S1x5632 .f32} :
    ((Cert.Pre_cg_finite.fn x0 x1 x2 x3).1 = (fun _ => 1#1) → ∀ i, (x0 i : EReal) ≠ ⊤ ∧ (x0 i : EReal) ≠ ⊥)
    ∧ ((Cert.Pre_cg_finite.fn x0 x1 x2 x3).2.1 = (fun _ => 1#1) → ∀ i, (x1 i : EReal) ≠ ⊤ ∧ (x1 i : EReal) ≠ ⊥)
    ∧ ((Cert.Pre_cg_finite.fn x0 x1 x2 x3).2.2.1 = (fun _ => 1#1) → ∀ i, (x2 i : EReal) ≠ ⊤ ∧ (x2 i : EReal) ≠ ⊥)
    ∧ ((Cert.Pre_cg_finite.fn x0 x1 x2 x3).2.2.2 = (fun _ => 1#1) → ∀ i, (x3 i : EReal) ≠ ⊤ ∧ (x3 i : EReal) ≠ ⊥) :=
  ⟨fun h => finite_of_cmpf (fun _ => rfl) h, fun h => finite_of_cmpf (fun _ => rfl) h, fun h => finite_of_cmpf (fun _ => rfl) h,
    fun h => finite_of_cmpf (fun _ => rfl) h⟩

theorem algebraic : @Cert.algebraic_Kernel2Ideal_Reference2Ideal_pre_cg_finite Cert.Kernel2Ideal.Gen.facts Cert.Reference2Ideal.Gen.facts preFacts := by
  haveI := preFacts
  intro m g m' g' hpre hagree
  have f0 (c : Dev Cert.Kernel2Ideal.nD) := finite_of_pre.1 ((hpre c).1)
  have f1 (c : Dev Cert.Kernel2Ideal.nD) := finite_of_pre.2.1 ((hpre c).2.1)
  have f2 (c : Dev Cert.Kernel2Ideal.nD) := finite_of_pre.2.2.1 ((hpre c).2.2.1)
  have f3 (c : Dev Cert.Kernel2Ideal.nD) := finite_of_pre.2.2.2 ((hpre c).2.2.2)
  have e0 (c : Dev Cert.Kernel2Ideal.nD) := fun i => eq_ent (n := 4096) (m := 11264) (f0 c) i
  have e1 (c : Dev Cert.Kernel2Ideal.nD) := fun i => eq_ent (n := 4096) (m := 5632) (f1 c) i
  have e2 (c : Dev Cert.Kernel2Ideal.nD) := fun i => eq_ent (n := 3) (m := 5632) (f2 c) i
  have e3 (c : Dev Cert.Kernel2Ideal.nD) := fun i => eq_ent (n := 1) (m := 5632) (f3 c) i
  refine ⟨fun c => (Cert.Kernel2Ideal.Gen.dats m 0 c).arrAt 9 Cert.Kernel2Ideal.cfg0.N, fun c => (Cert.Kernel2Ideal.Gen.dats m 0 c).arrAt 10 Cert.Kernel2Ideal.cfg0.N,
    fun c => (Cert.Kernel2Ideal.Gen.dats m 0 c).arrAt 11 Cert.Kernel2Ideal.cfg0.N, fun c => (Cert.Kernel2Ideal.Gen.dats m 0 c).arrAt 12 Cert.Kernel2Ideal.cfg0.N,
    Cert.Kernel2Ideal.Value.run_blocks m g, ?_⟩
  refine (θ_run Cert.Reference2Ideal.defs _ _).mono (fun r h c => ?_) (Cert.Reference2Ideal.Value.run m' g')
  obtain ⟨r0, r1, r2, r3, rest⟩ := h c
  obtain ⟨a0, a1, a2, a3⟩ := hagree c
  rw [Cert.Reference2Ideal.Read.val_main_v71_eq, a0, a1, a2, a3] at r0
  rw [Cert.Reference2Ideal.Read.val_main_v73_eq, a0, a1, a2, a3] at r1
  rw [Cert.Reference2Ideal.Read.val_main_v66_eq, a0, a1, a2, a3] at r2
  rw [Cert.Reference2Ideal.Read.val_main_v35_eq, a0, a1, a2, a3] at r3
  exact ⟨(r0.trans (funext fun i => Cert.Reference2Ideal.Conv.v71_eq (e0 c) (e1 c) (e2 c) (e3 c) i)).trans (Cert.Kernel2Ideal.Conv.arr9 m c (e0 c) (e1 c) (e2 c) (e3 c)).symm,
    (r1.trans (funext fun i => Cert.Reference2Ideal.Conv.v73_eq (e0 c) (e1 c) (e2 c) (e3 c) i)).trans (Cert.Kernel2Ideal.Conv.arr10 m c (e0 c) (e1 c) (e2 c) (e3 c)).symm,
    (r2.trans (funext fun i => Cert.Reference2Ideal.Conv.v66_eq (e0 c) (e1 c) (e2 c) (e3 c) i)).trans (Cert.Kernel2Ideal.Conv.arr11 m c (e0 c) (e1 c) (e2 c) (e3 c)).symm,
    (r3.trans (funext fun i => Cert.Reference2Ideal.Conv.v35_eq (e0 c) (e1 c) (e2 c) (e3 c) i)).trans (Cert.Kernel2Ideal.Conv.arr12 m c (e0 c) (e1 c) (e2 c) (e3 c)).symm, rest⟩

end Cert.ConvTie

end
-- ==== Proof.SgReal.lean ====
/- The spatial gate's gradient in real numbers: the gate's forward lines and the gradients of its operands, entry by entry. -/
module

public import proofs.«01_k».proof.Proof.Finite
public import Idealize.ShloMosaic.Lib.WordCmp

@[expose] public section

noncomputable section

open Idealize.ShloMosaic

namespace Cert.Sg

/-- The error function. -/
def rf (x : ℝ) : ℝ := 2 / Real.sqrt Real.pi * ∫ t in (0 : ℝ)..x, Real.exp (-(t ^ 2))

theorem erf_eq (x : ℝ) : Ideal.erf (x : EReal) = ((rf x : ℝ) : EReal) := rfl

/-- The exact gelu. -/
def ge (x : ℝ) : ℝ := 1 / 2 * x * (1 + rf (x * (Real.sqrt 2)⁻¹))

/-- The gelu's derivative. -/
def gd (x : ℝ) : ℝ := 1 / 2 * (1 + rf (x * (Real.sqrt 2)⁻¹)) + x * Real.exp (-(1 / 2) * x * x) * (Real.sqrt (2 * Real.pi))⁻¹

/-- The norm's small positive term, as its f32 pattern denotes it. -/
def eps : ℝ := 10995116 / 2 ^ 40

theorem eps_pos : 0 < eps := by unfold eps; positivity

theorem ofBits_eps : Ideal.ofBits .f32 0x3727C5AC#32 = ((eps : ℝ) : EReal) := by
  unfold eps
  simp [Ideal.ofBits, Ideal.ieee, -EReal.coe_mul]; norm_num

theorem ofBits_2048 : Ideal.ofBits .f32 0x45000000#32 = ((2048 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_4 : Ideal.ofBits .f32 0x40800000#32 = ((4 : ℝ) : EReal) := by
  simp [Ideal.ofBits, Ideal.ieee, -EReal.coe_mul]; norm_num

theorem ofBits_neg_two : Ideal.ofBits .f32 0xC0000000#32 = ((-2 : ℝ) : EReal) := by
  simp [Ideal.ofBits, Ideal.ieee, -EReal.coe_mul]; norm_num

variable (P DY G B : ℕ → ℕ → ℝ) (W : ℕ → ℕ → ℕ → ℝ) (BS : ℕ → ℕ → ℝ)

/-- The first half of the activations. -/
def u (r k : ℕ) : ℝ := ge (P r k)

/-- The second half of the activations. -/
def v (r k : ℕ) : ℝ := ge (P r (2048 + k))

/-- A row's mean. -/
def mu (r : ℕ) : ℝ := (∑ k ∈ Finset.range 2048, v P r k) / 2048

/-- The centred second half. -/
def xc (r k : ℕ) : ℝ := v P r k - mu P r

/-- A row's variance with the small term added. -/
def va (r : ℕ) : ℝ := (∑ k ∈ Finset.range 2048, xc P r k * xc P r k) / 2048 + eps

/-- The inverse root of that. -/
def rs (r : ℕ) : ℝ := (Real.sqrt (va P r))⁻¹

/-- The normalized second half. -/
def vh (r k : ℕ) : ℝ := xc P r k * rs P r

/-- The normalized second half, scaled and shifted. -/
def vn (r k : ℕ) : ℝ := vh P r k * G 0 k + B 0 k

/-- The mixing matrix, zero above the diagonal. -/
def wc (g a b : ℕ) : ℝ := if b ≤ a then W g a b else 0

/-- The gate: each group's rows mixed within their chunk of 128. -/
def gate (r k : ℕ) : ℝ :=
  ∑ s ∈ Finset.range 128, wc W (k / 128) (r % 128) s * vn P G B (128 * (r / 128) + s) k + BS (r % 128) (k / 128)

/-- The gradient of the gate. -/
def dgate (r k : ℕ) : ℝ := DY r k * u P r k

/-- The gradient of the norm's result. -/
def dvn (r k : ℕ) : ℝ := ∑ s ∈ Finset.range 128, wc W (k / 128) s (r % 128) * dgate P DY (128 * (r / 128) + s) k

/-- The gradient of the normalized half. -/
def dvh (r k : ℕ) : ℝ := dvn P DY W r k * G 0 k

/-- A row's mean of that gradient. -/
def m1 (r : ℕ) : ℝ := (∑ k ∈ Finset.range 2048, dvh P DY G W r k) / 2048

/-- A row's mean of that gradient against the normalized half. -/
def m2 (r : ℕ) : ℝ := (∑ k ∈ Finset.range 2048, dvh P DY G W r k * vh P r k) / 2048

/-- The gradient of the first half of the activations. -/
def du (r k : ℕ) : ℝ := DY r k * gate P G B W BS r k

/-- The gradient of the second half of the activations. -/
def dv (r k : ℕ) : ℝ := rs P r * (dvh P DY G W r k - m1 P DY G W r - vh P r k * m2 P DY G W r)

/-- The gradient of the array before the activation. -/
def dpre (r k : ℕ) : ℝ := (if k < 2048 then du P DY G B W BS r k else dv P DY G W r (k - 2048)) * gd (P r k)

/-- The gradient of the mixing matrices. -/
def dws (g a b : ℕ) : ℝ :=
  if b ≤ a then ∑ n ∈ Finset.range 32, ∑ c ∈ Finset.range 128,
    dgate P DY (128 * n + a) (128 * g + c) * vn P G B (128 * n + b) (128 * g + c) else 0

/-- The gradient of the gate's bias. -/
def dbs (a g : ℕ) : ℝ := ∑ n ∈ Finset.range 32, ∑ c ∈ Finset.range 128, dgate P DY (128 * n + a) (128 * g + c)

/-- The gradient of the norm's scale. -/
def dg (k : ℕ) : ℝ := ∑ t ∈ Finset.range 4096, dvn P DY W t k * vh P t k

/-- The gradient of the norm's shift. -/
def db (k : ℕ) : ℝ := ∑ t ∈ Finset.range 4096, dvn P DY W t k

theorem va_pos (r : ℕ) : 0 < va P r := by
  have : 0 ≤ ∑ k ∈ Finset.range 2048, xc P r k * xc P r k := Finset.sum_nonneg fun k _ => mul_self_nonneg _
  have := eps_pos
  unfold va; positivity

/-- The centred half sums to zero along a row. -/
theorem sum_xc (r : ℕ) : ∑ k ∈ Finset.range 2048, xc P r k = 0 := by
  unfold xc mu
  rw [Finset.sum_sub_distrib, Finset.sum_const, Finset.card_range, nsmul_eq_mul]
  push_cast
  ring

/-- The inverse root, read off its argument at the ideal instance. -/
theorem rsqrt_va (r : ℕ) : Ideal.rsqrt ((va P r : ℝ) : EReal) = ((rs P r : ℝ) : EReal) := by
  have h := va_pos P r
  rw [Ideal.rsqrt_coe, if_neg (not_lt.mpr h.le), if_neg h.ne']
  rfl

theorem rs_sq (r : ℕ) : rs P r * rs P r = (va P r)⁻¹ := by
  unfold rs
  rw [← mul_inv, Real.mul_self_sqrt (va_pos P r).le]

/-- The root of a half. -/
theorem sqrt_half : Real.sqrt (1 / 2) = (Real.sqrt 2)⁻¹ := by
  rw [one_div, Real.sqrt_inv]

/-- A sum over an index of extent `n`, as a sum over a range. -/
theorem sum_fin {n : ℕ} (f : ℕ → ℝ) : ∑ k : Fin n, ((f k.val : ℝ) : EReal) = ((∑ t ∈ Finset.range n, f t : ℝ) : EReal) := by
  rw [Cert.Finite.coe_sum, Finset.sum_range]

/-- The derivative as the product rule spells it. -/
theorem gd_spelt (x : ℝ) :
    -(-2 / Real.sqrt (4 * Real.arctan 1) * Real.exp (-(-x * (Real.sqrt 2)⁻¹) * (-x * (Real.sqrt 2)⁻¹)) * (1 / 2 * x) * (Real.sqrt 2)⁻¹)
      + 1 / 2 * (1 + rf (x * (Real.sqrt 2)⁻¹)) = gd x := by
  have h2 : (Real.sqrt 2)⁻¹ * (Real.sqrt 2)⁻¹ = 1 / 2 := by
    rw [← mul_inv, Real.mul_self_sqrt (by norm_num)]; norm_num
  have hpi : 4 * Real.arctan 1 = Real.pi := by rw [Real.arctan_one]; ring
  have he : -(-x * (Real.sqrt 2)⁻¹) * (-x * (Real.sqrt 2)⁻¹) = -(1 / 2) * x * x := by linear_combination (-x * x) * h2
  have hs : (Real.sqrt (2 * Real.pi))⁻¹ = (Real.sqrt 2)⁻¹ * (Real.sqrt Real.pi)⁻¹ := by
    rw [Real.sqrt_mul (by norm_num), mul_inv]
  rw [hpi, he, gd, hs]
  ring

/-- The comparison of two coordinates of a 128 by 128 block, as the choice it makes. -/
theorem select_tril {a b : ℕ} (ha : a < 128) (hb : b < 128) (x y : EReal) :
    Scalar.select (IntOp.cmpi .sge (BitVec.ofNat 32 a) (BitVec.ofNat 32 b)) x y = if b ≤ a then x else y := by
  rw [WordCmp.cmpi_sge_ofNat (by omega) (by omega)]
  by_cases h : b ≤ a <;> simp [Scalar.select, h]

/-- The row's coefficient of the centred half in the gradient, as the product rule spells it. -/
def cf (r : ℕ) : ℝ := (∑ k ∈ Finset.range 2048, xc P r k * dvh P DY G W r k) * (-(1 / 2) * (rs P r / va P r)) / 2048

/-- The gradient of the second half, as the product rule spells it. -/
theorem dv_spelt (r k : ℕ) :
    dvh P DY G W r k * rs P r + xc P r k * cf P DY G W r + cf P DY G W r * xc P r k
      + (∑ j ∈ Finset.range 2048, -(dvh P DY G W r j * rs P r + xc P r j * cf P DY G W r + cf P DY G W r * xc P r j)) / 2048
      = dv P DY G W r k := by
  have hS : ∑ j ∈ Finset.range 2048, -(dvh P DY G W r j * rs P r + xc P r j * cf P DY G W r + cf P DY G W r * xc P r j)
      = -((∑ j ∈ Finset.range 2048, dvh P DY G W r j) * rs P r) := by
    have e : ∀ j, -(dvh P DY G W r j * rs P r + xc P r j * cf P DY G W r + cf P DY G W r * xc P r j)
        = (-rs P r) * dvh P DY G W r j + (-2 * cf P DY G W r) * xc P r j := fun j => by ring
    rw [Finset.sum_congr rfl fun j _ => e j, Finset.sum_add_distrib, ← Finset.mul_sum, ← Finset.mul_sum, sum_xc]
    ring
  have hM : ∑ j ∈ Finset.range 2048, dvh P DY G W r j * vh P r j
      = rs P r * ∑ j ∈ Finset.range 2048, xc P r j * dvh P DY G W r j := by
    rw [Finset.mul_sum]
    exact Finset.sum_congr rfl fun j _ => by unfold vh; ring
  have hv : (va P r)⁻¹ = rs P r * rs P r := (rs_sq P r).symm
  rw [hS, dv, m1, m2, hM]
  unfold cf vh
  rw [div_eq_mul_inv (rs P r) (va P r), hv]
  ring

end Cert.Sg

end
-- ==== Proof.SgPay.lean ====
/- The spatial gate's gradient kernel: the values its body computes on one chunk of 128 rows, in real numbers. -/
module

public import proofs.«01_k».proof.Proof.Gen.KernelIdeal.Value
public import proofs.«01_k».proof.Proof.SgReal

@[expose] public section

set_option maxRecDepth 16384

noncomputable section

open Idealize.ShloMosaic Idealize.ShloMosaic.TcCoe Idealize.SL.Sem

namespace Cert.KernelIdeal.Sg

open Cert.KernelIdeal Cert.KernelIdeal.Gen Cert.Sg

variable {P DY G B : ℕ → ℕ → ℝ} {W : ℕ → ℕ → ℕ → ℝ} {BS : ℕ → ℕ → ℝ} {T : ℕ}

variable {v3 : Vec Ideal S128x4096 .f32} (hp : ∀ r c, v3 (ix2 r c) = ((P (128 * T + r.val) c.val : ℝ) : EReal))
  {v30 : Vec Ideal S1x2048 .f32} (hg : ∀ r c, v30 (ix2 r c) = ((G 0 c.val : ℝ) : EReal))
  {v33 : Vec Ideal S1x2048 .f32} (hb : ∀ r c, v33 (ix2 r c) = ((B 0 c.val : ℝ) : EReal))
  {v828 : Vec Ideal S128x2048 .f32} (hd : ∀ r c, v828 (ix2 r c) = ((dvn P DY W (128 * T + r.val) c.val : ℝ) : EReal))

theorem hs_eq : Named.named (F := Ideal) κ "inv_sqrt2" (φ := .f32) 0x3F3504F3#32 = (((Real.sqrt 2)⁻¹ : ℝ) : EReal) :=
  IdealRules.named_const.ideal_named_scalar _ _ _ _ rfl

theorem hp_eq : Named.named (F := Ideal) κ "inv_sqrt2pi" (φ := .f32) 0x3ECC422A#32 = (((Real.sqrt (2 * Real.pi))⁻¹ : ℝ) : EReal) :=
  IdealRules.named_const.ideal_named_scalar _ _ _ _ rfl

include hp in
theorem pay5_eq (q : Fin 128) (k : Fin 4096) : k0_pay5 v3 (ix2 q k) = ((ge (P (128 * T + q.val) k.val) : ℝ) : EReal) := by
  pointwise [k0_pay5, hp, hs_eq, Ideal.ofBits_def, Cert.Finite.ofBits_half, Cert.Finite.ofBits_one]
  simp only [← EReal.coe_mul, Ideal.erf_def, erf_eq, ← EReal.coe_add]
  rfl

include hp in
theorem pay6_eq (q : Fin 128) (k : Fin 2048) : k0_pay6 v3 (ix2 q k) = ((u P (128 * T + q.val) k.val : ℝ) : EReal) := by
  pointwise [k0_pay6, pay5_eq hp]
  rfl

include hp in
theorem pay7_eq (q : Fin 128) (k : Fin 2048) : k0_pay7 v3 (ix2 q k) = ((xc P (128 * T + q.val) k.val : ℝ) : EReal) := by
  pointwise [k0_pay7, pay5_eq hp, ofBits_2048]
  rw [show _ = _ from sum_fin fun j => ge (P (128 * T + q.val) (2048 + j)), Cert.Finite.div_real _ (by norm_num), ← EReal.coe_sub]
  rfl

include hp in
theorem pay8_eq (q : Fin 128) (z : Fin 1) : k0_pay8 v3 (ix2 q z) = ((rs P (128 * T + q.val) : ℝ) : EReal) := by
  pointwise [k0_pay8, pay7_eq hp, ofBits_2048, ofBits_eps]
  simp only [← EReal.coe_mul]
  rw [show _ = _ from sum_fin fun j => xc P (128 * T + q.val) j * xc P (128 * T + q.val) j, Cert.Finite.div_real _ (by norm_num),
    ← EReal.coe_add]
  exact rsqrt_va P _

include hp in
theorem pay9_eq (q : Fin 128) (k : Fin 2048) : k0_pay9 v3 (ix2 q k) = ((vh P (128 * T + q.val) k.val : ℝ) : EReal) := by
  pointwise [k0_pay9, pay7_eq hp, pay8_eq hp]
  simp only [← EReal.coe_mul]
  rfl

include hp hg hb in
theorem pay10_eq (q : Fin 128) (k : Fin 2048) : (k0_pay10 v3 v30 v33 (ix2 q k) : EReal) = ((vn P G B (128 * T + q.val) k.val : ℝ) : EReal) := by
  pointwise [k0_pay10, pay9_eq hp, hg, hb]
  simp only [← EReal.coe_mul, ← EReal.coe_add]
  rfl

include hp in
theorem pay11_eq (q : Fin 128) (k : Fin 4096) : k0_pay11 v3 (ix2 q k) = ((gd (P (128 * T + q.val) k.val) : ℝ) : EReal) := by
  pointwise [k0_pay11, hp, hs_eq, hp_eq, Cert.Finite.ofBits_half, Cert.Finite.ofBits_one, ofBits_neg_half]
  simp only [← EReal.coe_mul, Ideal.erf_def, erf_eq, ← EReal.coe_add, Ideal.exp_coe]
  rfl

include hp hg hd in
theorem pay157_eq (q : Fin 128) (k : Fin 2048) : (k0_pay157 (k0_pay8 v3) (k0_pay9 v3) v30 (k0_pay11 v3) v828 (ix2 q k) : EReal)
    = ((dv P DY G W (128 * T + q.val) k.val * gd (P (128 * T + q.val) (2048 + k.val)) : ℝ) : EReal) := by
  pointwise [k0_pay157, hd, hg, pay8_eq hp, pay9_eq hp, pay11_eq hp, ofBits_2048]
  simp only [← EReal.coe_mul]
  rw [show _ = _ from sum_fin fun j => dvn P DY W (128 * T + q.val) j * G 0 j,
    show _ = _ from sum_fin fun j => dvn P DY W (128 * T + q.val) j * G 0 j * vh P (128 * T + q.val) j, Cert.Finite.div_real _ (by norm_num),
    Cert.Finite.div_real _ (by norm_num)]
  simp only [← EReal.coe_mul, ← EReal.coe_sub]
  rfl

end Cert.KernelIdeal.Sg

end
-- ==== Proof.SgVal.lean ====
/- The spatial gate's gradient kernel: its result arrays after the run, in real numbers. -/
module

public import proofs.«01_k».proof.Proof.SgPay
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Sg

open Cert.KernelIdeal Cert.KernelIdeal.Gen Cert.Sg

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0, 0] :=
  (by decide +kernel : ∀ t : Fin grid0.N, win0_4.index t = ![0, 0, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![0, 0, 0] :=
  (by decide +kernel : ∀ t : Fin grid0.N, win0_7.index t = ![0, 0, 0])
theorem idx8 : ∀ t : Fin cfg0.N, win0_8.index t = ![0, 0] :=
  (by decide +kernel : ∀ t : Fin grid0.N, win0_8.index t = ![0, 0])
theorem idx9 : ∀ t : Fin cfg0.N, win0_9.index t = ![0, 0] :=
  (by decide +kernel : ∀ t : Fin grid0.N, win0_9.index t = ![0, 0])
theorem idx10 : ∀ t : Fin cfg0.N, win0_10.index t = ![0, 0] :=
  (by decide +kernel : ∀ t : Fin grid0.N, win0_10.index t = ![0, 0])

variable {P DY G B : ℕ → ℕ → ℝ} {W : ℕ → ℕ → ℕ → ℝ} {BS : ℕ → ℕ → ℝ}
variable (m : (ℓ : Loc nD τ sig) → Buf (Elt Ideal) ℓ) (c : Dev nD)
variable (h0 : ∀ i : S4096x4096.Idx, m (c.tc.loc main_arg0) i = ((P (i 0).val (i 1).val : ℝ) : EReal))
  (h1 : ∀ i : S4096x2048.Idx, m (c.tc.loc main_arg1) i = ((DY (i 0).val (i 1).val : ℝ) : EReal))
  (h2 : ∀ i : S1x2048.Idx, m (c.tc.loc main_arg2) i = ((G 0 (i 1).val : ℝ) : EReal))
  (h3 : ∀ i : S1x2048.Idx, m (c.tc.loc main_arg3) i = ((B 0 (i 1).val : ℝ) : EReal))
  (h4 : ∀ i : S16x128x128.Idx, m (c.tc.loc main_arg4) i = ((W (i 0).val (i 1).val (i 2).val : ℝ) : EReal))
  (h5 : ∀ i : S128x16.Idx, m (c.tc.loc main_arg5) i = ((BS (i 0).val (i 1).val : ℝ) : EReal))

include h0 in
theorem blk0 (t : Fin cfg0.N) (r : Fin 128) (k : Fin 4096) : iblk m c 0 t (ix2 r k) = ((P (128 * t.val + r.val) k.val : ℝ) : EReal) := by
  have hN : t.val < 32 := t.isLt
  blk_simp [iblk, V]
  rw [h0]
  congr 2 <;> blk_simp [idx0] <;> first | rfl | omega

include h1 in
theorem blk1 (t : Fin cfg0.N) (r : Fin 128) (k : Fin 2048) : iblk m c 1 t (ix2 r k) = ((DY (128 * t.val + r.val) k.val : ℝ) : EReal) := by
  have hN : t.val < 32 := t.isLt
  blk_simp [iblk, V]
  rw [h1]
  congr 2 <;> blk_simp [idx1] <;> first | rfl | omega

include h2 in
theorem blk2 (t : Fin cfg0.N) (r : Fin 1) (k : Fin 2048) : iblk m c 2 t (ix2 r k) = ((G 0 k.val : ℝ) : EReal) := by
  have hN : t.val < 32 := t.isLt
  blk_simp [iblk, V]
  rw [h2]
  congr 2 <;> blk_simp [idx2] <;> first | rfl | omega

include h3 in
theorem blk3 (t : Fin cfg0.N) (r : Fin 1) (k : Fin 2048) : iblk m c 3 t (ix2 r k) = ((B 0 k.val : ℝ) : EReal) := by
  have hN : t.val < 32 := t.isLt
  blk_simp [iblk, V]
  rw [h3]
  congr 2 <;> blk_simp [idx3] <;> first | rfl | omega

include h4 in
theorem blk4 (t : Fin cfg0.N) (g : Fin 16) (a b : Fin 128) : iblk m c 4 t (ix3 g a b) = ((W g.val a.val b.val : ℝ) : EReal) := by
  have hN : t.val < 32 := t.isLt
  blk_simp [iblk, V]
  rw [h4]
  congr 2 <;> blk_simp [idx4] <;> first | rfl | omega

include h5 in
theorem blk5 (t : Fin cfg0.N) (a : Fin 128) (g : Fin 16) : iblk m c 5 t (ix2 a g) = ((BS a.val g.val : ℝ) : EReal) := by
  have hN : t.val < 32 := t.isLt
  blk_simp [iblk, V]
  rw [h5]
  congr 2 <;> blk_simp [idx5] <;> first | rfl | omega

/-- A column of the transposed mixing matrix against the gate's gradient. -/
theorem dvn_sum {T q k g : ℕ} (hq : q < 128) (hk : k / 128 = g) :
    ∑ x : Fin 128, Scalar.select (IntOp.cmpi .sge (BitVec.ofNat 32 x.val) (BitVec.ofNat 32 q))
      (((W g x.val q : ℝ) : EReal) * (((DY (128 * T + x.val) k : ℝ) : EReal) * ((u P (128 * T + x.val) k : ℝ) : EReal))) (0 : EReal)
      = ((dvn P DY W (128 * T + q) k : ℝ) : EReal) := by
  have e : ∀ x : Fin 128, Scalar.select (IntOp.cmpi .sge (BitVec.ofNat 32 x.val) (BitVec.ofNat 32 q))
      (((W g x.val q : ℝ) : EReal) * (((DY (128 * T + x.val) k : ℝ) : EReal) * ((u P (128 * T + x.val) k : ℝ) : EReal))) (0 : EReal)
      = ((wc W g x.val q * dgate P DY (128 * T + x.val) k : ℝ) : EReal) := fun x => by
    rw [select_tril x.isLt hq, wc]
    split_ifs
    · rw [EReal.coe_mul, dgate, EReal.coe_mul]
    · rw [zero_mul, EReal.coe_zero]
  rw [Finset.sum_congr rfl fun x _ => e x, sum_fin fun s => wc W g s q * dgate P DY (128 * T + s) k, dvn, hk,
    show (128 * T + q) % 128 = q by omega, show (128 * T + q) / 128 = T by omega]

/-- A row of the mixing matrix against the normalized half, with the bias: an entry of the first half of the gradient. -/
theorem du_sum {T q k g : ℕ} (hq : q < 128) (hk : k / 128 = g) (hk' : k < 2048) :
    ((DY (128 * T + q) k : ℝ) : EReal) * (∑ x : Fin 128, Scalar.select (IntOp.cmpi .sge (BitVec.ofNat 32 q) (BitVec.ofNat 32 x.val))
      (((W g q x.val : ℝ) : EReal) * ((vn P G B (128 * T + x.val) k : ℝ) : EReal)) (0 : EReal) + ((BS q g : ℝ) : EReal))
      * ((gd (P (128 * T + q) k) : ℝ) : EReal)
      = ((dpre P DY G B W BS (128 * T + q) k : ℝ) : EReal) := by
  have e : ∀ x : Fin 128, Scalar.select (IntOp.cmpi .sge (BitVec.ofNat 32 q) (BitVec.ofNat 32 x.val))
      (((W g q x.val : ℝ) : EReal) * ((vn P G B (128 * T + x.val) k : ℝ) : EReal)) (0 : EReal)
      = ((wc W g q x.val * vn P G B (128 * T + x.val) k : ℝ) : EReal) := fun x => by
    rw [select_tril hq x.isLt, wc]
    split_ifs
    · rw [EReal.coe_mul]
    · rw [zero_mul, EReal.coe_zero]
  rw [Finset.sum_congr rfl fun x _ => e x, sum_fin fun s => wc W g q s * vn P G B (128 * T + s) k, ← EReal.coe_add, ← EReal.coe_mul,
    ← EReal.coe_mul, dpre, if_pos hk', du, gate, hk,
    show (128 * T + q) % 128 = q by omega, show (128 * T + q) / 128 = T by omega]

set_option maxHeartbeats 2000000 in
include h0 h1 h2 h3 h4 h5 in
theorem out6_A (t : Fin cfg0.N) (h : t.val % 32 = 0) (i : S128x4096.Idx) : ((outsAt0 m c t.val t.isLt).1 i : EReal)
    = ((dpre P DY G B W BS (128 * t.val + (i 0).val) (i 1).val : ℝ) : EReal) := by
  have hN : t.val < 32 := t.isLt
  have hp := blk0 m c h0 t
  have hy := blk1 m c h1 t
  have hg := blk2 m c h2 t
  have hb := blk3 m c h3 t
  have hw := blk4 m c h4 t
  have hs := blk5 m c h5 t
  rw [outsAt0_A m c t h]
  frame_out
  canon_tiles x e using (View.cover_of_tiledBy _ ![128, 128] (by sl_kernel_rfl) i)
  case piece0 =>
    refine (congrArg _ (eq_ix2 (n0 := 128) (n1 := 2048) x)).trans ((pay157_eq (W := W) (DY := DY) hp hg (fun r k => ?_) (x 0) (x 1)).trans ?_)
    · rw [View.readCov_eq_canon']
      obtain ⟨z, hz⟩ : ∃ z : S128x2048.Idx, z = ix2 r k := ⟨_, rfl⟩
      have z0 : (z 0).val = r.val := by rw [hz]; rfl
      have z1 : (z 1).val = k.val := by rw [hz]; rfl
      rw [← hz, ← z0, ← z1]
      canon_tiles y f
      all_goals
        have f0' := ((Nat.zero_add _).trans (Nat.one_mul _)).symm.trans f0
        have f1' := ((Nat.zero_add _).trans (Nat.one_mul _)).symm.trans f1
        pointwise [hp, hy, hw, pay6_eq hp, k0_pay13, k0_pay16]
        refine (dvn_sum (y 0).isLt (by omega)).trans ?_
        exact congrArg Real.toEReal (congrArg₂ _ (congrArg _ f0'.symm) f1'.symm)
    · rw [e0, e1, dpre, if_neg (by omega), Nat.add_sub_cancel_left]
  all_goals
    pointwise [hp, hy, hw, hs, pay10_eq hp hg hb, pay11_eq hp, k0_pay13, k0_pay14, k0_pay15, k0_pay16]
    refine (du_sum (x 0).isLt (by omega) (by omega)).trans ?_
    exact congrArg Real.toEReal (congrArg₂ _ (congrArg _ e0.symm) e1.symm)

set_option maxHeartbeats 2000000 in
include h0 h1 h2 h3 h4 h5 in
theorem out6_B (t : Fin cfg0.N) (h : ¬t.val % 32 = 0) (i : S128x4096.Idx) : ((outsAt0 m c t.val t.isLt).1 i : EReal)
    = ((dpre P DY G B W BS (128 * t.val + (i 0).val) (i 1).val : ℝ) : EReal) := by
  have hN : t.val < 32 := t.isLt
  have hp := blk0 m c h0 t
  have hy := blk1 m c h1 t
  have hg := blk2 m c h2 t
  have hb := blk3 m c h3 t
  have hw := blk4 m c h4 t
  have hs := blk5 m c h5 t
  rw [outsAt0_B m c t h]
  frame_out
  canon_tiles x e using (View.cover_of_tiledBy _ ![128, 128] (by sl_kernel_rfl) i)
  case piece0 =>
    refine (congrArg _ (eq_ix2 (n0 := 128) (n1 := 2048) x)).trans ((pay157_eq (W := W) (DY := DY) hp hg (fun r k => ?_) (x 0) (x 1)).trans ?_)
    · rw [View.readCov_eq_canon']
      obtain ⟨z, hz⟩ : ∃ z : S128x2048.Idx, z = ix2 r k := ⟨_, rfl⟩
      have z0 : (z 0).val = r.val := by rw [hz]; rfl
      have z1 : (z 1).val = k.val := by rw [hz]; rfl
      rw [← hz, ← z0, ← z1]
      canon_tiles y f
      all_goals
        have f0' := ((Nat.zero_add _).trans (Nat.one_mul _)).symm.trans f0
        have f1' := ((Nat.zero_add _).trans (Nat.one_mul _)).symm.trans f1
        pointwise [hp, hy, hw, pay6_eq hp, k0_pay13, k0_pay16]
        refine (dvn_sum (y 0).isLt (by omega)).trans ?_
        exact congrArg Real.toEReal (congrArg₂ _ (congrArg _ f0'.symm) f1'.symm)
    · rw [e0, e1, dpre, if_neg (by omega), Nat.add_sub_cancel_left]
  all_goals
    pointwise [hp, hy, hw, hs, pay10_eq hp hg hb, pay11_eq hp, k0_pay13, k0_pay14, k0_pay15, k0_pay16]
    refine (du_sum (x 0).isLt (by omega) (by omega)).trans ?_
    exact congrArg Real.toEReal (congrArg₂ _ (congrArg _ e0.symm) e1.symm)

include h0 h1 h2 h3 h4 h5 in
theorem out6 (t : Fin cfg0.N) (i : S128x4096.Idx) : ((outsAt0 m c t.val t.isLt).1 i : EReal)
    = ((dpre P DY G B W BS (128 * t.val + (i 0).val) (i 1).val : ℝ) : EReal) := by
  by_cases h : t.val % 32 = 0
  · exact out6_A m c h0 h1 h2 h3 h4 h5 t h i
  · exact out6_B m c h0 h1 h2 h3 h4 h5 t h i
end Cert.KernelIdeal.Sg

end
-- ==== Proof.SgAcc7.lean ====
module

public import proofs.«01_k».proof.Proof.SgVal

@[expose] public section

set_option maxRecDepth 16384

noncomputable section

open Idealize.ShloMosaic Idealize.ShloMosaic.TcCoe Idealize.SL.Sem
open Idealize.ShloMosaic.Pipeline (Dat)

namespace Cert.KernelIdeal.Sg

open Cert.KernelIdeal Cert.KernelIdeal.Gen Cert.Sg

variable {P DY G B : ℕ → ℕ → ℝ} {W : ℕ → ℕ → ℕ → ℝ} {BS : ℕ → ℕ → ℝ}
variable (m : (ℓ : Loc nD τ sig) → Buf (Elt Ideal) ℓ) (c : Dev nD)
variable (h0 : ∀ i : S4096x4096.Idx, m (c.tc.loc main_arg0) i = ((P (i 0).val (i 1).val : ℝ) : EReal))
  (h1 : ∀ i : S4096x2048.Idx, m (c.tc.loc main_arg1) i = ((DY (i 0).val (i 1).val : ℝ) : EReal))
  (h2 : ∀ i : S1x2048.Idx, m (c.tc.loc main_arg2) i = ((G 0 (i 1).val : ℝ) : EReal))
  (h3 : ∀ i : S1x2048.Idx, m (c.tc.loc main_arg3) i = ((B 0 (i 1).val : ℝ) : EReal))
  (h4 : ∀ i : S16x128x128.Idx, m (c.tc.loc main_arg4) i = ((W (i 0).val (i 1).val (i 2).val : ℝ) : EReal))
  (h5 : ∀ i : S128x16.Idx, m (c.tc.loc main_arg5) i = ((BS (i 0).val (i 1).val : ℝ) : EReal))

/-- One chunk's part of the gradient of the mixing matrices. -/
def dwsT (P DY G B : ℕ → ℕ → ℝ) (n g a b : ℕ) : ℝ :=
  if b ≤ a then ∑ c ∈ Finset.range 128, dgate P DY (128 * n + a) (128 * g + c) * vn P G B (128 * n + b) (128 * g + c) else 0

/-- Stores that cover an index hide every earlier store there. -/
theorem canon_hide {S : Shape} {e : EltTy} {Val : EltTy → Type} [∀ e, Nonempty (Val e)] (y : S.Idx) (L' : List (View.Piece Val S e)) :
    ∀ L : List (View.Piece Val S e), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      exact (View.canon_cons_emb p.1 p.2 (L ++ L') x).trans (View.canon_cons_emb p.1 p.2 L x).symm
    · refine (View.canon_cons_of_not_mem p (L ++ L') hm).trans ((canon_hide y L' L ?_).trans (View.canon_cons_of_not_mem p L hm).symm)
      obtain ⟨q, hq, hy⟩ := h
      rcases List.mem_cons.mp hq with rfl | hq
      · exact absurd hy hm
      · exact ⟨q, hq, hy⟩

/-- A rank three index of a mixing array by its coordinates. -/
theorem ix3_of {i : S16x128x128.Idx} {g : Fin 16} {a b : Fin 128} (hg : (i 0).val = g.val) (ha : (i 1).val = a.val) (hb : (i 2).val = b.val) :
    i = ix3 g a b := by
  rw [show g = i 0 from Fin.ext hg.symm, show a = i 1 from Fin.ext ha.symm, show b = i 2 from Fin.ext hb.symm]
  exact eq_ix3 (n0 := 16) (n1 := 128) (n2 := 128) i

theorem dws_sum {T g a b : ℕ} {f : Fin 128 → ℕ} (ha : a < 128) (hb : b < 128) (hf : ∀ x, f x = 128 * g + x.val) :
    Scalar.select (IntOp.cmpi .sge (BitVec.ofNat 32 a) (BitVec.ofNat 32 b))
      (∑ x : Fin 128, ((DY (128 * T + a) (f x) : ℝ) : EReal) * ((u P (128 * T + a) (f x) : ℝ) : EReal) * ((vn P G B (128 * T + b) (f x) : ℝ) : EReal)) (0 : EReal)
      = ((dwsT P DY G B T g a b : ℝ) : EReal) := by
  rw [select_tril ha hb, dwsT]
  split_ifs
  · simp only [hf, ← EReal.coe_mul]
    exact sum_fin fun c => dgate P DY (128 * T + a) (128 * g + c) * vn P G B (128 * T + b) (128 * g + c)
  · rfl

set_option maxHeartbeats 2000000 in
include h0 h1 h2 h3 in
theorem out7_B (t : Fin cfg0.N) (h : ¬t.val % 32 = 0) (i : S16x128x128.Idx) : ((outsAt0 m c t.val t.isLt).2.1 i : EReal)
    = (outsAt0 m c (t.val - 1) (by omega)).2.1 i + ((dwsT P DY G B t.val (i 0).val (i 1).val (i 2).val : ℝ) : EReal) := by
  have hN : t.val < 32 := t.isLt
  have hp := blk0 m c h0 t
  have hy := blk1 m c h1 t
  have hg := blk2 m c h2 t
  have hb := blk3 m c h3 t
  rw [outsAt0_B m c t h]
  frame_out
  canon_tiles x e
  all_goals
    pointwise [hp, hy, pay6_eq hp, pay10_eq hp hg hb, View.ld_apply, k0_pay14, k0_pay16, k0_pay20, k0_pay21]
    refine congrArg₂ _ (congrArg _ (ix3_of (i := i) (by first | omega | (simp; omega)) e1 e2).symm) (Eq.trans (dws_sum (g := (i 0).val) (x 1).isLt (x 2).isLt fun j => ?_) ?_)
    · omega
    · rw [e1, e2]

set_option maxHeartbeats 2000000 in
include h0 h1 h2 h3 in
theorem out7_A (t : Fin cfg0.N) (h : t.val % 32 = 0) (i : S16x128x128.Idx) : ((outsAt0 m c t.val t.isLt).2.1 i : EReal)
    = (0 : EReal) + ((dwsT P DY G B t.val (i 0).val (i 1).val (i 2).val : ℝ) : EReal) := by
  have hN : t.val < 32 := t.isLt
  have hp := blk0 m c h0 t
  have hy := blk1 m c h1 t
  have hg := blk2 m c h2 t
  have hb := blk3 m c h3 t
  rw [outsAt0_A m c t h]
  frame_open
  simp (disch := decide) only [↓ View.readCov_skip, ↓ View.readCov_fill]
  frame_out
  refine (canon_hide i [_] [_, _, _, _, _, _, _, _, _, _, _, _, _, _, _, _] (View.cover_of_tiledBy _ ![1, 128, 128] (by sl_kernel_rfl) i)).trans ?_
  rw [zero_add]
  canon_tiles x e
  all_goals
    pointwise [hp, hy, pay6_eq hp, pay10_eq hp hg hb, View.ld_apply, k0_pay14, k0_pay16, k0_pay20, k0_pay21, k0_pay1]
    refine (Eq.trans (dws_sum (g := (i 0).val) (x 1).isLt (x 2).isLt fun j => ?_) ?_)
    · omega
    · rw [e1, e2]
end Cert.KernelIdeal.Sg

end
-- ==== Proof.SgAcc8.lean ====
module

public import proofs.«01_k».proof.Proof.SgVal

@[expose] public section

set_option maxRecDepth 16384

noncomputable section

open Idealize.ShloMosaic Idealize.ShloMosaic.TcCoe Idealize.SL.Sem
open Idealize.ShloMosaic.Pipeline (Dat)

namespace Cert.KernelIdeal.Sg

open Cert.KernelIdeal Cert.KernelIdeal.Gen Cert.Sg

variable {P DY G B : ℕ → ℕ → ℝ} {W : ℕ → ℕ → ℕ → ℝ} {BS : ℕ → ℕ → ℝ}
variable (m : (ℓ : Loc nD τ sig) → Buf (Elt Ideal) ℓ) (c : Dev nD)
variable (h0 : ∀ i : S4096x4096.Idx, m (c.tc.loc main_arg0) i = ((P (i 0).val (i 1).val : ℝ) : EReal))
  (h1 : ∀ i : S4096x2048.Idx, m (c.tc.loc main_arg1) i = ((DY (i 0).val (i 1).val : ℝ) : EReal))
  (h2 : ∀ i : S1x2048.Idx, m (c.tc.loc main_arg2) i = ((G 0 (i 1).val : ℝ) : EReal))
  (h3 : ∀ i : S1x2048.Idx, m (c.tc.loc main_arg3) i = ((B 0 (i 1).val : ℝ) : EReal))
  (h4 : ∀ i : S16x128x128.Idx, m (c.tc.loc main_arg4) i = ((W (i 0).val (i 1).val (i 2).val : ℝ) : EReal))
  (h5 : ∀ i : S128x16.Idx, m (c.tc.loc main_arg5) i = ((BS (i 0).val (i 1).val : ℝ) : EReal))

theorem sel_self (a : BitVec 32) (x y : EReal) : Scalar.select (IntOp.cmpi .eq a a) x y = x := by
  simp [Scalar.select, IntOp.cmpi]

theorem sel_ne {a b : BitVec 32} (h : a ≠ b) (x y : EReal) : Scalar.select (IntOp.cmpi .eq a b) x y = y := by
  simp [Scalar.select, IntOp.cmpi, beq_eq_false_iff_ne.mpr h]

theorem dbs_sum {r g : ℕ} {f : Fin 128 → ℕ} (hf : ∀ x, f x = 128 * g + x.val) :
    ∑ x : Fin 128, ((DY r (f x) : ℝ) : EReal) * ((u P r (f x) : ℝ) : EReal) = ((∑ x ∈ Finset.range 128, dgate P DY r (128 * g + x) : ℝ) : EReal) := by
  simp only [hf, ← EReal.coe_mul]
  exact sum_fin fun x => dgate P DY r (128 * g + x)

set_option maxHeartbeats 2000000 in
include h0 h1 in
theorem out8_B (t : Fin cfg0.N) (h : ¬t.val % 32 = 0) (i : S128x16.Idx) : ((outsAt0 m c t.val t.isLt).2.2.1 i : EReal)
    = (outsAt0 m c (t.val - 1) (by omega)).2.2.1 i + ((∑ x ∈ Finset.range 128, dgate P DY (128 * t.val + (i 0).val) (128 * (i 1).val + x) : ℝ) : EReal) := by
  have hN : t.val < 32 := t.isLt
  have hp := blk0 m c h0 t
  have hy := blk1 m c h1 t
  have hk : (i 1).val < 16 := (i 1).isLt
  rw [outsAt0_B m c t h]
  frame_out
  rw [eq_ix2 (n0 := 128) (n1 := 16) i]
  pointwise [hp, hy, pay6_eq hp, k0_pay12, k0_pay17, k0_pay18, k0_pay16]
  refine congrArg₂ _ rfl ?_
  generalize (i 1).val = k at hk ⊢
  interval_cases k
  all_goals
    simp (disch := decide) only [sel_ne, sel_self, add_zero, zero_add]
    exact dbs_sum fun x => by omega

set_option maxHeartbeats 2000000 in
include h0 h1 in
theorem out8_A (t : Fin cfg0.N) (h : t.val % 32 = 0) (i : S128x16.Idx) : ((outsAt0 m c t.val t.isLt).2.2.1 i : EReal)
    = (0 : EReal) + ((∑ x ∈ Finset.range 128, dgate P DY (128 * t.val + (i 0).val) (128 * (i 1).val + x) : ℝ) : EReal) := by
  have hN : t.val < 32 := t.isLt
  have hp := blk0 m c h0 t
  have hy := blk1 m c h1 t
  have hk : (i 1).val < 16 := (i 1).isLt
  rw [outsAt0_A m c t h]
  frame_out
  rw [eq_ix2 (n0 := 128) (n1 := 16) i]
  pointwise [hp, hy, pay6_eq hp, k0_pay12, k0_pay17, k0_pay18, k0_pay16, k0_pay2]
  skip
  generalize (i 1).val = k at hk ⊢
  interval_cases k
  all_goals
    simp (disch := decide) only [sel_ne, sel_self, add_zero, zero_add]
    exact dbs_sum fun x => by omega
end Cert.KernelIdeal.Sg

end
-- ==== Proof.SgAcc9.lean ====
module

public import proofs.«01_k».proof.Proof.SgVal

@[expose] public section

set_option maxRecDepth 16384

noncomputable section

open Idealize.ShloMosaic Idealize.ShloMosaic.TcCoe Idealize.SL.Sem
open Idealize.ShloMosaic.Pipeline (Dat)

namespace Cert.KernelIdeal.Sg

open Cert.KernelIdeal Cert.KernelIdeal.Gen Cert.Sg

variable {P DY G B : ℕ → ℕ → ℝ} {W : ℕ → ℕ → ℕ → ℝ} {BS : ℕ → ℕ → ℝ}
variable (m : (ℓ : Loc nD τ sig) → Buf (Elt Ideal) ℓ) (c : Dev nD)
variable (h0 : ∀ i : S4096x4096.Idx, m (c.tc.loc main_arg0) i = ((P (i 0).val (i 1).val : ℝ) : EReal))
  (h1 : ∀ i : S4096x2048.Idx, m (c.tc.loc main_arg1) i = ((DY (i 0).val (i 1).val : ℝ) : EReal))
  (h2 : ∀ i : S1x2048.Idx, m (c.tc.loc main_arg2) i = ((G 0 (i 1).val : ℝ) : EReal))
  (h3 : ∀ i : S1x2048.Idx, m (c.tc.loc main_arg3) i = ((B 0 (i 1).val : ℝ) : EReal))
  (h4 : ∀ i : S16x128x128.Idx, m (c.tc.loc main_arg4) i = ((W (i 0).val (i 1).val (i 2).val : ℝ) : EReal))
  (h5 : ∀ i : S128x16.Idx, m (c.tc.loc main_arg5) i = ((BS (i 0).val (i 1).val : ℝ) : EReal))

set_option maxHeartbeats 2000000 in
include h0 h1 h4 in
theorem out9_B (t : Fin cfg0.N) (h : ¬t.val % 32 = 0) (q : Fin 1) (k : Fin 2048) : ((outsAt0 m c t.val t.isLt).2.2.2.1 (ix2 q k) : EReal)
    = (outsAt0 m c (t.val - 1) (by omega)).2.2.2.1 (ix2 q k) + ((∑ x ∈ Finset.range 128, dvn P DY W (128 * t.val + x) k.val * vh P (128 * t.val + x) k.val : ℝ) : EReal) := by
  have hN : t.val < 32 := t.isLt
  have hp := blk0 m c h0 t
  have hy := blk1 m c h1 t
  have hw := blk4 m c h4 t
  rw [outsAt0_B m c t h]
  frame_out
  pointwise [pay9_eq hp, k0_pay155, k0_pay156]
  refine congrArg₂ _ rfl ?_
  refine (Finset.sum_congr rfl fun x _ => congrArg₂ _ (?_ : _ = ((dvn P DY W (128 * t.val + x.val) k.val : ℝ) : EReal)) rfl).trans ((Finset.sum_congr rfl fun x _ => (EReal.coe_mul _ _).symm).trans (sum_fin fun x => dvn P DY W (128 * t.val + x) k.val * vh P (128 * t.val + x) k.val))
  rw [View.readCov_eq_canon']
  obtain ⟨z, hz⟩ : ∃ z : S128x2048.Idx, z = ix2 x k := ⟨_, rfl⟩
  have z0 : (z 0).val = x.val := by rw [hz]; rfl
  have z1 : (z 1).val = k.val := by rw [hz]; rfl
  rw [← hz, ← z0, ← z1]
  canon_tiles y f
  all_goals
    have f0' := ((Nat.zero_add _).trans (Nat.one_mul _)).symm.trans f0
    have f1' := ((Nat.zero_add _).trans (Nat.one_mul _)).symm.trans f1
    pointwise [hp, hy, hw, pay6_eq hp, k0_pay13, k0_pay16]
    refine (dvn_sum (y 0).isLt (by omega)).trans ?_
    exact congrArg Real.toEReal (congrArg₂ _ (congrArg _ f0'.symm) f1'.symm)

set_option maxHeartbeats 2000000 in
include h0 h1 h4 in
theorem out9_A (t : Fin cfg0.N) (h : t.val % 32 = 0) (q : Fin 1) (k : Fin 2048) : ((outsAt0 m c t.val t.isLt).2.2.2.1 (ix2 q k) : EReal)
    = (0 : EReal) + ((∑ x ∈ Finset.range 128, dvn P DY W (128 * t.val + x) k.val * vh P (128 * t.val + x) k.val : ℝ) : EReal) := by
  have hN : t.val < 32 := t.isLt
  have hp := blk0 m c h0 t
  have hy := blk1 m c h1 t
  have hw := blk4 m c h4 t
  rw [outsAt0_A m c t h]
  frame_out
  pointwise [pay9_eq hp, k0_pay155, k0_pay156, k0_pay3]
  skip
  refine (Finset.sum_congr rfl fun x _ => congrArg₂ _ (?_ : _ = ((dvn P DY W (128 * t.val + x.val) k.val : ℝ) : EReal)) rfl).trans ((Finset.sum_congr rfl fun x _ => (EReal.coe_mul _ _).symm).trans (sum_fin fun x => dvn P DY W (128 * t.val + x) k.val * vh P (128 * t.val + x) k.val))
  rw [View.readCov_eq_canon']
  obtain ⟨z, hz⟩ : ∃ z : S128x2048.Idx, z = ix2 x k := ⟨_, rfl⟩
  have z0 : (z 0).val = x.val := by rw [hz]; rfl
  have z1 : (z 1).val = k.val := by rw [hz]; rfl
  rw [← hz, ← z0, ← z1]
  canon_tiles y f
  all_goals
    have f0' := ((Nat.zero_add _).trans (Nat.one_mul _)).symm.trans f0
    have f1' := ((Nat.zero_add _).trans (Nat.one_mul _)).symm.trans f1
    pointwise [hp, hy, hw, pay6_eq hp, k0_pay13, k0_pay16]
    refine (dvn_sum (y 0).isLt (by omega)).trans ?_
    exact congrArg Real.toEReal (congrArg₂ _ (congrArg _ f0'.symm) f1'.symm)

set_option maxHeartbeats 2000000 in
include h0 h1 h4 in
theorem out10_B (t : Fin cfg0.N) (h : ¬t.val % 32 = 0) (q : Fin 1) (k : Fin 2048) : ((outsAt0 m c t.val t.isLt).2.2.2.2 (ix2 q k) : EReal)
    = (outsAt0 m c (t.val - 1) (by omega)).2.2.2.2 (ix2 q k) + ((∑ x ∈ Finset.range 128, dvn P DY W (128 * t.val + x) k.val : ℝ) : EReal) := by
  have hN : t.val < 32 := t.isLt
  have hp := blk0 m c h0 t
  have hy := blk1 m c h1 t
  have hw := blk4 m c h4 t
  rw [outsAt0_B m c t h]
  frame_out
  pointwise [pay9_eq hp, k0_pay155, k0_pay156]
  refine congrArg₂ _ rfl ?_
  refine (Finset.sum_congr rfl fun x _ => (?_ : _ = ((dvn P DY W (128 * t.val + x.val) k.val : ℝ) : EReal))).trans (sum_fin fun x => dvn P DY W (128 * t.val + x) k.val)
  rw [View.readCov_eq_canon']
  obtain ⟨z, hz⟩ : ∃ z : S128x2048.Idx, z = ix2 x k := ⟨_, rfl⟩
  have z0 : (z 0).val = x.val := by rw [hz]; rfl
  have z1 : (z 1).val = k.val := by rw [hz]; rfl
  rw [← hz, ← z0, ← z1]
  canon_tiles y f
  all_goals
    have f0' := ((Nat.zero_add _).trans (Nat.one_mul _)).symm.trans f0
    have f1' := ((Nat.zero_add _).trans (Nat.one_mul _)).symm.trans f1
    pointwise [hp, hy, hw, pay6_eq hp, k0_pay13, k0_pay16]
    refine (dvn_sum (y 0).isLt (by omega)).trans ?_
    exact congrArg Real.toEReal (congrArg₂ _ (congrArg _ f0'.symm) f1'.symm)

set_option maxHeartbeats 2000000 in
include h0 h1 h4 in
theorem out10_A (t : Fin cfg0.N) (h : t.val % 32 = 0) (q : Fin 1) (k : Fin 2048) : ((outsAt0 m c t.val t.isLt).2.2.2.2 (ix2 q k) : EReal)
    = (0 : EReal) + ((∑ x ∈ Finset.range 128, dvn P DY W (128 * t.val + x) k.val : ℝ) : EReal) := by
  have hN : t.val < 32 := t.isLt
  have hp := blk0 m c h0 t
  have hy := blk1 m c h1 t
  have hw := blk4 m c h4 t
  rw [outsAt0_A m c t h]
  frame_out
  pointwise [pay9_eq hp, k0_pay155, k0_pay156, k0_pay4]
  skip
  refine (Finset.sum_congr rfl fun x _ => (?_ : _ = ((dvn P DY W (128 * t.val + x.val) k.val : ℝ) : EReal))).trans (sum_fin fun x => dvn P DY W (128 * t.val + x) k.val)
  rw [View.readCov_eq_canon']
  obtain ⟨z, hz⟩ : ∃ z : S128x2048.Idx, z = ix2 x k := ⟨_, rfl⟩
  have z0 : (z 0).val = x.val := by rw [hz]; rfl
  have z1 : (z 1).val = k.val := by rw [hz]; rfl
  rw [← hz, ← z0, ← z1]
  canon_tiles y f
  all_goals
    have f0' := ((Nat.zero_add _).trans (Nat.one_mul _)).symm.trans f0
    have f1' := ((Nat.zero_add _).trans (Nat.one_mul _)).symm.trans f1
    pointwise [hp, hy, hw, pay6_eq hp, k0_pay13, k0_pay16]
    refine (dvn_sum (y 0).isLt (by omega)).trans ?_
    exact congrArg Real.toEReal (congrArg₂ _ (congrArg _ f0'.symm) f1'.symm)
end Cert.KernelIdeal.Sg

end
-- ==== Proof.SgArr.lean ====
/- The spatial gate's gradient: the kernel's results as real arrays. -/
module

public import proofs.«01_k».proof.Proof.SgVal
public import proofs.«01_k».proof.Proof.SgAcc7
public import proofs.«01_k».proof.Proof.SgAcc8
public import proofs.«01_k».proof.Proof.SgAcc9

@[expose] public section

set_option maxRecDepth 16384

noncomputable section

open Idealize.ShloMosaic Idealize.ShloMosaic.TcCoe Idealize.SL.Sem
open Idealize.ShloMosaic.Pipeline (Dat)

namespace Cert.KernelIdeal.Sg

open Cert.KernelIdeal Cert.KernelIdeal.Gen Cert.Sg

variable {P DY G B : ℕ → ℕ → ℝ} {W : ℕ → ℕ → ℕ → ℝ} {BS : ℕ → ℕ → ℝ}
variable (m : (ℓ : Loc nD τ sig) → Buf (Elt Ideal) ℓ) (c : Dev nD)
variable (h0 : ∀ i : S4096x4096.Idx, m (c.tc.loc main_arg0) i = ((P (i 0).val (i 1).val : ℝ) : EReal))
  (h1 : ∀ i : S4096x2048.Idx, m (c.tc.loc main_arg1) i = ((DY (i 0).val (i 1).val : ℝ) : EReal))
  (h2 : ∀ i : S1x2048.Idx, m (c.tc.loc main_arg2) i = ((G 0 (i 1).val : ℝ) : EReal))
  (h3 : ∀ i : S1x2048.Idx, m (c.tc.loc main_arg3) i = ((B 0 (i 1).val : ℝ) : EReal))
  (h4 : ∀ i : S16x128x128.Idx, m (c.tc.loc main_arg4) i = ((W (i 0).val (i 1).val (i 2).val : ℝ) : EReal))
  (h5 : ∀ i : S128x16.Idx, m (c.tc.loc main_arg5) i = ((BS (i 0).val (i 1).val : ℝ) : EReal))

include h0 h1 h2 h3 h4 h5 in
/-- The first half of the gradient and the second, the kernel's first result. -/
theorem arr6 : (dats m 0 c).arrAt 6 cfg0.N = fun i : S4096x4096.Idx => ((dpre P DY G B W BS (i 0).val (i 1).val : ℝ) : EReal) := by
  refine (dats m 0 c).arrAt_eq_of_covers 6 _ (by decide +kernel) fun t hf y => ?_
  blk_simp
  rw [after0_6]
  refine (out6 m c h0 h1 h2 h3 h4 h5 t y).trans ?_
  blk_simp [idx6]
  congr 2 <;> omega

/-- One block of rows after another: the 32 points add up to the whole sum. -/
theorem sum_points (f : ℕ → ℝ) (t : ℕ) (ht : t < 32) (h : t % 32 = 31) :
    (0 : EReal) + ∑ k ∈ Finset.range (t % 32 + 1), ((f (32 * (t / 32) + k) : ℝ) : EReal) = ((∑ n ∈ Finset.range 32, f n : ℝ) : EReal) := by
  rw [zero_add, h, Cert.Finite.coe_sum]
  congr 1
  refine Finset.sum_congr rfl fun k _ => ?_
  rw [show 32 * (t / 32) + k = k by omega]

/-- Thirty-two blocks of 128 rows are the 4096 rows. -/
theorem sum_rows (f : ℕ → ℝ) : ∑ n ∈ Finset.range 32, ∑ x ∈ Finset.range 128, f (128 * n + x) = ∑ t ∈ Finset.range 4096, f t := by
  simp only [Nat.mul_comm 128 _]
  exact Finset.sum_range_range_mul_add 32 128 f

include h0 h1 h2 h3 in
theorem out7 (t : Fin cfg0.N) (j : S16x128x128.Idx) :
    ((outsAt0 m c t.val t.isLt).2.1 j : EReal) = 0 + ∑ k ∈ Finset.range (t.val % 32 + 1), ((fun n i => ((dwsT P DY G B n (i 0).val (i 1).val (i 2).val : ℝ) : EReal)) (32 * (t.val / 32) + k) j : EReal) := by
  refine Pipeline.eq_sum_of_reset_step_apply (fun n h => (outsAt0 m c n h).2.1) 32 (fun _ => (0 : EReal)) (fun n i => ((dwsT P DY G B n (i 0).val (i 1).val (i 2).val : ℝ) : EReal)) (fun t h j => ?_) (fun t h j => ?_) t j
  · exact out7_A m c h0 h1 h2 h3 t h j
  · exact out7_B m c h0 h1 h2 h3 t h j

include h0 h1 h2 h3 in
/-- The mixing matrices' gradient, the kernel's second result. -/
theorem arr7 : (dats m 0 c).arrAt 7 cfg0.N = fun i : S16x128x128.Idx => ((dws P DY G B (i 0).val (i 1).val (i 2).val : ℝ) : EReal) := by
  refine (dats m 0 c).arrAt_eq_of_covers 7 _ (by decide +kernel) fun t hf y => ?_
  have ht := (flush0_7 t).mp hf
  blk_simp
  rw [after0_7, out7 m c h0 h1 h2 h3 t]
  blk_simp [idx7]
  refine (sum_points (fun n => dwsT P DY G B n (y 0).val (y 1).val (y 2).val) t.val t.isLt ht).trans ?_
  unfold dws dwsT
  congr 1
  split_ifs
  · rfl
  · exact Finset.sum_const_zero

include h0 h1 in
theorem out8 (t : Fin cfg0.N) (j : S128x16.Idx) :
    ((outsAt0 m c t.val t.isLt).2.2.1 j : EReal) = 0 + ∑ k ∈ Finset.range (t.val % 32 + 1), ((fun n i => ((∑ x ∈ Finset.range 128, dgate P DY (128 * n + (i 0).val) (128 * (i 1).val + x) : ℝ) : EReal)) (32 * (t.val / 32) + k) j : EReal) := by
  refine Pipeline.eq_sum_of_reset_step_apply (fun n h => (outsAt0 m c n h).2.2.1) 32 (fun _ => (0 : EReal)) (fun n i => ((∑ x ∈ Finset.range 128, dgate P DY (128 * n + (i 0).val) (128 * (i 1).val + x) : ℝ) : EReal)) (fun t h j => ?_) (fun t h j => ?_) t j
  · exact out8_A m c h0 h1 t h j
  · exact out8_B m c h0 h1 t h j

include h0 h1 in
/-- The gate's bias's gradient, the kernel's third result. -/
theorem arr8 : (dats m 0 c).arrAt 8 cfg0.N = fun i : S128x16.Idx => ((dbs P DY (i 0).val (i 1).val : ℝ) : EReal) := by
  refine (dats m 0 c).arrAt_eq_of_covers 8 _ (by decide +kernel) fun t hf y => ?_
  have ht := (flush0_8 t).mp hf
  blk_simp
  rw [after0_8, out8 m c h0 h1 t]
  blk_simp [idx8]
  refine (sum_points (fun n => ∑ x ∈ Finset.range 128, dgate P DY (128 * n + (y 0).val) (128 * (y 1).val + x)) t.val t.isLt ht).trans ?_
  rfl

include h0 h1 h4 in
theorem out9 (t : Fin cfg0.N) (j : S1x2048.Idx) :
    ((outsAt0 m c t.val t.isLt).2.2.2.1 j : EReal) = 0 + ∑ k ∈ Finset.range (t.val % 32 + 1), ((fun n i => ((∑ x ∈ Finset.range 128, dvn P DY W (128 * n + x) (i 1).val * vh P (128 * n + x) (i 1).val : ℝ) : EReal)) (32 * (t.val / 32) + k) j : EReal) := by
  refine Pipeline.eq_sum_of_reset_step_apply (fun n h => (outsAt0 m c n h).2.2.2.1) 32 (fun _ => (0 : EReal)) (fun n i => ((∑ x ∈ Finset.range 128, dvn P DY W (128 * n + x) (i 1).val * vh P (128 * n + x) (i 1).val : ℝ) : EReal)) (fun t h j => ?_) (fun t h j => ?_) t j
  · exact (congrArg _ (eq_ix2 (n0 := 1) (n1 := 2048) j)).trans (out9_A m c h0 h1 h4 t h (j 0) (j 1))
  · exact (congrArg _ (eq_ix2 (n0 := 1) (n1 := 2048) j)).trans ((out9_B m c h0 h1 h4 t h (j 0) (j 1)).trans (congrArg (· + _) (congrArg _ (eq_ix2 (n0 := 1) (n1 := 2048) j).symm)))

include h0 h1 h4 in
/-- The norm's scale's gradient, the kernel's fourth result. -/
theorem arr9 : (dats m 0 c).arrAt 9 cfg0.N = fun i : S1x2048.Idx => ((dg P DY W (i 1).val : ℝ) : EReal) := by
  refine (dats m 0 c).arrAt_eq_of_covers 9 _ (by decide +kernel) fun t hf y => ?_
  have ht := (flush0_9 t).mp hf
  blk_simp
  rw [after0_9, out9 m c h0 h1 h4 t]
  blk_simp [idx9]
  refine (sum_points (fun n => ∑ x ∈ Finset.range 128, dvn P DY W (128 * n + x) (y 1).val * vh P (128 * n + x) (y 1).val) t.val t.isLt ht).trans ?_
  refine congrArg Real.toEReal ((sum_rows fun n => dvn P DY W n (y 1).val * vh P n (y 1).val).trans ?_)
  rfl

include h0 h1 h4 in
theorem out10 (t : Fin cfg0.N) (j : S1x2048.Idx) :
    ((outsAt0 m c t.val t.isLt).2.2.2.2 j : EReal) = 0 + ∑ k ∈ Finset.range (t.val % 32 + 1), ((fun n i => ((∑ x ∈ Finset.range 128, dvn P DY W (128 * n + x) (i 1).val : ℝ) : EReal)) (32 * (t.val / 32) + k) j : EReal) := by
  refine Pipeline.eq_sum_of_reset_step_apply (fun n h => (outsAt0 m c n h).2.2.2.2) 32 (fun _ => (0 : EReal)) (fun n i => ((∑ x ∈ Finset.range 128, dvn P DY W (128 * n + x) (i 1).val : ℝ) : EReal)) (fun t h j => ?_) (fun t h j => ?_) t j
  · exact (congrArg _ (eq_ix2 (n0 := 1) (n1 := 2048) j)).trans (out10_A m c h0 h1 h4 t h (j 0) (j 1))
  · exact (congrArg _ (eq_ix2 (n0 := 1) (n1 := 2048) j)).trans ((out10_B m c h0 h1 h4 t h (j 0) (j 1)).trans (congrArg (· + _) (congrArg _ (eq_ix2 (n0 := 1) (n1 := 2048) j).symm)))

include h0 h1 h4 in
/-- The norm's shift's gradient, the kernel's fifth result. -/
theorem arr10 : (dats m 0 c).arrAt 10 cfg0.N = fun i : S1x2048.Idx => ((db P DY W (i 1).val : ℝ) : EReal) := by
  refine (dats m 0 c).arrAt_eq_of_covers 10 _ (by decide +kernel) fun t hf y => ?_
  have ht := (flush0_10 t).mp hf
  blk_simp
  rw [after0_10, out10 m c h0 h1 h4 t]
  blk_simp [idx10]
  refine (sum_points (fun n => ∑ x ∈ Finset.range 128, dvn P DY W (128 * n + x) (y 1).val) t.val t.isLt ht).trans ?_
  refine congrArg Real.toEReal ((sum_rows fun n => dvn P DY W n (y 1).val).trans ?_)
  rfl
end Cert.KernelIdeal.Sg

end
-- ==== Proof.SgRef.lean ====
/- The spatial gate's reference, read stage by stage as the real numbers of the gate's gradient. -/
module

public import proofs.«01_k».proof.Proof.Gen.ReferenceIdeal.Read
public import proofs.«01_k».proof.Proof.SgReal

@[expose] public section

set_option maxRecDepth 16384

noncomputable section

open Idealize.ShloMosaic Idealize.ShloMosaic.TcCoe Idealize.SL.Sem

namespace Cert.ReferenceIdeal.Sg

open Cert.ReferenceIdeal Cert.ReferenceIdeal.Gen Cert.ReferenceIdeal.Read Cert.Sg

variable {P DY G B : ℕ → ℕ → ℝ} {W : ℕ → ℕ → ℕ → ℝ} {BS : ℕ → ℕ → ℝ}
variable {x0 : (⟨S4096x4096, .f32⟩ : BufTy).Contents (Elt Ideal)} {x1 : (⟨S4096x2048, .f32⟩ : BufTy).Contents (Elt Ideal)}
  {x2 x3 : (⟨S1x2048, .f32⟩ : BufTy).Contents (Elt Ideal)} {x4 : (⟨S16x128x128, .f32⟩ : BufTy).Contents (Elt Ideal)}
  {x5 : (⟨S128x16, .f32⟩ : BufTy).Contents (Elt Ideal)}
variable (h0 : ∀ i, x0 i = ((P (i 0).val (i 1).val : ℝ) : EReal)) (h1 : ∀ i, x1 i = ((DY (i 0).val (i 1).val : ℝ) : EReal))
  (h2 : ∀ i, x2 i = ((G 0 (i 1).val : ℝ) : EReal)) (h3 : ∀ i, x3 i = ((B 0 (i 1).val : ℝ) : EReal))
  (h4 : ∀ i, x4 i = ((W (i 0).val (i 1).val (i 2).val : ℝ) : EReal)) (h5 : ∀ i, x5 i = ((BS (i 0).val (i 1).val : ℝ) : EReal))

include h0 in
theorem v1_eq (i : S4096x4096.Idx) : val_main_v1 (F := Ideal) x0 i = ((1 / 2 * P (i 0).val (i 1).val : ℝ) : EReal) := by
  simp only [val_main_v1_apply, val_main_v0_apply, val_main_cst_apply, h0, Ideal.ofBits_def, Cert.Finite.ofBits_half, Ideal.mulf_def,
    ← EReal.coe_mul]

theorem v3_eq (i : S_.Idx) : val_main_v3 (F := Ideal) i = (((Real.sqrt 2)⁻¹ : ℝ) : EReal) := by
  simp only [val_main_v3_apply, val_main_cst_0_apply, Ideal.ofBits_def, Cert.Finite.ofBits_half, Ideal.hostUnary_sqrt_def, Ideal.sqrt_coe]
  rw [if_neg (by norm_num), sqrt_half]

include h0 in
theorem v5_eq (i : S4096x4096.Idx) :
    val_main_v5 (F := Ideal) x0 i = ((-P (i 0).val (i 1).val * (Real.sqrt 2)⁻¹ : ℝ) : EReal) := by
  simp only [val_main_v5_apply, val_main_v2_apply, val_main_v4_apply, v3_eq, h0, Ideal.negf_def, Ideal.hostNegf_def, Ideal.mulf_def, ← EReal.coe_neg,
    ← EReal.coe_mul]

include h0 in
theorem v6_eq (i : S4096x4096.Idx) :
    val_main_v6 (F := Ideal) x0 i = ((1 + rf (P (i 0).val (i 1).val * (Real.sqrt 2)⁻¹) : ℝ) : EReal) := by
  simp only [val_main_v6_apply, v5_eq h0, Ideal.hostUnary_erfc_def]
  rw [neg_mul, EReal.coe_neg, Ideal.erfc_neg, erf_eq, EReal.coe_add, EReal.coe_one]

theorem v10_eq (i : S_.Idx) : val_main_v10 (F := Ideal) i = ((-2 / Real.sqrt (4 * Real.arctan 1) : ℝ) : EReal) := by
  have hp : 0 < 4 * Real.arctan 1 := by rw [Real.arctan_one]; linarith [Real.pi_pos]
  simp only [val_main_v10_apply, val_main_v9_apply, val_main_v8_apply, val_main_v7_apply, val_main_cst_1_apply, val_main_cst_2_apply,
    val_main_cst_3_apply, Ideal.ofBits_def, Cert.Finite.ofBits_one, ofBits_4, ofBits_neg_two, Ideal.hostUnary_sqrt_def, Ideal.mulf_def,
    Ideal.hostDivf_def]
  rw [show FloatOps.hostUnary (F := Ideal) (φ := .f32) .atan ((1 : ℝ) : EReal) = ((Real.arctan 1 : ℝ) : EReal) from rfl, ← EReal.coe_mul, Ideal.sqrt_coe,
    if_neg (not_lt.mpr hp.le), Cert.Finite.div_real _ (Real.sqrt_pos.mpr hp).ne']

include h0 in
theorem v15_eq (i : S4096x4096.Idx) :
    val_main_v15 (F := Ideal) x0 i = ((-2 / Real.sqrt (4 * Real.arctan 1) * Real.exp (-(-P (i 0).val (i 1).val * (Real.sqrt 2)⁻¹)
      * (-P (i 0).val (i 1).val * (Real.sqrt 2)⁻¹)) : ℝ) : EReal) := by
  simp only [val_main_v15_apply, val_main_v14_apply, val_main_v13_apply, val_main_v12_apply, val_main_v11_apply, v10_eq, v5_eq h0,
    Ideal.negf_def, Ideal.hostNegf_def, Ideal.mulf_def, ← EReal.coe_neg, ← EReal.coe_mul]
  rw [show ∀ y : ℝ, FloatOps.hostUnary (F := Ideal) (φ := .f32) .exp (y : EReal) = ((Real.exp y : ℝ) : EReal) from fun _ => rfl, ← EReal.coe_mul]

include h0 in
theorem v16_eq (i : S4096x4096.Idx) : val_main_v16 (F := Ideal) x0 i = ((ge (P (i 0).val (i 1).val) : ℝ) : EReal) := by
  simp only [val_main_v16_apply, v1_eq h0, v6_eq h0, Ideal.mulf_def, ← EReal.coe_mul]
  rfl

include h0 in
theorem v17_eq (i : S4096x2048.Idx) : val_main_v17 (F := Ideal) x0 i = ((u P (i 0).val (i 1).val : ℝ) : EReal) := by
  simp only [val_main_v17_apply, v16_eq h0]
  rfl

include h0 in
theorem v18_eq (i : S4096x2048.Idx) : val_main_v18 (F := Ideal) x0 i = ((v P (i 0).val (i 1).val : ℝ) : EReal) := by
  simp only [val_main_v18_apply, v16_eq h0]
  unfold v
  simp only [Nat.add_comm]

include h0 in
theorem v22_eq (i : S4096x1.Idx) : val_main_v22 (F := Ideal) x0 i = ((mu P (i 0).val : ℝ) : EReal) := by
  simp only [val_main_v22_apply, val_main_v20_apply, val_main_v21_apply, val_main_v19_apply, val_main_cst_4_apply, val_main_cst_5_apply,
    v18_eq h0, Ideal.ofBits_def, ofBits_2048, Ideal.ofBits_zero_f32, zero_add, Ideal.hostDivf_def]
  rw [show _ = _ from sum_fin fun k => v P (i 0).val k, Cert.Finite.div_real _ (by norm_num)]
  rfl

include h0 in
theorem v24_eq (i : S4096x2048.Idx) : val_main_v24 (F := Ideal) x0 i = ((xc P (i 0).val (i 1).val : ℝ) : EReal) := by
  simp only [val_main_v24_apply, val_main_v23_apply, v22_eq h0, v18_eq h0, Ideal.subf_def, ← EReal.coe_sub]
  rfl

include h0 in
theorem v31_eq (i : S4096x1.Idx) : val_main_v31 (F := Ideal) x0 i = ((va P (i 0).val : ℝ) : EReal) := by
  simp only [val_main_v31_apply, val_main_v30_apply, val_main_v29_apply, val_main_v28_apply, val_main_v27_apply, val_main_v26_apply,
    val_main_v25_apply, val_main_cst_6_apply, val_main_cst_7_apply, val_main_cst_8_apply,
    v24_eq h0, Ideal.ofBits_def, ofBits_2048, ofBits_eps, Ideal.ofBits_zero_f32, zero_add, Ideal.hostDivf_def, Ideal.mulf_def,
    Ideal.addf_def, ← EReal.coe_mul]
  rw [show _ = _ from sum_fin fun k => xc P (i 0).val k * xc P (i 0).val k, Cert.Finite.div_real _ (by norm_num), ← EReal.coe_add]
  rfl

include h0 in
theorem v32_eq (i : S4096x1.Idx) : val_main_v32 (F := Ideal) x0 i = ((rs P (i 0).val : ℝ) : EReal) := by
  simp only [val_main_v32_apply, v31_eq h0]
  exact rsqrt_va P _

include h0 in
theorem v35_eq (i : S4096x1.Idx) : val_main_v35 (F := Ideal) x0 i = ((-(1 / 2) * (rs P (i 0).val / va P (i 0).val) : ℝ) : EReal) := by
  simp only [val_main_v35_apply, val_main_v34_apply, val_main_v33_apply, val_main_cst_9_apply, v31_eq h0, v32_eq h0, Ideal.ofBits_def,
    ofBits_neg_half, Ideal.mulf_def, Ideal.hostDivf_def]
  rw [Cert.Finite.div_real _ (va_pos P _).ne', ← EReal.coe_mul]

include h0 in
theorem v37_eq (i : S4096x2048.Idx) : val_main_v37 (F := Ideal) x0 i = ((vh P (i 0).val (i 1).val : ℝ) : EReal) := by
  simp only [val_main_v37_apply, val_main_v36_apply, v24_eq h0, v32_eq h0, Ideal.mulf_def, ← EReal.coe_mul]
  rfl

include h0 h2 h3 in
theorem v41_eq (i : S4096x2048.Idx) : val_main_v41 (F := Ideal) x0 x2 x3 i = ((vn P G B (i 0).val (i 1).val : ℝ) : EReal) := by
  simp only [val_main_v41_apply, val_main_v40_apply, val_main_v39_apply, val_main_v38_apply, v37_eq h0, h2, h3, Ideal.mulf_def,
    Ideal.addf_def, ← EReal.coe_mul, ← EReal.coe_add]
  rfl

include h0 h2 h3 in
theorem v42_eq (i : S32x128x16x128.Idx) : val_main_v42 (F := Ideal) x0 x2 x3 i
    = ((vn P G B (128 * (i 0).val + (i 1).val) (128 * (i 2).val + (i 3).val) : ℝ) : EReal) := by
  have l1 : (i 1).val < 128 := (i 1).isLt
  have l2 : (i 2).val < 16 := (i 2).isLt
  have l3 : (i 3).val < 128 := (i 3).isLt
  simp only [val_main_v42_apply, v41_eq h0 h2 h3]
  rw [show ((((i 0).val * 128 + (i 1).val) * 16 + (i 2).val) * 128 + (i 3).val) / 2048 = 128 * (i 0).val + (i 1).val by omega,
    show ((((i 0).val * 128 + (i 1).val) * 16 + (i 2).val) * 128 + (i 3).val) % 2048 = 128 * (i 2).val + (i 3).val by omega]

theorem v44_eq (i : S128x128.Idx) : val_main_v44 (F := Ideal) i = ((if (i 1).val ≤ (i 0).val then 1 else 0 : ℝ) : EReal) := by
  have l0 : (i 0).val < 128 := (i 0).isLt
  have l1 : (i 1).val < 128 := (i 1).isLt
  pointwise [val_main_v44_apply, val_main_v43_apply, val_main_cst_10_apply, val_main_call0_v4_apply, val_main_call0_v2_apply,
    val_main_call0_v0_apply, val_main_call0_v1_apply, val_main_call0_c_apply, val_main_call0_v3_apply, val_main_call0_v5_apply,
    val_main_call0_cst_apply]
  rw [show IntOp.addi (BitVec.ofNat 32 (i 0).val) 0#32 = BitVec.ofNat 32 (i 0).val from BitVec.add_zero _, select_tril l0 l1]
  split_ifs <;> rfl

include h4 in
theorem v47_eq (i : S16x128x128.Idx) :
    val_main_v47 (F := Ideal) x4 i = ((wc W (i 0).val (i 1).val (i 2).val : ℝ) : EReal) := by
  simp only [val_main_v47_apply, val_main_v46_apply, val_main_v45_apply, v44_eq, h4, Ideal.mulf_def, ← EReal.coe_mul]
  unfold wc
  split_ifs <;> simp

include h0 h2 h3 h4 in
theorem v48_eq (i : S16x32x128x128.Idx) : val_main_v48 (F := Ideal) x0 x2 x3 x4 i
    = ((∑ s ∈ Finset.range 128, wc W (i 0).val (i 3).val s * vn P G B (128 * (i 1).val + s) (128 * (i 0).val + (i 2).val) : ℝ) : EReal) := by
  simp only [val_main_v48_apply, v42_eq h0 h2 h3, v47_eq h4, ← EReal.coe_mul]
  rw [← sum_fin]
  exact Finset.sum_congr rfl fun k _ => by rw [mul_comm]

include h0 h2 h3 h4 h5 in
theorem v54_eq (i : S4096x2048.Idx) :
    val_main_v54 (F := Ideal) x0 x2 x3 x4 x5 i = ((gate P G B W BS (i 0).val (i 1).val : ℝ) : EReal) := by
  have l1 : (i 1).val < 2048 := (i 1).isLt
  simp only [val_main_v54_apply, val_main_v53_apply, val_main_v52_apply, val_main_v51_apply, val_main_v50_apply, val_main_v49_apply,
    v48_eq h0 h2 h3 h4, h5, Ideal.addf_def, ← EReal.coe_add]
  rw [show ((i 0).val * 2048 + (i 1).val) / 262144 = (i 0).val / 128 by omega,
    show ((i 0).val * 2048 + (i 1).val) / 2048 % 128 = (i 0).val % 128 by omega,
    show ((i 0).val * 2048 + (i 1).val) / 128 % 16 = (i 1).val / 128 by omega,
    show ((i 0).val * 2048 + (i 1).val) % 128 = (i 1).val % 128 by omega, Nat.div_add_mod]
  rfl

include h0 h1 in
theorem v56_eq (i : S4096x2048.Idx) : val_main_v56 (F := Ideal) x0 x1 i = ((dgate P DY (i 0).val (i 1).val : ℝ) : EReal) := by
  simp only [val_main_v56_apply, v17_eq h0, h1, Ideal.mulf_def, ← EReal.coe_mul]
  rw [mul_comm]
  rfl

include h0 h1 h2 h3 h4 h5 in
theorem v57_eq (i : S4096x2048.Idx) :
    val_main_v57 (F := Ideal) x0 x1 x2 x3 x4 x5 i = ((du P DY G B W BS (i 0).val (i 1).val : ℝ) : EReal) := by
  simp only [val_main_v57_apply, v54_eq h0 h2 h3 h4 h5, h1, Ideal.mulf_def, ← EReal.coe_mul]
  rfl

include h0 h1 in
theorem v58_eq (i : S32x128x16x128.Idx) : val_main_v58 (F := Ideal) x0 x1 i
    = ((dgate P DY (128 * (i 0).val + (i 1).val) (128 * (i 2).val + (i 3).val) : ℝ) : EReal) := by
  have l1 : (i 1).val < 128 := (i 1).isLt
  have l2 : (i 2).val < 16 := (i 2).isLt
  have l3 : (i 3).val < 128 := (i 3).isLt
  simp only [val_main_v58_apply, v56_eq h0 h1]
  rw [show ((((i 0).val * 128 + (i 1).val) * 16 + (i 2).val) * 128 + (i 3).val) / 2048 = 128 * (i 0).val + (i 1).val by omega,
    show ((((i 0).val * 128 + (i 1).val) * 16 + (i 2).val) * 128 + (i 3).val) % 2048 = 128 * (i 2).val + (i 3).val by omega]

/-- A host sum over the first and the last of four axes, at an index. -/
theorem sum_outer {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (j : (⟨2, ![n1, n2]⟩ : Shape).Idx) :
    Ideal.hostReduceAdd h v init j = init + ∑ a : Fin n0, ∑ b : Fin n3, v (ix4 a ⟨(j 0).val, (j 0).isLt⟩ ⟨(j 1).val, (j 1).isLt⟩ b) := by
  unfold Ideal.hostReduceAdd
  refine congrArg (init + ·) ?_
  refine ((@Finset.sum_filter_eq_sum_of_fiber _ _ _ _ _ _ _ (fun i => h.drop i = j) _
    (fun k : Fin n0 × Fin n3 => ix4 k.1 ⟨(j 0).val, (j 0).isLt⟩ ⟨(j 1).val, (j 1).isLt⟩ k.2)
    (fun _ _ e => Prod.ext (congrFun e 0) (congrFun e 3)) (fun i => ?_) v).trans ?_)
  · constructor
    · intro e
      refine ⟨(i 0, i 3), ?_⟩
      funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext b
      apply Fin.ext
      match b with
      | ⟨0, _⟩ => rfl
      | ⟨1, _⟩ => rfl
  · simp only [Fintype.sum_prod_type]

include h0 h1 in
theorem v59_eq (i : S128x16.Idx) : val_main_v59 (F := Ideal) x0 x1 i = ((dbs P DY (i 0).val (i 1).val : ℝ) : EReal) := by
  unfold val_main_v59
  refine (sum_outer _ _ _ _).trans ?_
  rw [show val_main_cst_11 (F := Ideal) (Shape.Idx.first h_S_) = 0 from Ideal.ofBits_zero_f32, zero_add]
  simp only [v58_eq h0 h1]
  unfold dbs
  rw [← sum_fin (n := 32)]
  exact Finset.sum_congr rfl fun a _ => sum_fin fun c => dgate P DY (128 * a.val + (i 0).val) (128 * (i 1).val + c)

include h0 h1 in
theorem v61_eq (i : S128x16.Idx) : val_main_v61 (F := Ideal) x0 x1 i = ((dbs P DY (i 0).val (i 1).val : ℝ) : EReal) := by
  have l0 : (i 0).val < 128 := (i 0).isLt
  have l1 : (i 1).val < 16 := (i 1).isLt
  unfold val_main_v61
  refine (sum_outer _ _ _ _).trans ?_
  rw [show val_main_cst_12 (F := Ideal) (Shape.Idx.first h_S_) = 0 from Ideal.ofBits_zero_f32, zero_add]
  simp only [val_main_v60_apply, v59_eq h0 h1, Finset.univ_unique, Finset.sum_singleton]
  congr 2
  · show ((((0 * 128 + (i 0).val) * 16 + (i 1).val) * 1 + 0) / 16) = (i 0).val; omega
  · show ((((0 * 128 + (i 0).val) * 16 + (i 1).val) * 1 + 0) % 16) = (i 1).val; omega

include h0 h1 in
theorem v63_eq (i : S128x16.Idx) : val_main_v63 (F := Ideal) x0 x1 i = ((dbs P DY (i 0).val (i 1).val : ℝ) : EReal) := by
  simp only [val_main_v63_apply, val_main_v62_apply, v61_eq h0 h1, val_main_cst_13_apply, Ideal.ofBits_def, Ideal.ofBits_zero_f32,
    zero_add, Finset.univ_unique, Finset.sum_singleton]

include h0 h1 in
theorem v64_eq (i : S16x32x128x128.Idx) : val_main_v64 (F := Ideal) x0 x1 i
    = ((dgate P DY (128 * (i 1).val + (i 3).val) (128 * (i 0).val + (i 2).val) : ℝ) : EReal) := by
  simp only [val_main_v64_apply, v58_eq h0 h1]

include h0 h1 h2 h3 in
theorem v65_eq (i : S16x128x128.Idx) : val_main_v65 (F := Ideal) x0 x1 x2 x3 i
    = ((∑ n ∈ Finset.range 32, ∑ c ∈ Finset.range 128, dgate P DY (128 * n + (i 1).val) (128 * (i 0).val + c)
      * vn P G B (128 * n + (i 2).val) (128 * (i 0).val + c) : ℝ) : EReal) := by
  unfold val_main_v65
  pointwise [v64_eq h0 h1, v42_eq h0 h2 h3]
  simp only [← EReal.coe_mul]
  rw [← sum_fin (n := 32)]
  exact Finset.sum_congr rfl fun n _ => sum_fin fun c => dgate P DY (128 * n.val + (i 1).val) (128 * (i 0).val + c)
    * vn P G B (128 * n.val + (i 2).val) (128 * (i 0).val + c)

include h0 h1 h2 h3 in
theorem v69_eq (i : S16x128x128.Idx) : val_main_v69 (F := Ideal) x0 x1 x2 x3 i
    = ((dws P DY G B (i 0).val (i 1).val (i 2).val : ℝ) : EReal) := by
  simp only [val_main_v69_apply, val_main_v68_apply, val_main_v45_apply, v44_eq, v65_eq h0 h1 h2 h3, Ideal.mulf_def, ← EReal.coe_mul]
  unfold dws
  split_ifs <;> simp

include h0 h1 h4 in
theorem v66_eq (i : S16x32x128x128.Idx) : val_main_v66 (F := Ideal) x0 x1 x4 i
    = ((∑ s ∈ Finset.range 128, wc W (i 0).val s (i 3).val * dgate P DY (128 * (i 1).val + s) (128 * (i 0).val + (i 2).val) : ℝ) : EReal) := by
  simp only [val_main_v66_apply, v64_eq h0 h1, v47_eq h4, ← EReal.coe_mul]
  rw [← sum_fin]
  exact Finset.sum_congr rfl fun k _ => by rw [mul_comm]

include h0 h1 h4 in
theorem v70_eq (i : S4096x2048.Idx) : val_main_v70 (F := Ideal) x0 x1 x4 i = ((dvn P DY W (i 0).val (i 1).val : ℝ) : EReal) := by
  have l1 : (i 1).val < 2048 := (i 1).isLt
  simp only [val_main_v70_apply, val_main_v67_apply, v66_eq h0 h1 h4]
  rw [show ((i 0).val * 2048 + (i 1).val) / 262144 = (i 0).val / 128 by omega,
    show ((i 0).val * 2048 + (i 1).val) / 2048 % 128 = (i 0).val % 128 by omega,
    show ((i 0).val * 2048 + (i 1).val) / 128 % 16 = (i 1).val / 128 by omega,
    show ((i 0).val * 2048 + (i 1).val) % 128 = (i 1).val % 128 by omega, Nat.div_add_mod]
  rfl

include h0 h1 h4 in
theorem v72_eq (i : S1x2048.Idx) : val_main_v72 (F := Ideal) x0 x1 x4 i = ((db P DY W (i 1).val : ℝ) : EReal) := by
  have h : (i 0).val = 0 := by have := (i 0).isLt; simpa using this
  simp only [val_main_v72_apply, val_main_v71_apply, v70_eq h0 h1 h4, val_main_cst_14_apply, Ideal.ofBits_def, Ideal.ofBits_zero_f32,
    zero_add, h, Nat.zero_mul]
  exact sum_fin fun t => dvn P DY W t (i 1).val

include h0 h1 h4 in
theorem v75_eq (i : S1x2048.Idx) : val_main_v75 (F := Ideal) x0 x1 x4 i = ((dg P DY W (i 1).val : ℝ) : EReal) := by
  have h : (i 0).val = 0 := by have := (i 0).isLt; simpa using this
  simp only [val_main_v75_apply, val_main_v74_apply, val_main_v73_apply, v37_eq h0, v70_eq h0 h1 h4, val_main_cst_15_apply, Ideal.ofBits_def,
    Ideal.ofBits_zero_f32, zero_add, h, Nat.zero_mul, Ideal.mulf_def, ← EReal.coe_mul]
  refine (sum_fin fun t => vh P t (i 1).val * dvn P DY W t (i 1).val).trans ?_
  unfold dg
  simp only [mul_comm]

include h0 h1 h2 h4 in
theorem v77_eq (i : S4096x2048.Idx) : val_main_v77 (F := Ideal) x0 x1 x2 x4 i = ((dvh P DY G W (i 0).val (i 1).val : ℝ) : EReal) := by
  simp only [val_main_v77_apply, val_main_v76_apply, v70_eq h0 h1 h4, h2, Ideal.mulf_def, ← EReal.coe_mul]
  rfl

include h0 h1 h2 h4 in
theorem v86_eq (i : S4096.Idx) : val_main_v86 (F := Ideal) x0 x1 x2 x4 i = ((cf P DY G W (i 0).val : ℝ) : EReal) := by
  simp only [val_main_v86_apply, val_main_v85_apply, val_main_v84_apply, val_main_v83_apply, val_main_v80_apply, val_main_v79_apply,
    val_main_v78_apply, v24_eq h0, v77_eq h0 h1 h2 h4, v35_eq h0, val_main_cst_18_apply, val_main_cst_17_apply, val_main_cst_16_apply,
    Ideal.ofBits_def, Ideal.ofBits_zero_f32, ofBits_2048, zero_add, Ideal.mulf_def, ← EReal.coe_mul, Finset.univ_unique,
    Finset.sum_singleton, Ideal.hostDivf_def]
  have hd : ∀ n : ℕ, n * 1 + (default : Fin 1).val = n := fun n => by simp
  simp only [hd]
  rw [show _ = _ from sum_fin fun k => xc P (i 0).val k * dvh P DY G W (i 0).val k, ← EReal.coe_mul, Cert.Finite.div_real _ (by norm_num)]
  rfl

include h0 h1 h2 h4 in
theorem v91_eq (i : S4096x2048.Idx) : val_main_v91 (F := Ideal) x0 x1 x2 x4 i
    = ((dvh P DY G W (i 0).val (i 1).val * rs P (i 0).val + xc P (i 0).val (i 1).val * cf P DY G W (i 0).val
      + cf P DY G W (i 0).val * xc P (i 0).val (i 1).val : ℝ) : EReal) := by
  simp only [val_main_v91_apply, val_main_v90_apply, val_main_v89_apply, val_main_v88_apply, val_main_v87_apply, val_main_v82_apply,
    val_main_v81_apply, v24_eq h0, v77_eq h0 h1 h2 h4, v32_eq h0, v86_eq h0 h1 h2 h4, Ideal.mulf_def, Ideal.addf_def,
    ← EReal.coe_mul, ← EReal.coe_add]

include h0 h1 h2 h4 in
theorem v99_eq (i : S4096x2048.Idx) : val_main_v99 (F := Ideal) x0 x1 x2 x4 i = ((dv P DY G W (i 0).val (i 1).val : ℝ) : EReal) := by
  simp only [val_main_v99_apply, val_main_v98_apply, val_main_v97_apply, val_main_v96_apply, val_main_v95_apply, val_main_v94_apply,
    val_main_v93_apply, val_main_v92_apply, v91_eq h0 h1 h2 h4, val_main_cst_19_apply, val_main_cst_20_apply, val_main_cst_21_apply,
    Ideal.ofBits_def, Ideal.ofBits_zero_f32, ofBits_2048, zero_add, Ideal.negf_def, Ideal.hostNegf_def, ← EReal.coe_neg, Finset.univ_unique,
    Finset.sum_singleton, Ideal.hostDivf_def, Ideal.addf_def]
  have hd : ∀ n : ℕ, n * 1 + (default : Fin 1).val = n := fun n => by simp
  simp only [hd]
  rw [show _ = _ from sum_fin fun k => -(dvh P DY G W (i 0).val k * rs P (i 0).val + xc P (i 0).val k * cf P DY G W (i 0).val
    + cf P DY G W (i 0).val * xc P (i 0).val k), Cert.Finite.div_real _ (by norm_num), ← EReal.coe_add, dv_spelt]

include h0 h1 h2 h3 h4 h5 in
theorem v110_eq (i : S4096x4096.Idx) :
    (val_main_v110 (F := Ideal) x0 x1 x2 x3 x4 x5 i : EReal) = ((dpre P DY G B W BS (i 0).val (i 1).val : ℝ) : EReal) := by
  have e : val_main_v100 (F := Ideal) x0 x1 x2 x3 x4 x5 i = (((if (i 1).val < 2048 then du P DY G B W BS (i 0).val (i 1).val
      else dv P DY G W (i 0).val ((i 1).val - 2048)) : ℝ) : EReal) := by
    unfold val_main_v100
    pointwise [v57_eq h0 h1 h2 h3 h4 h5, v99_eq h0 h1 h2 h4]
    split_ifs <;> first | rfl | omega
  simp only [val_main_v110_apply, val_main_v109_apply, val_main_v108_apply, val_main_v107_apply, val_main_v106_apply, val_main_v105_apply,
    val_main_v104_apply, val_main_v103_apply, val_main_v102_apply, val_main_v101_apply, e, v15_eq h0, v6_eq h0, v1_eq h0, v3_eq,
    val_main_cst_22_apply, Ideal.ofBits_def, Cert.Finite.ofBits_half, Ideal.negf_def, Ideal.hostNegf_def, Ideal.mulf_def, Ideal.addf_def,
    ← EReal.coe_neg, ← EReal.coe_mul, ← EReal.coe_add]
  refine congrArg Real.toEReal ?_
  unfold dpre
  rw [← gd_spelt]
  ring

end Cert.ReferenceIdeal.Sg

end
-- ==== Proof.SgTie.lean ====
/- The spatial gate's gradient: the kernel's results and the reference's are the same real arrays. -/
module

public import proofs.«01_k».proof.Defs
public import proofs.«01_k».proof.Proof.SgArr
public import proofs.«01_k».proof.Proof.SgRef
public import proofs.«01_k».proof.Proof.Gen.ReferenceIdeal.Run

@[expose] public section

set_option maxRecDepth 16384

noncomputable section

open Idealize.ShloMosaic Idealize.ShloMosaic.TcCoe Idealize.SL.Sem

namespace Cert.SgTie

open Cert.Sg Cert.Finite

theorem preFacts : Cert.Pre_sg_finite.Facts where
  bcast_S_S4096x4096 := by decide
  bcast_S_S4096x2048 := by decide
  bcast_S_S1x2048 := by decide
  bcast_S_S16x128x128 := by decide
  bcast_S_S128x16 := by decide

/-- The precondition: all entries of the six arguments are finite. -/
theorem finite_of_pre [Cert.Pre_sg_finite.Facts] {x0 : FVec Ideal Cert.Pre_sg_finite.S4096x4096 .f32} {x1 : FVec Ideal Cert.Pre_sg_finite.S4096x2048 .f32} {x2 : FVec Ideal Cert.Pre_sg_finite.S1x2048 .f32} {x3 : FVec Ideal Cert.Pre_sg_finite.S1x2048 .f32} {x4 : FVec Ideal Cert.Pre_sg_finite.S16x128x128 .f32} {x5 : FVec Ideal Cert.Pre_sg_finite.S128x16 .f32} :
    ((Cert.Pre_sg_finite.fn x0 x1 x2 x3 x4 x5).1 = (fun _ => 1#1) → ∀ i, (x0 i : EReal) ≠ ⊤ ∧ (x0 i : EReal) ≠ ⊥)
    ∧ ((Cert.Pre_sg_finite.fn x0 x1 x2 x3 x4 x5).2.1 = (fun _ => 1#1) → ∀ i, (x1 i : EReal) ≠ ⊤ ∧ (x1 i : EReal) ≠ ⊥)
    ∧ ((Cert.Pre_sg_finite.fn x0 x1 x2 x3 x4 x5).2.2.1 = (fun _ => 1#1) → ∀ i, (x2 i : EReal) ≠ ⊤ ∧ (x2 i : EReal) ≠ ⊥)
    ∧ ((Cert.Pre_sg_finite.fn x0 x1 x2 x3 x4 x5).2.2.2.1 = (fun _ => 1#1) → ∀ i, (x3 i : EReal) ≠ ⊤ ∧ (x3 i : EReal) ≠ ⊥)
    ∧ ((Cert.Pre_sg_finite.fn x0 x1 x2 x3 x4 x5).2.2.2.2.1 = (fun _ => 1#1) → ∀ i, (x4 i : EReal) ≠ ⊤ ∧ (x4 i : EReal) ≠ ⊥)
    ∧ ((Cert.Pre_sg_finite.fn x0 x1 x2 x3 x4 x5).2.2.2.2.2 = (fun _ => 1#1) → ∀ i, (x5 i : EReal) ≠ ⊤ ∧ (x5 i : EReal) ≠ ⊥) :=
  ⟨fun h => finite_of_cmpf (fun _ => rfl) h, fun h => finite_of_cmpf (fun _ => rfl) h, fun h => finite_of_cmpf (fun _ => rfl) h, fun h => finite_of_cmpf (fun _ => rfl) h, fun h => finite_of_cmpf (fun _ => rfl) h, fun h => finite_of_cmpf (fun _ => rfl) h⟩

theorem algebraic : @Cert.algebraic_KernelIdeal_ReferenceIdeal_pre_sg_finite Cert.KernelIdeal.Gen.facts Cert.ReferenceIdeal.Gen.facts preFacts := by
  haveI := preFacts
  intro m g m' g' hpre hagree
  have f0 (c : Dev Cert.KernelIdeal.nD) := finite_of_pre.1 ((hpre c).1)
  have f1 (c : Dev Cert.KernelIdeal.nD) := finite_of_pre.2.1 ((hpre c).2.1)
  have f2 (c : Dev Cert.KernelIdeal.nD) := finite_of_pre.2.2.1 ((hpre c).2.2.1)
  have f3 (c : Dev Cert.KernelIdeal.nD) := finite_of_pre.2.2.2.1 ((hpre c).2.2.2.1)
  have f4 (c : Dev Cert.KernelIdeal.nD) := finite_of_pre.2.2.2.2.1 ((hpre c).2.2.2.2.1)
  have f5 (c : Dev Cert.KernelIdeal.nD) := finite_of_pre.2.2.2.2.2 ((hpre c).2.2.2.2.2)
  have e0 (c : Dev Cert.KernelIdeal.nD) := fun i => eq_ent (n := 4096) (m := 4096) (f0 c) i
  have e1 (c : Dev Cert.KernelIdeal.nD) := fun i => eq_ent (n := 4096) (m := 2048) (f1 c) i
  have e2 (c : Dev Cert.KernelIdeal.nD) (i : Cert.KernelIdeal.S1x2048.Idx) : m (c.tc.loc Cert.KernelIdeal.main_arg2) i
      = ((ent (n := 1) (m := 2048) (m (c.tc.loc Cert.KernelIdeal.main_arg2)) 0 (i 1).val : ℝ) : EReal) :=
    (eq_ent (n := 1) (m := 2048) (f2 c) i).trans (congrArg (fun r => ((ent (n := 1) (m := 2048) (m (c.tc.loc Cert.KernelIdeal.main_arg2)) r (i 1).val : ℝ) : EReal))
      (Nat.lt_one_iff.mp (i 0).isLt))
  have e3 (c : Dev Cert.KernelIdeal.nD) (i : Cert.KernelIdeal.S1x2048.Idx) : m (c.tc.loc Cert.KernelIdeal.main_arg3) i
      = ((ent (n := 1) (m := 2048) (m (c.tc.loc Cert.KernelIdeal.main_arg3)) 0 (i 1).val : ℝ) : EReal) :=
    (eq_ent (n := 1) (m := 2048) (f3 c) i).trans (congrArg (fun r => ((ent (n := 1) (m := 2048) (m (c.tc.loc Cert.KernelIdeal.main_arg3)) r (i 1).val : ℝ) : EReal))
      (Nat.lt_one_iff.mp (i 0).isLt))
  have e4 (c : Dev Cert.KernelIdeal.nD) := fun i => eq_ent3 (k := 16) (n := 128) (m := 128) (f4 c) i
  have e5 (c : Dev Cert.KernelIdeal.nD) := fun i => eq_ent (n := 128) (m := 16) (f5 c) i
  refine ⟨fun c => (Cert.KernelIdeal.Gen.dats m 0 c).arrAt 6 Cert.KernelIdeal.cfg0.N, fun c => (Cert.KernelIdeal.Gen.dats m 0 c).arrAt 7 Cert.KernelIdeal.cfg0.N, fun c => (Cert.KernelIdeal.Gen.dats m 0 c).arrAt 8 Cert.KernelIdeal.cfg0.N, fun c => (Cert.KernelIdeal.Gen.dats m 0 c).arrAt 9 Cert.KernelIdeal.cfg0.N, fun c => (Cert.KernelIdeal.Gen.dats m 0 c).arrAt 10 Cert.KernelIdeal.cfg0.N,
    Cert.KernelIdeal.Value.run_blocks m g, ?_⟩
  refine (θ_run Cert.ReferenceIdeal.defs _ _).mono (fun r h c => ?_) (Cert.ReferenceIdeal.Value.run m' g')
  obtain ⟨r0, r1, r2, r3, r4, rest⟩ := h c
  obtain ⟨a0, a1, a2, a3, a4, a5⟩ := hagree c
  rw [Cert.ReferenceIdeal.Read.val_main_v110_eq, a0, a1, a2, a3, a4, a5] at r0
  rw [Cert.ReferenceIdeal.Read.val_main_v69_eq, a0, a1, a2, a3] at r1
  replace r2 := r2.trans (Cert.ReferenceIdeal.Read.val_main_v63_eq _ _)
  rw [a0, a1] at r2
  rw [Cert.ReferenceIdeal.Read.val_main_v75_eq, a0, a1, a4] at r3
  replace r4 := r4.trans (Cert.ReferenceIdeal.Read.val_main_v72_eq _ _ _)
  rw [a0, a1, a4] at r4
  exact ⟨(r0.trans (funext fun i => Cert.ReferenceIdeal.Sg.v110_eq (e0 c) (e1 c) (e2 c) (e3 c) (e4 c) (e5 c) i)).trans (Cert.KernelIdeal.Sg.arr6 m c (e0 c) (e1 c) (e2 c) (e3 c) (e4 c) (e5 c)).symm,
    (r1.trans (funext fun i => Cert.ReferenceIdeal.Sg.v69_eq (e0 c) (e1 c) (e2 c) (e3 c) i)).trans (Cert.KernelIdeal.Sg.arr7 m c (e0 c) (e1 c) (e2 c) (e3 c)).symm,
    (r2.trans (funext fun i => Cert.ReferenceIdeal.Sg.v63_eq (e0 c) (e1 c) i)).trans (Cert.KernelIdeal.Sg.arr8 m c (e0 c) (e1 c)).symm,
    (r3.trans (funext fun i => Cert.ReferenceIdeal.Sg.v75_eq (e0 c) (e1 c) (e4 c) i)).trans (Cert.KernelIdeal.Sg.arr9 m c (e0 c) (e1 c) (e4 c)).symm,
    (r4.trans (funext fun i => Cert.ReferenceIdeal.Sg.v72_eq (e0 c) (e1 c) (e4 c) i)).trans (Cert.KernelIdeal.Sg.arr10 m c (e0 c) (e1 c) (e4 c)).symm, rest⟩

end Cert.SgTie

end
-- ==== Proof.MmTab.lean ====
/- Arrays of extended reals read through tables indexed by natural numbers. -/
module

public import Idealize.ShloMosaic.Lib.Pointwise
public import Idealize.ShloMosaic.PureOps.Ideal.Laws

@[expose] public section

noncomputable section

namespace Cert.Tab

open Idealize.ShloMosaic

/-- Entry `(r, c)` of a matrix; zero outside the matrix. -/
def tab {n m : ℕ} (x : (⟨2, ![n, m]⟩ : Shape).Idx → EReal) (r c : ℕ) : EReal :=
  if h : r < n ∧ c < m then x (ix2 ⟨r, h.1⟩ ⟨c, h.2⟩) else 0

/-- A matrix, read through its table. -/
theorem eq_tab {n m : ℕ} (x : (⟨2, ![n, m]⟩ : Shape).Idx → EReal)
    (i : (⟨2, ![n, m]⟩ : Shape).Idx) : x i = tab x (i 0).val (i 1).val := by
  have h : (i 0).val < n ∧ (i 1).val < m := ⟨(i 0).isLt, (i 1).isLt⟩
  have e : ix2 (n0 := n) (n1 := m) ⟨(i 0).val, h.1⟩ ⟨(i 1).val, h.2⟩ = i := (eq_ix2 i).symm
  unfold tab
  rw [dif_pos h, e]

/-- Entry `(g, r, c)` of an array of rank three; zero outside the array. -/
def tab3 {k n m : ℕ} (x : (⟨3, ![k, n, m]⟩ : Shape).Idx → EReal) (g r c : ℕ) : EReal :=
  if h : g < k ∧ r < n ∧ c < m then x (ix3 ⟨g, h.1⟩ ⟨r, h.2.1⟩ ⟨c, h.2.2⟩) else 0

/-- An array of rank three, read through its table. -/
theorem eq_tab3 {k n m : ℕ} (x : (⟨3, ![k, n, m]⟩ : Shape).Idx → EReal)
    (i : (⟨3, ![k, n, m]⟩ : Shape).Idx) : x i = tab3 x (i 0).val (i 1).val (i 2).val := by
  have h : (i 0).val < k ∧ (i 1).val < n ∧ (i 2).val < m := ⟨(i 0).isLt, (i 1).isLt, (i 2).isLt⟩
  have e : ix3 (n0 := k) (n1 := n) (n2 := m) ⟨(i 0).val, h.1⟩ ⟨(i 1).val, h.2.1⟩ ⟨(i 2).val, h.2.2⟩ = i := (eq_ix3 i).symm
  unfold tab3
  rw [dif_pos h, e]

/-- Two tables side by side, the first `w` columns wide. -/
def beside (w : ℕ) (A B : ℕ → ℕ → EReal) (r k : ℕ) : EReal := if k < w then A r k else B r (k - w)

theorem beside_lt {w : ℕ} {A B : ℕ → ℕ → EReal} {r k : ℕ} (h : k < w) : beside w A B r k = A r k := if_pos h

theorem beside_ge {w : ℕ} {A B : ℕ → ℕ → EReal} {r k : ℕ} (h : w ≤ k) : beside w A B r k = B r (k - w) := if_neg (by omega)

/-- A sum over runs of the same length, in the order of the runs. -/
theorem sum_runs (f : ℕ → EReal) (b : ℕ) : ∀ n : ℕ, ∑ k ∈ Finset.range (b * n), f k = ∑ s ∈ Finset.range n, ∑ k : Fin b, f (b * s + k.val)
  | 0 => by simp
  | n + 1 => by
    rw [Nat.mul_succ, Finset.sum_range_add, Finset.sum_range_succ, sum_runs f b n, Fin.sum_univ_eq_sum_range (fun k => f (b * n + k)) b]

end Cert.Tab

end
-- ==== Proof.Mm3.lean ====
/- The gradient of the feed-forward block's activations: the cotangent times the transposed last weight matrix. -/
module

public import proofs.«01_k».proof.Defs
public import proofs.«01_k».proof.Proof.MmTab
public import proofs.«01_k».proof.Proof.Gen.Kernel3Ideal.Value
public import proofs.«01_k».proof.Proof.Gen.Reference3Ideal.Read
public import proofs.«01_k».proof.Proof.Gen.Reference3Ideal.Run
public import Idealize.ShloMosaic.Lib.Pipeline.ValueKit
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Reference3Ideal.Mm

open Cert.Reference3Ideal Cert.Reference3Ideal.Read Cert.Tab

theorem ref_eq {A : ℕ → ℕ → EReal} {B : ℕ → ℕ → ℕ → EReal}
    {x0 : S4096x2048.Idx → EReal} {x1 : S4x1408x2048.Idx → EReal}
    (h0 : ∀ i, x0 i = A (i 0).val (i 1).val) (h1 : ∀ i, x1 i = B (i 0).val (i 1).val (i 2).val) (i : S4096x5632.Idx) :
    val_main_v5 (F := Ideal) x0 x1 i = ∑ k : Fin 2048, A (i 0).val k.val * B ((i 1).val / 1408) ((i 1).val % 1408) k.val := by
  pointwise [val_main_v5, val_main_v4, val_main_v3, val_main_v2, val_main_v1, val_main_v0, h0, h1]

end Cert.Reference3Ideal.Mm

namespace Cert.Kernel3Ideal.Mm

open Cert.Kernel3Ideal Cert.Kernel3Ideal.Gen Cert.Tab

theorem idx0 : ∀ t : Fin cfg0.N, win0_0.index t = ![t.val / 11, 0] :=
  (by decide +kernel : ∀ t : Fin grid0.N, win0_0.index t = ![t.val / 11, 0])
theorem idx1 : ∀ t : Fin cfg0.N, win0_1.index t = ![0, t.val % 11, 0] :=
  (by decide +kernel : ∀ t : Fin grid0.N, win0_1.index t = ![0, t.val % 11, 0])
theorem idx2 : ∀ t : Fin cfg0.N, win0_2.index t = ![t.val / 11, t.val % 11] :=
  (by decide +kernel : ∀ t : Fin grid0.N, win0_2.index t = ![t.val / 11, t.val % 11])

theorem pay_eq {A : ℕ → ℕ → EReal} {B : ℕ → ℕ → EReal} {y0 : S2048x2048.Idx → EReal} {y1 : S1x512x2048.Idx → EReal}
    (h0 : ∀ (k : Fin 2048) (j : Fin 2048), y0 (ix2 k j) = A k.val j.val)
    (h1 : ∀ (z : Fin 1) (k : Fin 512) (j : Fin 2048), y1 (ix3 z k j) = B k.val j.val)
    (p : Fin 2048) (q : Fin 512) :
    k0_pay1 (F := Ideal) y0 y1 (ix2 p q) = ∑ k : Fin 2048, A p.val k.val * B q.val k.val := by
  pointwise [k0_pay1, h0, h1]

variable {A : ℕ → ℕ → EReal} {B : ℕ → ℕ → ℕ → EReal}
variable (m : (ℓ : Loc nD τ sig) → Buf (Elt Ideal) ℓ) (c : Dev nD)
variable (h0 : ∀ i : S4096x2048.Idx, m (c.tc.loc main_arg0) i = A (i 0).val (i 1).val)
variable (h1 : ∀ i : S4x1408x2048.Idx, m (c.tc.loc main_arg1) i = B (i 0).val (i 1).val (i 2).val)

include h1 in
theorem V_stack (i : S1x5632x2048.Idx) : V m c main_v0 i = B ((i 1).val / 1408) ((i 1).val % 1408) (i 2).val := by
  entry_read
  pointwise [h1]

include h0 in
theorem blk0 (t : Fin cfg0.N) (r : Fin 2048) (k : Fin 2048) :
    iblk m c 0 t (ix2 r k) = A (2048 * (t.val / 11) + r.val) k.val := by
  have hN : t.val < 22 := t.isLt
  blk_simp [iblk]
  rw [V_main_arg0, h0]
  congr 1 <;> blk_simp [idx0] <;> first | rfl | omega

include h1 in
theorem blk1 (t : Fin cfg0.N) (z : Fin 1) (r : Fin 512) (k : Fin 2048) :
    iblk m c 1 t (ix3 z r k) = B ((512 * (t.val % 11) + r.val) / 1408) ((512 * (t.val % 11) + r.val) % 1408) k.val := by
  have hN : t.val < 22 := t.isLt
  blk_simp [iblk]
  rw [V_stack m c h1]
  congr 1 <;> blk_simp [idx1] <;> first | rfl | omega

include h0 h1 in
theorem pay_at (t : Fin cfg0.N) (y : S2048x512.Idx) : k0_pay1 (F := Ideal) (iblk m c 0 t) (iblk m c 1 t) y
    = ∑ k : Fin 2048, A (2048 * (t.val / 11) + (y 0).val) k.val * B ((512 * (t.val % 11) + (y 1).val) / 1408) ((512 * (t.val % 11) + (y 1).val) % 1408) k.val := by
  obtain ⟨p, q, rfl⟩ : ∃ p q, y = ix2 p q := ⟨_, _, eq_ix2 y⟩
  exact pay_eq (A := fun r k => A (2048 * (t.val / 11) + r) k) (B := fun r k => B ((512 * (t.val % 11) + r) / 1408) ((512 * (t.val % 11) + r) % 1408) k)
    (blk0 m c h0 t) (blk1 m c h1 t) p q

include h0 h1 in
theorem arr : (dats m 0 c).arrAt 2 cfg0.N = fun i : S4096x5632.Idx => ∑ k : Fin 2048, A (i 0).val k.val * B ((i 1).val / 1408) ((i 1).val % 1408) k.val := by
  refine (dats m 0 c).arrAt_eq_of_covers 2 _ (by decide +kernel) fun t hf y => ?_
  have hN : t.val < 22 := t.isLt
  blk_simp
  rw [after0_2]
  unfold out0_2
  frame_out
  have hy0 : (y 0).val < 2048 := (y 0).isLt
  have hy1 : (y 1).val < 512 := (y 1).isLt
  refine (pay_at m c h0 h1 t y).trans ?_
  blk_simp [idx2]
  refine Finset.sum_congr rfl fun k _ => ?_
  congr 2 <;> omega

end Cert.Kernel3Ideal.Mm

namespace Cert.MmTie3

open Cert.Tab

theorem frame_ref : @Cert.quiescent_Reference3Ideal Cert.Reference3Ideal.Gen.facts := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : @Cert.algebraic_Kernel3Ideal_Reference3Ideal Cert.Kernel3Ideal.Gen.facts Cert.Reference3Ideal.Gen.facts := by
  intro m g m' g' _ hagree
  refine ⟨fun c => (Cert.Kernel3Ideal.Gen.dats m 0 c).arrAt 2 Cert.Kernel3Ideal.cfg0.N, Cert.Kernel3Ideal.Value.run_blocks m g, ?_⟩
  refine (θ_run Cert.Reference3Ideal.defs _ _).mono (fun r h c => ?_) (Cert.Reference3Ideal.Value.run m' g')
  obtain ⟨r0, rest⟩ := h c
  obtain ⟨a0, a1⟩ := hagree c
  rw [Cert.Reference3Ideal.Read.val_main_v5_eq, a0, a1] at r0
  exact ⟨r0.trans ((funext fun i => Cert.Reference3Ideal.Mm.ref_eq (fun i => eq_tab _ i) (fun i => eq_tab3 _ i) i).trans
    (Cert.Kernel3Ideal.Mm.arr m c (fun i => eq_tab _ i) (fun i => eq_tab3 _ i)).symm), rest⟩

end Cert.MmTie3

end
-- ==== Proof.Mm4.lean ====
/- The gradient of the feed-forward block's last weight matrix: the product of the transposed activations and the cotangent. -/
module

public import proofs.«01_k».proof.Defs
public import proofs.«01_k».proof.Proof.MmTab
public import proofs.«01_k».proof.Proof.Gen.Kernel4Ideal.Value
public import proofs.«01_k».proof.Proof.Gen.Reference4Ideal.Read
public import proofs.«01_k».proof.Proof.Gen.Reference4Ideal.Run
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Reference4Ideal.Mm

open Cert.Reference4Ideal Cert.Reference4Ideal.Read Cert.Tab

theorem ref_eq {A B : ℕ → ℕ → EReal} {x0 : S4096x5632.Idx → EReal} {x1 : S4096x2048.Idx → EReal}
    (h0 : ∀ i, x0 i = A (i 0).val (i 1).val) (h1 : ∀ i, x1 i = B (i 0).val (i 1).val) (i : S1x5632x2048.Idx) :
    val_main_v7 (F := Ideal) x0 x1 i = ∑ k : Fin 4096, A k.val (i 1).val * B k.val (i 2).val := by
  pointwise [val_main_v7, val_main_v6, val_main_v5, val_main_v4, val_main_v3, val_main_v2, val_main_v1, h0, h1]
  exact Finset.sum_congr rfl fun k _ => mul_comm _ _

end Cert.Reference4Ideal.Mm

namespace Cert.Kernel4Ideal.Mm

open Cert.Kernel4Ideal Cert.Kernel4Ideal.Gen Cert.Tab

theorem idx0 : ∀ t : Fin cfg0.N, win0_0.index t = ![0, t.val / 2] :=
  (by decide +kernel : ∀ t : Fin grid0.N, win0_0.index t = ![0, t.val / 2])
theorem idx1 : ∀ t : Fin cfg0.N, win0_1.index t = ![0, t.val % 2] :=
  (by decide +kernel : ∀ t : Fin grid0.N, win0_1.index t = ![0, t.val % 2])
theorem idx2 : ∀ t : Fin cfg0.N, win0_2.index t = ![0, t.val / 2, t.val % 2] :=
  (by decide +kernel : ∀ t : Fin grid0.N, win0_2.index t = ![0, t.val / 2, t.val % 2])

theorem pay_eq {A B : ℕ → ℕ → EReal} {y0 : S4096x512.Idx → EReal} {y1 : S4096x1024.Idx → EReal}
    (h0 : ∀ k j, y0 (ix2 k j) = A k.val j.val) (h1 : ∀ k j, y1 (ix2 k j) = B k.val j.val)
    (p : Fin 1) (q : Fin 512) (r : Fin 1024) :
    k0_pay1 (F := Ideal) y0 y1 (ix3 p q r) = ∑ k : Fin 4096, A k.val q.val * B k.val r.val := by
  pointwise [k0_pay1, h0, h1]

variable {A B : ℕ → ℕ → EReal}
variable (m : (ℓ : Loc nD τ sig) → Buf (Elt Ideal) ℓ) (c : Dev nD)
variable (h0 : ∀ i : S4096x5632.Idx, m (c.tc.loc main_arg0) i = A (i 0).val (i 1).val)
  (h1 : ∀ i : S4096x2048.Idx, m (c.tc.loc main_arg1) i = B (i 0).val (i 1).val)

include h0 in
theorem blk0 (t : Fin cfg0.N) (r : Fin 4096) (k : Fin 512) :
    iblk m c 0 t (ix2 r k) = A r.val (512 * (t.val / 2) + k.val) := by
  have hN : t.val < 22 := t.isLt
  blk_simp [iblk, V]
  rw [h0]
  congr 1 <;> blk_simp [idx0] <;> first | rfl | omega

include h1 in
theorem blk1 (t : Fin cfg0.N) (r : Fin 4096) (k : Fin 1024) :
    iblk m c 1 t (ix2 r k) = B r.val (1024 * (t.val % 2) + k.val) := by
  have hN : t.val < 22 := t.isLt
  blk_simp [iblk, V]
  rw [h1]
  congr 1 <;> blk_simp [idx1] <;> first | rfl | omega

include h0 h1 in
theorem pay_at (t : Fin cfg0.N) (y : S1x512x1024.Idx) : k0_pay1 (F := Ideal) (iblk m c 0 t) (iblk m c 1 t) y
    = ∑ k : Fin 4096, A k.val (512 * (t.val / 2) + (y 1).val) * B k.val (1024 * (t.val % 2) + (y 2).val) := by
  obtain ⟨p, q, r, rfl⟩ : ∃ p q r, y = ix3 p q r := ⟨_, _, _, eq_ix3 y⟩
  exact pay_eq (A := fun k j => A k (512 * (t.val / 2) + j)) (B := fun k j => B k (1024 * (t.val % 2) + j))
    (blk0 m c h0 t) (blk1 m c h1 t) p q r

include h0 h1 in
theorem arr2 : (dats m 0 c).arrAt 2 cfg0.N = fun i : S1x5632x2048.Idx =>
    ∑ k : Fin 4096, A k.val (i 1).val * B k.val (i 2).val := by
  refine (dats m 0 c).arrAt_eq_of_covers 2 _ (by decide +kernel) fun t hf y => ?_
  blk_simp
  rw [after0_2]
  unfold out0_2
  frame_out
  refine (pay_at m c h0 h1 t y).trans (Finset.sum_congr rfl fun k _ => ?_)
  blk_simp [idx2]
  congr 2 <;> omega

end Cert.Kernel4Ideal.Mm

namespace Cert.MmTie4

open Cert.Tab

theorem frame_ref : @Cert.quiescent_Reference4Ideal Cert.Reference4Ideal.Gen.facts := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : @Cert.algebraic_Kernel4Ideal_Reference4Ideal Cert.Kernel4Ideal.Gen.facts Cert.Reference4Ideal.Gen.facts := by
  intro m g m' g' _ hagree
  refine ⟨fun c => (Cert.Kernel4Ideal.Gen.dats m 0 c).arrAt 2 Cert.Kernel4Ideal.cfg0.N, Cert.Kernel4Ideal.Value.run_blocks m g, ?_⟩
  refine (θ_run Cert.Reference4Ideal.defs _ _).mono (fun r h c => ?_) (Cert.Reference4Ideal.Value.run m' g')
  obtain ⟨r0, rest⟩ := h c
  obtain ⟨a0, a1⟩ := hagree c
  rw [Cert.Reference4Ideal.Read.val_main_v7_eq, a0, a1] at r0
  exact ⟨r0.trans ((funext fun i => Cert.Reference4Ideal.Mm.ref_eq (fun i => eq_tab _ i) (fun i => eq_tab _ i) i).trans
    (Cert.Kernel4Ideal.Mm.arr2 m c (fun i => eq_tab _ i) (fun i => eq_tab _ i)).symm), rest⟩

end Cert.MmTie4

end
-- ==== Proof.Mm5.lean ====
/- The gradient of a last weight matrix: the product of the transposed gated values and the cotangent. -/
module

public import proofs.«01_k».proof.Defs
public import proofs.«01_k».proof.Proof.MmTab
public import proofs.«01_k».proof.Proof.Gen.Kernel5Ideal.Value
public import proofs.«01_k».proof.Proof.Gen.Reference5Ideal.Read
public import proofs.«01_k».proof.Proof.Gen.Reference5Ideal.Run
public import Idealize.ShloMosaic.Lib.Pipeline.ValueKit
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Reference5Ideal.Mm

open Cert.Reference5Ideal Cert.Reference5Ideal.Read Cert.Tab

theorem ref_eq {A : ℕ → ℕ → EReal} {B : ℕ → ℕ → EReal}
    {x0 : S4096x2048.Idx → EReal} {x1 : S4096x2048.Idx → EReal}
    (h0 : ∀ i, x0 i = A (i 0).val (i 1).val) (h1 : ∀ i, x1 i = B (i 0).val (i 1).val) (i : S1x2048x2048.Idx) :
    val_main_v7 (F := Ideal) x0 x1 i = ∑ k : Fin 4096, A k.val (i 1).val * B k.val (i 2).val := by
  pointwise [val_main_v7, val_main_v6, val_main_v5, val_main_v4, val_main_v3, val_main_v2, val_main_v1, val_main_v0, h0, h1]
  exact Finset.sum_congr rfl fun k _ => mul_comm _ _

end Cert.Reference5Ideal.Mm

namespace Cert.Kernel5Ideal.Mm

open Cert.Kernel5Ideal Cert.Kernel5Ideal.Gen Cert.Tab

theorem idx0 : ∀ t : Fin cfg0.N, win0_0.index t = ![0, t.val / 2] :=
  (by decide +kernel : ∀ t : Fin grid0.N, win0_0.index t = ![0, t.val / 2])
theorem idx1 : ∀ t : Fin cfg0.N, win0_1.index t = ![0, t.val % 2] :=
  (by decide +kernel : ∀ t : Fin grid0.N, win0_1.index t = ![0, t.val % 2])
theorem idx2 : ∀ t : Fin cfg0.N, win0_2.index t = ![0, t.val / 2, t.val % 2] :=
  (by decide +kernel : ∀ t : Fin grid0.N, win0_2.index t = ![0, t.val / 2, t.val % 2])

theorem pay_eq {A : ℕ → ℕ → EReal} {B : ℕ → ℕ → EReal} {y0 : S4096x512.Idx → EReal} {y1 : S4096x1024.Idx → EReal}
    (h0 : ∀ (k : Fin 4096) (j : Fin 512), y0 (ix2 k j) = A k.val j.val)
    (h1 : ∀ (k : Fin 4096) (j : Fin 1024), y1 (ix2 k j) = B k.val j.val)
    (p : Fin 1) (q : Fin 512) (r : Fin 1024) :
    k0_pay1 (F := Ideal) y0 y1 (ix3 p q r) = ∑ k : Fin 4096, A k.val q.val * B k.val r.val := by
  pointwise [k0_pay1, h0, h1]

variable {A : ℕ → ℕ → EReal} {B : ℕ → ℕ → EReal}
variable (m : (ℓ : Loc nD τ sig) → Buf (Elt Ideal) ℓ) (c : Dev nD)
variable (h0 : ∀ i : S4096x2048.Idx, m (c.tc.loc main_arg0) i = A (i 0).val (i 1).val)
variable (h1 : ∀ i : S4096x2048.Idx, m (c.tc.loc main_arg1) i = B (i 0).val (i 1).val)

include h0 in
theorem blk0 (t : Fin cfg0.N) (r : Fin 4096) (k : Fin 512) :
    iblk m c 0 t (ix2 r k) = A r.val (512 * (t.val / 2) + k.val) := by
  have hN : t.val < 8 := t.isLt
  blk_simp [iblk, V]
  rw [h0]
  congr 1 <;> blk_simp [idx0] <;> first | rfl | omega

include h1 in
theorem blk1 (t : Fin cfg0.N) (r : Fin 4096) (k : Fin 1024) :
    iblk m c 1 t (ix2 r k) = B r.val (1024 * (t.val % 2) + k.val) := by
  have hN : t.val < 8 := t.isLt
  blk_simp [iblk, V]
  rw [h1]
  congr 1 <;> blk_simp [idx1] <;> first | rfl | omega

include h0 h1 in
theorem pay_at (t : Fin cfg0.N) (y : S1x512x1024.Idx) : k0_pay1 (F := Ideal) (iblk m c 0 t) (iblk m c 1 t) y
    = ∑ k : Fin 4096, A k.val (512 * (t.val / 2) + (y 1).val) * B k.val (1024 * (t.val % 2) + (y 2).val) := by
  obtain ⟨p, q, r, rfl⟩ : ∃ p q r, y = ix3 p q r := ⟨_, _, _, eq_ix3 y⟩
  exact pay_eq (A := fun r k => A r (512 * (t.val / 2) + k)) (B := fun r k => B r (1024 * (t.val % 2) + k))
    (blk0 m c h0 t) (blk1 m c h1 t) p q r

include h0 h1 in
theorem arr : (dats m 0 c).arrAt 2 cfg0.N = fun i : S1x2048x2048.Idx => ∑ k : Fin 4096, A k.val (i 1).val * B k.val (i 2).val := by
  refine (dats m 0 c).arrAt_eq_of_covers 2 _ (by decide +kernel) fun t hf y => ?_
  have hN : t.val < 8 := t.isLt
  blk_simp
  rw [after0_2]
  unfold out0_2
  frame_out
  have hy0 : (y 0).val < 1 := (y 0).isLt
  have hy1 : (y 1).val < 512 := (y 1).isLt
  have hy2 : (y 2).val < 1024 := (y 2).isLt
  refine (pay_at m c h0 h1 t y).trans ?_
  blk_simp [idx2]
  refine Finset.sum_congr rfl fun k _ => ?_
  congr 2 <;> omega

end Cert.Kernel5Ideal.Mm

namespace Cert.MmTie5

open Cert.Tab

theorem frame_ref : @Cert.quiescent_Reference5Ideal Cert.Reference5Ideal.Gen.facts := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic : @Cert.algebraic_Kernel5Ideal_Reference5Ideal Cert.Kernel5Ideal.Gen.facts Cert.Reference5Ideal.Gen.facts := by
  intro m g m' g' _ hagree
  refine ⟨fun c => (Cert.Kernel5Ideal.Gen.dats m 0 c).arrAt 2 Cert.Kernel5Ideal.cfg0.N, Cert.Kernel5Ideal.Value.run_blocks m g, ?_⟩
  refine (θ_run Cert.Reference5Ideal.defs _ _).mono (fun r h c => ?_) (Cert.Reference5Ideal.Value.run m' g')
  obtain ⟨r0, rest⟩ := h c
  obtain ⟨a0, a1⟩ := hagree c
  rw [Cert.Reference5Ideal.Read.val_main_v7_eq, a0, a1] at r0
  exact ⟨r0.trans ((funext fun i => Cert.Reference5Ideal.Mm.ref_eq (fun i => eq_tab _ i) (fun i => eq_tab _ i) i).trans
    (Cert.Kernel5Ideal.Mm.arr m c (fun i => eq_tab _ i) (fun i => eq_tab _ i)).symm), rest⟩

end Cert.MmTie5

end
-- ==== Proof.Mm6.lean ====
/- The gradient of the gated mixer's first weight matrix, in shards of its columns. -/
module

public import proofs.«01_k».proof.Defs
public import proofs.«01_k».proof.Proof.MmTab
public import proofs.«01_k».proof.Proof.Gen.Kernel6Ideal.Value
public import proofs.«01_k».proof.Proof.Gen.Reference6Ideal.Read
public import proofs.«01_k».proof.Proof.Gen.Reference6Ideal.Run
public import Idealize.ShloMosaic.Lib.Pipeline.ValueKit
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Reference6Ideal.Mm

open Cert.Reference6Ideal Cert.Reference6Ideal.Read Cert.Tab

theorem ref_eq {A : ℕ → ℕ → EReal} {B : ℕ → ℕ → EReal}
    {x0 : S4096x2048.Idx → EReal} {x1 : S4096x4096.Idx → EReal}
    (h0 : ∀ i, x0 i = A (i 0).val (i 1).val) (h1 : ∀ i, x1 i = B (i 0).val (i 1).val) (i : S4x2048x1024.Idx) :
    val_main_v9 (F := Ideal) x0 x1 i = ∑ k : Fin 4096, A k.val (i 1).val * B k.val (1024 * (i 0).val + (i 2).val) := by
  pointwise [val_main_v9, val_main_v8, val_main_v7, val_main_v6, val_main_v5, val_main_v4, val_main_v3, val_main_v2, val_main_v1, val_main_v0, h0, h1]
  refine Finset.sum_congr rfl fun k _ => (mul_comm _ _).trans ?_
  congr 2 <;> omega

end Cert.Reference6Ideal.Mm

namespace Cert.Kernel6Ideal.Mm

open Cert.Kernel6Ideal Cert.Kernel6Ideal.Gen Cert.Tab

theorem idx0 : ∀ t : Fin cfg0.N, win0_0.index t = ![0, t.val / 4] :=
  (by decide +kernel : ∀ t : Fin grid0.N, win0_0.index t = ![0, t.val / 4])
theorem idx1 : ∀ t : Fin cfg0.N, win0_1.index t = ![0, t.val % 4] :=
  (by decide +kernel : ∀ t : Fin grid0.N, win0_1.index t = ![0, t.val % 4])
theorem idx2 : ∀ t : Fin cfg0.N, win0_2.index t = ![t.val % 4, t.val / 4, 0] :=
  (by decide +kernel : ∀ t : Fin grid0.N, win0_2.index t = ![t.val % 4, t.val / 4, 0])

theorem pay_eq {A : ℕ → ℕ → EReal} {B : ℕ → ℕ → EReal} {y0 : S4096x512.Idx → EReal} {y1 : S4096x1024.Idx → EReal}
    (h0 : ∀ (k : Fin 4096) (j : Fin 512), y0 (ix2 k j) = A k.val j.val)
    (h1 : ∀ (k : Fin 4096) (j : Fin 1024), y1 (ix2 k j) = B k.val j.val)
    (p : Fin 1) (q : Fin 512) (r : Fin 1024) :
    k0_pay1 (F := Ideal) y0 y1 (ix3 p q r) = ∑ k : Fin 4096, A k.val q.val * B k.val r.val := by
  pointwise [k0_pay1, h0, h1]

variable {A : ℕ → ℕ → EReal} {B : ℕ → ℕ → EReal}
variable (m : (ℓ : Loc nD τ sig) → Buf (Elt Ideal) ℓ) (c : Dev nD)
variable (h0 : ∀ i : S4096x2048.Idx, m (c.tc.loc main_arg0) i = A (i 0).val (i 1).val)
variable (h1 : ∀ i : S4096x4096.Idx, m (c.tc.loc main_arg1) i = B (i 0).val (i 1).val)

include h0 in
theorem blk0 (t : Fin cfg0.N) (r : Fin 4096) (k : Fin 512) :
    iblk m c 0 t (ix2 r k) = A r.val (512 * (t.val / 4) + k.val) := by
  have hN : t.val < 16 := t.isLt
  blk_simp [iblk, V]
  rw [h0]
  congr 1 <;> blk_simp [idx0] <;> first | rfl | omega

include h1 in
theorem blk1 (t : Fin cfg0.N) (r : Fin 4096) (k : Fin 1024) :
    iblk m c 1 t (ix2 r k) = B r.val (1024 * (t.val % 4) + k.val) := by
  have hN : t.val < 16 := t.isLt
  blk_simp [iblk, V]
  rw [h1]
  congr 1 <;> blk_simp [idx1] <;> first | rfl | omega

include h0 h1 in
theorem pay_at (t : Fin cfg0.N) (y : S1x512x1024.Idx) : k0_pay1 (F := Ideal) (iblk m c 0 t) (iblk m c 1 t) y
    = ∑ k : Fin 4096, A k.val (512 * (t.val / 4) + (y 1).val) * B k.val (1024 * (t.val % 4) + (y 2).val) := by
  obtain ⟨p, q, r, rfl⟩ : ∃ p q r, y = ix3 p q r := ⟨_, _, _, eq_ix3 y⟩
  exact pay_eq (A := fun r k => A r (512 * (t.val / 4) + k)) (B := fun r k => B r (1024 * (t.val % 4) + k))
    (blk0 m c h0 t) (blk1 m c h1 t) p q r

include h0 h1 in
theorem arr : (dats m 0 c).arrAt 2 cfg0.N = fun i : S4x2048x1024.Idx => ∑ k : Fin 4096, A k.val (i 1).val * B k.val (1024 * (i 0).val + (i 2).val) := by
  refine (dats m 0 c).arrAt_eq_of_covers 2 _ (by decide +kernel) fun t hf y => ?_
  have hN : t.val < 16 := t.isLt
  blk_simp
  rw [after0_2]
  unfold out0_2
  frame_out
  have hy0 : (y 0).val < 1 := (y 0).isLt
  have hy1 : (y 1).val < 512 := (y 1).isLt
  have hy2 : (y 2).val < 1024 := (y 2).isLt
  refine (pay_at m c h0 h1 t y).trans ?_
  blk_simp [idx2]
  refine Finset.sum_congr rfl fun k _ => ?_
  congr 2 <;> omega

end Cert.Kernel6Ideal.Mm

namespace Cert.MmTie6

open Cert.Tab

theorem frame_ref : @Cert.quiescent_Reference6Ideal Cert.Reference6Ideal.Gen.facts := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : @Cert.algebraic_Kernel6Ideal_Reference6Ideal Cert.Kernel6Ideal.Gen.facts Cert.Reference6Ideal.Gen.facts := by
  intro m g m' g' _ hagree
  refine ⟨fun c => (Cert.Kernel6Ideal.Gen.dats m 0 c).arrAt 2 Cert.Kernel6Ideal.cfg0.N, Cert.Kernel6Ideal.Value.run_blocks m g, ?_⟩
  refine (θ_run Cert.Reference6Ideal.defs _ _).mono (fun r h c => ?_) (Cert.Reference6Ideal.Value.run m' g')
  obtain ⟨r0, rest⟩ := h c
  obtain ⟨a0, a1⟩ := hagree c
  rw [Cert.Reference6Ideal.Read.val_main_v9_eq, a0, a1] at r0
  exact ⟨r0.trans ((funext fun i => Cert.Reference6Ideal.Mm.ref_eq (fun i => eq_tab _ i) (fun i => eq_tab _ i) i).trans
    (Cert.Kernel6Ideal.Mm.arr m c (fun i => eq_tab _ i) (fun i => eq_tab _ i)).symm), rest⟩

end Cert.MmTie6

end
-- ==== Proof.Mm7.lean ====
/- The gradient of the gated mixer's input: the cotangent times the transposed weight matrix in shards of its columns, with the scaled skip connection. -/
module

public import proofs.«01_k».proof.Defs
public import proofs.«01_k».proof.Proof.MmTab
public import proofs.«01_k».proof.Proof.Gen.Kernel7Ideal.Value
public import proofs.«01_k».proof.Proof.Gen.Reference7Ideal.Read
public import proofs.«01_k».proof.Proof.Gen.Reference7Ideal.Run
public import Idealize.ShloMosaic.Lib.Pipeline.ValueKit
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Reference7Ideal.Mm

open Cert.Reference7Ideal Cert.Reference7Ideal.Read Cert.Tab

theorem ref_eq {A : ℕ → ℕ → EReal} {B : ℕ → ℕ → ℕ → EReal} {C : ℕ → ℕ → EReal}
    {x0 : S4096x4096.Idx → EReal} {x1 : S4x2048x1024.Idx → EReal} {x2 : S4096x2048.Idx → EReal}
    (h0 : ∀ i, x0 i = A (i 0).val (i 1).val) (h1 : ∀ i, x1 i = B (i 0).val (i 1).val (i 2).val) (h2 : ∀ i, x2 i = C (i 0).val (i 1).val)
    (i : S4096x2048.Idx) :
    val_main_v11 (F := Ideal) x0 x1 x2 i = (∑ k : Fin 4096, A (i 0).val k.val * B (k.val / 1024) (i 1).val (k.val % 1024))
      + Ideal.ofBits .f32 0x3FB504F3#32 * C (i 0).val (i 1).val := by
  pointwise [val_main_v11, val_main_v10, val_main_v9, val_main_v8, val_main_v7, val_main_v6, val_main_v5, val_main_v4, val_main_v3, val_main_v2, val_main_v1, val_main_cst_1, h0, h1, h2]

end Cert.Reference7Ideal.Mm

namespace Cert.Kernel7Ideal.Mm

open Cert.Kernel7Ideal Cert.Kernel7Ideal.Gen Cert.Tab

theorem idx0 : ∀ t : Fin cfg0.N, win0_0.index t = ![t.val / 16, t.val % 4] :=
  (by decide +kernel : ∀ t : Fin grid0.N, win0_0.index t = ![t.val / 16, t.val % 4])
theorem idx1 : ∀ t : Fin cfg0.N, win0_1.index t = ![t.val % 4, t.val / 4 % 4, 0] :=
  (by decide +kernel : ∀ t : Fin grid0.N, win0_1.index t = ![t.val % 4, t.val / 4 % 4, 0])
theorem idx2 : ∀ t : Fin cfg0.N, win0_2.index t = ![t.val / 16, t.val / 4 % 4] :=
  (by decide +kernel : ∀ t : Fin grid0.N, win0_2.index t = ![t.val / 16, t.val / 4 % 4])
theorem idx3 : ∀ t : Fin cfg0.N, win0_3.index t = ![t.val / 16, t.val / 4 % 4] :=
  (by decide +kernel : ∀ t : Fin grid0.N, win0_3.index t = ![t.val / 16, t.val / 4 % 4])

variable {A : ℕ → ℕ → EReal} {B : ℕ → ℕ → ℕ → EReal} {C : ℕ → ℕ → EReal}
variable (m : (ℓ : Loc nD τ sig) → Buf (Elt Ideal) ℓ) (c : Dev nD)
variable (h0 : ∀ i : S4096x4096.Idx, m (c.tc.loc main_arg0) i = A (i 0).val (i 1).val)
variable (h1 : ∀ i : S4x2048x1024.Idx, m (c.tc.loc main_arg1) i = B (i 0).val (i 1).val (i 2).val)
variable (h2 : ∀ i : S4096x2048.Idx, m (c.tc.loc main_arg2) i = C (i 0).val (i 1).val)

include h0 in
theorem blk0 (t : Fin cfg0.N) (r : Fin 2048) (k : Fin 1024) :
    iblk m c 0 t (ix2 r k) = A (2048 * (t.val / 16) + r.val) (1024 * (t.val % 4) + k.val) := by
  have hN : t.val < 32 := t.isLt
  blk_simp [iblk, V]
  rw [h0]
  congr 1 <;> blk_simp [idx0] <;> first | rfl | omega

include h1 in
theorem blk1 (t : Fin cfg0.N) (z : Fin 1) (r : Fin 512) (k : Fin 1024) :
    iblk m c 1 t (ix3 z r k) = B (t.val % 4) (512 * (t.val / 4 % 4) + r.val) k.val := by
  have hN : t.val < 32 := t.isLt
  blk_simp [iblk, V]
  rw [h1]
  congr 1 <;> blk_simp [idx1] <;> first | rfl | omega

include h2 in
theorem blk2 (t : Fin cfg0.N) (r : Fin 2048) (k : Fin 512) :
    iblk m c 2 t (ix2 r k) = C (2048 * (t.val / 16) + r.val) (512 * (t.val / 4 % 4) + k.val) := by
  have hN : t.val < 32 := t.isLt
  blk_simp [iblk, V]
  rw [h2]
  congr 1 <;> blk_simp [idx2] <;> first | rfl | omega

/-- What a point adds to the accumulator. -/
def add (A : ℕ → ℕ → EReal) (B : ℕ → ℕ → ℕ → EReal) (n r q : ℕ) : EReal :=
  ∑ k : Fin 1024, A (2048 * (n / 16) + r) (1024 * (n % 4) + k.val) * B (n % 4) (512 * (n / 4 % 4) + q) k.val

include h0 h1 in
theorem acc_A (t : Fin cfg0.N) (h : t.val % 4 = 0) (i : S2048x512.Idx) : ((outsAt0 m c t.val t.isLt).2 i : EReal)
    = add A B t.val (i 0).val (i 1).val := by
  have hp := blk0 m c h0 t
  have hy := blk1 m c h1 t
  rw [outsAt0_A m c t h (by omega)]
  frame_out
  obtain ⟨r, q, rfl⟩ : ∃ r q, i = ix2 r q := ⟨_, _, eq_ix2 i⟩
  pointwise [hp, hy, k0_pay1, k0_pay2]
  rfl

include h0 h1 in
theorem acc_S (t : Fin cfg0.N) (h : ¬t.val % 4 = 0) (i : S2048x512.Idx) : ((outsAt0 m c t.val t.isLt).2 i : EReal)
    = (outsAt0 m c (t.val - 1) (by omega)).2 i + add A B t.val (i 0).val (i 1).val := by
  have hp := blk0 m c h0 t
  have hy := blk1 m c h1 t
  obtain ⟨r, q, rfl⟩ : ∃ r q, i = ix2 r q := ⟨_, _, eq_ix2 i⟩
  by_cases h3 : t.val % 4 = 3
  · rw [outsAt0_C m c t h h3]
    frame_out
    pointwise [hp, hy, k0_pay2]
    exact congrArg₂ _ (congrFun (Memref.IsWhole.read_unread (Memref.isWhole_whole cc0_scratch0) _) _) rfl
  · rw [outsAt0_B m c t h h3]
    frame_out
    pointwise [hp, hy, k0_pay2]
    exact congrArg₂ _ (congrFun (Memref.IsWhole.read_unread (Memref.isWhole_whole cc0_scratch0) _) _) rfl

include h0 h1 h2 in
theorem out_C (t : Fin cfg0.N) (h3 : t.val % 4 = 3) (i : S2048x512.Idx) : ((outsAt0 m c t.val t.isLt).1 i : EReal)
    = (outsAt0 m c t.val t.isLt).2 i + Ideal.ofBits .f32 0x3FB504F3#32 * C (2048 * (t.val / 16) + (i 0).val) (512 * (t.val / 4 % 4) + (i 1).val) := by
  have hp := blk0 m c h0 t
  have hy := blk1 m c h1 t
  have hr := blk2 m c h2 t
  obtain ⟨r, q, rfl⟩ : ∃ r q, i = ix2 r q := ⟨_, _, eq_ix2 i⟩
  rw [outsAt0_C m c t (by omega) h3]
  frame_out
  pointwise [hp, hy, hr, k0_pay3]

/-- A sum over four runs of 1024. -/
theorem sum_runs (f : ℕ → EReal) : ∑ k : Fin 4096, f k.val = ∑ s ∈ Finset.range 4, ∑ k : Fin 1024, f (1024 * s + k.val) := by
  have e (n : ℕ) : ∑ k : Fin 1024, f (n + k.val) = ∑ k ∈ Finset.range 1024, f (n + k) := Fin.sum_univ_eq_sum_range (fun k => f (n + k)) 1024
  rw [Fin.sum_univ_eq_sum_range f 4096, show 4096 = 1024 + 1024 + 1024 + 1024 from rfl, Finset.sum_range_add, Finset.sum_range_add, Finset.sum_range_add]
  simp only [Finset.sum_range_succ, Finset.sum_range_zero, zero_add, e, Nat.mul_zero, Nat.mul_one, Nat.reduceMul, Nat.reduceAdd]

include h0 h1 in
theorem acc_eq (t : Fin cfg0.N) (h3 : t.val % 4 = 3) (i : S2048x512.Idx) : ((outsAt0 m c t.val t.isLt).2 i : EReal)
    = ∑ k : Fin 4096, A (2048 * (t.val / 16) + (i 0).val) k.val * B (k.val / 1024) (512 * (t.val / 4 % 4) + (i 1).val) (k.val % 1024) := by
  have hN : t.val < 32 := t.isLt
  refine (Pipeline.eq_sum_of_reset_step_apply_of_mod (fun n h => (outsAt0 m c n h).2) 4 (fun _ => (0 : EReal))
    (fun n i => add A B n (i 0).val (i 1).val) (fun t h j => (acc_A m c h0 h1 t h j).trans (zero_add _).symm) (fun t h j => acc_S m c h0 h1 t h j) t h3 i).trans ?_
  rw [zero_add, sum_runs fun k => A (2048 * (t.val / 16) + (i 0).val) k * B (k / 1024) (512 * (t.val / 4 % 4) + (i 1).val) (k % 1024)]
  refine Finset.sum_congr rfl fun s hs => Finset.sum_congr rfl fun k _ => ?_
  have hs := Finset.mem_range.mp hs
  have hk := k.isLt
  congr 2 <;> omega

include h0 h1 h2 in
theorem arr : (dats m 0 c).arrAt 3 cfg0.N = fun i : S4096x2048.Idx =>
    (∑ k : Fin 4096, A (i 0).val k.val * B (k.val / 1024) (i 1).val (k.val % 1024)) + Ideal.ofBits .f32 0x3FB504F3#32 * C (i 0).val (i 1).val := by
  refine (dats m 0 c).arrAt_eq_of_covers 3 _ (by decide +kernel) fun t hf y => ?_
  have ht := (flush0_3 t).mp hf
  have hN : t.val < 32 := t.isLt
  blk_simp
  rw [after0_3, out_C m c h0 h1 h2 t ht, acc_eq m c h0 h1 t ht]
  blk_simp [idx3]
  congr 1
  · refine Finset.sum_congr rfl fun k _ => ?_
    congr 2 <;> omega
  · congr 2 <;> omega
end Cert.Kernel7Ideal.Mm

namespace Cert.MmTie7

open Cert.Tab

theorem frame_ref : @Cert.quiescent_Reference7Ideal Cert.Reference7Ideal.Gen.facts := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : @Cert.algebraic_Kernel7Ideal_Reference7Ideal Cert.Kernel7Ideal.Gen.facts Cert.Reference7Ideal.Gen.facts := by
  intro m g m' g' _ hagree
  refine ⟨fun c => (Cert.Kernel7Ideal.Gen.dats m 0 c).arrAt 3 Cert.Kernel7Ideal.cfg0.N, Cert.Kernel7Ideal.Value.run_blocks m g, ?_⟩
  refine (θ_run Cert.Reference7Ideal.defs _ _).mono (fun r h c => ?_) (Cert.Reference7Ideal.Value.run m' g')
  obtain ⟨r0, rest⟩ := h c
  obtain ⟨a0, a1, a2⟩ := hagree c
  rw [Cert.Reference7Ideal.Read.val_main_v11_eq, a0, a1, a2] at r0
  exact ⟨r0.trans ((funext fun i => Cert.Reference7Ideal.Mm.ref_eq (fun i => eq_tab _ i) (fun i => eq_tab3 _ i) (fun i => eq_tab _ i) i).trans
    (Cert.Kernel7Ideal.Mm.arr m c (fun i => eq_tab _ i) (fun i => eq_tab3 _ i) (fun i => eq_tab _ i)).symm), rest⟩

end Cert.MmTie7

end
-- ==== Proof.Mm8.lean ====
/- The feed-forward block's first product, the weight matrix in shards of its columns. -/
module

public import proofs.«01_k».proof.Defs
public import proofs.«01_k».proof.Proof.MmTab
public import proofs.«01_k».proof.Proof.Gen.Kernel8Ideal.Value
public import proofs.«01_k».proof.Proof.Gen.Reference8Ideal.Read
public import proofs.«01_k».proof.Proof.Gen.Reference8Ideal.Run
public import Idealize.ShloMosaic.Lib.Pipeline.ValueKit
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Reference8Ideal.Mm

open Cert.Reference8Ideal Cert.Reference8Ideal.Read Cert.Tab

theorem ref_eq {A : ℕ → ℕ → EReal} {B : ℕ → ℕ → ℕ → EReal}
    {x0 : S4096x2048.Idx → EReal} {x1 : S4x2048x2816.Idx → EReal}
    (h0 : ∀ i, x0 i = A (i 0).val (i 1).val) (h1 : ∀ i, x1 i = B (i 0).val (i 1).val (i 2).val) (i : S4096x11264.Idx) :
    val_main_v4 (F := Ideal) x0 x1 i = ∑ k : Fin 2048, A (i 0).val k.val * B ((i 1).val / 2816) k.val ((i 1).val % 2816) := by
  pointwise [val_main_v4, val_main_v3, val_main_v2, val_main_v1, val_main_v0, h0, h1]

end Cert.Reference8Ideal.Mm

namespace Cert.Kernel8Ideal.Mm

open Cert.Kernel8Ideal Cert.Kernel8Ideal.Gen Cert.Tab

theorem idx0 : ∀ t : Fin cfg0.N, win0_0.index t = ![t.val / 8, 0] :=
  (by decide +kernel : ∀ t : Fin grid0.N, win0_0.index t = ![t.val / 8, 0])
theorem idx1 : ∀ t : Fin cfg0.N, win0_1.index t = ![t.val % 8 / 2, 0, t.val % 2] :=
  (by decide +kernel : ∀ t : Fin grid0.N, win0_1.index t = ![t.val % 8 / 2, 0, t.val % 2])
theorem idx2 : ∀ t : Fin cfg0.N, win0_2.index t = ![t.val / 8, t.val % 8] :=
  (by decide +kernel : ∀ t : Fin grid0.N, win0_2.index t = ![t.val / 8, t.val % 8])

theorem pay_eq {A : ℕ → ℕ → EReal} {B : ℕ → ℕ → EReal} {y0 : S1024x2048.Idx → EReal} {y1 : S1x2048x1408.Idx → EReal}
    (h0 : ∀ (k : Fin 1024) (j : Fin 2048), y0 (ix2 k j) = A k.val j.val)
    (h1 : ∀ (z : Fin 1) (k : Fin 2048) (j : Fin 1408), y1 (ix3 z k j) = B k.val j.val)
    (p : Fin 1024) (q : Fin 1408) :
    k0_pay1 (F := Ideal) y0 y1 (ix2 p q) = ∑ k : Fin 2048, A p.val k.val * B k.val q.val := by
  pointwise [k0_pay1, h0, h1]

variable {A : ℕ → ℕ → EReal} {B : ℕ → ℕ → ℕ → EReal}
variable (m : (ℓ : Loc nD τ sig) → Buf (Elt Ideal) ℓ) (c : Dev nD)
variable (h0 : ∀ i : S4096x2048.Idx, m (c.tc.loc main_arg0) i = A (i 0).val (i 1).val)
variable (h1 : ∀ i : S4x2048x2816.Idx, m (c.tc.loc main_arg1) i = B (i 0).val (i 1).val (i 2).val)

include h0 in
theorem blk0 (t : Fin cfg0.N) (r : Fin 1024) (k : Fin 2048) :
    iblk m c 0 t (ix2 r k) = A (1024 * (t.val / 8) + r.val) k.val := by
  have hN : t.val < 32 := t.isLt
  blk_simp [iblk, V]
  rw [h0]
  congr 1 <;> blk_simp [idx0] <;> first | rfl | omega

include h1 in
theorem blk1 (t : Fin cfg0.N) (z : Fin 1) (r : Fin 2048) (k : Fin 1408) :
    iblk m c 1 t (ix3 z r k) = B (t.val % 8 / 2) r.val (1408 * (t.val % 2) + k.val) := by
  have hN : t.val < 32 := t.isLt
  blk_simp [iblk, V]
  rw [h1]
  congr 1 <;> blk_simp [idx1] <;> first | rfl | omega

include h0 h1 in
theorem pay_at (t : Fin cfg0.N) (y : S1024x1408.Idx) : k0_pay1 (F := Ideal) (iblk m c 0 t) (iblk m c 1 t) y
    = ∑ k : Fin 2048, A (1024 * (t.val / 8) + (y 0).val) k.val * B (t.val % 8 / 2) k.val (1408 * (t.val % 2) + (y 1).val) := by
  obtain ⟨p, q, rfl⟩ : ∃ p q, y = ix2 p q := ⟨_, _, eq_ix2 y⟩
  exact pay_eq (A := fun r k => A (1024 * (t.val / 8) + r) k) (B := fun r k => B (t.val % 8 / 2) r (1408 * (t.val % 2) + k))
    (blk0 m c h0 t) (blk1 m c h1 t) p q

include h0 h1 in
theorem arr : (dats m 0 c).arrAt 2 cfg0.N = fun i : S4096x11264.Idx => ∑ k : Fin 2048, A (i 0).val k.val * B ((i 1).val / 2816) k.val ((i 1).val % 2816) := by
  refine (dats m 0 c).arrAt_eq_of_covers 2 _ (by decide +kernel) fun t hf y => ?_
  have hN : t.val < 32 := t.isLt
  blk_simp
  rw [after0_2]
  unfold out0_2
  frame_out
  have hy0 : (y 0).val < 1024 := (y 0).isLt
  have hy1 : (y 1).val < 1408 := (y 1).isLt
  refine (pay_at m c h0 h1 t y).trans ?_
  blk_simp [idx2]
  refine Finset.sum_congr rfl fun k _ => ?_
  congr 2 <;> omega

end Cert.Kernel8Ideal.Mm

namespace Cert.MmTie8

open Cert.Tab

theorem frame_ref : @Cert.quiescent_Reference8Ideal Cert.Reference8Ideal.Gen.facts := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic : @Cert.algebraic_Kernel8Ideal_Reference8Ideal Cert.Kernel8Ideal.Gen.facts Cert.Reference8Ideal.Gen.facts := by
  intro m g m' g' _ hagree
  refine ⟨fun c => (Cert.Kernel8Ideal.Gen.dats m 0 c).arrAt 2 Cert.Kernel8Ideal.cfg0.N, Cert.Kernel8Ideal.Value.run_blocks m g, ?_⟩
  refine (θ_run Cert.Reference8Ideal.defs _ _).mono (fun r h c => ?_) (Cert.Reference8Ideal.Value.run m' g')
  obtain ⟨r0, rest⟩ := h c
  obtain ⟨a0, a1⟩ := hagree c
  rw [Cert.Reference8Ideal.Read.val_main_v4_eq, a0, a1] at r0
  exact ⟨r0.trans ((funext fun i => Cert.Reference8Ideal.Mm.ref_eq (fun i => eq_tab _ i) (fun i => eq_tab3 _ i) i).trans
    (Cert.Kernel8Ideal.Mm.arr m c (fun i => eq_tab _ i) (fun i => eq_tab3 _ i)).symm), rest⟩

end Cert.MmTie8

end
-- ==== Proof.Mm9.lean ====
/- A last product with the scaled skip connection added. -/
module

public import proofs.«01_k».proof.Defs
public import proofs.«01_k».proof.Proof.MmTab
public import proofs.«01_k».proof.Proof.Gen.Kernel9Ideal.Value
public import proofs.«01_k».proof.Proof.Gen.Reference9Ideal.Read
public import proofs.«01_k».proof.Proof.Gen.Reference9Ideal.Run
public import Idealize.ShloMosaic.Lib.Pipeline.ValueKit
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Reference9Ideal.Mm

open Cert.Reference9Ideal Cert.Reference9Ideal.Read Cert.Tab

theorem ref_eq {A : ℕ → ℕ → EReal} {B : ℕ → ℕ → ℕ → EReal} {C : ℕ → ℕ → EReal}
    {x0 : S4096x5632.Idx → EReal} {x1 : S4x1408x2048.Idx → EReal} {x2 : S4096x2048.Idx → EReal}
    (h0 : ∀ i, x0 i = A (i 0).val (i 1).val) (h1 : ∀ i, x1 i = B (i 0).val (i 1).val (i 2).val) (h2 : ∀ i, x2 i = C (i 0).val (i 1).val) (i : S4096x2048.Idx) :
    val_main_v6 (F := Ideal) x0 x1 x2 i = (∑ k : Fin 5632, A (i 0).val k.val * B (k.val / 1408) (k.val % 1408) (i 1).val) + Ideal.ofBits .f32 0x3FB504F3#32 * C (i 0).val (i 1).val := by
  pointwise [val_main_v6, val_main_v5, val_main_v4, val_main_v3, val_main_v2, val_main_v1, val_main_v0, h0, h1, h2]
  exact add_comm _ _

end Cert.Reference9Ideal.Mm

namespace Cert.Kernel9Ideal.Mm

open Cert.Kernel9Ideal Cert.Kernel9Ideal.Gen Cert.Tab

theorem idx0 : ∀ t : Fin cfg0.N, win0_0.index t = ![t.val / 2, 0] :=
  (by decide +kernel : ∀ t : Fin grid0.N, win0_0.index t = ![t.val / 2, 0])
theorem idx1 : ∀ t : Fin cfg0.N, win0_1.index t = ![0, 0, t.val % 2] :=
  (by decide +kernel : ∀ t : Fin grid0.N, win0_1.index t = ![0, 0, t.val % 2])
theorem idx2 : ∀ t : Fin cfg0.N, win0_2.index t = ![t.val / 2, t.val % 2] :=
  (by decide +kernel : ∀ t : Fin grid0.N, win0_2.index t = ![t.val / 2, t.val % 2])
theorem idx3 : ∀ t : Fin cfg0.N, win0_3.index t = ![t.val / 2, t.val % 2] :=
  (by decide +kernel : ∀ t : Fin grid0.N, win0_3.index t = ![t.val / 2, t.val % 2])

theorem pay_eq {A : ℕ → ℕ → EReal} {B : ℕ → ℕ → EReal} {C : ℕ → ℕ → EReal} {y0 : S512x5632.Idx → EReal} {y1 : S1x5632x1024.Idx → EReal} {y2 : S512x1024.Idx → EReal}
    (h0 : ∀ (k : Fin 512) (j : Fin 5632), y0 (ix2 k j) = A k.val j.val)
    (h1 : ∀ (z : Fin 1) (k : Fin 5632) (j : Fin 1024), y1 (ix3 z k j) = B k.val j.val)
    (h2 : ∀ (k : Fin 512) (j : Fin 1024), y2 (ix2 k j) = C k.val j.val)
    (p : Fin 512) (q : Fin 1024) :
    k0_pay1 (F := Ideal) y0 y1 y2 (ix2 p q) = (∑ k : Fin 5632, A p.val k.val * B k.val q.val) + Ideal.ofBits .f32 0x3FB504F3#32 * C p.val q.val := by
  pointwise [k0_pay1, h0, h1, h2]

variable {A : ℕ → ℕ → EReal} {B : ℕ → ℕ → ℕ → EReal} {C : ℕ → ℕ → EReal}
variable (m : (ℓ : Loc nD τ sig) → Buf (Elt Ideal) ℓ) (c : Dev nD)
variable (h0 : ∀ i : S4096x5632.Idx, m (c.tc.loc main_arg0) i = A (i 0).val (i 1).val)
variable (h1 : ∀ i : S4x1408x2048.Idx, m (c.tc.loc main_arg1) i = B (i 0).val (i 1).val (i 2).val)
variable (h2 : ∀ i : S4096x2048.Idx, m (c.tc.loc main_arg2) i = C (i 0).val (i 1).val)

include h1 in
theorem V_stack (i : S1x5632x2048.Idx) : V m c main_v0 i = B ((i 1).val / 1408) ((i 1).val % 1408) (i 2).val := by
  entry_read
  pointwise [h1]

include h0 in
theorem blk0 (t : Fin cfg0.N) (r : Fin 512) (k : Fin 5632) :
    iblk m c 0 t (ix2 r k) = A (512 * (t.val / 2) + r.val) k.val := by
  have hN : t.val < 16 := t.isLt
  blk_simp [iblk]
  rw [V_main_arg0, h0]
  congr 1 <;> blk_simp [idx0] <;> first | rfl | omega

include h1 in
theorem blk1 (t : Fin cfg0.N) (z : Fin 1) (r : Fin 5632) (k : Fin 1024) :
    iblk m c 1 t (ix3 z r k) = B (r.val / 1408) (r.val % 1408) (1024 * (t.val % 2) + k.val) := by
  have hN : t.val < 16 := t.isLt
  blk_simp [iblk]
  rw [V_stack m c h1]
  congr 1 <;> blk_simp [idx1] <;> first | rfl | omega

include h2 in
theorem blk2 (t : Fin cfg0.N) (r : Fin 512) (k : Fin 1024) :
    iblk m c 2 t (ix2 r k) = C (512 * (t.val / 2) + r.val) (1024 * (t.val % 2) + k.val) := by
  have hN : t.val < 16 := t.isLt
  blk_simp [iblk]
  rw [V_main_arg2, h2]
  congr 1 <;> blk_simp [idx2] <;> first | rfl | omega

include h0 h1 h2 in
theorem pay_at (t : Fin cfg0.N) (y : S512x1024.Idx) : k0_pay1 (F := Ideal) (iblk m c 0 t) (iblk m c 1 t) (iblk m c 2 t) y
    = (∑ k : Fin 5632, A (512 * (t.val / 2) + (y 0).val) k.val * B (k.val / 1408) (k.val % 1408) (1024 * (t.val % 2) + (y 1).val)) + Ideal.ofBits .f32 0x3FB504F3#32 * C (512 * (t.val / 2) + (y 0).val) (1024 * (t.val % 2) + (y 1).val) := by
  obtain ⟨p, q, rfl⟩ : ∃ p q, y = ix2 p q := ⟨_, _, eq_ix2 y⟩
  exact pay_eq (A := fun r k => A (512 * (t.val / 2) + r) k) (B := fun r k => B (r / 1408) (r % 1408) (1024 * (t.val % 2) + k)) (C := fun r k => C (512 * (t.val / 2) + r) (1024 * (t.val % 2) + k))
    (blk0 m c h0 t) (blk1 m c h1 t) (blk2 m c h2 t) p q

include h0 h1 h2 in
theorem arr : (dats m 0 c).arrAt 3 cfg0.N = fun i : S4096x2048.Idx => (∑ k : Fin 5632, A (i 0).val k.val * B (k.val / 1408) (k.val % 1408) (i 1).val) + Ideal.ofBits .f32 0x3FB504F3#32 * C (i 0).val (i 1).val := by
  refine (dats m 0 c).arrAt_eq_of_covers 3 _ (by decide +kernel) fun t hf y => ?_
  have hN : t.val < 16 := t.isLt
  blk_simp
  rw [after0_3]
  unfold out0_3
  frame_out
  have hy0 : (y 0).val < 512 := (y 0).isLt
  have hy1 : (y 1).val < 1024 := (y 1).isLt
  refine (pay_at m c h0 h1 h2 t y).trans ?_
  blk_simp [idx3]
  congr 1
  · refine Finset.sum_congr rfl fun k _ => ?_
    congr 2 <;> omega
  · congr 2 <;> omega

end Cert.Kernel9Ideal.Mm

namespace Cert.MmTie9

open Cert.Tab

theorem frame_ref : @Cert.quiescent_Reference9Ideal Cert.Reference9Ideal.Gen.facts := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic : @Cert.algebraic_Kernel9Ideal_Reference9Ideal Cert.Kernel9Ideal.Gen.facts Cert.Reference9Ideal.Gen.facts := by
  intro m g m' g' _ hagree
  refine ⟨fun c => (Cert.Kernel9Ideal.Gen.dats m 0 c).arrAt 3 Cert.Kernel9Ideal.cfg0.N, Cert.Kernel9Ideal.Value.run_blocks m g, ?_⟩
  refine (θ_run Cert.Reference9Ideal.defs _ _).mono (fun r h c => ?_) (Cert.Reference9Ideal.Value.run m' g')
  obtain ⟨r0, rest⟩ := h c
  obtain ⟨a0, a1, a2⟩ := hagree c
  rw [Cert.Reference9Ideal.Read.val_main_v6_eq, a0, a1, a2] at r0
  exact ⟨r0.trans ((funext fun i => Cert.Reference9Ideal.Mm.ref_eq (fun i => eq_tab _ i) (fun i => eq_tab3 _ i) (fun i => eq_tab _ i) i).trans
    (Cert.Kernel9Ideal.Mm.arr m c (fun i => eq_tab _ i) (fun i => eq_tab3 _ i) (fun i => eq_tab _ i)).symm), rest⟩

end Cert.MmTie9

end
-- ==== Proof.Mm10.lean ====
/- A last product with the scaled skip connection added. -/
module

public import proofs.«01_k».proof.Defs
public import proofs.«01_k».proof.Proof.MmTab
public import proofs.«01_k».proof.Proof.Gen.Kernel10Ideal.Value
public import proofs.«01_k».proof.Proof.Gen.Reference10Ideal.Read
public import proofs.«01_k».proof.Proof.Gen.Reference10Ideal.Run
public import Idealize.ShloMosaic.Lib.Pipeline.ValueKit
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Reference10Ideal.Mm

open Cert.Reference10Ideal Cert.Reference10Ideal.Read Cert.Tab

theorem ref_eq {A : ℕ → ℕ → EReal} {B : ℕ → ℕ → ℕ → EReal} {C : ℕ → ℕ → EReal}
    {x0 : S4096x2048.Idx → EReal} {x1 : S4x512x2048.Idx → EReal} {x2 : S4096x2048.Idx → EReal}
    (h0 : ∀ i, x0 i = A (i 0).val (i 1).val) (h1 : ∀ i, x1 i = B (i 0).val (i 1).val (i 2).val) (h2 : ∀ i, x2 i = C (i 0).val (i 1).val) (i : S4096x2048.Idx) :
    val_main_v6 (F := Ideal) x0 x1 x2 i = (∑ k : Fin 2048, A (i 0).val k.val * B (k.val / 512) (k.val % 512) (i 1).val) + Ideal.ofBits .f32 0x3FB504F3#32 * C (i 0).val (i 1).val := by
  pointwise [val_main_v6, val_main_v5, val_main_v4, val_main_v3, val_main_v2, val_main_v1, val_main_v0, h0, h1, h2]
  exact add_comm _ _

end Cert.Reference10Ideal.Mm

namespace Cert.Kernel10Ideal.Mm

open Cert.Kernel10Ideal Cert.Kernel10Ideal.Gen Cert.Tab

theorem idx0 : ∀ t : Fin cfg0.N, win0_0.index t = ![t.val / 2, 0] :=
  (by decide +kernel : ∀ t : Fin grid0.N, win0_0.index t = ![t.val / 2, 0])
theorem idx1 : ∀ t : Fin cfg0.N, win0_1.index t = ![0, 0, t.val % 2] :=
  (by decide +kernel : ∀ t : Fin grid0.N, win0_1.index t = ![0, 0, t.val % 2])
theorem idx2 : ∀ t : Fin cfg0.N, win0_2.index t = ![t.val / 2, t.val % 2] :=
  (by decide +kernel : ∀ t : Fin grid0.N, win0_2.index t = ![t.val / 2, t.val % 2])
theorem idx3 : ∀ t : Fin cfg0.N, win0_3.index t = ![t.val / 2, t.val % 2] :=
  (by decide +kernel : ∀ t : Fin grid0.N, win0_3.index t = ![t.val / 2, t.val % 2])

theorem pay_eq {A : ℕ → ℕ → EReal} {B : ℕ → ℕ → EReal} {C : ℕ → ℕ → EReal} {y0 : S1024x2048.Idx → EReal} {y1 : S1x2048x1024.Idx → EReal} {y2 : S1024x1024.Idx → EReal}
    (h0 : ∀ (k : Fin 1024) (j : Fin 2048), y0 (ix2 k j) = A k.val j.val)
    (h1 : ∀ (z : Fin 1) (k : Fin 2048) (j : Fin 1024), y1 (ix3 z k j) = B k.val j.val)
    (h2 : ∀ (k : Fin 1024) (j : Fin 1024), y2 (ix2 k j) = C k.val j.val)
    (p : Fin 1024) (q : Fin 1024) :
    k0_pay1 (F := Ideal) y0 y1 y2 (ix2 p q) = (∑ k : Fin 2048, A p.val k.val * B k.val q.val) + Ideal.ofBits .f32 0x3FB504F3#32 * C p.val q.val := by
  pointwise [k0_pay1, h0, h1, h2]

variable {A : ℕ → ℕ → EReal} {B : ℕ → ℕ → ℕ → EReal} {C : ℕ → ℕ → EReal}
variable (m : (ℓ : Loc nD τ sig) → Buf (Elt Ideal) ℓ) (c : Dev nD)
variable (h0 : ∀ i : S4096x2048.Idx, m (c.tc.loc main_arg0) i = A (i 0).val (i 1).val)
variable (h1 : ∀ i : S4x512x2048.Idx, m (c.tc.loc main_arg1) i = B (i 0).val (i 1).val (i 2).val)
variable (h2 : ∀ i : S4096x2048.Idx, m (c.tc.loc main_arg2) i = C (i 0).val (i 1).val)

include h1 in
theorem V_stack (i : S1x2048x2048.Idx) : V m c main_v0 i = B ((i 1).val / 512) ((i 1).val % 512) (i 2).val := by
  entry_read
  pointwise [h1]

include h0 in
theorem blk0 (t : Fin cfg0.N) (r : Fin 1024) (k : Fin 2048) :
    iblk m c 0 t (ix2 r k) = A (1024 * (t.val / 2) + r.val) k.val := by
  have hN : t.val < 8 := t.isLt
  blk_simp [iblk]
  rw [V_main_arg0, h0]
  congr 1 <;> blk_simp [idx0] <;> first | rfl | omega

include h1 in
theorem blk1 (t : Fin cfg0.N) (z : Fin 1) (r : Fin 2048) (k : Fin 1024) :
    iblk m c 1 t (ix3 z r k) = B (r.val / 512) (r.val % 512) (1024 * (t.val % 2) + k.val) := by
  have hN : t.val < 8 := t.isLt
  blk_simp [iblk]
  rw [V_stack m c h1]
  congr 1 <;> blk_simp [idx1] <;> first | rfl | omega

include h2 in
theorem blk2 (t : Fin cfg0.N) (r : Fin 1024) (k : Fin 1024) :
    iblk m c 2 t (ix2 r k) = C (1024 * (t.val / 2) + r.val) (1024 * (t.val % 2) + k.val) := by
  have hN : t.val < 8 := t.isLt
  blk_simp [iblk]
  rw [V_main_arg2, h2]
  congr 1 <;> blk_simp [idx2] <;> first | rfl | omega

include h0 h1 h2 in
theorem pay_at (t : Fin cfg0.N) (y : S1024x1024.Idx) : k0_pay1 (F := Ideal) (iblk m c 0 t) (iblk m c 1 t) (iblk m c 2 t) y
    = (∑ k : Fin 2048, A (1024 * (t.val / 2) + (y 0).val) k.val * B (k.val / 512) (k.val % 512) (1024 * (t.val % 2) + (y 1).val)) + Ideal.ofBits .f32 0x3FB504F3#32 * C (1024 * (t.val / 2) + (y 0).val) (1024 * (t.val % 2) + (y 1).val) := by
  obtain ⟨p, q, rfl⟩ : ∃ p q, y = ix2 p q := ⟨_, _, eq_ix2 y⟩
  exact pay_eq (A := fun r k => A (1024 * (t.val / 2) + r) k) (B := fun r k => B (r / 512) (r % 512) (1024 * (t.val % 2) + k)) (C := fun r k => C (1024 * (t.val / 2) + r) (1024 * (t.val % 2) + k))
    (blk0 m c h0 t) (blk1 m c h1 t) (blk2 m c h2 t) p q

include h0 h1 h2 in
theorem arr : (dats m 0 c).arrAt 3 cfg0.N = fun i : S4096x2048.Idx => (∑ k : Fin 2048, A (i 0).val k.val * B (k.val / 512) (k.val % 512) (i 1).val) + Ideal.ofBits .f32 0x3FB504F3#32 * C (i 0).val (i 1).val := by
  refine (dats m 0 c).arrAt_eq_of_covers 3 _ (by decide +kernel) fun t hf y => ?_
  have hN : t.val < 8 := t.isLt
  blk_simp
  rw [after0_3]
  unfold out0_3
  frame_out
  have hy0 : (y 0).val < 1024 := (y 0).isLt
  have hy1 : (y 1).val < 1024 := (y 1).isLt
  refine (pay_at m c h0 h1 h2 t y).trans ?_
  blk_simp [idx3]
  congr 1
  · refine Finset.sum_congr rfl fun k _ => ?_
    congr 2 <;> omega
  · congr 2 <;> omega

end Cert.Kernel10Ideal.Mm

namespace Cert.MmTie10

open Cert.Tab

theorem frame_ref : @Cert.quiescent_Reference10Ideal Cert.Reference10Ideal.Gen.facts := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic : @Cert.algebraic_Kernel10Ideal_Reference10Ideal Cert.Kernel10Ideal.Gen.facts Cert.Reference10Ideal.Gen.facts := by
  intro m g m' g' _ hagree
  refine ⟨fun c => (Cert.Kernel10Ideal.Gen.dats m 0 c).arrAt 3 Cert.Kernel10Ideal.cfg0.N, Cert.Kernel10Ideal.Value.run_blocks m g, ?_⟩
  refine (θ_run Cert.Reference10Ideal.defs _ _).mono (fun r h c => ?_) (Cert.Reference10Ideal.Value.run m' g')
  obtain ⟨r0, rest⟩ := h c
  obtain ⟨a0, a1, a2⟩ := hagree c
  rw [Cert.Reference10Ideal.Read.val_main_v6_eq, a0, a1, a2] at r0
  exact ⟨r0.trans ((funext fun i => Cert.Reference10Ideal.Mm.ref_eq (fun i => eq_tab _ i) (fun i => eq_tab3 _ i) (fun i => eq_tab _ i) i).trans
    (Cert.Kernel10Ideal.Mm.arr m c (fun i => eq_tab _ i) (fun i => eq_tab3 _ i) (fun i => eq_tab _ i)).symm), rest⟩

end Cert.MmTie10

end
-- ==== Proof.Mm11.lean ====
/- The recurrent mixer's first product, the weight matrix in shards of its columns. -/
module

public import proofs.«01_k».proof.Defs
public import proofs.«01_k».proof.Proof.MmTab
public import proofs.«01_k».proof.Proof.Gen.Kernel11Ideal.Value
public import proofs.«01_k».proof.Proof.Gen.Reference11Ideal.Read
public import proofs.«01_k».proof.Proof.Gen.Reference11Ideal.Run
public import Idealize.ShloMosaic.Lib.Pipeline.ValueKit
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Reference11Ideal.Mm

open Cert.Reference11Ideal Cert.Reference11Ideal.Read Cert.Tab

theorem ref_eq {A : ℕ → ℕ → EReal} {B : ℕ → ℕ → ℕ → EReal}
    {x0 : S4096x2048.Idx → EReal} {x1 : S4x2048x2048.Idx → EReal}
    (h0 : ∀ i, x0 i = A (i 0).val (i 1).val) (h1 : ∀ i, x1 i = B (i 0).val (i 1).val (i 2).val) (i : S4096x8192.Idx) :
    val_main_v4 (F := Ideal) x0 x1 i = ∑ k : Fin 2048, A (i 0).val k.val * B ((i 1).val / 2048) k.val ((i 1).val % 2048) := by
  pointwise [val_main_v4, val_main_v3, val_main_v2, val_main_v1, val_main_v0, h0, h1]

end Cert.Reference11Ideal.Mm

namespace Cert.Kernel11Ideal.Mm

open Cert.Kernel11Ideal Cert.Kernel11Ideal.Gen Cert.Tab

theorem idx0 : ∀ t : Fin cfg0.N, win0_0.index t = ![t.val / 8, 0] :=
  (by decide +kernel : ∀ t : Fin grid0.N, win0_0.index t = ![t.val / 8, 0])
theorem idx1 : ∀ t : Fin cfg0.N, win0_1.index t = ![t.val % 8 / 2, 0, t.val % 2] :=
  (by decide +kernel : ∀ t : Fin grid0.N, win0_1.index t = ![t.val % 8 / 2, 0, t.val % 2])
theorem idx2 : ∀ t : Fin cfg0.N, win0_2.index t = ![t.val / 8, t.val % 8] :=
  (by decide +kernel : ∀ t : Fin grid0.N, win0_2.index t = ![t.val / 8, t.val % 8])

theorem pay_eq {A : ℕ → ℕ → EReal} {B : ℕ → ℕ → EReal} {y0 : S1024x2048.Idx → EReal} {y1 : S1x2048x1024.Idx → EReal}
    (h0 : ∀ (k : Fin 1024) (j : Fin 2048), y0 (ix2 k j) = A k.val j.val)
    (h1 : ∀ (z : Fin 1) (k : Fin 2048) (j : Fin 1024), y1 (ix3 z k j) = B k.val j.val)
    (p : Fin 1024) (q : Fin 1024) :
    k0_pay1 (F := Ideal) y0 y1 (ix2 p q) = ∑ k : Fin 2048, A p.val k.val * B k.val q.val := by
  pointwise [k0_pay1, h0, h1]

variable {A : ℕ → ℕ → EReal} {B : ℕ → ℕ → ℕ → EReal}
variable (m : (ℓ : Loc nD τ sig) → Buf (Elt Ideal) ℓ) (c : Dev nD)
variable (h0 : ∀ i : S4096x2048.Idx, m (c.tc.loc main_arg0) i = A (i 0).val (i 1).val)
variable (h1 : ∀ i : S4x2048x2048.Idx, m (c.tc.loc main_arg1) i = B (i 0).val (i 1).val (i 2).val)

include h0 in
theorem blk0 (t : Fin cfg0.N) (r : Fin 1024) (k : Fin 2048) :
    iblk m c 0 t (ix2 r k) = A (1024 * (t.val / 8) + r.val) k.val := by
  have hN : t.val < 32 := t.isLt
  blk_simp [iblk, V]
  rw [h0]
  congr 1 <;> blk_simp [idx0] <;> first | rfl | omega

include h1 in
theorem blk1 (t : Fin cfg0.N) (z : Fin 1) (r : Fin 2048) (k : Fin 1024) :
    iblk m c 1 t (ix3 z r k) = B (t.val % 8 / 2) r.val (1024 * (t.val % 2) + k.val) := by
  have hN : t.val < 32 := t.isLt
  blk_simp [iblk, V]
  rw [h1]
  congr 1 <;> blk_simp [idx1] <;> first | rfl | omega

include h0 h1 in
theorem pay_at (t : Fin cfg0.N) (y : S1024x1024.Idx) : k0_pay1 (F := Ideal) (iblk m c 0 t) (iblk m c 1 t) y
    = ∑ k : Fin 2048, A (1024 * (t.val / 8) + (y 0).val) k.val * B (t.val % 8 / 2) k.val (1024 * (t.val % 2) + (y 1).val) := by
  obtain ⟨p, q, rfl⟩ : ∃ p q, y = ix2 p q := ⟨_, _, eq_ix2 y⟩
  exact pay_eq (A := fun r k => A (1024 * (t.val / 8) + r) k) (B := fun r k => B (t.val % 8 / 2) r (1024 * (t.val % 2) + k))
    (blk0 m c h0 t) (blk1 m c h1 t) p q

include h0 h1 in
theorem arr : (dats m 0 c).arrAt 2 cfg0.N = fun i : S4096x8192.Idx => ∑ k : Fin 2048, A (i 0).val k.val * B ((i 1).val / 2048) k.val ((i 1).val % 2048) := by
  refine (dats m 0 c).arrAt_eq_of_covers 2 _ (by decide +kernel) fun t hf y => ?_
  have hN : t.val < 32 := t.isLt
  blk_simp
  rw [after0_2]
  unfold out0_2
  frame_out
  have hy0 : (y 0).val < 1024 := (y 0).isLt
  have hy1 : (y 1).val < 1024 := (y 1).isLt
  refine (pay_at m c h0 h1 t y).trans ?_
  blk_simp [idx2]
  refine Finset.sum_congr rfl fun k _ => ?_
  congr 2 <;> omega

end Cert.Kernel11Ideal.Mm

namespace Cert.MmTie11

open Cert.Tab

theorem frame_ref : @Cert.quiescent_Reference11Ideal Cert.Reference11Ideal.Gen.facts := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic : @Cert.algebraic_Kernel11Ideal_Reference11Ideal Cert.Kernel11Ideal.Gen.facts Cert.Reference11Ideal.Gen.facts := by
  intro m g m' g' _ hagree
  refine ⟨fun c => (Cert.Kernel11Ideal.Gen.dats m 0 c).arrAt 2 Cert.Kernel11Ideal.cfg0.N, Cert.Kernel11Ideal.Value.run_blocks m g, ?_⟩
  refine (θ_run Cert.Reference11Ideal.defs _ _).mono (fun r h c => ?_) (Cert.Reference11Ideal.Value.run m' g')
  obtain ⟨r0, rest⟩ := h c
  obtain ⟨a0, a1⟩ := hagree c
  rw [Cert.Reference11Ideal.Read.val_main_v4_eq, a0, a1] at r0
  exact ⟨r0.trans ((funext fun i => Cert.Reference11Ideal.Mm.ref_eq (fun i => eq_tab _ i) (fun i => eq_tab3 _ i) i).trans
    (Cert.Kernel11Ideal.Mm.arr m c (fun i => eq_tab _ i) (fun i => eq_tab3 _ i)).symm), rest⟩

end Cert.MmTie11

end
-- ==== Proof.Mm12.lean ====
/- The gated mixer's first product, the weight matrix in shards of its columns. -/
module

public import proofs.«01_k».proof.Defs
public import proofs.«01_k».proof.Proof.MmTab
public import proofs.«01_k».proof.Proof.Gen.Kernel12Ideal.Value
public import proofs.«01_k».proof.Proof.Gen.Reference12Ideal.Read
public import proofs.«01_k».proof.Proof.Gen.Reference12Ideal.Run
public import Idealize.ShloMosaic.Lib.Pipeline.ValueKit
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Reference12Ideal.Mm

open Cert.Reference12Ideal Cert.Reference12Ideal.Read Cert.Tab

theorem ref_eq {A : ℕ → ℕ → EReal} {B : ℕ → ℕ → ℕ → EReal}
    {x0 : S4096x2048.Idx → EReal} {x1 : S4x2048x1024.Idx → EReal}
    (h0 : ∀ i, x0 i = A (i 0).val (i 1).val) (h1 : ∀ i, x1 i = B (i 0).val (i 1).val (i 2).val) (i : S4096x4096.Idx) :
    val_main_v4 (F := Ideal) x0 x1 i = ∑ k : Fin 2048, A (i 0).val k.val * B ((i 1).val / 1024) k.val ((i 1).val % 1024) := by
  pointwise [val_main_v4, val_main_v3, val_main_v2, val_main_v1, val_main_v0, h0, h1]

end Cert.Reference12Ideal.Mm

namespace Cert.Kernel12Ideal.Mm

open Cert.Kernel12Ideal Cert.Kernel12Ideal.Gen Cert.Tab

theorem idx0 : ∀ t : Fin cfg0.N, win0_0.index t = ![t.val / 4, 0] :=
  (by decide +kernel : ∀ t : Fin grid0.N, win0_0.index t = ![t.val / 4, 0])
theorem idx1 : ∀ t : Fin cfg0.N, win0_1.index t = ![t.val % 4, 0, 0] :=
  (by decide +kernel : ∀ t : Fin grid0.N, win0_1.index t = ![t.val % 4, 0, 0])
theorem idx2 : ∀ t : Fin cfg0.N, win0_2.index t = ![t.val / 4, t.val % 4] :=
  (by decide +kernel : ∀ t : Fin grid0.N, win0_2.index t = ![t.val / 4, t.val % 4])

theorem pay_eq {A : ℕ → ℕ → EReal} {B : ℕ → ℕ → EReal} {y0 : S1024x2048.Idx → EReal} {y1 : S1x2048x1024.Idx → EReal}
    (h0 : ∀ (k : Fin 1024) (j : Fin 2048), y0 (ix2 k j) = A k.val j.val)
    (h1 : ∀ (z : Fin 1) (k : Fin 2048) (j : Fin 1024), y1 (ix3 z k j) = B k.val j.val)
    (p : Fin 1024) (q : Fin 1024) :
    k0_pay1 (F := Ideal) y0 y1 (ix2 p q) = ∑ k : Fin 2048, A p.val k.val * B k.val q.val := by
  pointwise [k0_pay1, h0, h1]

variable {A : ℕ → ℕ → EReal} {B : ℕ → ℕ → ℕ → EReal}
variable (m : (ℓ : Loc nD τ sig) → Buf (Elt Ideal) ℓ) (c : Dev nD)
variable (h0 : ∀ i : S4096x2048.Idx, m (c.tc.loc main_arg0) i = A (i 0).val (i 1).val)
variable (h1 : ∀ i : S4x2048x1024.Idx, m (c.tc.loc main_arg1) i = B (i 0).val (i 1).val (i 2).val)

include h0 in
theorem blk0 (t : Fin cfg0.N) (r : Fin 1024) (k : Fin 2048) :
    iblk m c 0 t (ix2 r k) = A (1024 * (t.val / 4) + r.val) k.val := by
  have hN : t.val < 16 := t.isLt
  blk_simp [iblk, V]
  rw [h0]
  congr 1 <;> blk_simp [idx0] <;> first | rfl | omega

include h1 in
theorem blk1 (t : Fin cfg0.N) (z : Fin 1) (r : Fin 2048) (k : Fin 1024) :
    iblk m c 1 t (ix3 z r k) = B (t.val % 4) r.val k.val := by
  have hN : t.val < 16 := t.isLt
  blk_simp [iblk, V]
  rw [h1]
  congr 1 <;> blk_simp [idx1] <;> first | rfl | omega

include h0 h1 in
theorem pay_at (t : Fin cfg0.N) (y : S1024x1024.Idx) : k0_pay1 (F := Ideal) (iblk m c 0 t) (iblk m c 1 t) y
    = ∑ k : Fin 2048, A (1024 * (t.val / 4) + (y 0).val) k.val * B (t.val % 4) k.val (y 1).val := by
  obtain ⟨p, q, rfl⟩ : ∃ p q, y = ix2 p q := ⟨_, _, eq_ix2 y⟩
  exact pay_eq (A := fun r k => A (1024 * (t.val / 4) + r) k) (B := fun r k => B (t.val % 4) r k)
    (blk0 m c h0 t) (blk1 m c h1 t) p q

include h0 h1 in
theorem arr : (dats m 0 c).arrAt 2 cfg0.N = fun i : S4096x4096.Idx => ∑ k : Fin 2048, A (i 0).val k.val * B ((i 1).val / 1024) k.val ((i 1).val % 1024) := by
  refine (dats m 0 c).arrAt_eq_of_covers 2 _ (by decide +kernel) fun t hf y => ?_
  have hN : t.val < 16 := t.isLt
  blk_simp
  rw [after0_2]
  unfold out0_2
  frame_out
  have hy0 : (y 0).val < 1024 := (y 0).isLt
  have hy1 : (y 1).val < 1024 := (y 1).isLt
  refine (pay_at m c h0 h1 t y).trans ?_
  blk_simp [idx2]
  refine Finset.sum_congr rfl fun k _ => ?_
  congr 2 <;> omega

end Cert.Kernel12Ideal.Mm

namespace Cert.MmTie12

open Cert.Tab

theorem frame_ref : @Cert.quiescent_Reference12Ideal Cert.Reference12Ideal.Gen.facts := fun m ρ _ =>
  (θ_run Cert.Reference12Ideal.defs _ _).mono (fun r h => ⟨fun c => (h c).2, sem_eq_zero_of_no_sems (by decide) r.2⟩)
    (Cert.Reference12Ideal.Value.run (F := Ideal) m ρ)

theorem algebraic : @Cert.algebraic_Kernel12Ideal_Reference12Ideal Cert.Kernel12Ideal.Gen.facts Cert.Reference12Ideal.Gen.facts := by
  intro m g m' g' _ hagree
  refine ⟨fun c => (Cert.Kernel12Ideal.Gen.dats m 0 c).arrAt 2 Cert.Kernel12Ideal.cfg0.N, Cert.Kernel12Ideal.Value.run_blocks m g, ?_⟩
  refine (θ_run Cert.Reference12Ideal.defs _ _).mono (fun r h c => ?_) (Cert.Reference12Ideal.Value.run m' g')
  obtain ⟨r0, rest⟩ := h c
  obtain ⟨a0, a1⟩ := hagree c
  rw [Cert.Reference12Ideal.Read.val_main_v4_eq, a0, a1] at r0
  exact ⟨r0.trans ((funext fun i => Cert.Reference12Ideal.Mm.ref_eq (fun i => eq_tab _ i) (fun i => eq_tab3 _ i) i).trans
    (Cert.Kernel12Ideal.Mm.arr m c (fun i => eq_tab _ i) (fun i => eq_tab3 _ i)).symm), rest⟩

end Cert.MmTie12

end
-- ==== Proof.Mm13.lean ====
/- The gradient of a mixer's output: the cotangent times the transposed last weight matrix. -/
module

public import proofs.«01_k».proof.Defs
public import proofs.«01_k».proof.Proof.MmTab
public import proofs.«01_k».proof.Proof.Gen.Kernel13Ideal.Value
public import proofs.«01_k».proof.Proof.Gen.Reference13Ideal.Read
public import proofs.«01_k».proof.Proof.Gen.Reference13Ideal.Run
public import Idealize.ShloMosaic.Lib.Pipeline.ValueKit
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Reference13Ideal.Mm

open Cert.Reference13Ideal Cert.Reference13Ideal.Read Cert.Tab

theorem ref_eq {A : ℕ → ℕ → EReal} {B : ℕ → ℕ → ℕ → EReal}
    {x0 : S4096x2048.Idx → EReal} {x1 : S4x512x2048.Idx → EReal}
    (h0 : ∀ i, x0 i = A (i 0).val (i 1).val) (h1 : ∀ i, x1 i = B (i 0).val (i 1).val (i 2).val) (i : S4096x2048.Idx) :
    val_main_v5 (F := Ideal) x0 x1 i = ∑ k : Fin 2048, A (i 0).val k.val * B ((i 1).val / 512) ((i 1).val % 512) k.val := by
  pointwise [val_main_v5, val_main_v4, val_main_v3, val_main_v2, val_main_v1, val_main_v0, h0, h1]

end Cert.Reference13Ideal.Mm

namespace Cert.Kernel13Ideal.Mm

open Cert.Kernel13Ideal Cert.Kernel13Ideal.Gen Cert.Tab

theorem idx0 : ∀ t : Fin cfg0.N, win0_0.index t = ![t.val / 4, 0] :=
  (by decide +kernel : ∀ t : Fin grid0.N, win0_0.index t = ![t.val / 4, 0])
theorem idx1 : ∀ t : Fin cfg0.N, win0_1.index t = ![0, t.val % 4, 0] :=
  (by decide +kernel : ∀ t : Fin grid0.N, win0_1.index t = ![0, t.val % 4, 0])
theorem idx2 : ∀ t : Fin cfg0.N, win0_2.index t = ![t.val / 4, t.val % 4] :=
  (by decide +kernel : ∀ t : Fin grid0.N, win0_2.index t = ![t.val / 4, t.val % 4])

theorem pay_eq {A : ℕ → ℕ → EReal} {B : ℕ → ℕ → EReal} {y0 : S2048x2048.Idx → EReal} {y1 : S1x512x2048.Idx → EReal}
    (h0 : ∀ (k : Fin 2048) (j : Fin 2048), y0 (ix2 k j) = A k.val j.val)
    (h1 : ∀ (z : Fin 1) (k : Fin 512) (j : Fin 2048), y1 (ix3 z k j) = B k.val j.val)
    (p : Fin 2048) (q : Fin 512) :
    k0_pay1 (F := Ideal) y0 y1 (ix2 p q) = ∑ k : Fin 2048, A p.val k.val * B q.val k.val := by
  pointwise [k0_pay1, h0, h1]

variable {A : ℕ → ℕ → EReal} {B : ℕ → ℕ → ℕ → EReal}
variable (m : (ℓ : Loc nD τ sig) → Buf (Elt Ideal) ℓ) (c : Dev nD)
variable (h0 : ∀ i : S4096x2048.Idx, m (c.tc.loc main_arg0) i = A (i 0).val (i 1).val)
variable (h1 : ∀ i : S4x512x2048.Idx, m (c.tc.loc main_arg1) i = B (i 0).val (i 1).val (i 2).val)

include h1 in
theorem V_stack (i : S1x2048x2048.Idx) : V m c main_v0 i = B ((i 1).val / 512) ((i 1).val % 512) (i 2).val := by
  entry_read
  pointwise [h1]

include h0 in
theorem blk0 (t : Fin cfg0.N) (r : Fin 2048) (k : Fin 2048) :
    iblk m c 0 t (ix2 r k) = A (2048 * (t.val / 4) + r.val) k.val := by
  have hN : t.val < 8 := t.isLt
  blk_simp [iblk]
  rw [V_main_arg0, h0]
  congr 1 <;> blk_simp [idx0] <;> first | rfl | omega

include h1 in
theorem blk1 (t : Fin cfg0.N) (z : Fin 1) (r : Fin 512) (k : Fin 2048) :
    iblk m c 1 t (ix3 z r k) = B ((512 * (t.val % 4) + r.val) / 512) ((512 * (t.val % 4) + r.val) % 512) k.val := by
  have hN : t.val < 8 := t.isLt
  blk_simp [iblk]
  rw [V_stack m c h1]
  congr 1 <;> blk_simp [idx1] <;> first | rfl | omega

include h0 h1 in
theorem pay_at (t : Fin cfg0.N) (y : S2048x512.Idx) : k0_pay1 (F := Ideal) (iblk m c 0 t) (iblk m c 1 t) y
    = ∑ k : Fin 2048, A (2048 * (t.val / 4) + (y 0).val) k.val * B ((512 * (t.val % 4) + (y 1).val) / 512) ((512 * (t.val % 4) + (y 1).val) % 512) k.val := by
  obtain ⟨p, q, rfl⟩ : ∃ p q, y = ix2 p q := ⟨_, _, eq_ix2 y⟩
  exact pay_eq (A := fun r k => A (2048 * (t.val / 4) + r) k) (B := fun r k => B ((512 * (t.val % 4) + r) / 512) ((512 * (t.val % 4) + r) % 512) k)
    (blk0 m c h0 t) (blk1 m c h1 t) p q

include h0 h1 in
theorem arr : (dats m 0 c).arrAt 2 cfg0.N = fun i : S4096x2048.Idx => ∑ k : Fin 2048, A (i 0).val k.val * B ((i 1).val / 512) ((i 1).val % 512) k.val := by
  refine (dats m 0 c).arrAt_eq_of_covers 2 _ (by decide +kernel) fun t hf y => ?_
  have hN : t.val < 8 := t.isLt
  blk_simp
  rw [after0_2]
  unfold out0_2
  frame_out
  have hy0 : (y 0).val < 2048 := (y 0).isLt
  have hy1 : (y 1).val < 512 := (y 1).isLt
  refine (pay_at m c h0 h1 t y).trans ?_
  blk_simp [idx2]
  refine Finset.sum_congr rfl fun k _ => ?_
  congr 2 <;> omega

end Cert.Kernel13Ideal.Mm

namespace Cert.MmTie13

open Cert.Tab

theorem frame_ref : @Cert.quiescent_Reference13Ideal Cert.Reference13Ideal.Gen.facts := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic : @Cert.algebraic_Kernel13Ideal_Reference13Ideal Cert.Kernel13Ideal.Gen.facts Cert.Reference13Ideal.Gen.facts := by
  intro m g m' g' _ hagree
  refine ⟨fun c => (Cert.Kernel13Ideal.Gen.dats m 0 c).arrAt 2 Cert.Kernel13Ideal.cfg0.N, Cert.Kernel13Ideal.Value.run_blocks m g, ?_⟩
  refine (θ_run Cert.Reference13Ideal.defs _ _).mono (fun r h c => ?_) (Cert.Reference13Ideal.Value.run m' g')
  obtain ⟨r0, rest⟩ := h c
  obtain ⟨a0, a1⟩ := hagree c
  rw [Cert.Reference13Ideal.Read.val_main_v5_eq, a0, a1] at r0
  exact ⟨r0.trans ((funext fun i => Cert.Reference13Ideal.Mm.ref_eq (fun i => eq_tab _ i) (fun i => eq_tab3 _ i) i).trans
    (Cert.Kernel13Ideal.Mm.arr m c (fun i => eq_tab _ i) (fun i => eq_tab3 _ i)).symm), rest⟩

end Cert.MmTie13

end
-- ==== Proof.Mm14.lean ====
/- The part of the recurrent mixer's input gradient that comes from its queries, with the scaled skip connection. -/
module

public import proofs.«01_k».proof.Defs
public import proofs.«01_k».proof.Proof.MmTab
public import proofs.«01_k».proof.Proof.Gen.Kernel14Ideal.Value
public import proofs.«01_k».proof.Proof.Gen.Reference14Ideal.Read
public import proofs.«01_k».proof.Proof.Gen.Reference14Ideal.Run
public import Idealize.ShloMosaic.Lib.Pipeline.ValueKit
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Reference14Ideal.Mm

open Cert.Reference14Ideal Cert.Reference14Ideal.Read Cert.Tab

theorem ref_eq {A : ℕ → ℕ → EReal} {B : ℕ → ℕ → ℕ → EReal} {C : ℕ → ℕ → EReal}
    {x0 : S4096x2048.Idx → EReal} {x1 : S4x2048x2048.Idx → EReal} {x2 : S4096x2048.Idx → EReal}
    (h0 : ∀ i, x0 i = A (i 0).val (i 1).val) (h1 : ∀ i, x1 i = B (i 0).val (i 1).val (i 2).val) (h2 : ∀ i, x2 i = C (i 0).val (i 1).val) (i : S4096x2048.Idx) :
    val_main_v11 (F := Ideal) x0 x1 x2 i = (∑ k : Fin 2048, A (i 0).val k.val * B 0 (i 1).val k.val) + Ideal.ofBits .f32 0x3FB504F3#32 * C (i 0).val (i 1).val := by
  pointwise [val_main_v11, val_main_v10, val_main_v9, val_main_v8, val_main_v7, val_main_v6, val_main_v5, val_main_v4, val_main_v3, val_main_v2, val_main_v1, val_main_v0, val_main_cst_1, h0, h1, h2]

end Cert.Reference14Ideal.Mm

namespace Cert.Kernel14Ideal.Mm

open Cert.Kernel14Ideal Cert.Kernel14Ideal.Gen Cert.Tab

theorem idx0 : ∀ t : Fin cfg0.N, win0_0.index t = ![t.val / 4, 0] :=
  (by decide +kernel : ∀ t : Fin grid0.N, win0_0.index t = ![t.val / 4, 0])
theorem idx1 : ∀ t : Fin cfg0.N, win0_1.index t = ![0, t.val % 4, 0] :=
  (by decide +kernel : ∀ t : Fin grid0.N, win0_1.index t = ![0, t.val % 4, 0])
theorem idx2 : ∀ t : Fin cfg0.N, win0_2.index t = ![t.val / 4, t.val % 4] :=
  (by decide +kernel : ∀ t : Fin grid0.N, win0_2.index t = ![t.val / 4, t.val % 4])
theorem idx3 : ∀ t : Fin cfg0.N, win0_3.index t = ![t.val / 4, t.val % 4] :=
  (by decide +kernel : ∀ t : Fin grid0.N, win0_3.index t = ![t.val / 4, t.val % 4])

theorem pay_eq {A : ℕ → ℕ → EReal} {B : ℕ → ℕ → EReal} {C : ℕ → ℕ → EReal} {y0 : S2048x2048.Idx → EReal} {y1 : S1x512x2048.Idx → EReal} {y2 : S2048x512.Idx → EReal}
    (h0 : ∀ (k : Fin 2048) (j : Fin 2048), y0 (ix2 k j) = A k.val j.val)
    (h1 : ∀ (z : Fin 1) (k : Fin 512) (j : Fin 2048), y1 (ix3 z k j) = B k.val j.val)
    (h2 : ∀ (k : Fin 2048) (j : Fin 512), y2 (ix2 k j) = C k.val j.val)
    (p : Fin 2048) (q : Fin 512) :
    k0_pay1 (F := Ideal) y0 y1 y2 (ix2 p q) = (∑ k : Fin 2048, A p.val k.val * B q.val k.val) + Ideal.ofBits .f32 0x3FB504F3#32 * C p.val q.val := by
  pointwise [k0_pay1, h0, h1, h2]

variable {A : ℕ → ℕ → EReal} {B : ℕ → ℕ → ℕ → EReal} {C : ℕ → ℕ → EReal}
variable (m : (ℓ : Loc nD τ sig) → Buf (Elt Ideal) ℓ) (c : Dev nD)
variable (h0 : ∀ i : S4096x2048.Idx, m (c.tc.loc main_arg0) i = A (i 0).val (i 1).val)
variable (h1 : ∀ i : S4x2048x2048.Idx, m (c.tc.loc main_arg1) i = B (i 0).val (i 1).val (i 2).val)
variable (h2 : ∀ i : S4096x2048.Idx, m (c.tc.loc main_arg2) i = C (i 0).val (i 1).val)

include h0 in
theorem blk0 (t : Fin cfg0.N) (r : Fin 2048) (k : Fin 2048) :
    iblk m c 0 t (ix2 r k) = A (2048 * (t.val / 4) + r.val) k.val := by
  have hN : t.val < 8 := t.isLt
  blk_simp [iblk, V]
  rw [h0]
  congr 1 <;> blk_simp [idx0] <;> first | rfl | omega

include h1 in
theorem blk1 (t : Fin cfg0.N) (z : Fin 1) (r : Fin 512) (k : Fin 2048) :
    iblk m c 1 t (ix3 z r k) = B (0) (512 * (t.val % 4) + r.val) k.val := by
  have hN : t.val < 8 := t.isLt
  blk_simp [iblk, V]
  rw [h1]
  congr 1 <;> blk_simp [idx1] <;> first | rfl | omega

include h2 in
theorem blk2 (t : Fin cfg0.N) (r : Fin 2048) (k : Fin 512) :
    iblk m c 2 t (ix2 r k) = C (2048 * (t.val / 4) + r.val) (512 * (t.val % 4) + k.val) := by
  have hN : t.val < 8 := t.isLt
  blk_simp [iblk, V]
  rw [h2]
  congr 1 <;> blk_simp [idx2] <;> first | rfl | omega

include h0 h1 h2 in
theorem pay_at (t : Fin cfg0.N) (y : S2048x512.Idx) : k0_pay1 (F := Ideal) (iblk m c 0 t) (iblk m c 1 t) (iblk m c 2 t) y
    = (∑ k : Fin 2048, A (2048 * (t.val / 4) + (y 0).val) k.val * B (0) (512 * (t.val % 4) + (y 1).val) k.val) + Ideal.ofBits .f32 0x3FB504F3#32 * C (2048 * (t.val / 4) + (y 0).val) (512 * (t.val % 4) + (y 1).val) := by
  obtain ⟨p, q, rfl⟩ : ∃ p q, y = ix2 p q := ⟨_, _, eq_ix2 y⟩
  exact pay_eq (A := fun r k => A (2048 * (t.val / 4) + r) k) (B := fun r k => B (0) (512 * (t.val % 4) + r) k) (C := fun r k => C (2048 * (t.val / 4) + r) (512 * (t.val % 4) + k))
    (blk0 m c h0 t) (blk1 m c h1 t) (blk2 m c h2 t) p q

include h0 h1 h2 in
theorem arr : (dats m 0 c).arrAt 3 cfg0.N = fun i : S4096x2048.Idx => (∑ k : Fin 2048, A (i 0).val k.val * B 0 (i 1).val k.val) + Ideal.ofBits .f32 0x3FB504F3#32 * C (i 0).val (i 1).val := by
  refine (dats m 0 c).arrAt_eq_of_covers 3 _ (by decide +kernel) fun t hf y => ?_
  have hN : t.val < 8 := t.isLt
  blk_simp
  rw [after0_3]
  unfold out0_3
  frame_out
  have hy0 : (y 0).val < 2048 := (y 0).isLt
  have hy1 : (y 1).val < 512 := (y 1).isLt
  refine (pay_at m c h0 h1 h2 t y).trans ?_
  blk_simp [idx3]
  congr 1
  · refine Finset.sum_congr rfl fun k _ => ?_
    congr 2 <;> omega
  · congr 2 <;> omega

end Cert.Kernel14Ideal.Mm

namespace Cert.MmTie14

open Cert.Tab

theorem frame_ref : @Cert.quiescent_Reference14Ideal Cert.Reference14Ideal.Gen.facts := fun m ρ _ =>
  (θ_run Cert.Reference14Ideal.defs _ _).mono (fun r h => ⟨fun c => (h c).2, sem_eq_zero_of_no_sems (by decide) r.2⟩)
    (Cert.Reference14Ideal.Value.run (F := Ideal) m ρ)

theorem algebraic : @Cert.algebraic_Kernel14Ideal_Reference14Ideal Cert.Kernel14Ideal.Gen.facts Cert.Reference14Ideal.Gen.facts := by
  intro m g m' g' _ hagree
  refine ⟨fun c => (Cert.Kernel14Ideal.Gen.dats m 0 c).arrAt 3 Cert.Kernel14Ideal.cfg0.N, Cert.Kernel14Ideal.Value.run_blocks m g, ?_⟩
  refine (θ_run Cert.Reference14Ideal.defs _ _).mono (fun r h c => ?_) (Cert.Reference14Ideal.Value.run m' g')
  obtain ⟨r0, rest⟩ := h c
  obtain ⟨a0, a1, a2⟩ := hagree c
  rw [Cert.Reference14Ideal.Read.val_main_v11_eq, a0, a1, a2] at r0
  exact ⟨r0.trans ((funext fun i => Cert.Reference14Ideal.Mm.ref_eq (fun i => eq_tab _ i) (fun i => eq_tab3 _ i) (fun i => eq_tab _ i) i).trans
    (Cert.Kernel14Ideal.Mm.arr m c (fun i => eq_tab _ i) (fun i => eq_tab3 _ i) (fun i => eq_tab _ i)).symm), rest⟩

end Cert.MmTie14

end
-- ==== Proof.Mm15.lean ====
/- The gradient of the feed-forward block's first weight matrix, in shards of its columns; the cotangent comes in two halves. -/
module

public import proofs.«01_k».proof.Defs
public import proofs.«01_k».proof.Proof.MmTab
public import proofs.«01_k».proof.Proof.Gen.Kernel15Ideal.Value
public import proofs.«01_k».proof.Proof.Gen.Reference15Ideal.Read
public import proofs.«01_k».proof.Proof.Gen.Reference15Ideal.Run
public import Idealize.ShloMosaic.Lib.Pipeline.ValueKit
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Reference15Ideal.Mm

open Cert.Reference15Ideal Cert.Reference15Ideal.Read Cert.Tab

theorem ref_eq {A : ℕ → ℕ → EReal} {B : ℕ → ℕ → EReal} {C : ℕ → ℕ → EReal}
    {x0 : S4096x2048.Idx → EReal} {x1 : S4096x5632.Idx → EReal} {x2 : S4096x5632.Idx → EReal}
    (h0 : ∀ i, x0 i = A (i 0).val (i 1).val) (h1 : ∀ i, x1 i = B (i 0).val (i 1).val) (h2 : ∀ i, x2 i = C (i 0).val (i 1).val) (i : S4x2048x2816.Idx) :
    val_main_v10 (F := Ideal) x0 x1 x2 i = ∑ k : Fin 4096, A k.val (i 1).val * beside 5632 B C k.val (2816 * (i 0).val + (i 2).val) := by
  pointwise [val_main_v10, val_main_v9, val_main_v8, val_main_v7, val_main_v6, val_main_v5, val_main_v4, val_main_v3, val_main_v2, val_main_v1, val_main_v0, h0, h1, h2]
  refine Finset.sum_congr rfl fun k _ => (mul_comm _ _).trans ?_
  rw [Nat.mul_comm 2816]
  simp only [beside, dite_eq_ite]

end Cert.Reference15Ideal.Mm

namespace Cert.Kernel15Ideal.Mm

open Cert.Kernel15Ideal Cert.Kernel15Ideal.Gen Cert.Tab

theorem idx0 : ∀ t : Fin cfg0.N, win0_0.index t = ![t.val % 2, t.val / 16] :=
  (by decide +kernel : ∀ t : Fin grid0.N, win0_0.index t = ![t.val % 2, t.val / 16])
theorem idx1 : ∀ t : Fin cfg0.N, t.val / 2 % 8 ≤ 3 → win0_1.index t = ![t.val % 2, t.val / 2 % 8] :=
  (by decide +kernel : ∀ t : Fin grid0.N, t.val / 2 % 8 ≤ 3 → win0_1.index t = ![t.val % 2, t.val / 2 % 8])
theorem idx2 : ∀ t : Fin cfg0.N, 4 ≤ t.val / 2 % 8 → win0_2.index t = ![t.val % 2, t.val / 2 % 8 - 4] :=
  (by decide +kernel : ∀ t : Fin grid0.N, 4 ≤ t.val / 2 % 8 → win0_2.index t = ![t.val % 2, t.val / 2 % 8 - 4])
theorem idx3 : ∀ t : Fin cfg0.N, win0_3.index t = ![t.val / 2 % 8 / 2, t.val / 16, t.val / 2 % 2] :=
  (by decide +kernel : ∀ t : Fin grid0.N, win0_3.index t = ![t.val / 2 % 8 / 2, t.val / 16, t.val / 2 % 2])

variable {A : ℕ → ℕ → EReal} {B : ℕ → ℕ → EReal} {C : ℕ → ℕ → EReal}
variable (m : (ℓ : Loc nD τ sig) → Buf (Elt Ideal) ℓ) (c : Dev nD)
variable (h0 : ∀ i : S4096x2048.Idx, m (c.tc.loc main_arg0) i = A (i 0).val (i 1).val)
variable (h1 : ∀ i : S4096x5632.Idx, m (c.tc.loc main_arg1) i = B (i 0).val (i 1).val)
variable (h2 : ∀ i : S4096x5632.Idx, m (c.tc.loc main_arg2) i = C (i 0).val (i 1).val)

include h1 in
theorem blk1 (t : Fin cfg0.N) (ht : t.val / 2 % 8 ≤ 3) (r : Fin 2048) (k : Fin 1408) :
    iblk m c 1 t (ix2 r k) = beside 5632 B C (2048 * (t.val % 2) + r.val) (1408 * (t.val / 2 % 8) + k.val) := by
  have hN : t.val < 64 := t.isLt
  have hr := r.isLt
  have hk := k.isLt
  rw [beside_lt (by omega)]
  blk_simp [iblk, V]
  rw [h1]
  refine congrArg₂ B ?_ ?_ <;> blk_simp [idx1 t ht] <;> omega

include h2 in
theorem blk2 (t : Fin cfg0.N) (ht : 4 ≤ t.val / 2 % 8) (r : Fin 2048) (k : Fin 1408) :
    iblk m c 2 t (ix2 r k) = beside 5632 B C (2048 * (t.val % 2) + r.val) (1408 * (t.val / 2 % 8) + k.val) := by
  have hN : t.val < 64 := t.isLt
  have hr := r.isLt
  have hk := k.isLt
  rw [beside_ge (by omega)]
  blk_simp [iblk, V]
  rw [h2]
  refine congrArg₂ C ?_ ?_ <;> blk_simp [idx2 t ht] <;> omega

include h0 in
theorem blk0 (t : Fin cfg0.N) (r : Fin 2048) (k : Fin 512) :
    iblk m c 0 t (ix2 r k) = A (2048 * (t.val % 2) + r.val) (512 * (t.val / 16) + k.val) := by
  have hN : t.val < 64 := t.isLt
  blk_simp [iblk, V]
  rw [h0]
  congr 1 <;> blk_simp [idx0] <;> first | rfl | omega

/-- What a point adds to the accumulator. -/
def add (A : ℕ → ℕ → EReal) (U : ℕ → ℕ → EReal) (n r q : ℕ) : EReal :=
  ∑ k : Fin 2048, A (2048 * (n % 2) + k.val) (512 * (n / 16) + r) * U (2048 * (n % 2) + k.val) (1408 * (n / 2 % 8) + q)

include h0 h1 h2 in
theorem acc_A (t : Fin cfg0.N) (h : t.val % 2 = 0) (i : S512x1408.Idx) : ((outsAt0 m c t.val t.isLt).2 i : EReal)
    = add A (beside 5632 B C) t.val (i 0).val (i 1).val := by
  have hN : t.val < 64 := t.isLt
  have ho := blk0 m c h0 t
  obtain ⟨r, q, rfl⟩ : ∃ r q, i = ix2 r q := ⟨_, _, eq_ix2 i⟩
  by_cases hp : t.val / 2 % 8 ≤ 3
  · have hb := blk1 (B := B) (C := C) m c h1 t hp
    rw [outsAt0_A m c t (by omega) (by omega) (by omega) (by omega)]
    frame_out
    pointwise [hb, ho, k0_pay1, k0_pay2, k0_pay3, k0_pay4]
    rfl
  have hp : 4 ≤ t.val / 2 % 8 := by omega
  have hb := blk2 (B := B) (C := C) m c h2 t hp
  rw [outsAt0_C m c t (by omega) (by omega) (by omega) (by omega)]
  frame_out
  pointwise [hb, ho, k0_pay1, k0_pay2, k0_pay3, k0_pay4]
  rfl

include h0 h1 h2 in
theorem acc_S (t : Fin cfg0.N) (h : ¬t.val % 2 = 0) (i : S512x1408.Idx) : ((outsAt0 m c t.val t.isLt).2 i : EReal)
    = (outsAt0 m c (t.val - 1) (by omega)).2 i + add A (beside 5632 B C) t.val (i 0).val (i 1).val := by
  have hN : t.val < 64 := t.isLt
  have ho := blk0 m c h0 t
  obtain ⟨r, q, rfl⟩ : ∃ r q, i = ix2 r q := ⟨_, _, eq_ix2 i⟩
  by_cases hp : t.val / 2 % 8 ≤ 3
  · have hb := blk1 (B := B) (C := C) m c h1 t hp
    rw [outsAt0_B m c t (by omega) (by omega) (by omega) (by omega)]
    frame_out
    pointwise [hb, ho, k0_pay1, k0_pay2, k0_pay3, k0_pay4]
    exact congrArg₂ _ (congrFun (Memref.IsWhole.read_unread (Memref.isWhole_whole cc0_scratch0) _) _) rfl
  have hp : 4 ≤ t.val / 2 % 8 := by omega
  have hb := blk2 (B := B) (C := C) m c h2 t hp
  rw [outsAt0_D m c t (by omega) (by omega) (by omega) (by omega)]
  frame_out
  pointwise [hb, ho, k0_pay1, k0_pay2, k0_pay3, k0_pay4]
  exact congrArg₂ _ (congrFun (Memref.IsWhole.read_unread (Memref.isWhole_whole cc0_scratch0) _) _) rfl

theorem out_L (t : Fin cfg0.N) (hl : t.val % 2 = 1) (z : Fin 1) (r : Fin 512) (q : Fin 1408) :
    ((outsAt0 m c t.val t.isLt).1 (ix3 z r q) : EReal) = (outsAt0 m c t.val t.isLt).2 (ix2 r q) := by
  have hN : t.val < 64 := t.isLt
  by_cases hp : t.val / 2 % 8 ≤ 3
  · rw [outsAt0_B m c t (by omega) (by omega) (by omega) (by omega)]
    frame_out
    pointwise [k0_pay4]
  have hp : 4 ≤ t.val / 2 % 8 := by omega
  rw [outsAt0_D m c t (by omega) (by omega) (by omega) (by omega)]
  frame_out
  pointwise [k0_pay4]

include h0 h1 h2 in
theorem acc_eq (t : Fin cfg0.N) (hl : t.val % 2 = 1) (i : S512x1408.Idx) : ((outsAt0 m c t.val t.isLt).2 i : EReal)
    = ∑ k : Fin 4096, A k.val (512 * (t.val / 16) + (i 0).val) * beside 5632 B C k.val (1408 * (t.val / 2 % 8) + (i 1).val) := by
  have hN : t.val < 64 := t.isLt
  refine (Pipeline.eq_sum_of_reset_step_apply_of_mod (fun n h => (outsAt0 m c n h).2) 2 (fun _ => (0 : EReal))
    (fun n i => add A (beside 5632 B C) n (i 0).val (i 1).val) (fun t h j => (acc_A m c h0 h1 h2 t h j).trans (zero_add _).symm) (fun t h j => acc_S m c h0 h1 h2 t h j) t hl i).trans ?_
  rw [zero_add, Fin.sum_univ_eq_sum_range (fun k => A k (512 * (t.val / 16) + (i 0).val) * beside 5632 B C k (1408 * (t.val / 2 % 8) + (i 1).val)) 4096, show 4096 = 2048 * 2 from rfl, sum_runs]
  refine Finset.sum_congr rfl fun s hs => Finset.sum_congr rfl fun k _ => ?_
  have hs := Finset.mem_range.mp hs
  have hk := k.isLt
  congr 2 <;> omega

include h0 h1 h2 in
theorem arr : (dats m 0 c).arrAt 3 cfg0.N = fun i : S4x2048x2816.Idx => ∑ k : Fin 4096, A k.val (i 1).val * beside 5632 B C k.val (2816 * (i 0).val + (i 2).val) := by
  refine (dats m 0 c).arrAt_eq_of_covers 3 _ (by decide +kernel) fun t hf y => ?_
  have ht := (flush0_3 t).mp hf
  have hN : t.val < 64 := t.isLt
  blk_simp
  rw [after0_3]
  obtain ⟨z, r, q, rfl⟩ : ∃ z r q, y = ix3 z r q := ⟨_, _, _, eq_ix3 y⟩
  rw [out_L m c t ht, acc_eq m c h0 h1 h2 t ht]
  blk_simp [idx3]
  change (_ : EReal) = _
  refine Finset.sum_congr rfl fun k _ => ?_
  congr 2 <;> omega

end Cert.Kernel15Ideal.Mm

namespace Cert.MmTie15

open Cert.Tab

theorem frame_ref : @Cert.quiescent_Reference15Ideal Cert.Reference15Ideal.Gen.facts := fun m ρ _ =>
  (θ_run Cert.Reference15Ideal.defs _ _).mono (fun r h => ⟨fun c => (h c).2, sem_eq_zero_of_no_sems (by decide) r.2⟩)
    (Cert.Reference15Ideal.Value.run (F := Ideal) m ρ)

theorem algebraic : @Cert.algebraic_Kernel15Ideal_Reference15Ideal Cert.Kernel15Ideal.Gen.facts Cert.Reference15Ideal.Gen.facts := by
  intro m g m' g' _ hagree
  refine ⟨fun c => (Cert.Kernel15Ideal.Gen.dats m 0 c).arrAt 3 Cert.Kernel15Ideal.cfg0.N, Cert.Kernel15Ideal.Value.run_blocks m g, ?_⟩
  refine (θ_run Cert.Reference15Ideal.defs _ _).mono (fun r h c => ?_) (Cert.Reference15Ideal.Value.run m' g')
  obtain ⟨r0, rest⟩ := h c
  obtain ⟨a0, a1, a2⟩ := hagree c
  rw [Cert.Reference15Ideal.Read.val_main_v10_eq, a0, a1, a2] at r0
  exact ⟨r0.trans ((funext fun i => Cert.Reference15Ideal.Mm.ref_eq (fun i => eq_tab _ i) (fun i => eq_tab _ i) (fun i => eq_tab _ i) i).trans
    (Cert.Kernel15Ideal.Mm.arr m c (fun i => eq_tab _ i) (fun i => eq_tab _ i) (fun i => eq_tab _ i)).symm), rest⟩

end Cert.MmTie15

end
-- ==== Proof.Mm16.lean ====
/- The gradient of the feed-forward block's input; the cotangent of the product comes in two halves, the weight matrix in shards of its columns. -/
module

public import proofs.«01_k».proof.Defs
public import proofs.«01_k».proof.Proof.MmTab
public import proofs.«01_k».proof.Proof.Gen.Kernel16Ideal.Value
public import proofs.«01_k».proof.Proof.Gen.Reference16Ideal.Read
public import proofs.«01_k».proof.Proof.Gen.Reference16Ideal.Run
public import Idealize.ShloMosaic.Lib.Pipeline.ValueKit
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Reference16Ideal.Mm

open Cert.Reference16Ideal Cert.Reference16Ideal.Read Cert.Tab

theorem ref_eq {A : ℕ → ℕ → EReal} {B : ℕ → ℕ → EReal} {C : ℕ → ℕ → ℕ → EReal} {D : ℕ → ℕ → EReal}
    {x0 : S4096x5632.Idx → EReal} {x1 : S4096x5632.Idx → EReal} {x2 : S4x2048x2816.Idx → EReal} {x3 : S4096x2048.Idx → EReal}
    (h0 : ∀ i, x0 i = A (i 0).val (i 1).val) (h1 : ∀ i, x1 i = B (i 0).val (i 1).val) (h2 : ∀ i, x2 i = C (i 0).val (i 1).val (i 2).val) (h3 : ∀ i, x3 i = D (i 0).val (i 1).val) (i : S4096x2048.Idx) :
    val_main_v12 (F := Ideal) x0 x1 x2 x3 i = (∑ k : Fin 11264, beside 5632 A B (i 0).val k.val * C (k.val / 2816) (i 1).val (k.val % 2816)) + Ideal.ofBits .f32 0x3FB504F3#32 * D (i 0).val (i 1).val := by
  pointwise [val_main_v12, val_main_v11, val_main_v10, val_main_v9, val_main_v8, val_main_v7, val_main_v6, val_main_v5, val_main_v4, val_main_v3, val_main_v2, val_main_v1, val_main_v0, val_main_cst_1, h0, h1, h2, h3]
  rw [Fin.sum_univ_eq_sum_range (fun k => beside 5632 A B (i 0).val k * C (k / 2816) (i 1).val (k % 2816)) 11264, show 11264 = 5632 * 2 from rfl, sum_runs,
    Finset.sum_range_succ, Finset.sum_range_one]
  refine congrArg₂ _ (congrArg₂ _ (Finset.sum_congr rfl fun k _ => ?_) (Finset.sum_congr rfl fun k _ => ?_)) rfl
  · have hk := k.isLt
    rw [beside_lt (by omega), show 5632 * 0 + k.val = k.val from by omega]
  · have hk := k.isLt
    rw [beside_ge (by omega), show 5632 * 1 + k.val - 5632 = k.val from by omega, Nat.mul_one]

end Cert.Reference16Ideal.Mm

namespace Cert.Kernel16Ideal.Mm

open Cert.Kernel16Ideal Cert.Kernel16Ideal.Gen Cert.Tab

theorem idx0 : ∀ t : Fin cfg0.N, t.val % 4 ≤ 1 → win0_0.index t = ![t.val / 8, t.val % 4] :=
  (by decide +kernel : ∀ t : Fin grid0.N, t.val % 4 ≤ 1 → win0_0.index t = ![t.val / 8, t.val % 4])
theorem idx1 : ∀ t : Fin cfg0.N, 2 ≤ t.val % 4 → win0_1.index t = ![t.val / 8, t.val % 4 - 2] :=
  (by decide +kernel : ∀ t : Fin grid0.N, 2 ≤ t.val % 4 → win0_1.index t = ![t.val / 8, t.val % 4 - 2])
theorem idx2 : ∀ t : Fin cfg0.N, win0_2.index t = ![t.val % 4, t.val / 4 % 2, 0] :=
  (by decide +kernel : ∀ t : Fin grid0.N, win0_2.index t = ![t.val % 4, t.val / 4 % 2, 0])
theorem idx3 : ∀ t : Fin cfg0.N, win0_3.index t = ![t.val / 8, t.val / 4 % 2] :=
  (by decide +kernel : ∀ t : Fin grid0.N, win0_3.index t = ![t.val / 8, t.val / 4 % 2])
theorem idx4 : ∀ t : Fin cfg0.N, win0_4.index t = ![t.val / 8, t.val / 4 % 2] :=
  (by decide +kernel : ∀ t : Fin grid0.N, win0_4.index t = ![t.val / 8, t.val / 4 % 2])

variable {A : ℕ → ℕ → EReal} {B : ℕ → ℕ → EReal} {C : ℕ → ℕ → ℕ → EReal} {D : ℕ → ℕ → EReal}
variable (m : (ℓ : Loc nD τ sig) → Buf (Elt Ideal) ℓ) (c : Dev nD)
variable (h0 : ∀ i : S4096x5632.Idx, m (c.tc.loc main_arg0) i = A (i 0).val (i 1).val)
variable (h1 : ∀ i : S4096x5632.Idx, m (c.tc.loc main_arg1) i = B (i 0).val (i 1).val)
variable (h2 : ∀ i : S4x2048x2816.Idx, m (c.tc.loc main_arg2) i = C (i 0).val (i 1).val (i 2).val)
variable (h3 : ∀ i : S4096x2048.Idx, m (c.tc.loc main_arg3) i = D (i 0).val (i 1).val)

include h0 in
theorem blk0 (t : Fin cfg0.N) (ht : t.val % 4 ≤ 1) (r : Fin 512) (k : Fin 2816) :
    iblk m c 0 t (ix2 r k) = beside 5632 A B (512 * (t.val / 8) + r.val) (2816 * (t.val % 4) + k.val) := by
  have hN : t.val < 64 := t.isLt
  have hr := r.isLt
  have hk := k.isLt
  rw [beside_lt (by omega)]
  blk_simp [iblk, V]
  rw [h0]
  refine congrArg₂ A ?_ ?_ <;> blk_simp [idx0 t ht] <;> omega

include h1 in
theorem blk1 (t : Fin cfg0.N) (ht : 2 ≤ t.val % 4) (r : Fin 512) (k : Fin 2816) :
    iblk m c 1 t (ix2 r k) = beside 5632 A B (512 * (t.val / 8) + r.val) (2816 * (t.val % 4) + k.val) := by
  have hN : t.val < 64 := t.isLt
  have hr := r.isLt
  have hk := k.isLt
  rw [beside_ge (by omega)]
  blk_simp [iblk, V]
  rw [h1]
  refine congrArg₂ B ?_ ?_ <;> blk_simp [idx1 t ht] <;> omega

include h2 in
theorem blk2 (t : Fin cfg0.N) (z : Fin 1) (r : Fin 1024) (k : Fin 2816) :
    iblk m c 2 t (ix3 z r k) = C (t.val % 4) (1024 * (t.val / 4 % 2) + r.val) k.val := by
  have hN : t.val < 64 := t.isLt
  blk_simp [iblk, V]
  rw [h2]
  congr 1 <;> blk_simp [idx2] <;> first | rfl | omega

include h3 in
theorem blk3 (t : Fin cfg0.N) (r : Fin 512) (k : Fin 1024) :
    iblk m c 3 t (ix2 r k) = D (512 * (t.val / 8) + r.val) (1024 * (t.val / 4 % 2) + k.val) := by
  have hN : t.val < 64 := t.isLt
  blk_simp [iblk, V]
  rw [h3]
  congr 1 <;> blk_simp [idx3] <;> first | rfl | omega

/-- What a point adds to the accumulator. -/
def add (C : ℕ → ℕ → ℕ → EReal) (U : ℕ → ℕ → EReal) (n r q : ℕ) : EReal :=
  ∑ k : Fin 2816, U (512 * (n / 8) + r) (2816 * (n % 4) + k.val) * C (n % 4) (1024 * (n / 4 % 2) + q) k.val

include h0 h1 h2 in
theorem acc_A (t : Fin cfg0.N) (h : t.val % 4 = 0) (i : S512x1024.Idx) : ((outsAt0 m c t.val t.isLt).2 i : EReal)
    = add C (beside 5632 A B) t.val (i 0).val (i 1).val := by
  have hN : t.val < 64 := t.isLt
  have ho := blk2 m c h2 t
  obtain ⟨r, q, rfl⟩ : ∃ r q, i = ix2 r q := ⟨_, _, eq_ix2 i⟩
  have hp : t.val % 4 ≤ 1 := by omega
  have hb := blk0 (A := A) (B := B) m c h0 t hp
  rw [outsAt0_A m c t (by omega) (by omega) (by omega) (by omega)]
  frame_out
  pointwise [hb, ho, k0_pay1, k0_pay2, k0_pay3, k0_pay4]
  rfl

include h0 h1 h2 in
theorem acc_S (t : Fin cfg0.N) (h : ¬t.val % 4 = 0) (i : S512x1024.Idx) : ((outsAt0 m c t.val t.isLt).2 i : EReal)
    = (outsAt0 m c (t.val - 1) (by omega)).2 i + add C (beside 5632 A B) t.val (i 0).val (i 1).val := by
  have hN : t.val < 64 := t.isLt
  have ho := blk2 m c h2 t
  obtain ⟨r, q, rfl⟩ : ∃ r q, i = ix2 r q := ⟨_, _, eq_ix2 i⟩
  by_cases hl : t.val % 4 = 3
  · have hp : 2 ≤ t.val % 4 := by omega
    have hb := blk1 (A := A) (B := B) m c h1 t hp
    rw [outsAt0_D m c t (by omega) (by omega) (by omega) (by omega)]
    frame_out
    pointwise [hb, ho, k0_pay1, k0_pay2, k0_pay3, k0_pay4]
    exact congrArg₂ _ (congrFun (Memref.IsWhole.read_unread (Memref.isWhole_whole cc0_scratch0) _) _) rfl
  · by_cases hp : t.val % 4 ≤ 1
    · have hb := blk0 (A := A) (B := B) m c h0 t hp
      rw [outsAt0_B m c t (by omega) (by omega) (by omega) (by omega)]
      frame_out
      pointwise [hb, ho, k0_pay1, k0_pay2, k0_pay3, k0_pay4]
      exact congrArg₂ _ (congrFun (Memref.IsWhole.read_unread (Memref.isWhole_whole cc0_scratch0) _) _) rfl
    have hp : 2 ≤ t.val % 4 := by omega
    have hb := blk1 (A := A) (B := B) m c h1 t hp
    rw [outsAt0_C m c t (by omega) (by omega) (by omega) (by omega)]
    frame_out
    pointwise [hb, ho, k0_pay1, k0_pay2, k0_pay3, k0_pay4]
    exact congrArg₂ _ (congrFun (Memref.IsWhole.read_unread (Memref.isWhole_whole cc0_scratch0) _) _) rfl

include h3 in
theorem out_L (t : Fin cfg0.N) (hl : t.val % 4 = 3) (r : Fin 512) (q : Fin 1024) :
    ((outsAt0 m c t.val t.isLt).1 (ix2 r q) : EReal) = (outsAt0 m c t.val t.isLt).2 (ix2 r q) + Ideal.ofBits .f32 0x3FB504F3#32 * D (512 * (t.val / 8) + r.val) (1024 * (t.val / 4 % 2) + q.val) := by
  have hN : t.val < 64 := t.isLt
  have hc := blk3 m c h3 t
  have hp : 2 ≤ t.val % 4 := by omega
  rw [outsAt0_D m c t (by omega) (by omega) (by omega) (by omega)]
  frame_out
  pointwise [hc, k0_pay4]

include h0 h1 h2 in
theorem acc_eq (t : Fin cfg0.N) (hl : t.val % 4 = 3) (i : S512x1024.Idx) : ((outsAt0 m c t.val t.isLt).2 i : EReal)
    = ∑ k : Fin 11264, beside 5632 A B (512 * (t.val / 8) + (i 0).val) k.val * C (k.val / 2816) (1024 * (t.val / 4 % 2) + (i 1).val) (k.val % 2816) := by
  have hN : t.val < 64 := t.isLt
  refine (Pipeline.eq_sum_of_reset_step_apply_of_mod (fun n h => (outsAt0 m c n h).2) 4 (fun _ => (0 : EReal))
    (fun n i => add C (beside 5632 A B) n (i 0).val (i 1).val) (fun t h j => (acc_A m c h0 h1 h2 t h j).trans (zero_add _).symm) (fun t h j => acc_S m c h0 h1 h2 t h j) t hl i).trans ?_
  rw [zero_add, Fin.sum_univ_eq_sum_range (fun k => beside 5632 A B (512 * (t.val / 8) + (i 0).val) k * C (k / 2816) (1024 * (t.val / 4 % 2) + (i 1).val) (k % 2816)) 11264, show 11264 = 2816 * 4 from rfl, sum_runs]
  refine Finset.sum_congr rfl fun s hs => Finset.sum_congr rfl fun k _ => ?_
  have hs := Finset.mem_range.mp hs
  have hk := k.isLt
  congr 2 <;> omega

include h0 h1 h2 h3 in
theorem arr : (dats m 0 c).arrAt 4 cfg0.N = fun i : S4096x2048.Idx => (∑ k : Fin 11264, beside 5632 A B (i 0).val k.val * C (k.val / 2816) (i 1).val (k.val % 2816)) + Ideal.ofBits .f32 0x3FB504F3#32 * D (i 0).val (i 1).val := by
  refine (dats m 0 c).arrAt_eq_of_covers 4 _ (by decide +kernel) fun t hf y => ?_
  have ht := (flush0_4 t).mp hf
  have hN : t.val < 64 := t.isLt
  blk_simp
  rw [after0_4]
  obtain ⟨r, q, rfl⟩ : ∃ r q, y = ix2 r q := ⟨_, _, eq_ix2 y⟩
  rw [out_L m c h3 t ht, acc_eq m c h0 h1 h2 t ht]
  blk_simp [idx4]
  change (_ : EReal) = _
  refine congrArg₂ _ (Finset.sum_congr rfl fun k _ => congrArg₂ _ (congrArg₂ _ ?_ rfl) (congrArg (fun z => C (k.val / 2816) z (k.val % 2816)) ?_)) (congrArg₂ _ rfl (congrArg₂ D ?_ ?_)) <;> omega

end Cert.Kernel16Ideal.Mm

namespace Cert.MmTie16

open Cert.Tab

theorem frame_ref : @Cert.quiescent_Reference16Ideal Cert.Reference16Ideal.Gen.facts := fun m ρ _ =>
  (θ_run Cert.Reference16Ideal.defs _ _).mono (fun r h => ⟨fun c => (h c).2, sem_eq_zero_of_no_sems (by decide) r.2⟩)
    (Cert.Reference16Ideal.Value.run (F := Ideal) m ρ)

theorem algebraic : @Cert.algebraic_Kernel16Ideal_Reference16Ideal Cert.Kernel16Ideal.Gen.facts Cert.Reference16Ideal.Gen.facts := by
  intro m g m' g' _ hagree
  refine ⟨fun c => (Cert.Kernel16Ideal.Gen.dats m 0 c).arrAt 4 Cert.Kernel16Ideal.cfg0.N, Cert.Kernel16Ideal.Value.run_blocks m g, ?_⟩
  refine (θ_run Cert.Reference16Ideal.defs _ _).mono (fun r h c => ?_) (Cert.Reference16Ideal.Value.run m' g')
  obtain ⟨r0, rest⟩ := h c
  obtain ⟨a0, a1, a2, a3⟩ := hagree c
  rw [Cert.Reference16Ideal.Read.val_main_v12_eq, a0, a1, a2, a3] at r0
  exact ⟨r0.trans ((funext fun i => Cert.Reference16Ideal.Mm.ref_eq (fun i => eq_tab _ i) (fun i => eq_tab _ i) (fun i => eq_tab3 _ i) (fun i => eq_tab _ i) i).trans
    (Cert.Kernel16Ideal.Mm.arr m c (fun i => eq_tab _ i) (fun i => eq_tab _ i) (fun i => eq_tab3 _ i) (fun i => eq_tab _ i)).symm), rest⟩

end Cert.MmTie16

end
-- ==== Proof.Mm17.lean ====
/- The gradient of the recurrent mixer's first weight matrix, in shards of its columns; the cotangent comes in four parts. -/
module

public import proofs.«01_k».proof.Defs
public import proofs.«01_k».proof.Proof.MmTab
public import proofs.«01_k».proof.Proof.Gen.Kernel17Ideal.Value
public import proofs.«01_k».proof.Proof.Gen.Reference17Ideal.Read
public import proofs.«01_k».proof.Proof.Gen.Reference17Ideal.Run
public import Idealize.ShloMosaic.Lib.Pipeline.ValueKit
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Reference17Ideal.Mm

open Cert.Reference17Ideal Cert.Reference17Ideal.Read Cert.Tab

theorem ref_eq {A : ℕ → ℕ → EReal} {B : ℕ → ℕ → EReal} {C : ℕ → ℕ → EReal} {D : ℕ → ℕ → EReal} {E : ℕ → ℕ → EReal}
    {x0 : S4096x2048.Idx → EReal} {x1 : S4096x2048.Idx → EReal} {x2 : S4096x2048.Idx → EReal} {x3 : S4096x2048.Idx → EReal} {x4 : S4096x2048.Idx → EReal}
    (h0 : ∀ i, x0 i = A (i 0).val (i 1).val) (h1 : ∀ i, x1 i = B (i 0).val (i 1).val) (h2 : ∀ i, x2 i = C (i 0).val (i 1).val) (h3 : ∀ i, x3 i = D (i 0).val (i 1).val) (h4 : ∀ i, x4 i = E (i 0).val (i 1).val) (i : S4x2048x2048.Idx) :
    val_main_v10 (F := Ideal) x0 x1 x2 x3 x4 i = ∑ k : Fin 4096, A k.val (i 1).val * beside 2048 B (beside 2048 C (beside 2048 D E)) k.val (2048 * (i 0).val + (i 2).val) := by
  pointwise [val_main_v10, val_main_v9, val_main_v8, val_main_v7, val_main_v6, val_main_v5, val_main_v4, val_main_v3, val_main_v2, val_main_v1, val_main_v0, h0, h1, h2, h3, h4]
  refine Finset.sum_congr rfl fun k _ => (mul_comm _ _).trans ?_
  rw [Nat.mul_comm 2048]
  simp only [beside, dite_eq_ite]

end Cert.Reference17Ideal.Mm

namespace Cert.Kernel17Ideal.Mm

open Cert.Kernel17Ideal Cert.Kernel17Ideal.Gen Cert.Tab

theorem idx0 : ∀ t : Fin cfg0.N, win0_0.index t = ![t.val % 4, t.val / 32] :=
  (by decide +kernel : ∀ t : Fin grid0.N, win0_0.index t = ![t.val % 4, t.val / 32])
theorem idx1 : ∀ t : Fin cfg0.N, t.val / 4 % 8 ≤ 1 → win0_1.index t = ![t.val % 4, t.val / 4 % 8 - 0] :=
  (by decide +kernel : ∀ t : Fin grid0.N, t.val / 4 % 8 ≤ 1 → win0_1.index t = ![t.val % 4, t.val / 4 % 8 - 0])
theorem idx2 : ∀ t : Fin cfg0.N, 2 ≤ t.val / 4 % 8 ∧ t.val / 4 % 8 ≤ 3 → win0_2.index t = ![t.val % 4, t.val / 4 % 8 - 2] :=
  (by decide +kernel : ∀ t : Fin grid0.N, 2 ≤ t.val / 4 % 8 ∧ t.val / 4 % 8 ≤ 3 → win0_2.index t = ![t.val % 4, t.val / 4 % 8 - 2])
theorem idx3 : ∀ t : Fin cfg0.N, 4 ≤ t.val / 4 % 8 ∧ t.val / 4 % 8 ≤ 5 → win0_3.index t = ![t.val % 4, t.val / 4 % 8 - 4] :=
  (by decide +kernel : ∀ t : Fin grid0.N, 4 ≤ t.val / 4 % 8 ∧ t.val / 4 % 8 ≤ 5 → win0_3.index t = ![t.val % 4, t.val / 4 % 8 - 4])
theorem idx4 : ∀ t : Fin cfg0.N, 6 ≤ t.val / 4 % 8 → win0_4.index t = ![t.val % 4, t.val / 4 % 8 - 6] :=
  (by decide +kernel : ∀ t : Fin grid0.N, 6 ≤ t.val / 4 % 8 → win0_4.index t = ![t.val % 4, t.val / 4 % 8 - 6])
theorem idx5 : ∀ t : Fin cfg0.N, win0_5.index t = ![t.val / 4 % 8 / 2, t.val / 32, t.val / 4 % 2] :=
  (by decide +kernel : ∀ t : Fin grid0.N, win0_5.index t = ![t.val / 4 % 8 / 2, t.val / 32, t.val / 4 % 2])

variable {A : ℕ → ℕ → EReal} {B : ℕ → ℕ → EReal} {C : ℕ → ℕ → EReal} {D : ℕ → ℕ → EReal} {E : ℕ → ℕ → EReal}
variable (m : (ℓ : Loc nD τ sig) → Buf (Elt Ideal) ℓ) (c : Dev nD)
variable (h0 : ∀ i : S4096x2048.Idx, m (c.tc.loc main_arg0) i = A (i 0).val (i 1).val)
variable (h1 : ∀ i : S4096x2048.Idx, m (c.tc.loc main_arg1) i = B (i 0).val (i 1).val)
variable (h2 : ∀ i : S4096x2048.Idx, m (c.tc.loc main_arg2) i = C (i 0).val (i 1).val)
variable (h3 : ∀ i : S4096x2048.Idx, m (c.tc.loc main_arg3) i = D (i 0).val (i 1).val)
variable (h4 : ∀ i : S4096x2048.Idx, m (c.tc.loc main_arg4) i = E (i 0).val (i 1).val)

include h1 in
theorem blk1 (t : Fin cfg0.N) (ht : t.val / 4 % 8 ≤ 1) (r : Fin 1024) (k : Fin 1024) :
    iblk m c 1 t (ix2 r k) = beside 2048 B (beside 2048 C (beside 2048 D E)) (1024 * (t.val % 4) + r.val) (1024 * (t.val / 4 % 8) + k.val) := by
  have hN : t.val < 64 := t.isLt
  have hr := r.isLt
  have hk := k.isLt
  rw [beside_lt (by omega)]
  blk_simp [iblk, V]
  rw [h1]
  refine congrArg₂ B ?_ ?_ <;> blk_simp [idx1 t ht] <;> omega

include h2 in
theorem blk2 (t : Fin cfg0.N) (ht : 2 ≤ t.val / 4 % 8 ∧ t.val / 4 % 8 ≤ 3) (r : Fin 1024) (k : Fin 1024) :
    iblk m c 2 t (ix2 r k) = beside 2048 B (beside 2048 C (beside 2048 D E)) (1024 * (t.val % 4) + r.val) (1024 * (t.val / 4 % 8) + k.val) := by
  have hN : t.val < 64 := t.isLt
  have hr := r.isLt
  have hk := k.isLt
  rw [beside_ge (by omega), beside_lt (by omega)]
  blk_simp [iblk, V]
  rw [h2]
  refine congrArg₂ C ?_ ?_ <;> blk_simp [idx2 t ht] <;> omega

include h3 in
theorem blk3 (t : Fin cfg0.N) (ht : 4 ≤ t.val / 4 % 8 ∧ t.val / 4 % 8 ≤ 5) (r : Fin 1024) (k : Fin 1024) :
    iblk m c 3 t (ix2 r k) = beside 2048 B (beside 2048 C (beside 2048 D E)) (1024 * (t.val % 4) + r.val) (1024 * (t.val / 4 % 8) + k.val) := by
  have hN : t.val < 64 := t.isLt
  have hr := r.isLt
  have hk := k.isLt
  rw [beside_ge (by omega), beside_ge (by omega), beside_lt (by omega)]
  blk_simp [iblk, V]
  rw [h3]
  refine congrArg₂ D ?_ ?_ <;> blk_simp [idx3 t ht] <;> omega

include h4 in
theorem blk4 (t : Fin cfg0.N) (ht : 6 ≤ t.val / 4 % 8) (r : Fin 1024) (k : Fin 1024) :
    iblk m c 4 t (ix2 r k) = beside 2048 B (beside 2048 C (beside 2048 D E)) (1024 * (t.val % 4) + r.val) (1024 * (t.val / 4 % 8) + k.val) := by
  have hN : t.val < 64 := t.isLt
  have hr := r.isLt
  have hk := k.isLt
  rw [beside_ge (by omega), beside_ge (by omega), beside_ge (by omega)]
  blk_simp [iblk, V]
  rw [h4]
  refine congrArg₂ E ?_ ?_ <;> blk_simp [idx4 t ht] <;> omega

include h0 in
theorem blk0 (t : Fin cfg0.N) (r : Fin 1024) (k : Fin 1024) :
    iblk m c 0 t (ix2 r k) = A (1024 * (t.val % 4) + r.val) (1024 * (t.val / 32) + k.val) := by
  have hN : t.val < 64 := t.isLt
  blk_simp [iblk, V]
  rw [h0]
  congr 1 <;> blk_simp [idx0] <;> first | rfl | omega

/-- What a point adds to the accumulator. -/
def add (A : ℕ → ℕ → EReal) (U : ℕ → ℕ → EReal) (n r q : ℕ) : EReal :=
  ∑ k : Fin 1024, A (1024 * (n % 4) + k.val) (1024 * (n / 32) + r) * U (1024 * (n % 4) + k.val) (1024 * (n / 4 % 8) + q)

include h0 h1 h2 h3 h4 in
theorem acc_A (t : Fin cfg0.N) (h : t.val % 4 = 0) (i : S1024x1024.Idx) : ((outsAt0 m c t.val t.isLt).2 i : EReal)
    = add A (beside 2048 B (beside 2048 C (beside 2048 D E))) t.val (i 0).val (i 1).val := by
  have hN : t.val < 64 := t.isLt
  have ho := blk0 m c h0 t
  obtain ⟨r, q, rfl⟩ : ∃ r q, i = ix2 r q := ⟨_, _, eq_ix2 i⟩
  by_cases hp : t.val / 4 % 8 ≤ 1
  · have hb := blk1 (B := B) (C := C) (D := D) (E := E) m c h1 t hp
    rw [outsAt0_A m c t (by omega) (by omega) (by omega) (by omega) (by omega) (by omega)]
    frame_out
    pointwise [hb, ho, k0_pay1, k0_pay2, k0_pay3, k0_pay4, k0_pay5, k0_pay6]
    rfl
  by_cases hp : 2 ≤ t.val / 4 % 8 ∧ t.val / 4 % 8 ≤ 3
  · have hb := blk2 (B := B) (C := C) (D := D) (E := E) m c h2 t hp
    rw [outsAt0_D m c t (by omega) (by omega) (by omega) (by omega) (by omega) (by omega)]
    frame_out
    pointwise [hb, ho, k0_pay1, k0_pay2, k0_pay3, k0_pay4, k0_pay5, k0_pay6]
    rfl
  by_cases hp : 4 ≤ t.val / 4 % 8 ∧ t.val / 4 % 8 ≤ 5
  · have hb := blk3 (B := B) (C := C) (D := D) (E := E) m c h3 t hp
    rw [outsAt0_G m c t (by omega) (by omega) (by omega) (by omega) (by omega) (by omega)]
    frame_out
    pointwise [hb, ho, k0_pay1, k0_pay2, k0_pay3, k0_pay4, k0_pay5, k0_pay6]
    rfl
  have hp : 6 ≤ t.val / 4 % 8 := by omega
  have hb := blk4 (B := B) (C := C) (D := D) (E := E) m c h4 t hp
  rw [outsAt0_J m c t (by omega) (by omega) (by omega) (by omega) (by omega) (by omega)]
  frame_out
  pointwise [hb, ho, k0_pay1, k0_pay2, k0_pay3, k0_pay4, k0_pay5, k0_pay6]
  rfl

include h0 h1 h2 h3 h4 in
theorem acc_S (t : Fin cfg0.N) (h : ¬t.val % 4 = 0) (i : S1024x1024.Idx) : ((outsAt0 m c t.val t.isLt).2 i : EReal)
    = (outsAt0 m c (t.val - 1) (by omega)).2 i + add A (beside 2048 B (beside 2048 C (beside 2048 D E))) t.val (i 0).val (i 1).val := by
  have hN : t.val < 64 := t.isLt
  have ho := blk0 m c h0 t
  obtain ⟨r, q, rfl⟩ : ∃ r q, i = ix2 r q := ⟨_, _, eq_ix2 i⟩
  by_cases hl : t.val % 4 = 3
  · by_cases hp : t.val / 4 % 8 ≤ 1
    · have hb := blk1 (B := B) (C := C) (D := D) (E := E) m c h1 t hp
      rw [outsAt0_C m c t (by omega) (by omega) (by omega) (by omega) (by omega) (by omega)]
      frame_out
      pointwise [hb, ho, k0_pay1, k0_pay2, k0_pay3, k0_pay4, k0_pay5, k0_pay6]
      exact congrArg₂ _ (congrFun (Memref.IsWhole.read_unread (Memref.isWhole_whole cc0_scratch0) _) _) rfl
    by_cases hp : 2 ≤ t.val / 4 % 8 ∧ t.val / 4 % 8 ≤ 3
    · have hb := blk2 (B := B) (C := C) (D := D) (E := E) m c h2 t hp
      rw [outsAt0_F m c t (by omega) (by omega) (by omega) (by omega) (by omega) (by omega)]
      frame_out
      pointwise [hb, ho, k0_pay1, k0_pay2, k0_pay3, k0_pay4, k0_pay5, k0_pay6]
      exact congrArg₂ _ (congrFun (Memref.IsWhole.read_unread (Memref.isWhole_whole cc0_scratch0) _) _) rfl
    by_cases hp : 4 ≤ t.val / 4 % 8 ∧ t.val / 4 % 8 ≤ 5
    · have hb := blk3 (B := B) (C := C) (D := D) (E := E) m c h3 t hp
      rw [outsAt0_I m c t (by omega) (by omega) (by omega) (by omega) (by omega) (by omega)]
      frame_out
      pointwise [hb, ho, k0_pay1, k0_pay2, k0_pay3, k0_pay4, k0_pay5, k0_pay6]
      exact congrArg₂ _ (congrFun (Memref.IsWhole.read_unread (Memref.isWhole_whole cc0_scratch0) _) _) rfl
    have hp : 6 ≤ t.val / 4 % 8 := by omega
    have hb := blk4 (B := B) (C := C) (D := D) (E := E) m c h4 t hp
    rw [outsAt0_L m c t (by omega) (by omega) (by omega) (by omega) (by omega) (by omega)]
    frame_out
    pointwise [hb, ho, k0_pay1, k0_pay2, k0_pay3, k0_pay4, k0_pay5, k0_pay6]
    exact congrArg₂ _ (congrFun (Memref.IsWhole.read_unread (Memref.isWhole_whole cc0_scratch0) _) _) rfl
  · by_cases hp : t.val / 4 % 8 ≤ 1
    · have hb := blk1 (B := B) (C := C) (D := D) (E := E) m c h1 t hp
      rw [outsAt0_B m c t (by omega) (by omega) (by omega) (by omega) (by omega) (by omega)]
      frame_out
      pointwise [hb, ho, k0_pay1, k0_pay2, k0_pay3, k0_pay4, k0_pay5, k0_pay6]
      exact congrArg₂ _ (congrFun (Memref.IsWhole.read_unread (Memref.isWhole_whole cc0_scratch0) _) _) rfl
    by_cases hp : 2 ≤ t.val / 4 % 8 ∧ t.val / 4 % 8 ≤ 3
    · have hb := blk2 (B := B) (C := C) (D := D) (E := E) m c h2 t hp
      rw [outsAt0_E m c t (by omega) (by omega) (by omega) (by omega) (by omega) (by omega)]
      frame_out
      pointwise [hb, ho, k0_pay1, k0_pay2, k0_pay3, k0_pay4, k0_pay5, k0_pay6]
      exact congrArg₂ _ (congrFun (Memref.IsWhole.read_unread (Memref.isWhole_whole cc0_scratch0) _) _) rfl
    by_cases hp : 4 ≤ t.val / 4 % 8 ∧ t.val / 4 % 8 ≤ 5
    · have hb := blk3 (B := B) (C := C) (D := D) (E := E) m c h3 t hp
      rw [outsAt0_H m c t (by omega) (by omega) (by omega) (by omega) (by omega) (by omega)]
      frame_out
      pointwise [hb, ho, k0_pay1, k0_pay2, k0_pay3, k0_pay4, k0_pay5, k0_pay6]
      exact congrArg₂ _ (congrFun (Memref.IsWhole.read_unread (Memref.isWhole_whole cc0_scratch0) _) _) rfl
    have hp : 6 ≤ t.val / 4 % 8 := by omega
    have hb := blk4 (B := B) (C := C) (D := D) (E := E) m c h4 t hp
    rw [outsAt0_K m c t (by omega) (by omega) (by omega) (by omega) (by omega) (by omega)]
    frame_out
    pointwise [hb, ho, k0_pay1, k0_pay2, k0_pay3, k0_pay4, k0_pay5, k0_pay6]
    exact congrArg₂ _ (congrFun (Memref.IsWhole.read_unread (Memref.isWhole_whole cc0_scratch0) _) _) rfl

theorem out_L (t : Fin cfg0.N) (hl : t.val % 4 = 3) (z : Fin 1) (r : Fin 1024) (q : Fin 1024) :
    ((outsAt0 m c t.val t.isLt).1 (ix3 z r q) : EReal) = (outsAt0 m c t.val t.isLt).2 (ix2 r q) := by
  have hN : t.val < 64 := t.isLt
  by_cases hp : t.val / 4 % 8 ≤ 1
  · rw [outsAt0_C m c t (by omega) (by omega) (by omega) (by omega) (by omega) (by omega)]
    frame_out
    pointwise [k0_pay1]
  by_cases hp : 2 ≤ t.val / 4 % 8 ∧ t.val / 4 % 8 ≤ 3
  · rw [outsAt0_F m c t (by omega) (by omega) (by omega) (by omega) (by omega) (by omega)]
    frame_out
    pointwise [k0_pay1]
  by_cases hp : 4 ≤ t.val / 4 % 8 ∧ t.val / 4 % 8 ≤ 5
  · rw [outsAt0_I m c t (by omega) (by omega) (by omega) (by omega) (by omega) (by omega)]
    frame_out
    pointwise [k0_pay1]
  have hp : 6 ≤ t.val / 4 % 8 := by omega
  rw [outsAt0_L m c t (by omega) (by omega) (by omega) (by omega) (by omega) (by omega)]
  frame_out
  pointwise [k0_pay1]

include h0 h1 h2 h3 h4 in
theorem acc_eq (t : Fin cfg0.N) (hl : t.val % 4 = 3) (i : S1024x1024.Idx) : ((outsAt0 m c t.val t.isLt).2 i : EReal)
    = ∑ k : Fin 4096, A k.val (1024 * (t.val / 32) + (i 0).val) * beside 2048 B (beside 2048 C (beside 2048 D E)) k.val (1024 * (t.val / 4 % 8) + (i 1).val) := by
  have hN : t.val < 64 := t.isLt
  refine (Pipeline.eq_sum_of_reset_step_apply_of_mod (fun n h => (outsAt0 m c n h).2) 4 (fun _ => (0 : EReal))
    (fun n i => add A (beside 2048 B (beside 2048 C (beside 2048 D E))) n (i 0).val (i 1).val) (fun t h j => (acc_A m c h0 h1 h2 h3 h4 t h j).trans (zero_add _).symm) (fun t h j => acc_S m c h0 h1 h2 h3 h4 t h j) t hl i).trans ?_
  rw [zero_add, Fin.sum_univ_eq_sum_range (fun k => A k (1024 * (t.val / 32) + (i 0).val) * beside 2048 B (beside 2048 C (beside 2048 D E)) k (1024 * (t.val / 4 % 8) + (i 1).val)) 4096, show 4096 = 1024 * 4 from rfl, sum_runs]
  refine Finset.sum_congr rfl fun s hs => Finset.sum_congr rfl fun k _ => ?_
  have hs := Finset.mem_range.mp hs
  have hk := k.isLt
  congr 2 <;> omega

include h0 h1 h2 h3 h4 in
theorem arr : (dats m 0 c).arrAt 5 cfg0.N = fun i : S4x2048x2048.Idx => ∑ k : Fin 4096, A k.val (i 1).val * beside 2048 B (beside 2048 C (beside 2048 D E)) k.val (2048 * (i 0).val + (i 2).val) := by
  refine (dats m 0 c).arrAt_eq_of_covers 5 _ (by decide +kernel) fun t hf y => ?_
  have ht := (flush0_5 t).mp hf
  have hN : t.val < 64 := t.isLt
  blk_simp
  rw [after0_5]
  obtain ⟨z, r, q, rfl⟩ : ∃ z r q, y = ix3 z r q := ⟨_, _, _, eq_ix3 y⟩
  rw [out_L m c t ht, acc_eq m c h0 h1 h2 h3 h4 t ht]
  blk_simp [idx5]
  change (_ : EReal) = _
  refine Finset.sum_congr rfl fun k _ => ?_
  congr 2 <;> omega

end Cert.Kernel17Ideal.Mm

namespace Cert.MmTie17

open Cert.Tab

theorem frame_ref : @Cert.quiescent_Reference17Ideal Cert.Reference17Ideal.Gen.facts := fun m ρ _ =>
  (θ_run Cert.Reference17Ideal.defs _ _).mono (fun r h => ⟨fun c => (h c).2, sem_eq_zero_of_no_sems (by decide) r.2⟩)
    (Cert.Reference17Ideal.Value.run (F := Ideal) m ρ)

theorem algebraic : @Cert.algebraic_Kernel17Ideal_Reference17Ideal Cert.Kernel17Ideal.Gen.facts Cert.Reference17Ideal.Gen.facts := by
  intro m g m' g' _ hagree
  refine ⟨fun c => (Cert.Kernel17Ideal.Gen.dats m 0 c).arrAt 5 Cert.Kernel17Ideal.cfg0.N, Cert.Kernel17Ideal.Value.run_blocks m g, ?_⟩
  refine (θ_run Cert.Reference17Ideal.defs _ _).mono (fun r h c => ?_) (Cert.Reference17Ideal.Value.run m' g')
  obtain ⟨r0, rest⟩ := h c
  obtain ⟨a0, a1, a2, a3, a4⟩ := hagree c
  rw [Cert.Reference17Ideal.Read.val_main_v10_eq, a0, a1, a2, a3, a4] at r0
  exact ⟨r0.trans ((funext fun i => Cert.Reference17Ideal.Mm.ref_eq (fun i => eq_tab _ i) (fun i => eq_tab _ i) (fun i => eq_tab _ i) (fun i => eq_tab _ i) (fun i => eq_tab _ i) i).trans
    (Cert.Kernel17Ideal.Mm.arr m c (fun i => eq_tab _ i) (fun i => eq_tab _ i) (fun i => eq_tab _ i) (fun i => eq_tab _ i) (fun i => eq_tab _ i)).symm), rest⟩

end Cert.MmTie17

end
-- ==== Proof.Mm18.lean ====
/- The part of the recurrent mixer's input gradient that comes from its gates and values, added to the part from its queries. -/
module

public import proofs.«01_k».proof.Defs
public import proofs.«01_k».proof.Proof.MmTab
public import proofs.«01_k».proof.Proof.Gen.Kernel18Ideal.Value
public import proofs.«01_k».proof.Proof.Gen.Reference18Ideal.Read
public import proofs.«01_k».proof.Proof.Gen.Reference18Ideal.Run
public import Idealize.ShloMosaic.Lib.Pipeline.ValueKit
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Reference18Ideal.Mm

open Cert.Reference18Ideal Cert.Reference18Ideal.Read Cert.Tab

theorem ref_eq {A : ℕ → ℕ → EReal} {B : ℕ → ℕ → EReal} {C : ℕ → ℕ → EReal} {D : ℕ → ℕ → ℕ → EReal} {E : ℕ → ℕ → EReal}
    {x0 : S4096x2048.Idx → EReal} {x1 : S4096x2048.Idx → EReal} {x2 : S4096x2048.Idx → EReal} {x3 : S4x2048x2048.Idx → EReal} {x4 : S4096x2048.Idx → EReal}
    (h0 : ∀ i, x0 i = A (i 0).val (i 1).val) (h1 : ∀ i, x1 i = B (i 0).val (i 1).val) (h2 : ∀ i, x2 i = C (i 0).val (i 1).val) (h3 : ∀ i, x3 i = D (i 0).val (i 1).val (i 2).val) (h4 : ∀ i, x4 i = E (i 0).val (i 1).val) (i : S4096x2048.Idx) :
    val_main_v21 (F := Ideal) x0 x1 x2 x3 x4 i = (∑ s ∈ Finset.range 3, ∑ k : Fin 2048, beside 2048 A (beside 2048 B C) (i 0).val (2048 * s + k.val) * D (s + 1) (i 1).val k.val) + E (i 0).val (i 1).val := by
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, h0, h1, h2, h3, h4]
  have e0 : ∑ k : Fin 2048, beside 2048 A (beside 2048 B C) (i 0).val (2048 * 0 + k.val) * D (0 + 1) (i 1).val k.val = ∑ k : Fin 2048, A (i 0).val k.val * D 1 (i 1).val k.val :=
    Finset.sum_congr rfl fun k _ => by rw [beside_lt (by omega), show 2048 * 0 + k.val = k.val from by omega]
  have e1 : ∑ k : Fin 2048, beside 2048 A (beside 2048 B C) (i 0).val (2048 * 1 + k.val) * D (1 + 1) (i 1).val k.val = ∑ k : Fin 2048, B (i 0).val k.val * D 2 (i 1).val k.val :=
    Finset.sum_congr rfl fun k _ => by rw [beside_ge (by omega), beside_lt (by omega), show 2048 * 1 + k.val - 2048 = k.val from by omega]
  have e2 : ∑ k : Fin 2048, beside 2048 A (beside 2048 B C) (i 0).val (2048 * 2 + k.val) * D (2 + 1) (i 1).val k.val = ∑ k : Fin 2048, C (i 0).val k.val * D 3 (i 1).val k.val :=
    Finset.sum_congr rfl fun k _ => by rw [beside_ge (by omega), beside_ge (by omega), show 2048 * 2 + k.val - 2048 - 2048 = k.val from by omega]
  rw [Finset.sum_range_succ, Finset.sum_range_succ, Finset.sum_range_one, e0, e1, e2]
  abel

end Cert.Reference18Ideal.Mm

namespace Cert.Kernel18Ideal.Mm

open Cert.Kernel18Ideal Cert.Kernel18Ideal.Gen Cert.Tab

theorem idx0 : ∀ t : Fin cfg0.N, t.val % 3 = 0 → win0_0.index t = ![t.val / 6, 0] :=
  (by decide +kernel : ∀ t : Fin grid0.N, t.val % 3 = 0 → win0_0.index t = ![t.val / 6, 0])
theorem idx1 : ∀ t : Fin cfg0.N, t.val % 3 = 1 → win0_1.index t = ![t.val / 6, 0] :=
  (by decide +kernel : ∀ t : Fin grid0.N, t.val % 3 = 1 → win0_1.index t = ![t.val / 6, 0])
theorem idx2 : ∀ t : Fin cfg0.N, t.val % 3 = 2 → win0_2.index t = ![t.val / 6, 0] :=
  (by decide +kernel : ∀ t : Fin grid0.N, t.val % 3 = 2 → win0_2.index t = ![t.val / 6, 0])
theorem idx3 : ∀ t : Fin cfg0.N, win0_3.index t = ![t.val % 3 + 1, t.val / 3 % 2, 0] :=
  (by decide +kernel : ∀ t : Fin grid0.N, win0_3.index t = ![t.val % 3 + 1, t.val / 3 % 2, 0])
theorem idx4 : ∀ t : Fin cfg0.N, win0_4.index t = ![t.val / 6, t.val / 3 % 2] :=
  (by decide +kernel : ∀ t : Fin grid0.N, win0_4.index t = ![t.val / 6, t.val / 3 % 2])
theorem idx5 : ∀ t : Fin cfg0.N, win0_5.index t = ![t.val / 6, t.val / 3 % 2] :=
  (by decide +kernel : ∀ t : Fin grid0.N, win0_5.index t = ![t.val / 6, t.val / 3 % 2])

variable {A : ℕ → ℕ → EReal} {B : ℕ → ℕ → EReal} {C : ℕ → ℕ → EReal} {D : ℕ → ℕ → ℕ → EReal} {E : ℕ → ℕ → EReal}
variable (m : (ℓ : Loc nD τ sig) → Buf (Elt Ideal) ℓ) (c : Dev nD)
variable (h0 : ∀ i : S4096x2048.Idx, m (c.tc.loc main_arg0) i = A (i 0).val (i 1).val)
variable (h1 : ∀ i : S4096x2048.Idx, m (c.tc.loc main_arg1) i = B (i 0).val (i 1).val)
variable (h2 : ∀ i : S4096x2048.Idx, m (c.tc.loc main_arg2) i = C (i 0).val (i 1).val)
variable (h3 : ∀ i : S4x2048x2048.Idx, m (c.tc.loc main_arg3) i = D (i 0).val (i 1).val (i 2).val)
variable (h4 : ∀ i : S4096x2048.Idx, m (c.tc.loc main_arg4) i = E (i 0).val (i 1).val)

include h0 in
theorem blk0 (t : Fin cfg0.N) (ht : t.val % 3 = 0) (r : Fin 512) (k : Fin 2048) :
    iblk m c 0 t (ix2 r k) = beside 2048 A (beside 2048 B C) (512 * (t.val / 6) + r.val) (2048 * (t.val % 3) + k.val) := by
  have hN : t.val < 48 := t.isLt
  have hr := r.isLt
  have hk := k.isLt
  rw [beside_lt (by omega)]
  blk_simp [iblk, V]
  rw [h0]
  refine congrArg₂ A ?_ ?_ <;> blk_simp [idx0 t ht] <;> omega

include h1 in
theorem blk1 (t : Fin cfg0.N) (ht : t.val % 3 = 1) (r : Fin 512) (k : Fin 2048) :
    iblk m c 1 t (ix2 r k) = beside 2048 A (beside 2048 B C) (512 * (t.val / 6) + r.val) (2048 * (t.val % 3) + k.val) := by
  have hN : t.val < 48 := t.isLt
  have hr := r.isLt
  have hk := k.isLt
  rw [beside_ge (by omega), beside_lt (by omega)]
  blk_simp [iblk, V]
  rw [h1]
  refine congrArg₂ B ?_ ?_ <;> blk_simp [idx1 t ht] <;> omega

include h2 in
theorem blk2 (t : Fin cfg0.N) (ht : t.val % 3 = 2) (r : Fin 512) (k : Fin 2048) :
    iblk m c 2 t (ix2 r k) = beside 2048 A (beside 2048 B C) (512 * (t.val / 6) + r.val) (2048 * (t.val % 3) + k.val) := by
  have hN : t.val < 48 := t.isLt
  have hr := r.isLt
  have hk := k.isLt
  rw [beside_ge (by omega), beside_ge (by omega)]
  blk_simp [iblk, V]
  rw [h2]
  refine congrArg₂ C ?_ ?_ <;> blk_simp [idx2 t ht] <;> omega

include h3 in
theorem blk3 (t : Fin cfg0.N) (z : Fin 1) (r : Fin 1024) (k : Fin 2048) :
    iblk m c 3 t (ix3 z r k) = D (t.val % 3 + 1) (1024 * (t.val / 3 % 2) + r.val) k.val := by
  have hN : t.val < 48 := t.isLt
  blk_simp [iblk, V]
  rw [h3]
  congr 1 <;> blk_simp [idx3] <;> first | rfl | omega

include h4 in
theorem blk4 (t : Fin cfg0.N) (r : Fin 512) (k : Fin 1024) :
    iblk m c 4 t (ix2 r k) = E (512 * (t.val / 6) + r.val) (1024 * (t.val / 3 % 2) + k.val) := by
  have hN : t.val < 48 := t.isLt
  blk_simp [iblk, V]
  rw [h4]
  congr 1 <;> blk_simp [idx4] <;> first | rfl | omega

/-- What a point adds to the accumulator. -/
def add (D : ℕ → ℕ → ℕ → EReal) (U : ℕ → ℕ → EReal) (n r q : ℕ) : EReal :=
  ∑ k : Fin 2048, U (512 * (n / 6) + r) (2048 * (n % 3) + k.val) * D (n % 3 + 1) (1024 * (n / 3 % 2) + q) k.val

include h0 h1 h2 h3 in
theorem acc_A (t : Fin cfg0.N) (h : t.val % 3 = 0) (i : S512x1024.Idx) : ((outsAt0 m c t.val t.isLt).2 i : EReal)
    = add D (beside 2048 A (beside 2048 B C)) t.val (i 0).val (i 1).val := by
  have hN : t.val < 48 := t.isLt
  have ho := blk3 m c h3 t
  obtain ⟨r, q, rfl⟩ : ∃ r q, i = ix2 r q := ⟨_, _, eq_ix2 i⟩
  have hp : t.val % 3 = 0 := by omega
  have hb := blk0 (A := A) (B := B) (C := C) m c h0 t hp
  rw [outsAt0_A m c t (by omega) (by omega) (by omega) (by omega) (by omega)]
  frame_out
  pointwise [hb, ho, k0_pay1, k0_pay2, k0_pay3, k0_pay4, k0_pay5]
  rfl

include h0 h1 h2 h3 in
theorem acc_S (t : Fin cfg0.N) (h : ¬t.val % 3 = 0) (i : S512x1024.Idx) : ((outsAt0 m c t.val t.isLt).2 i : EReal)
    = (outsAt0 m c (t.val - 1) (by omega)).2 i + add D (beside 2048 A (beside 2048 B C)) t.val (i 0).val (i 1).val := by
  have hN : t.val < 48 := t.isLt
  have ho := blk3 m c h3 t
  obtain ⟨r, q, rfl⟩ : ∃ r q, i = ix2 r q := ⟨_, _, eq_ix2 i⟩
  by_cases hl : t.val % 3 = 2
  · have hp : t.val % 3 = 2 := by omega
    have hb := blk2 (A := A) (B := B) (C := C) m c h2 t hp
    rw [outsAt0_C m c t (by omega) (by omega) (by omega) (by omega) (by omega)]
    frame_out
    pointwise [hb, ho, k0_pay1, k0_pay2, k0_pay3, k0_pay4, k0_pay5]
    exact congrArg₂ _ (congrFun (Memref.IsWhole.read_unread (Memref.isWhole_whole cc0_scratch0) _) _) rfl
  · have hp : t.val % 3 = 1 := by omega
    have hb := blk1 (A := A) (B := B) (C := C) m c h1 t hp
    rw [outsAt0_B m c t (by omega) (by omega) (by omega) (by omega) (by omega)]
    frame_out
    pointwise [hb, ho, k0_pay1, k0_pay2, k0_pay3, k0_pay4, k0_pay5]
    exact congrArg₂ _ (congrFun (Memref.IsWhole.read_unread (Memref.isWhole_whole cc0_scratch0) _) _) rfl

include h4 in
theorem out_L (t : Fin cfg0.N) (hl : t.val % 3 = 2) (r : Fin 512) (q : Fin 1024) :
    ((outsAt0 m c t.val t.isLt).1 (ix2 r q) : EReal) = (outsAt0 m c t.val t.isLt).2 (ix2 r q) + E (512 * (t.val / 6) + r.val) (1024 * (t.val / 3 % 2) + q.val) := by
  have hN : t.val < 48 := t.isLt
  have hc := blk4 m c h4 t
  have hp : t.val % 3 = 2 := by omega
  rw [outsAt0_C m c t (by omega) (by omega) (by omega) (by omega) (by omega)]
  frame_out
  pointwise [hc, k0_pay5]

include h0 h1 h2 h3 in
theorem acc_eq (t : Fin cfg0.N) (hl : t.val % 3 = 2) (i : S512x1024.Idx) : ((outsAt0 m c t.val t.isLt).2 i : EReal)
    = ∑ s ∈ Finset.range 3, ∑ k : Fin 2048, beside 2048 A (beside 2048 B C) (512 * (t.val / 6) + (i 0).val) (2048 * s + k.val) * D (s + 1) (1024 * (t.val / 3 % 2) + (i 1).val) k.val := by
  have hN : t.val < 48 := t.isLt
  refine (Pipeline.eq_sum_of_reset_step_apply_of_mod (fun n h => (outsAt0 m c n h).2) 3 (fun _ => (0 : EReal))
    (fun n i => add D (beside 2048 A (beside 2048 B C)) n (i 0).val (i 1).val) (fun t h j => (acc_A m c h0 h1 h2 h3 t h j).trans (zero_add _).symm) (fun t h j => acc_S m c h0 h1 h2 h3 t h j) t hl i).trans ?_
  rw [zero_add]
  refine Finset.sum_congr rfl fun s hs => Finset.sum_congr rfl fun k _ => ?_
  have hs := Finset.mem_range.mp hs
  have hk := k.isLt
  congr 2 <;> omega

include h0 h1 h2 h3 h4 in
theorem arr : (dats m 0 c).arrAt 5 cfg0.N = fun i : S4096x2048.Idx => (∑ s ∈ Finset.range 3, ∑ k : Fin 2048, beside 2048 A (beside 2048 B C) (i 0).val (2048 * s + k.val) * D (s + 1) (i 1).val k.val) + E (i 0).val (i 1).val := by
  refine (dats m 0 c).arrAt_eq_of_covers 5 _ (by decide +kernel) fun t hf y => ?_
  have ht := (flush0_5 t).mp hf
  have hN : t.val < 48 := t.isLt
  blk_simp
  rw [after0_5]
  obtain ⟨r, q, rfl⟩ : ∃ r q, y = ix2 r q := ⟨_, _, eq_ix2 y⟩
  rw [out_L m c h4 t ht, acc_eq m c h0 h1 h2 h3 t ht]
  blk_simp [idx5]
  change (_ : EReal) = _
  refine congrArg₂ _ (Finset.sum_congr rfl fun s _ => Finset.sum_congr rfl fun k _ => congrArg₂ _ (congrArg₂ _ ?_ rfl) (congrArg₂ (D (s + 1)) ?_ rfl)) (congrArg₂ E ?_ ?_) <;> omega

end Cert.Kernel18Ideal.Mm

namespace Cert.MmTie18

open Cert.Tab

theorem frame_ref : @Cert.quiescent_Reference18Ideal Cert.Reference18Ideal.Gen.facts := fun m ρ _ =>
  (θ_run Cert.Reference18Ideal.defs _ _).mono (fun r h => ⟨fun c => (h c).2, sem_eq_zero_of_no_sems (by decide) r.2⟩)
    (Cert.Reference18Ideal.Value.run (F := Ideal) m ρ)

theorem algebraic : @Cert.algebraic_Kernel18Ideal_Reference18Ideal Cert.Kernel18Ideal.Gen.facts Cert.Reference18Ideal.Gen.facts := by
  intro m g m' g' _ hagree
  refine ⟨fun c => (Cert.Kernel18Ideal.Gen.dats m 0 c).arrAt 5 Cert.Kernel18Ideal.cfg0.N, Cert.Kernel18Ideal.Value.run_blocks m g, ?_⟩
  refine (θ_run Cert.Reference18Ideal.defs _ _).mono (fun r h c => ?_) (Cert.Reference18Ideal.Value.run m' g')
  obtain ⟨r0, rest⟩ := h c
  obtain ⟨a0, a1, a2, a3, a4⟩ := hagree c
  rw [Cert.Reference18Ideal.Read.val_main_v21_eq, a0, a1, a2, a3, a4] at r0
  exact ⟨r0.trans ((funext fun i => Cert.Reference18Ideal.Mm.ref_eq (fun i => eq_tab _ i) (fun i => eq_tab _ i) (fun i => eq_tab _ i) (fun i => eq_tab3 _ i) (fun i => eq_tab _ i) i).trans
    (Cert.Kernel18Ideal.Mm.arr m c (fun i => eq_tab _ i) (fun i => eq_tab _ i) (fun i => eq_tab _ i) (fun i => eq_tab3 _ i) (fun i => eq_tab _ i)).symm), rest⟩

end Cert.MmTie18

end
-- ==== Proof.LnReal.lean ====
/- The gradient of a layer norm in real numbers: its forward lines and the gradients of its operands, entry by entry. -/
module

public import Idealize.ShloMosaic.Lib.Pipeline.ValueKit
public import proofs.«01_k».proof.Proof.SgReal

@[expose] public section

noncomputable section

open Idealize.ShloMosaic

namespace Cert.LnB

open Cert.Sg (eps eps_pos)

variable (X DY G B T : ℕ → ℕ → ℝ)

/-- A row's mean. -/
def mu (r : ℕ) : ℝ := (∑ k ∈ Finset.range 2048, X r k) / 2048

/-- The centred row. -/
def xc (r k : ℕ) : ℝ := X r k - mu X r

/-- A row's variance with the small term added. -/
def va (r : ℕ) : ℝ := (∑ k ∈ Finset.range 2048, xc X r k * xc X r k) / 2048 + eps

/-- The inverse root of that. -/
def rs (r : ℕ) : ℝ := (Real.sqrt (va X r))⁻¹

/-- The normalized row. -/
def vh (r k : ℕ) : ℝ := xc X r k * rs X r

/-- The gradient of the normalized row. -/
def dh (r k : ℕ) : ℝ := DY r k * G 0 k

/-- A row's mean of that gradient. -/
def m1 (r : ℕ) : ℝ := (∑ k ∈ Finset.range 2048, dh DY G r k) / 2048

/-- A row's mean of that gradient against the normalized row. -/
def m2 (r : ℕ) : ℝ := (∑ k ∈ Finset.range 2048, dh DY G r k * vh X r k) / 2048

/-- The gradient of the array before the norm. -/
def dx (r k : ℕ) : ℝ := rs X r * (dh DY G r k - m1 DY G r - vh X r k * m2 X DY G r)

/-- The gradient of the norm's scale. -/
def dg (k : ℕ) : ℝ := ∑ t ∈ Finset.range 4096, DY t k * vh X t k

/-- The gradient of the norm's shift. -/
def db (k : ℕ) : ℝ := ∑ t ∈ Finset.range 4096, DY t k

/-- The norm's result less the target. -/
def er (r k : ℕ) : ℝ := vh X r k * G 0 k + B 0 k - T r k

/-- The loss's gradient in the norm's result. -/
def dl (r k : ℕ) : ℝ := er X G B T r k * (1 / 2048)

/-- The loss. -/
def loss : ℝ := 1 / 2 * ∑ r ∈ Finset.range 4096, (∑ k ∈ Finset.range 2048, er X G B T r k * er X G B T r k) / 2048

theorem va_pos (r : ℕ) : 0 < va X r := by
  have : 0 ≤ ∑ k ∈ Finset.range 2048, xc X r k * xc X r k := Finset.sum_nonneg fun k _ => mul_self_nonneg _
  have := eps_pos
  unfold va; positivity

/-- The centred row sums to zero. -/
theorem sum_xc (r : ℕ) : ∑ k ∈ Finset.range 2048, xc X r k = 0 := by
  unfold xc mu
  rw [Finset.sum_sub_distrib, Finset.sum_const, Finset.card_range, nsmul_eq_mul]
  push_cast
  ring

/-- The inverse root, read off its argument at the ideal instance. -/
theorem rsqrt_va (r : ℕ) : Ideal.rsqrt ((va X r : ℝ) : EReal) = ((rs X r : ℝ) : EReal) := by
  have h := va_pos X r
  rw [Ideal.rsqrt_coe, if_neg (not_lt.mpr h.le), if_neg h.ne']
  rfl

theorem rs_sq (r : ℕ) : rs X r * rs X r = (va X r)⁻¹ := by
  unfold rs
  rw [← mul_inv, Real.mul_self_sqrt (va_pos X r).le]

/-- The row's coefficient of the centred row in the gradient, as the product rule spells it. -/
def cf (r : ℕ) : ℝ := (∑ k ∈ Finset.range 2048, xc X r k * dh DY G r k) * (-(1 / 2) * (rs X r / va X r)) / 2048

/-- The gradient as the product rule spells it. -/
theorem dx_spelt (r k : ℕ) :
    dh DY G r k * rs X r + xc X r k * cf X DY G r + cf X DY G r * xc X r k
      + (∑ j ∈ Finset.range 2048, -(dh DY G r j * rs X r + xc X r j * cf X DY G r + cf X DY G r * xc X r j)) / 2048
      = dx X DY G r k := by
  have hS : ∑ j ∈ Finset.range 2048, -(dh DY G r j * rs X r + xc X r j * cf X DY G r + cf X DY G r * xc X r j)
      = -((∑ j ∈ Finset.range 2048, dh DY G r j) * rs X r) := by
    have e : ∀ j, -(dh DY G r j * rs X r + xc X r j * cf X DY G r + cf X DY G r * xc X r j)
        = (-rs X r) * dh DY G r j + (-2 * cf X DY G r) * xc X r j := fun j => by ring
    rw [Finset.sum_congr rfl fun j _ => e j, Finset.sum_add_distrib, ← Finset.mul_sum, ← Finset.mul_sum, sum_xc]
    ring
  have hM : ∑ j ∈ Finset.range 2048, dh DY G r j * vh X r j = rs X r * ∑ j ∈ Finset.range 2048, xc X r j * dh DY G r j := by
    rw [Finset.mul_sum]
    exact Finset.sum_congr rfl fun j _ => by unfold vh; ring
  have hv : (va X r)⁻¹ = rs X r * rs X r := (rs_sq X r).symm
  rw [hS, dx, m1, m2, hM]
  unfold cf vh
  rw [div_eq_mul_inv (rs X r) (va X r), hv]
  ring

/-- What a block of 256 rows adds to the scale's gradient. -/
def addG (t k : ℕ) : ℝ := ∑ s ∈ Finset.range 256, DY (256 * t + s) k * vh X (256 * t + s) k

/-- What a block of 256 rows adds to the shift's gradient. -/
def addB (t k : ℕ) : ℝ := ∑ s ∈ Finset.range 256, DY (256 * t + s) k

/-- What a block of 256 rows adds to the loss. -/
def addL (t : ℕ) : ℝ :=
  1 / 2 * (∑ s ∈ Finset.range 256, ∑ k ∈ Finset.range 2048, er X G B T (256 * t + s) k * er X G B T (256 * t + s) k) * (1 / 2048)

/-- Sixteen blocks of 256 rows are the 4096 rows. -/
theorem sum_blocks (f : ℕ → ℝ) : ∑ t ∈ Finset.range 16, ∑ s ∈ Finset.range 256, f (256 * t + s) = ∑ t ∈ Finset.range 4096, f t := by
  simp only [Nat.mul_comm 256 _]
  exact Finset.sum_range_range_mul_add 16 256 f

theorem sum_G (k : ℕ) : ∑ t ∈ Finset.range 16, addG X DY t k = dg X DY k := sum_blocks fun t => DY t k * vh X t k

theorem sum_B (k : ℕ) : ∑ t ∈ Finset.range 16, addB DY t k = db DY k := sum_blocks fun t => DY t k

theorem sum_L : ∑ t ∈ Finset.range 16, addL X G B T t = loss X G B T := by
  unfold addL loss
  rw [← Finset.sum_mul, ← Finset.mul_sum, sum_blocks fun r => ∑ k ∈ Finset.range 2048, er X G B T r k * er X G B T r k, mul_assoc,
    ← Finset.sum_div]
  ring

/-- The sum of the blocks' parts, coerced. -/
theorem sum_parts (f : ℕ → ℝ) {n : ℕ} (hn : n + 1 = 16) :
    (0 : EReal) + ∑ k ∈ Finset.range (n + 1), ((f k : ℝ) : EReal) = ((∑ k ∈ Finset.range 16, f k : ℝ) : EReal) := by
  rw [zero_add, Cert.Finite.coe_sum, hn]

theorem ofBits_inv2048 : Ideal.ofBits .f32 0x3A000000#32 = ((1 / 2048 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

end Cert.LnB

end
-- ==== Proof.Ln19.lean ====
/- The layer norm's gradient: the kernel's results and the reference's are the same real arrays. -/
module

public import Idealize.ShloMosaic.Lib.Pipeline.ValueKit
public import Idealize.ShloMosaic.Lib.Pipeline.ReadBack
public import proofs.«01_k».proof.Defs
public import proofs.«01_k».proof.Proof.LnReal
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read

@[expose] public section

set_option maxRecDepth 16384

noncomputable section

open Idealize.ShloMosaic Idealize.ShloMosaic.TcCoe Idealize.SL.Sem
open Idealize.ShloMosaic.Pipeline (Dat)

namespace Cert.Reference19Ideal.LnB

open Cert.Reference19Ideal Cert.Reference19Ideal.Gen Cert.Reference19Ideal.Read Cert.LnB
open Cert.Sg (sum_fin ofBits_2048 ofBits_eps ofBits_neg_half)

variable {X DY G B : ℕ → ℕ → ℝ}
variable {x0 x1 : (⟨S4096x2048, .f32⟩ : BufTy).Contents (Elt Ideal)} {x2 x3 : (⟨S1x2048, .f32⟩ : BufTy).Contents (Elt Ideal)}
variable (h0 : ∀ i, x0 i = ((X (i 0).val (i 1).val : ℝ) : EReal)) (h1 : ∀ i, x1 i = ((DY (i 0).val (i 1).val : ℝ) : EReal))
  (h2 : ∀ i, x2 i = ((G 0 (i 1).val : ℝ) : EReal)) (h3 : ∀ i, x3 i = ((B 0 (i 1).val : ℝ) : EReal))

include h0 in
theorem v3_eq (i : S4096x1.Idx) : val_main_v3 (F := Ideal) x0 i = ((mu X (i 0).val : ℝ) : EReal) := by
  simp only [val_main_v3_apply, val_main_v1_apply, val_main_v2_apply, val_main_v0_apply, val_main_cst_apply, val_main_cst_0_apply,
    h0, Ideal.ofBits_def, ofBits_2048, Ideal.ofBits_zero_f32, zero_add, Ideal.hostDivf_def]
  rw [show _ = _ from sum_fin fun k => X (i 0).val k, Cert.Finite.div_real _ (by norm_num)]
  rfl

include h0 in
theorem v5_eq (i : S4096x2048.Idx) : val_main_v5 (F := Ideal) x0 i = ((xc X (i 0).val (i 1).val : ℝ) : EReal) := by
  simp only [val_main_v5_apply, val_main_v4_apply, v3_eq h0, h0, Ideal.subf_def, ← EReal.coe_sub]
  rfl

include h0 in
theorem v12_eq (i : S4096x1.Idx) : val_main_v12 (F := Ideal) x0 i = ((va X (i 0).val : ℝ) : EReal) := by
  simp only [val_main_v12_apply, val_main_v11_apply, val_main_v10_apply, val_main_v9_apply, val_main_v8_apply, val_main_v7_apply,
    val_main_v6_apply, val_main_cst_1_apply, val_main_cst_2_apply, val_main_cst_3_apply,
    v5_eq h0, Ideal.ofBits_def, ofBits_2048, ofBits_eps, Ideal.ofBits_zero_f32, zero_add, Ideal.hostDivf_def, Ideal.mulf_def,
    Ideal.addf_def, ← EReal.coe_mul]
  rw [show _ = _ from sum_fin fun k => xc X (i 0).val k * xc X (i 0).val k, Cert.Finite.div_real _ (by norm_num), ← EReal.coe_add]
  rfl

include h0 in
theorem v13_eq (i : S4096x1.Idx) : val_main_v13 (F := Ideal) x0 i = ((rs X (i 0).val : ℝ) : EReal) := by
  simp only [val_main_v13_apply, v12_eq h0]
  exact rsqrt_va X _

include h0 in
theorem v16_eq (i : S4096x1.Idx) : val_main_v16 (F := Ideal) x0 i = ((-(1 / 2) * (rs X (i 0).val / va X (i 0).val) : ℝ) : EReal) := by
  simp only [val_main_v16_apply, val_main_v15_apply, val_main_v14_apply, val_main_cst_4_apply, v12_eq h0, v13_eq h0, Ideal.ofBits_def,
    ofBits_neg_half, Ideal.mulf_def, Ideal.hostDivf_def]
  rw [Cert.Finite.div_real _ (va_pos X _).ne', ← EReal.coe_mul]

include h0 in
theorem v18_eq (i : S4096x2048.Idx) : val_main_v18 (F := Ideal) x0 i = ((vh X (i 0).val (i 1).val : ℝ) : EReal) := by
  simp only [val_main_v18_apply, val_main_v17_apply, v5_eq h0, v13_eq h0, Ideal.mulf_def, ← EReal.coe_mul]
  rfl

include h1 in
theorem v23_eq (i : S4096x2048.Idx) : val_main_v23 (F := Ideal) x1 i = ((DY (i 0).val (i 1).val : ℝ) : EReal) := by
  have l1 : (i 1).val < 2048 := (i 1).isLt
  simp only [val_main_v23_apply, h1]
  rw [show ((i 0).val * 2048 + (i 1).val) / 2048 = (i 0).val by omega, show ((i 0).val * 2048 + (i 1).val) % 2048 = (i 1).val by omega]

include h1 in
theorem db_eq (i : S1x2048.Idx) : val_main_v25 (F := Ideal) x1 i = ((db DY (i 1).val : ℝ) : EReal) := by
  have h : (i 0).val = 0 := by have := (i 0).isLt; simpa using this
  simp only [val_main_v25_apply, val_main_v24_apply, h1, val_main_cst_5_apply, Ideal.ofBits_def, Ideal.ofBits_zero_f32,
    zero_add, h, Nat.zero_mul]
  exact sum_fin fun t => DY t (i 1).val

include h0 h1 in
theorem dg_eq (i : S1x2048.Idx) : val_main_v28 (F := Ideal) x0 x1 i = ((dg X DY (i 1).val : ℝ) : EReal) := by
  have h : (i 0).val = 0 := by have := (i 0).isLt; simpa using this
  simp only [val_main_v28_apply, val_main_v27_apply, val_main_v26_apply, v18_eq h0, v23_eq h1, val_main_cst_6_apply, Ideal.ofBits_def,
    Ideal.ofBits_zero_f32, zero_add, h, Nat.zero_mul, Ideal.mulf_def, ← EReal.coe_mul]
  refine (sum_fin fun t => vh X t (i 1).val * DY t (i 1).val).trans ?_
  unfold dg
  simp only [mul_comm]

include h1 h2 in
theorem dh_eq (i : S4096x2048.Idx) : val_main_v30 (F := Ideal) x1 x2 i = ((dh DY G (i 0).val (i 1).val : ℝ) : EReal) := by
  simp only [val_main_v30_apply, val_main_v29_apply, v23_eq h1, h2, Ideal.mulf_def, ← EReal.coe_mul]
  rfl

include h0 h1 h2 in
theorem cf_eq (i : S4096.Idx) : val_main_v39 (F := Ideal) x0 x1 x2 i = ((cf X DY G (i 0).val : ℝ) : EReal) := by
  simp only [val_main_v39_apply, val_main_v38_apply, val_main_v37_apply, val_main_v36_apply, val_main_v33_apply, val_main_v32_apply,
    val_main_v31_apply, v5_eq h0, dh_eq h1 h2, v16_eq h0, val_main_cst_7_apply, val_main_cst_8_apply, val_main_cst_9_apply,
    Ideal.ofBits_def, Ideal.ofBits_zero_f32, ofBits_2048, zero_add, Ideal.mulf_def, ← EReal.coe_mul, Finset.univ_unique,
    Finset.sum_singleton, Ideal.hostDivf_def]
  have hd : ∀ n : ℕ, n * 1 + (default : Fin 1).val = n := fun n => by simp
  simp only [hd]
  rw [show _ = _ from sum_fin fun k => xc X (i 0).val k * dh DY G (i 0).val k, ← EReal.coe_mul, Cert.Finite.div_real _ (by norm_num)]
  rfl

include h0 h1 h2 in
theorem sp_eq (i : S4096x2048.Idx) : val_main_v44 (F := Ideal) x0 x1 x2 i
    = ((dh DY G (i 0).val (i 1).val * rs X (i 0).val + xc X (i 0).val (i 1).val * cf X DY G (i 0).val
      + cf X DY G (i 0).val * xc X (i 0).val (i 1).val : ℝ) : EReal) := by
  simp only [val_main_v44_apply, val_main_v43_apply, val_main_v42_apply, val_main_v41_apply, val_main_v40_apply, val_main_v35_apply,
    val_main_v34_apply, v5_eq h0, dh_eq h1 h2, v13_eq h0, cf_eq h0 h1 h2, Ideal.mulf_def, Ideal.addf_def,
    ← EReal.coe_mul, ← EReal.coe_add]

include h0 h1 h2 in
theorem dx_eq (i : S4096x2048.Idx) : val_main_v52 (F := Ideal) x0 x1 x2 i = ((dx X DY G (i 0).val (i 1).val : ℝ) : EReal) := by
  simp only [val_main_v52_apply, val_main_v51_apply, val_main_v50_apply, val_main_v49_apply, val_main_v48_apply, val_main_v47_apply,
    val_main_v46_apply, val_main_v45_apply, sp_eq h0 h1 h2, val_main_cst_10_apply, val_main_cst_11_apply, val_main_cst_12_apply,
    Ideal.ofBits_def, Ideal.ofBits_zero_f32, ofBits_2048, zero_add, Ideal.negf_def, Ideal.hostNegf_def, ← EReal.coe_neg, Finset.univ_unique,
    Finset.sum_singleton, Ideal.hostDivf_def, Ideal.addf_def]
  have hd : ∀ n : ℕ, n * 1 + (default : Fin 1).val = n := fun n => by simp
  simp only [hd]
  rw [show _ = _ from sum_fin fun k => -(dh DY G (i 0).val k * rs X (i 0).val + xc X (i 0).val k * cf X DY G (i 0).val
    + cf X DY G (i 0).val * xc X (i 0).val k), Cert.Finite.div_real _ (by norm_num), ← EReal.coe_add, dx_spelt]

include h0 h1 h2 in
theorem dxb_eq (i : S4096x2048.Idx) : val_main_v53 (F := Ideal) x0 x1 x2 i = ((dx X DY G (i 0).val (i 1).val : ℝ) : EReal) := by
  rw [val_main_v53_apply, dx_eq h0 h1 h2]
  rfl

end Cert.Reference19Ideal.LnB

namespace Cert.Kernel19Ideal.LnB

open Cert.Kernel19Ideal Cert.Kernel19Ideal.Gen Cert.LnB
open Cert.Sg (sum_fin ofBits_2048 ofBits_eps ofBits_neg_half)

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])

section
variable {X DY G B : ℕ → ℕ → ℝ} {n : ℕ}
variable {v0 : Vec Ideal S256x2048 .f32} (hp : ∀ (r : Fin 256) (c : Fin 2048), v0 (ix2 r c) = ((X (256 * n + r.val) c.val : ℝ) : EReal))
  {v1 : Vec Ideal S256x2048 .f32} (hy : ∀ (r : Fin 256) (c : Fin 2048), v1 (ix2 r c) = ((DY (256 * n + r.val) c.val : ℝ) : EReal))
  {v2 : Vec Ideal S1x2048 .f32} (hg : ∀ (r : Fin 1) (c : Fin 2048), v2 (ix2 r c) = ((G 0 c.val : ℝ) : EReal))
  {v3 : Vec Ideal S1x2048 .f32} (hb : ∀ (r : Fin 1) (c : Fin 2048), v3 (ix2 r c) = ((B 0 c.val : ℝ) : EReal))

include hp in
theorem xc_eq (q : Fin 256) (k : Fin 2048) : k0_pay3 v0 (ix2 q k) = ((xc X (256 * n + q.val) k.val : ℝ) : EReal) := by
  pointwise [k0_pay3, hp, ofBits_2048]
  rw [show _ = _ from sum_fin fun j => X (256 * n + q.val) j, Cert.Finite.div_real _ (by norm_num), ← EReal.coe_sub]
  rfl

include hp in
theorem rs_eq (q : Fin 256) (z : Fin 1) : k0_pay4 v0 (ix2 q z) = ((rs X (256 * n + q.val) : ℝ) : EReal) := by
  pointwise [k0_pay4, xc_eq hp, ofBits_2048, ofBits_eps]
  simp only [← EReal.coe_mul]
  rw [show _ = _ from sum_fin fun j => xc X (256 * n + q.val) j * xc X (256 * n + q.val) j, Cert.Finite.div_real _ (by norm_num),
    ← EReal.coe_add]
  exact rsqrt_va X _

include hp in
theorem vh_eq (q : Fin 256) (k : Fin 2048) : k0_pay5 v0 (ix2 q k) = ((vh X (256 * n + q.val) k.val : ℝ) : EReal) := by
  pointwise [k0_pay5, xc_eq hp, rs_eq hp]
  simp only [← EReal.coe_mul]
  rfl
end

section
variable {X DY G : ℕ → ℕ → ℝ} {n : ℕ}
variable {a : FVec Ideal S256x1 .f32} (ha : ∀ (r : Fin 256) (c : Fin 1), a (ix2 r c) = ((rs X (256 * n + r.val) : ℝ) : EReal))
  {h : FVec Ideal S256x2048 .f32} (hh : ∀ (r : Fin 256) (c : Fin 2048), h (ix2 r c) = ((vh X (256 * n + r.val) c.val : ℝ) : EReal))
  {d : FVec Ideal S256x2048 .f32} (hd : ∀ (r : Fin 256) (c : Fin 2048), d (ix2 r c) = ((DY (256 * n + r.val) c.val : ℝ) : EReal))
  {v2 : Vec Ideal S1x2048 .f32} (hg : ∀ (r : Fin 1) (c : Fin 2048), v2 (ix2 r c) = ((G 0 c.val : ℝ) : EReal))

include ha hh hd hg in
theorem dx_eq (q : Fin 256) (k : Fin 2048) : k0_pay1 a h v2 d (ix2 q k) = ((dx X DY G (256 * n + q.val) k.val : ℝ) : EReal) := by
  pointwise [k0_pay1, ha, hh, hd, hg, ofBits_2048]
  simp only [← EReal.coe_mul]
  rw [show _ = _ from sum_fin fun j => DY (256 * n + q.val) j * G 0 j,
    show _ = _ from sum_fin fun j => DY (256 * n + q.val) j * G 0 j * vh X (256 * n + q.val) j, Cert.Finite.div_real _ (by norm_num),
    Cert.Finite.div_real _ (by norm_num)]
  simp only [← EReal.coe_mul, ← EReal.coe_sub]
  rfl

include hd in
theorem dg_eq {v0 : Vec Ideal S256x2048 .f32} (hp : ∀ (r : Fin 256) (c : Fin 2048), v0 (ix2 r c) = ((X (256 * n + r.val) c.val : ℝ) : EReal))
    (v : Vec Ideal S1x2048 .f32) (q : Fin 1) (k : Fin 2048) :
    (k0_pay8 v0 d v (ix2 q k) : EReal) = v (ix2 q k) + ((addG X DY n k.val : ℝ) : EReal) := by
  pointwise [k0_pay8, vh_eq hp, hd]
  simp only [← EReal.coe_mul]
  rw [show _ = _ from sum_fin fun s => DY (256 * n + s) k.val * vh X (256 * n + s) k.val]
  rfl

include hd in
theorem db_eq (v : Vec Ideal S1x2048 .f32) (q : Fin 1) (k : Fin 2048) :
    (k0_pay9 d v (ix2 q k) : EReal) = v (ix2 q k) + ((addB DY n k.val : ℝ) : EReal) := by
  pointwise [k0_pay9, hd]
  rw [show _ = _ from sum_fin fun s => DY (256 * n + s) k.val]
  rfl
end

variable {X DY G B : ℕ → ℕ → ℝ}
variable (m : (ℓ : Loc nD τ sig) → Buf (Elt Ideal) ℓ) (c : Dev nD)
variable (h0 : ∀ i : S4096x2048.Idx, m (c.tc.loc main_arg0) i = ((X (i 0).val (i 1).val : ℝ) : EReal))
  (h1 : ∀ i : S4096x2048.Idx, m (c.tc.loc main_arg1) i = ((DY (i 0).val (i 1).val : ℝ) : EReal))
  (h2 : ∀ i : S1x2048.Idx, m (c.tc.loc main_arg2) i = ((G 0 (i 1).val : ℝ) : EReal))
  (h3 : ∀ i : S1x2048.Idx, m (c.tc.loc main_arg3) i = ((B 0 (i 1).val : ℝ) : EReal))

include h0 in
theorem blk0 (t : Fin cfg0.N) (r : Fin 256) (k : Fin 2048) : iblk m c 0 t (ix2 r k) = ((X (256 * t.val + r.val) k.val : ℝ) : EReal) := by
  have hN : t.val < 16 := t.isLt
  blk_simp [iblk, V]
  rw [h0]
  refine congrArg Real.toEReal (congrArg₂ X ?_ ?_) <;> blk_simp [idx0] <;> first | rfl | omega

include h1 in
theorem blk1 (t : Fin cfg0.N) (r : Fin 256) (k : Fin 2048) : iblk m c 1 t (ix2 r k) = ((DY (256 * t.val + r.val) k.val : ℝ) : EReal) := by
  have hN : t.val < 16 := t.isLt
  blk_simp [iblk, V]
  rw [h1]
  refine congrArg Real.toEReal (congrArg₂ DY ?_ ?_) <;> blk_simp [idx1] <;> first | rfl | omega

include h2 in
theorem blk2 (t : Fin cfg0.N) (r : Fin 1) (k : Fin 2048) : iblk m c 2 t (ix2 r k) = ((G 0 k.val : ℝ) : EReal) := by
  have hN : t.val < 16 := t.isLt
  blk_simp [iblk, V]
  rw [h2]
  refine congrArg Real.toEReal (congrArg₂ G rfl ?_) <;> blk_simp [idx2] <;> first | rfl | omega

include h3 in
theorem blk3 (t : Fin cfg0.N) (r : Fin 1) (k : Fin 2048) : iblk m c 3 t (ix2 r k) = ((B 0 k.val : ℝ) : EReal) := by
  have hN : t.val < 16 := t.isLt
  blk_simp [iblk, V]
  rw [h3]
  refine congrArg Real.toEReal (congrArg₂ B rfl ?_) <;> blk_simp [idx3] <;> first | rfl | omega

include h0 h1 h2 in
theorem out4 (t : Fin cfg0.N) (q : Fin 256) (k : Fin 2048) :
    ((outsAt0 m c t.val t.isLt).1 (ix2 q k) : EReal) = ((dx X DY G (256 * t.val + q.val) k.val : ℝ) : EReal) := by
  have hN : t.val < 16 := t.isLt
  by_cases h : t.val % 16 = 0
  · rw [outsAt0_A m c t h]
    frame_out
    exact dx_eq (DY := DY) (rs_eq (blk0 m c h0 t)) (vh_eq (blk0 m c h0 t)) (blk1 m c h1 t) (blk2 m c h2 t) q k
  · rw [outsAt0_B m c t h]
    frame_out
    exact dx_eq (DY := DY) (rs_eq (blk0 m c h0 t)) (vh_eq (blk0 m c h0 t)) (blk1 m c h1 t) (blk2 m c h2 t) q k

include h0 h1 h2 in
theorem arr4 : (dats m 0 c).arrAt 4 cfg0.N = fun i : S4096x2048.Idx => ((dx X DY G (i 0).val (i 1).val : ℝ) : EReal) := by
  refine (dats m 0 c).arrAt_eq_of_covers 4 _ (by decide +kernel) fun t hf y => ?_
  have hN : t.val < 16 := t.isLt
  blk_simp
  rw [after0_4]
  refine (congrArg _ (eq_ix2 (n0 := 256) (n1 := 2048) y)).trans ((out4 m c h0 h1 h2 t (y 0) (y 1)).trans ?_)
  blk_simp [idx4]
  refine congrArg Real.toEReal (congrArg₂ (dx X DY G) ?_ ?_) <;> first | rfl | omega

include h0 h1 h2 in
theorem out5 (t : Fin cfg0.N) (q : Fin 256) (k : Fin 2048) :
    ((outsAt0 m c t.val t.isLt).2.1 (ix2 q k) : EReal) = ((dx X DY G (256 * t.val + q.val) k.val : ℝ) : EReal) := by
  have hN : t.val < 16 := t.isLt
  by_cases h : t.val % 16 = 0
  · rw [outsAt0_A m c t h]
    frame_out
    exact dx_eq (DY := DY) (rs_eq (blk0 m c h0 t)) (vh_eq (blk0 m c h0 t)) (blk1 m c h1 t) (blk2 m c h2 t) q k
  · rw [outsAt0_B m c t h]
    frame_out
    exact dx_eq (DY := DY) (rs_eq (blk0 m c h0 t)) (vh_eq (blk0 m c h0 t)) (blk1 m c h1 t) (blk2 m c h2 t) q k

include h0 h1 h2 in
theorem arr5 : (dats m 0 c).arrAt 5 cfg0.N = fun i : S4096x2048.Idx => ((dx X DY G (i 0).val (i 1).val : ℝ) : EReal) := by
  refine (dats m 0 c).arrAt_eq_of_covers 5 _ (by decide +kernel) fun t hf y => ?_
  have hN : t.val < 16 := t.isLt
  blk_simp
  rw [after0_5]
  refine (congrArg _ (eq_ix2 (n0 := 256) (n1 := 2048) y)).trans ((out5 m c h0 h1 h2 t (y 0) (y 1)).trans ?_)
  blk_simp [idx5]
  refine congrArg Real.toEReal (congrArg₂ (dx X DY G) ?_ ?_) <;> first | rfl | omega

include h0 h1 in
theorem out6 (t : Fin cfg0.N) (j : S1x2048.Idx) :
    ((outsAt0 m c t.val t.isLt).2.2.1 j : EReal) = 0 + ∑ k ∈ Finset.range (t.val % 16 + 1), ((addG X DY (16 * (t.val / 16) + k) (j 1).val : ℝ) : EReal) := by
  refine Pipeline.eq_sum_of_reset_step_apply (fun n h => (outsAt0 m c n h).2.2.1) 16 (fun _ => (0 : EReal))
    (fun t j => ((addG X DY t (j 1).val : ℝ) : EReal)) (fun t h j => ?_) (fun t h j => ?_) t j
  · rw [outsAt0_A m c t h]
    frame_out
    rw [eq_ix2 j]
    refine (dg_eq (blk1 m c h1 t) (blk0 m c h0 t) _ _ _).trans ?_
    pointwise [k0_pay6]
  · rw [outsAt0_B m c t h]
    frame_out
    rw [eq_ix2 j]
    exact dg_eq (blk1 m c h1 t) (blk0 m c h0 t) _ _ _

include h0 h1 in
theorem arr6 : (dats m 0 c).arrAt 6 cfg0.N = fun i : S1x2048.Idx => ((dg X DY (i 1).val : ℝ) : EReal) := by
  refine (dats m 0 c).arrAt_eq_of_covers 6 _ (by decide +kernel) fun t hf y => ?_
  have ht := (flush0_6 t).mp hf
  have hN : t.val < 16 := t.isLt
  blk_simp
  rw [after0_6, out6 m c h0 h1 t, show t.val % 16 = 15 by omega, show t.val / 16 = 0 by omega]
  blk_simp [idx6]
  refine (sum_parts (fun k => addG X DY (16 * 0 + k) (y 1).val) (n := 15) rfl).trans ?_
  simp only [Nat.mul_zero, Nat.zero_add, sum_G X DY]

include h1 in
theorem out7 (t : Fin cfg0.N) (j : S1x2048.Idx) :
    ((outsAt0 m c t.val t.isLt).2.2.2 j : EReal) = 0 + ∑ k ∈ Finset.range (t.val % 16 + 1), ((addB DY (16 * (t.val / 16) + k) (j 1).val : ℝ) : EReal) := by
  refine Pipeline.eq_sum_of_reset_step_apply (fun n h => (outsAt0 m c n h).2.2.2) 16 (fun _ => (0 : EReal))
    (fun t j => ((addB DY t (j 1).val : ℝ) : EReal)) (fun t h j => ?_) (fun t h j => ?_) t j
  · rw [outsAt0_A m c t h]
    frame_out
    rw [eq_ix2 j]
    refine (db_eq (DY := DY) (blk1 m c h1 t) _ _ _).trans ?_
    pointwise [k0_pay7]
  · rw [outsAt0_B m c t h]
    frame_out
    rw [eq_ix2 j]
    exact db_eq (DY := DY) (blk1 m c h1 t) _ _ _

include h1 in
theorem arr7 : (dats m 0 c).arrAt 7 cfg0.N = fun i : S1x2048.Idx => ((db DY (i 1).val : ℝ) : EReal) := by
  refine (dats m 0 c).arrAt_eq_of_covers 7 _ (by decide +kernel) fun t hf y => ?_
  have ht := (flush0_7 t).mp hf
  have hN : t.val < 16 := t.isLt
  blk_simp
  rw [after0_7, out7 m c h1 t, show t.val % 16 = 15 by omega, show t.val / 16 = 0 by omega]
  blk_simp [idx7]
  refine (sum_parts (fun k => addB DY (16 * 0 + k) (y 1).val) (n := 15) rfl).trans ?_
  simp only [Nat.mul_zero, Nat.zero_add, sum_B DY]

end Cert.Kernel19Ideal.LnB

namespace Cert.LnTie19

open Cert.LnB Cert.Finite

theorem frame_ref : @Cert.quiescent_Reference19Ideal Cert.Reference19Ideal.Gen.facts := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

theorem preFacts : Cert.Pre_ln_finite.Facts where
  bcast_S_S4096x2048 := by decide
  bcast_S_S1x2048 := by decide

/-- The precondition: all entries of the four arguments are finite. -/
theorem finite_of_pre [Cert.Pre_ln_finite.Facts] {x0 x1 : FVec Ideal Cert.Pre_ln_finite.S4096x2048 .f32}
    {x2 x3 : FVec Ideal Cert.Pre_ln_finite.S1x2048 .f32} :
    ((Cert.Pre_ln_finite.fn x0 x1 x2 x3).1 = (fun _ => 1#1) → ∀ i, (x0 i : EReal) ≠ ⊤ ∧ (x0 i : EReal) ≠ ⊥)
    ∧ ((Cert.Pre_ln_finite.fn x0 x1 x2 x3).2.1 = (fun _ => 1#1) → ∀ i, (x1 i : EReal) ≠ ⊤ ∧ (x1 i : EReal) ≠ ⊥)
    ∧ ((Cert.Pre_ln_finite.fn x0 x1 x2 x3).2.2.1 = (fun _ => 1#1) → ∀ i, (x2 i : EReal) ≠ ⊤ ∧ (x2 i : EReal) ≠ ⊥)
    ∧ ((Cert.Pre_ln_finite.fn x0 x1 x2 x3).2.2.2 = (fun _ => 1#1) → ∀ i, (x3 i : EReal) ≠ ⊤ ∧ (x3 i : EReal) ≠ ⊥) :=
  ⟨fun h => finite_of_cmpf (fun _ => rfl) h, fun h => finite_of_cmpf (fun _ => rfl) h, fun h => finite_of_cmpf (fun _ => rfl) h,
    fun h => finite_of_cmpf (fun _ => rfl) h⟩

/-- A single row of finite entries, read through its real table. -/
theorem eq_row {x : (⟨2, ![1, 2048]⟩ : Shape).Idx → EReal} (hx : ∀ i, x i ≠ ⊤ ∧ x i ≠ ⊥) (i : (⟨2, ![1, 2048]⟩ : Shape).Idx) :
    x i = ((ent x 0 (i 1).val : ℝ) : EReal) := by
  have h : (i 0).val = 0 := by have := (i 0).isLt; simpa using this
  rw [eq_ent hx i, h]

theorem algebraic : @Cert.algebraic_Kernel19Ideal_Reference19Ideal_pre_ln_finite Cert.Kernel19Ideal.Gen.facts Cert.Reference19Ideal.Gen.facts preFacts := by
  haveI := preFacts
  intro m g m' g' hpre hagree
  have f0 (c : Dev Cert.Kernel19Ideal.nD) := finite_of_pre.1 ((hpre c).1)
  have f1 (c : Dev Cert.Kernel19Ideal.nD) := finite_of_pre.2.1 ((hpre c).2.1)
  have f2 (c : Dev Cert.Kernel19Ideal.nD) := finite_of_pre.2.2.1 ((hpre c).2.2.1)
  have f3 (c : Dev Cert.Kernel19Ideal.nD) := finite_of_pre.2.2.2 ((hpre c).2.2.2)
  have e0 (c : Dev Cert.Kernel19Ideal.nD) := fun i => eq_ent (n := 4096) (m := 2048) (f0 c) i
  have e1 (c : Dev Cert.Kernel19Ideal.nD) := fun i => eq_ent (n := 4096) (m := 2048) (f1 c) i
  have e2 (c : Dev Cert.Kernel19Ideal.nD) := fun i => eq_row (f2 c) i
  have e3 (c : Dev Cert.Kernel19Ideal.nD) := fun i => eq_row (f3 c) i
  refine ⟨fun c => (Cert.Kernel19Ideal.Gen.dats m 0 c).arrAt 4 Cert.Kernel19Ideal.cfg0.N, fun c => (Cert.Kernel19Ideal.Gen.dats m 0 c).arrAt 5 Cert.Kernel19Ideal.cfg0.N, fun c => (Cert.Kernel19Ideal.Gen.dats m 0 c).arrAt 6 Cert.Kernel19Ideal.cfg0.N, fun c => (Cert.Kernel19Ideal.Gen.dats m 0 c).arrAt 7 Cert.Kernel19Ideal.cfg0.N,
    Cert.Kernel19Ideal.Value.run_blocks m g, ?_⟩
  refine (θ_run Cert.Reference19Ideal.defs _ _).mono (fun r h c => ?_) (Cert.Reference19Ideal.Value.run m' g')
  obtain ⟨r0, r1, r2, r3, rest⟩ := h c
  obtain ⟨a0, a1, a2, a3⟩ := hagree c
  rw [Cert.Reference19Ideal.Read.val_main_v52_eq, a0, a1, a2] at r0
  rw [Cert.Reference19Ideal.Read.val_main_v53_eq, a0, a1, a2] at r1
  replace r2 := r2.trans (Cert.Reference19Ideal.Read.val_main_v28_eq (F := Ideal) (m' (c.tc.loc Cert.Reference19Ideal.main_arg0)) (m' (c.tc.loc Cert.Reference19Ideal.main_arg1)))
  rw [a0, a1] at r2
  replace r3 := r3.trans (Cert.Reference19Ideal.Read.val_main_v25_eq (F := Ideal) (m' (c.tc.loc Cert.Reference19Ideal.main_arg1)))
  rw [a1] at r3
  exact ⟨(r0.trans (funext fun i => Cert.Reference19Ideal.LnB.dx_eq (e0 c) (e1 c) (e2 c) i)).trans (Cert.Kernel19Ideal.LnB.arr4 m c (e0 c) (e1 c) (e2 c)).symm,
    (r1.trans (funext fun i => Cert.Reference19Ideal.LnB.dxb_eq (e0 c) (e1 c) (e2 c) i)).trans (Cert.Kernel19Ideal.LnB.arr5 m c (e0 c) (e1 c) (e2 c)).symm,
    (r2.trans (funext fun i => Cert.Reference19Ideal.LnB.dg_eq (e0 c) (e1 c) i)).trans (Cert.Kernel19Ideal.LnB.arr6 m c (e0 c) (e1 c)).symm,
    (r3.trans (funext fun i => Cert.Reference19Ideal.LnB.db_eq (e1 c) i)).trans (Cert.Kernel19Ideal.LnB.arr7 m c (e1 c)).symm, rest⟩

end Cert.LnTie19

end
-- ==== Proof.Ln20.lean ====
/- The last layer norm with the loss: the kernel's gradients and loss are the reference's. -/
module

public import Idealize.ShloMosaic.Lib.Pipeline.ValueKit
public import Idealize.ShloMosaic.Lib.Pipeline.ReadBack
public import proofs.«01_k».proof.Defs
public import proofs.«01_k».proof.Proof.LnReal
public import proofs.«01_k».proof.Proof.Ln19
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read

@[expose] public section

set_option maxRecDepth 16384

noncomputable section

open Idealize.ShloMosaic Idealize.ShloMosaic.TcCoe Idealize.SL.Sem
open Idealize.ShloMosaic.Pipeline (Dat)

namespace Cert.Reference20Ideal.LnB

open Cert.Reference20Ideal Cert.Reference20Ideal.Gen Cert.Reference20Ideal.Read Cert.LnB
open Cert.Sg (sum_fin ofBits_2048 ofBits_eps ofBits_neg_half)

variable {X T G B : ℕ → ℕ → ℝ}
variable {x0 x1 : (⟨S4096x2048, .f32⟩ : BufTy).Contents (Elt Ideal)} {x2 x3 : (⟨S1x2048, .f32⟩ : BufTy).Contents (Elt Ideal)}
variable (h0 : ∀ i, x0 i = ((X (i 0).val (i 1).val : ℝ) : EReal)) (h1 : ∀ i, x1 i = ((T (i 0).val (i 1).val : ℝ) : EReal))
  (h2 : ∀ i, x2 i = ((G 0 (i 1).val : ℝ) : EReal)) (h3 : ∀ i, x3 i = ((B 0 (i 1).val : ℝ) : EReal))

include h0 in
theorem v3_eq (i : S4096x1.Idx) : val_main_v3 (F := Ideal) x0 i = ((mu X (i 0).val : ℝ) : EReal) := by
  simp only [val_main_v3_apply, val_main_v1_apply, val_main_v2_apply, val_main_v0_apply, val_main_cst_apply, val_main_cst_0_apply,
    h0, Ideal.ofBits_def, ofBits_2048, Ideal.ofBits_zero_f32, zero_add, Ideal.hostDivf_def]
  rw [show _ = _ from sum_fin fun k => X (i 0).val k, Cert.Finite.div_real _ (by norm_num)]
  rfl

include h0 in
theorem v5_eq (i : S4096x2048.Idx) : val_main_v5 (F := Ideal) x0 i = ((xc X (i 0).val (i 1).val : ℝ) : EReal) := by
  simp only [val_main_v5_apply, val_main_v4_apply, v3_eq h0, h0, Ideal.subf_def, ← EReal.coe_sub]
  rfl

include h0 in
theorem v12_eq (i : S4096x1.Idx) : val_main_v12 (F := Ideal) x0 i = ((va X (i 0).val : ℝ) : EReal) := by
  simp only [val_main_v12_apply, val_main_v11_apply, val_main_v10_apply, val_main_v9_apply, val_main_v8_apply, val_main_v7_apply,
    val_main_v6_apply, val_main_cst_1_apply, val_main_cst_2_apply, val_main_cst_3_apply,
    v5_eq h0, Ideal.ofBits_def, ofBits_2048, ofBits_eps, Ideal.ofBits_zero_f32, zero_add, Ideal.hostDivf_def, Ideal.mulf_def,
    Ideal.addf_def, ← EReal.coe_mul]
  rw [show _ = _ from sum_fin fun k => xc X (i 0).val k * xc X (i 0).val k, Cert.Finite.div_real _ (by norm_num), ← EReal.coe_add]
  rfl

include h0 in
theorem v13_eq (i : S4096x1.Idx) : val_main_v13 (F := Ideal) x0 i = ((rs X (i 0).val : ℝ) : EReal) := by
  simp only [val_main_v13_apply, v12_eq h0]
  exact rsqrt_va X _

include h0 in
theorem v16_eq (i : S4096x1.Idx) : val_main_v16 (F := Ideal) x0 i = ((-(1 / 2) * (rs X (i 0).val / va X (i 0).val) : ℝ) : EReal) := by
  simp only [val_main_v16_apply, val_main_v15_apply, val_main_v14_apply, val_main_cst_4_apply, v12_eq h0, v13_eq h0, Ideal.ofBits_def,
    ofBits_neg_half, Ideal.mulf_def, Ideal.hostDivf_def]
  rw [Cert.Finite.div_real _ (va_pos X _).ne', ← EReal.coe_mul]

include h0 in
theorem v18_eq (i : S4096x2048.Idx) : val_main_v18 (F := Ideal) x0 i = ((vh X (i 0).val (i 1).val : ℝ) : EReal) := by
  simp only [val_main_v18_apply, val_main_v17_apply, v5_eq h0, v13_eq h0, Ideal.mulf_def, ← EReal.coe_mul]
  rfl

include h0 h1 h2 h3 in
theorem v23_eq (i : S4096x2048.Idx) : val_main_v23 (F := Ideal) x0 x1 x2 x3 i = ((er X G B T (i 0).val (i 1).val : ℝ) : EReal) := by
  simp only [val_main_v23_apply, val_main_v22_apply, val_main_v21_apply, val_main_v20_apply, val_main_v19_apply, v18_eq h0, h1, h2, h3,
    Ideal.mulf_def, Ideal.addf_def, Ideal.subf_def, ← EReal.coe_mul, ← EReal.coe_add, ← EReal.coe_sub]
  rfl

include h0 h1 h2 h3 in
theorem v37_eq (i : S4096x2048.Idx) : val_main_v37 (F := Ideal) x0 x1 x2 x3 i = ((dl X G B T (i 0).val (i 1).val : ℝ) : EReal) := by
  simp only [val_main_v37_apply, val_main_v36_apply, val_main_v35_apply, val_main_v34_apply, val_main_v33_apply, val_main_v32_apply,
    val_main_v26_apply, val_main_v25_apply, val_main_cst_5_apply, val_main_cst_10_apply, val_main_cst_11_apply, val_main_cst_12_apply,
    v23_eq h0 h1 h2 h3, Ideal.ofBits_def, ofBits_2048, ofBits_two, Cert.Finite.ofBits_half, Cert.Finite.ofBits_one, Ideal.mulf_def,
    Ideal.hostDivf_def, ← EReal.coe_mul]
  rw [Cert.Finite.div_real _ (by norm_num), ← EReal.coe_mul, dl]
  exact congrArg Real.toEReal (by ring)

/-- A row's index as its number. -/
def rowEquiv : S4096.Idx ≃ Fin 4096 where
  toFun j := j 0
  invFun a := ix1 a
  left_inv j := (eq_ix1 j).symm
  right_inv a := rfl

include h0 h1 h2 h3 in
theorem v31_eq (i : S_.Idx) : val_main_v31 (F := Ideal) x0 x1 x2 x3 i = ((loss X G B T : ℝ) : EReal) := by
  have e (r : ℕ) : Ideal.div (∑ k : Fin 2048, ((er X G B T r k.val * er X G B T r k.val : ℝ) : EReal)) ((2048 : ℝ) : EReal)
      = (((∑ k ∈ Finset.range 2048, er X G B T r k * er X G B T r k) / 2048 : ℝ) : EReal) := by
    rw [sum_fin fun k => er X G B T r k * er X G B T r k, Cert.Finite.div_real _ (by norm_num)]
  simp only [val_main_v31_apply, val_main_v30_apply, val_main_v29_apply, val_main_v28_apply, val_main_v27_apply, val_main_v24_apply,
    val_main_cst_6_apply, val_main_cst_7_apply, val_main_cst_8_apply, val_main_cst_9_apply,
    v23_eq h0 h1 h2 h3, Ideal.ofBits_def, ofBits_2048, Cert.Finite.ofBits_half, Ideal.ofBits_zero_f32, zero_add, Ideal.mulf_def,
    Ideal.hostDivf_def, ← EReal.coe_mul]
  simp only [e]
  refine (congrArg (((1 / 2 : ℝ) : EReal) * ·) ((Fintype.sum_equiv rowEquiv _
    (fun r : Fin 4096 => (((∑ k ∈ Finset.range 2048, er X G B T r.val k * er X G B T r.val k) / 2048 : ℝ) : EReal)) fun j => rfl).trans
    (sum_fin fun r => (∑ k ∈ Finset.range 2048, er X G B T r k * er X G B T r k) / 2048))).trans ?_
  rw [← EReal.coe_mul]
  rfl

include h0 h1 h2 h3 in
theorem v68_eq (i : S1x128.Idx) : val_main_v68 (F := Ideal) x0 x1 x2 x3 i = ((loss X G B T : ℝ) : EReal) := by
  rw [val_main_v68_apply, v31_eq h0 h1 h2 h3]

include h0 h1 h2 h3 in
theorem db_eq (i : S1x2048.Idx) : val_main_v39 (F := Ideal) x0 x1 x2 x3 i = ((db (dl X G B T) (i 1).val : ℝ) : EReal) := by
  have h : (i 0).val = 0 := by have := (i 0).isLt; simpa using this
  simp only [val_main_v39_apply, val_main_v38_apply, v37_eq h0 h1 h2 h3, val_main_cst_13_apply, Ideal.ofBits_def, Ideal.ofBits_zero_f32,
    zero_add, h, Nat.zero_mul]
  exact sum_fin fun t => (dl X G B T) t (i 1).val

include h0 h1 h2 h3 in
theorem dg_eq (i : S1x2048.Idx) : val_main_v42 (F := Ideal) x0 x1 x2 x3 i = ((dg X (dl X G B T) (i 1).val : ℝ) : EReal) := by
  have h : (i 0).val = 0 := by have := (i 0).isLt; simpa using this
  simp only [val_main_v42_apply, val_main_v41_apply, val_main_v40_apply, v18_eq h0, v37_eq h0 h1 h2 h3, val_main_cst_14_apply, Ideal.ofBits_def,
    Ideal.ofBits_zero_f32, zero_add, h, Nat.zero_mul, Ideal.mulf_def, ← EReal.coe_mul]
  refine (sum_fin fun t => vh X t (i 1).val * (dl X G B T) t (i 1).val).trans ?_
  unfold dg
  simp only [mul_comm]

include h0 h1 h2 h3 in
theorem dh_eq (i : S4096x2048.Idx) : val_main_v44 (F := Ideal) x0 x1 x2 x3 i = ((dh (dl X G B T) G (i 0).val (i 1).val : ℝ) : EReal) := by
  simp only [val_main_v44_apply, val_main_v43_apply, v37_eq h0 h1 h2 h3, h2, Ideal.mulf_def, ← EReal.coe_mul]
  rfl

include h0 h1 h2 h3 in
theorem cf_eq (i : S4096.Idx) : val_main_v53 (F := Ideal) x0 x1 x2 x3 i = ((cf X (dl X G B T) G (i 0).val : ℝ) : EReal) := by
  simp only [val_main_v53_apply, val_main_v52_apply, val_main_v51_apply, val_main_v50_apply, val_main_v47_apply, val_main_v46_apply,
    val_main_v45_apply, v5_eq h0, dh_eq h0 h1 h2 h3, v16_eq h0, val_main_cst_15_apply, val_main_cst_16_apply, val_main_cst_17_apply,
    Ideal.ofBits_def, Ideal.ofBits_zero_f32, ofBits_2048, zero_add, Ideal.mulf_def, ← EReal.coe_mul, Finset.univ_unique,
    Finset.sum_singleton, Ideal.hostDivf_def]
  have hd : ∀ n : ℕ, n * 1 + (default : Fin 1).val = n := fun n => by simp
  simp only [hd]
  rw [show _ = _ from sum_fin fun k => xc X (i 0).val k * dh (dl X G B T) G (i 0).val k, ← EReal.coe_mul, Cert.Finite.div_real _ (by norm_num)]
  rfl

include h0 h1 h2 h3 in
theorem sp_eq (i : S4096x2048.Idx) : val_main_v58 (F := Ideal) x0 x1 x2 x3 i
    = ((dh (dl X G B T) G (i 0).val (i 1).val * rs X (i 0).val + xc X (i 0).val (i 1).val * cf X (dl X G B T) G (i 0).val
      + cf X (dl X G B T) G (i 0).val * xc X (i 0).val (i 1).val : ℝ) : EReal) := by
  simp only [val_main_v58_apply, val_main_v57_apply, val_main_v56_apply, val_main_v55_apply, val_main_v54_apply, val_main_v49_apply,
    val_main_v48_apply, v5_eq h0, dh_eq h0 h1 h2 h3, v13_eq h0, cf_eq h0 h1 h2 h3, Ideal.mulf_def, Ideal.addf_def,
    ← EReal.coe_mul, ← EReal.coe_add]

include h0 h1 h2 h3 in
theorem dx_eq (i : S4096x2048.Idx) : val_main_v66 (F := Ideal) x0 x1 x2 x3 i = ((dx X (dl X G B T) G (i 0).val (i 1).val : ℝ) : EReal) := by
  simp only [val_main_v66_apply, val_main_v65_apply, val_main_v64_apply, val_main_v63_apply, val_main_v62_apply, val_main_v61_apply,
    val_main_v60_apply, val_main_v59_apply, sp_eq h0 h1 h2 h3, val_main_cst_18_apply, val_main_cst_19_apply, val_main_cst_20_apply,
    Ideal.ofBits_def, Ideal.ofBits_zero_f32, ofBits_2048, zero_add, Ideal.negf_def, Ideal.hostNegf_def, ← EReal.coe_neg, Finset.univ_unique,
    Finset.sum_singleton, Ideal.hostDivf_def, Ideal.addf_def]
  have hd : ∀ n : ℕ, n * 1 + (default : Fin 1).val = n := fun n => by simp
  simp only [hd]
  rw [show _ = _ from sum_fin fun k => -(dh (dl X G B T) G (i 0).val k * rs X (i 0).val + xc X (i 0).val k * cf X (dl X G B T) G (i 0).val
    + cf X (dl X G B T) G (i 0).val * xc X (i 0).val k), Cert.Finite.div_real _ (by norm_num), ← EReal.coe_add, dx_spelt]

include h0 h1 h2 h3 in
theorem dxb_eq (i : S4096x2048.Idx) : val_main_v67 (F := Ideal) x0 x1 x2 x3 i = ((dx X (dl X G B T) G (i 0).val (i 1).val : ℝ) : EReal) := by
  rw [val_main_v67_apply, dx_eq h0 h1 h2 h3]
  rfl

end Cert.Reference20Ideal.LnB

namespace Cert.Kernel20Ideal.LnB

open Cert.Kernel20Ideal Cert.Kernel20Ideal.Gen Cert.LnB
open Cert.Sg (sum_fin ofBits_2048 ofBits_eps ofBits_neg_half)

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])

section
variable {X T G B : ℕ → ℕ → ℝ} {n : ℕ}
variable {v0 : Vec Ideal S256x2048 .f32} (hp : ∀ (r : Fin 256) (c : Fin 2048), v0 (ix2 r c) = ((X (256 * n + r.val) c.val : ℝ) : EReal))
  {v1 : Vec Ideal S256x2048 .f32} (hy : ∀ (r : Fin 256) (c : Fin 2048), v1 (ix2 r c) = ((T (256 * n + r.val) c.val : ℝ) : EReal))
  {v2 : Vec Ideal S1x2048 .f32} (hg : ∀ (r : Fin 1) (c : Fin 2048), v2 (ix2 r c) = ((G 0 c.val : ℝ) : EReal))
  {v3 : Vec Ideal S1x2048 .f32} (hb : ∀ (r : Fin 1) (c : Fin 2048), v3 (ix2 r c) = ((B 0 c.val : ℝ) : EReal))

include hp in
theorem xc_eq (q : Fin 256) (k : Fin 2048) : k0_pay2 v0 (ix2 q k) = ((xc X (256 * n + q.val) k.val : ℝ) : EReal) := by
  pointwise [k0_pay2, hp, ofBits_2048]
  rw [show _ = _ from sum_fin fun j => X (256 * n + q.val) j, Cert.Finite.div_real _ (by norm_num), ← EReal.coe_sub]
  rfl

include hp in
theorem rs_eq (q : Fin 256) (z : Fin 1) : k0_pay3 v0 (ix2 q z) = ((rs X (256 * n + q.val) : ℝ) : EReal) := by
  pointwise [k0_pay3, xc_eq hp, ofBits_2048, ofBits_eps]
  simp only [← EReal.coe_mul]
  rw [show _ = _ from sum_fin fun j => xc X (256 * n + q.val) j * xc X (256 * n + q.val) j, Cert.Finite.div_real _ (by norm_num),
    ← EReal.coe_add]
  exact rsqrt_va X _

include hp in
theorem vh_eq (q : Fin 256) (k : Fin 2048) : k0_pay4 v0 (ix2 q k) = ((vh X (256 * n + q.val) k.val : ℝ) : EReal) := by
  pointwise [k0_pay4, xc_eq hp, rs_eq hp]
  simp only [← EReal.coe_mul]
  rfl

include hp hy hg hb in
theorem er_eq (q : Fin 256) (k : Fin 2048) : k0_pay5 v0 v2 v3 v1 (ix2 q k) = ((er X G B T (256 * n + q.val) k.val : ℝ) : EReal) := by
  pointwise [k0_pay5, vh_eq hp, hy, hg, hb]
  simp only [← EReal.coe_mul, ← EReal.coe_add, ← EReal.coe_sub]
  rfl

include hp hy hg hb in
theorem dl_eq (q : Fin 256) (k : Fin 2048) : k0_pay6 v0 v2 v3 v1 (ix2 q k) = ((dl X G B T (256 * n + q.val) k.val : ℝ) : EReal) := by
  pointwise [k0_pay6, er_eq hp hy hg hb, ofBits_inv2048]
  simp only [← EReal.coe_mul]
  rfl

include hp hy hg hb in
theorem part_eq (q : Fin 1) (k : Fin 1) : k0_pay7 v0 v2 v3 v1 (ix2 q k) = ((addL X G B T n : ℝ) : EReal) := by
  pointwise [k0_pay7, er_eq hp hy hg hb, ofBits_inv2048, Cert.Finite.ofBits_half]
  simp only [← EReal.coe_mul]
  have e (r : ℕ) : ∑ k : Fin 2048, ((er X G B T r k.val * er X G B T r k.val : ℝ) : EReal)
      = ((∑ k ∈ Finset.range 2048, er X G B T r k * er X G B T r k : ℝ) : EReal) := sum_fin fun k => er X G B T r k * er X G B T r k
  simp only [e]
  rw [show _ = _ from sum_fin fun s => ∑ k ∈ Finset.range 2048, er X G B T (256 * n + s) k * er X G B T (256 * n + s) k,
    ← EReal.coe_mul, ← EReal.coe_mul]
  rfl
end

section
variable {X DY G : ℕ → ℕ → ℝ} {n : ℕ}
variable {a : FVec Ideal S256x1 .f32} (ha : ∀ (r : Fin 256) (c : Fin 1), a (ix2 r c) = ((rs X (256 * n + r.val) : ℝ) : EReal))
  {h : FVec Ideal S256x2048 .f32} (hh : ∀ (r : Fin 256) (c : Fin 2048), h (ix2 r c) = ((vh X (256 * n + r.val) c.val : ℝ) : EReal))
  {d : FVec Ideal S256x2048 .f32} (hd : ∀ (r : Fin 256) (c : Fin 2048), d (ix2 r c) = ((DY (256 * n + r.val) c.val : ℝ) : EReal))
  {v2 : Vec Ideal S1x2048 .f32} (hg : ∀ (r : Fin 1) (c : Fin 2048), v2 (ix2 r c) = ((G 0 c.val : ℝ) : EReal))

include ha hh hd hg in
theorem dx_eq (q : Fin 256) (k : Fin 2048) : k0_pay14 a h v2 d (ix2 q k) = ((dx X DY G (256 * n + q.val) k.val : ℝ) : EReal) := by
  pointwise [k0_pay14, ha, hh, hd, hg, ofBits_2048]
  simp only [← EReal.coe_mul]
  rw [show _ = _ from sum_fin fun j => DY (256 * n + q.val) j * G 0 j,
    show _ = _ from sum_fin fun j => DY (256 * n + q.val) j * G 0 j * vh X (256 * n + q.val) j, Cert.Finite.div_real _ (by norm_num),
    Cert.Finite.div_real _ (by norm_num)]
  simp only [← EReal.coe_mul, ← EReal.coe_sub]
  rfl

include hh hd in
theorem dg_eq (v : Vec Ideal S1x2048 .f32) (q : Fin 1) (k : Fin 2048) :
    (k0_pay11 h d v (ix2 q k) : EReal) = v (ix2 q k) + ((addG X DY n k.val : ℝ) : EReal) := by
  pointwise [k0_pay11, hh, hd]
  simp only [← EReal.coe_mul]
  rw [show _ = _ from sum_fin fun s => DY (256 * n + s) k.val * vh X (256 * n + s) k.val]
  rfl

include hd in
theorem db_eq (v : Vec Ideal S1x2048 .f32) (q : Fin 1) (k : Fin 2048) :
    (k0_pay12 d v (ix2 q k) : EReal) = v (ix2 q k) + ((addB DY n k.val : ℝ) : EReal) := by
  pointwise [k0_pay12, hd]
  rw [show _ = _ from sum_fin fun s => DY (256 * n + s) k.val]
  rfl
end

variable {X T G B : ℕ → ℕ → ℝ}
variable (m : (ℓ : Loc nD τ sig) → Buf (Elt Ideal) ℓ) (c : Dev nD)
variable (h0 : ∀ i : S4096x2048.Idx, m (c.tc.loc main_arg0) i = ((X (i 0).val (i 1).val : ℝ) : EReal))
  (h1 : ∀ i : S4096x2048.Idx, m (c.tc.loc main_arg1) i = ((T (i 0).val (i 1).val : ℝ) : EReal))
  (h2 : ∀ i : S1x2048.Idx, m (c.tc.loc main_arg2) i = ((G 0 (i 1).val : ℝ) : EReal))
  (h3 : ∀ i : S1x2048.Idx, m (c.tc.loc main_arg3) i = ((B 0 (i 1).val : ℝ) : EReal))

include h0 in
theorem blk0 (t : Fin cfg0.N) (r : Fin 256) (k : Fin 2048) : iblk m c 0 t (ix2 r k) = ((X (256 * t.val + r.val) k.val : ℝ) : EReal) := by
  have hN : t.val < 16 := t.isLt
  blk_simp [iblk, V]
  rw [h0]
  refine congrArg Real.toEReal (congrArg₂ X ?_ ?_) <;> blk_simp [idx0] <;> first | rfl | omega

include h1 in
theorem blk1 (t : Fin cfg0.N) (r : Fin 256) (k : Fin 2048) : iblk m c 1 t (ix2 r k) = ((T (256 * t.val + r.val) k.val : ℝ) : EReal) := by
  have hN : t.val < 16 := t.isLt
  blk_simp [iblk, V]
  rw [h1]
  refine congrArg Real.toEReal (congrArg₂ T ?_ ?_) <;> blk_simp [idx1] <;> first | rfl | omega

include h2 in
theorem blk2 (t : Fin cfg0.N) (r : Fin 1) (k : Fin 2048) : iblk m c 2 t (ix2 r k) = ((G 0 k.val : ℝ) : EReal) := by
  have hN : t.val < 16 := t.isLt
  blk_simp [iblk, V]
  rw [h2]
  refine congrArg Real.toEReal (congrArg₂ G rfl ?_) <;> blk_simp [idx2] <;> first | rfl | omega

include h3 in
theorem blk3 (t : Fin cfg0.N) (r : Fin 1) (k : Fin 2048) : iblk m c 3 t (ix2 r k) = ((B 0 k.val : ℝ) : EReal) := by
  have hN : t.val < 16 := t.isLt
  blk_simp [iblk, V]
  rw [h3]
  refine congrArg Real.toEReal (congrArg₂ B rfl ?_) <;> blk_simp [idx3] <;> first | rfl | omega

include h0 h1 h2 h3 in
theorem out4 (t : Fin cfg0.N) (q : Fin 256) (k : Fin 2048) :
    ((outsAt0 m c t.val t.isLt).1 (ix2 q k) : EReal) = ((dx X (dl X G B T) G (256 * t.val + q.val) k.val : ℝ) : EReal) := by
  have hN : t.val < 16 := t.isLt
  by_cases h : t.val % 16 = 0
  · rw [outsAt0_A m c t h]
    frame_out
    exact dx_eq (DY := (dl X G B T)) (rs_eq (blk0 m c h0 t)) (vh_eq (blk0 m c h0 t)) (dl_eq (blk0 m c h0 t) (blk1 m c h1 t) (blk2 m c h2 t) (blk3 m c h3 t)) (blk2 m c h2 t) q k
  · rw [outsAt0_B m c t h]
    frame_out
    exact dx_eq (DY := (dl X G B T)) (rs_eq (blk0 m c h0 t)) (vh_eq (blk0 m c h0 t)) (dl_eq (blk0 m c h0 t) (blk1 m c h1 t) (blk2 m c h2 t) (blk3 m c h3 t)) (blk2 m c h2 t) q k

include h0 h1 h2 h3 in
theorem arr4 : (dats m 0 c).arrAt 4 cfg0.N = fun i : S4096x2048.Idx => ((dx X (dl X G B T) G (i 0).val (i 1).val : ℝ) : EReal) := by
  refine (dats m 0 c).arrAt_eq_of_covers 4 _ (by decide +kernel) fun t hf y => ?_
  have hN : t.val < 16 := t.isLt
  blk_simp
  rw [after0_4]
  refine (congrArg _ (eq_ix2 (n0 := 256) (n1 := 2048) y)).trans ((out4 m c h0 h1 h2 h3 t (y 0) (y 1)).trans ?_)
  blk_simp [idx4]
  refine congrArg Real.toEReal (congrArg₂ (dx X (dl X G B T) G) ?_ ?_) <;> first | rfl | omega

include h0 h1 h2 h3 in
theorem out5 (t : Fin cfg0.N) (q : Fin 256) (k : Fin 2048) :
    ((outsAt0 m c t.val t.isLt).2.1 (ix2 q k) : EReal) = ((dx X (dl X G B T) G (256 * t.val + q.val) k.val : ℝ) : EReal) := by
  have hN : t.val < 16 := t.isLt
  by_cases h : t.val % 16 = 0
  · rw [outsAt0_A m c t h]
    frame_out
    exact dx_eq (DY := (dl X G B T)) (rs_eq (blk0 m c h0 t)) (vh_eq (blk0 m c h0 t)) (dl_eq (blk0 m c h0 t) (blk1 m c h1 t) (blk2 m c h2 t) (blk3 m c h3 t)) (blk2 m c h2 t) q k
  · rw [outsAt0_B m c t h]
    frame_out
    exact dx_eq (DY := (dl X G B T)) (rs_eq (blk0 m c h0 t)) (vh_eq (blk0 m c h0 t)) (dl_eq (blk0 m c h0 t) (blk1 m c h1 t) (blk2 m c h2 t) (blk3 m c h3 t)) (blk2 m c h2 t) q k

include h0 h1 h2 h3 in
theorem arr5 : (dats m 0 c).arrAt 5 cfg0.N = fun i : S4096x2048.Idx => ((dx X (dl X G B T) G (i 0).val (i 1).val : ℝ) : EReal) := by
  refine (dats m 0 c).arrAt_eq_of_covers 5 _ (by decide +kernel) fun t hf y => ?_
  have hN : t.val < 16 := t.isLt
  blk_simp
  rw [after0_5]
  refine (congrArg _ (eq_ix2 (n0 := 256) (n1 := 2048) y)).trans ((out5 m c h0 h1 h2 h3 t (y 0) (y 1)).trans ?_)
  blk_simp [idx5]
  refine congrArg Real.toEReal (congrArg₂ (dx X (dl X G B T) G) ?_ ?_) <;> first | rfl | omega

include h0 h1 h2 h3 in
theorem out6 (t : Fin cfg0.N) (j : S1x2048.Idx) :
    ((outsAt0 m c t.val t.isLt).2.2.1 j : EReal) = 0 + ∑ k ∈ Finset.range (t.val % 16 + 1), ((addG X (dl X G B T) (16 * (t.val / 16) + k) (j 1).val : ℝ) : EReal) := by
  refine Pipeline.eq_sum_of_reset_step_apply (fun n h => (outsAt0 m c n h).2.2.1) 16 (fun _ => (0 : EReal))
    (fun t j => ((addG X (dl X G B T) t (j 1).val : ℝ) : EReal)) (fun t h j => ?_) (fun t h j => ?_) t j
  · rw [outsAt0_A m c t h]
    frame_out
    rw [eq_ix2 j]
    refine (dg_eq (DY := (dl X G B T)) (vh_eq (blk0 m c h0 t)) (dl_eq (blk0 m c h0 t) (blk1 m c h1 t) (blk2 m c h2 t) (blk3 m c h3 t)) _ _ _).trans ?_
    pointwise [k0_pay8]
  · rw [outsAt0_B m c t h]
    frame_out
    rw [eq_ix2 j]
    exact dg_eq (DY := (dl X G B T)) (vh_eq (blk0 m c h0 t)) (dl_eq (blk0 m c h0 t) (blk1 m c h1 t) (blk2 m c h2 t) (blk3 m c h3 t)) _ _ _

include h0 h1 h2 h3 in
theorem arr6 : (dats m 0 c).arrAt 6 cfg0.N = fun i : S1x2048.Idx => ((dg X (dl X G B T) (i 1).val : ℝ) : EReal) := by
  refine (dats m 0 c).arrAt_eq_of_covers 6 _ (by decide +kernel) fun t hf y => ?_
  have ht := (flush0_6 t).mp hf
  have hN : t.val < 16 := t.isLt
  blk_simp
  rw [after0_6, out6 m c h0 h1 h2 h3 t, show t.val % 16 = 15 by omega, show t.val / 16 = 0 by omega]
  blk_simp [idx6]
  refine (sum_parts (fun k => addG X (dl X G B T) (16 * 0 + k) (y 1).val) (n := 15) rfl).trans ?_
  simp only [Nat.mul_zero, Nat.zero_add, sum_G X (dl X G B T)]

include h0 h1 h2 h3 in
theorem out7 (t : Fin cfg0.N) (j : S1x2048.Idx) :
    ((outsAt0 m c t.val t.isLt).2.2.2.1 j : EReal) = 0 + ∑ k ∈ Finset.range (t.val % 16 + 1), ((addB (dl X G B T) (16 * (t.val / 16) + k) (j 1).val : ℝ) : EReal) := by
  refine Pipeline.eq_sum_of_reset_step_apply (fun n h => (outsAt0 m c n h).2.2.2.1) 16 (fun _ => (0 : EReal))
    (fun t j => ((addB (dl X G B T) t (j 1).val : ℝ) : EReal)) (fun t h j => ?_) (fun t h j => ?_) t j
  · rw [outsAt0_A m c t h]
    frame_out
    rw [eq_ix2 j]
    refine (db_eq (DY := (dl X G B T)) (dl_eq (blk0 m c h0 t) (blk1 m c h1 t) (blk2 m c h2 t) (blk3 m c h3 t)) _ _ _).trans ?_
    pointwise [k0_pay9]
  · rw [outsAt0_B m c t h]
    frame_out
    rw [eq_ix2 j]
    exact db_eq (DY := (dl X G B T)) (dl_eq (blk0 m c h0 t) (blk1 m c h1 t) (blk2 m c h2 t) (blk3 m c h3 t)) _ _ _

include h0 h1 h2 h3 in
theorem arr7 : (dats m 0 c).arrAt 7 cfg0.N = fun i : S1x2048.Idx => ((db (dl X G B T) (i 1).val : ℝ) : EReal) := by
  refine (dats m 0 c).arrAt_eq_of_covers 7 _ (by decide +kernel) fun t hf y => ?_
  have ht := (flush0_7 t).mp hf
  have hN : t.val < 16 := t.isLt
  blk_simp
  rw [after0_7, out7 m c h0 h1 h2 h3 t, show t.val % 16 = 15 by omega, show t.val / 16 = 0 by omega]
  blk_simp [idx7]
  refine (sum_parts (fun k => addB (dl X G B T) (16 * 0 + k) (y 1).val) (n := 15) rfl).trans ?_
  simp only [Nat.mul_zero, Nat.zero_add, sum_B (dl X G B T)]

include h0 h1 h2 h3 in
theorem out8 (t : Fin cfg0.N) (j : S1x128.Idx) :
    ((outsAt0 m c t.val t.isLt).2.2.2.2 j : EReal) = 0 + ∑ k ∈ Finset.range (t.val % 16 + 1), ((addL X G B T (16 * (t.val / 16) + k) : ℝ) : EReal) := by
  refine Pipeline.eq_sum_of_reset_step_apply (fun n h => (outsAt0 m c n h).2.2.2.2) 16 (fun _ => (0 : EReal))
    (fun t j => ((addL X G B T t : ℝ) : EReal)) (fun t h j => ?_) (fun t h j => ?_) t j
  · rw [outsAt0_A m c t h]
    frame_out
    rw [eq_ix2 j]
    pointwise [k0_pay13, k0_pay10, part_eq (blk0 m c h0 t) (blk1 m c h1 t) (blk2 m c h2 t) (blk3 m c h3 t)]
  · rw [outsAt0_B m c t h]
    frame_out
    rw [eq_ix2 j]
    pointwise [k0_pay13, part_eq (blk0 m c h0 t) (blk1 m c h1 t) (blk2 m c h2 t) (blk3 m c h3 t)]

include h0 h1 h2 h3 in
theorem arr8 : (dats m 0 c).arrAt 8 cfg0.N = fun i : S1x128.Idx => ((loss X G B T : ℝ) : EReal) := by
  refine (dats m 0 c).arrAt_eq_of_covers 8 _ (by decide +kernel) fun t hf y => ?_
  have ht := (flush0_8 t).mp hf
  have hN : t.val < 16 := t.isLt
  blk_simp
  rw [after0_8, out8 m c h0 h1 h2 h3 t, show t.val % 16 = 15 by omega, show t.val / 16 = 0 by omega]
  refine (sum_parts (fun k => addL X G B T (16 * 0 + k)) (n := 15) rfl).trans ?_
  simp only [Nat.mul_zero, Nat.zero_add, sum_L]

end Cert.Kernel20Ideal.LnB

namespace Cert.LnTie20

open Cert.LnB Cert.Finite

theorem frame_ref : @Cert.quiescent_Reference20Ideal Cert.Reference20Ideal.Gen.facts := fun m ρ _ =>
  (θ_run Cert.Reference20Ideal.defs _ _).mono (fun r h => ⟨fun c => (h c).2.2.2.2.2, sem_eq_zero_of_no_sems (by decide) r.2⟩)
    (Cert.Reference20Ideal.Value.run (F := Ideal) m ρ)

theorem algebraic : @Cert.algebraic_Kernel20Ideal_Reference20Ideal_pre_ln_finite Cert.Kernel20Ideal.Gen.facts Cert.Reference20Ideal.Gen.facts Cert.LnTie19.preFacts := by
  haveI := Cert.LnTie19.preFacts
  intro m g m' g' hpre hagree
  have f0 (c : Dev Cert.Kernel20Ideal.nD) := Cert.LnTie19.finite_of_pre.1 ((hpre c).1)
  have f1 (c : Dev Cert.Kernel20Ideal.nD) := Cert.LnTie19.finite_of_pre.2.1 ((hpre c).2.1)
  have f2 (c : Dev Cert.Kernel20Ideal.nD) := Cert.LnTie19.finite_of_pre.2.2.1 ((hpre c).2.2.1)
  have f3 (c : Dev Cert.Kernel20Ideal.nD) := Cert.LnTie19.finite_of_pre.2.2.2 ((hpre c).2.2.2)
  have e0 (c : Dev Cert.Kernel20Ideal.nD) := fun i => eq_ent (n := 4096) (m := 2048) (f0 c) i
  have e1 (c : Dev Cert.Kernel20Ideal.nD) := fun i => eq_ent (n := 4096) (m := 2048) (f1 c) i
  have e2 (c : Dev Cert.Kernel20Ideal.nD) := fun i => Cert.LnTie19.eq_row (f2 c) i
  have e3 (c : Dev Cert.Kernel20Ideal.nD) := fun i => Cert.LnTie19.eq_row (f3 c) i
  refine ⟨fun c => (Cert.Kernel20Ideal.Gen.dats m 0 c).arrAt 4 Cert.Kernel20Ideal.cfg0.N, fun c => (Cert.Kernel20Ideal.Gen.dats m 0 c).arrAt 5 Cert.Kernel20Ideal.cfg0.N, fun c => (Cert.Kernel20Ideal.Gen.dats m 0 c).arrAt 6 Cert.Kernel20Ideal.cfg0.N, fun c => (Cert.Kernel20Ideal.Gen.dats m 0 c).arrAt 7 Cert.Kernel20Ideal.cfg0.N, fun c => (Cert.Kernel20Ideal.Gen.dats m 0 c).arrAt 8 Cert.Kernel20Ideal.cfg0.N,
    Cert.Kernel20Ideal.Value.run_blocks m g, ?_⟩
  refine (θ_run Cert.Reference20Ideal.defs _ _).mono (fun r h c => ?_) (Cert.Reference20Ideal.Value.run m' g')
  obtain ⟨r0, r1, r2, r3, r4, rest⟩ := h c
  obtain ⟨a0, a1, a2, a3⟩ := hagree c
  rw [Cert.Reference20Ideal.Read.val_main_v66_eq, a0, a1, a2, a3] at r0
  rw [Cert.Reference20Ideal.Read.val_main_v67_eq, a0, a1, a2, a3] at r1
  replace r2 := r2.trans (Cert.Reference20Ideal.Read.val_main_v42_eq (F := Ideal) (m' (c.tc.loc Cert.Reference20Ideal.main_arg0)) (m' (c.tc.loc Cert.Reference20Ideal.main_arg1)) (m' (c.tc.loc Cert.Reference20Ideal.main_arg2)) (m' (c.tc.loc Cert.Reference20Ideal.main_arg3)))
  rw [a0, a1, a2, a3] at r2
  replace r3 := r3.trans (Cert.Reference20Ideal.Read.val_main_v39_eq (F := Ideal) (m' (c.tc.loc Cert.Reference20Ideal.main_arg0)) (m' (c.tc.loc Cert.Reference20Ideal.main_arg1)) (m' (c.tc.loc Cert.Reference20Ideal.main_arg2)) (m' (c.tc.loc Cert.Reference20Ideal.main_arg3)))
  rw [a0, a1, a2, a3] at r3
  replace r4 := r4.trans (Cert.Reference20Ideal.Read.val_main_v68_eq (F := Ideal) (m' (c.tc.loc Cert.Reference20Ideal.main_arg0)) (m' (c.tc.loc Cert.Reference20Ideal.main_arg1)) (m' (c.tc.loc Cert.Reference20Ideal.main_arg2)) (m' (c.tc.loc Cert.Reference20Ideal.main_arg3)))
  rw [a0, a1, a2, a3] at r4
  exact ⟨(r0.trans (funext fun i => Cert.Reference20Ideal.LnB.dx_eq (e0 c) (e1 c) (e2 c) (e3 c) i)).trans (Cert.Kernel20Ideal.LnB.arr4 m c (e0 c) (e1 c) (e2 c) (e3 c)).symm,
    (r1.trans (funext fun i => Cert.Reference20Ideal.LnB.dxb_eq (e0 c) (e1 c) (e2 c) (e3 c) i)).trans (Cert.Kernel20Ideal.LnB.arr5 m c (e0 c) (e1 c) (e2 c) (e3 c)).symm,
    (r2.trans (funext fun i => Cert.Reference20Ideal.LnB.dg_eq (e0 c) (e1 c) (e2 c) (e3 c) i)).trans (Cert.Kernel20Ideal.LnB.arr6 m c (e0 c) (e1 c) (e2 c) (e3 c)).symm,
    (r3.trans (funext fun i => Cert.Reference20Ideal.LnB.db_eq (e0 c) (e1 c) (e2 c) (e3 c) i)).trans (Cert.Kernel20Ideal.LnB.arr7 m c (e0 c) (e1 c) (e2 c) (e3 c)).symm,
    (r4.trans (funext fun i => Cert.Reference20Ideal.LnB.v68_eq (e0 c) (e1 c) (e2 c) (e3 c) i)).trans (Cert.Kernel20Ideal.LnB.arr8 m c (e0 c) (e1 c) (e2 c) (e3 c)).symm, rest⟩

end Cert.LnTie20

end
-- ==== Proof.Ln21.lean ====
/- A layer norm: the kernel's two results and the reference's. -/
module

public import proofs.«01_k».proof.Defs
public import Idealize.ShloMosaic.Lib.Pipeline.ValueKit
public import Idealize.ShloMosaic.Lib.Pipeline.ReadBack
public import proofs.«01_k».proof.Proof.MmTab
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read

@[expose] public section

set_option maxRecDepth 16384

noncomputable section

open Idealize.ShloMosaic Idealize.ShloMosaic.TcCoe Idealize.SL.Sem
open Idealize.ShloMosaic.Pipeline (Dat)

namespace Cert.Ln

/-- The mean of the 2048 entries of a row. -/
def mean (f : ℕ → EReal) : EReal := Ideal.div (∑ k : Fin 2048, f k.val) (Ideal.ofBits .f32 0x45000000#32)

/-- A row without its mean. -/
def cen (f : ℕ → EReal) (k : ℕ) : EReal := f k - mean f

/-- The reciprocal root of the variance and the small constant. -/
def rstd (f : ℕ → EReal) : EReal := Ideal.rsqrt (mean (fun k => cen f k * cen f k) + Ideal.ofBits .f32 0x3727C5AC#32)

/-- The layer norm of a row. -/
def norm (f g b : ℕ → EReal) (k : ℕ) : EReal := cen f k * rstd f * g k + b k

end Cert.Ln

namespace Cert.Reference21Ideal.Ln

open Cert.Reference21Ideal Cert.Reference21Ideal.Read Cert.Tab Cert.Ln

theorem ref_eq {A G B : ℕ → ℕ → EReal} {x0 : S4096x2048.Idx → EReal} {x1 x2 : S1x2048.Idx → EReal}
    (h0 : ∀ i, x0 i = A (i 0).val (i 1).val) (h1 : ∀ i, x1 i = G (i 0).val (i 1).val) (h2 : ∀ i, x2 i = B (i 0).val (i 1).val) (i : S4096x2048.Idx) :
    val_main_v19 (F := Ideal) x0 x1 x2 i = norm (A (i 0).val) (G 0) (B 0) (i 1).val := by
  pointwise [val_main_v19, val_main_v18, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_v0, val_main_cst, val_main_cst_0, val_main_cst_1, val_main_cst_2, val_main_cst_3, h0, h1, h2]
  rfl

end Cert.Reference21Ideal.Ln

namespace Cert.Kernel21Ideal.Ln

open Cert.Kernel21Ideal Cert.Kernel21Ideal.Gen Cert.Tab Cert.Ln

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])

theorem pay_eq {A G B : ℕ → ℕ → EReal} {y0 : S256x2048.Idx → EReal} {y1 y2 : S1x2048.Idx → EReal}
    (h0 : ∀ (k : Fin 256) (j : Fin 2048), y0 (ix2 k j) = A k.val j.val)
    (h1 : ∀ (k : Fin 1) (j : Fin 2048), y1 (ix2 k j) = G 0 j.val)
    (h2 : ∀ (k : Fin 1) (j : Fin 2048), y2 (ix2 k j) = B 0 j.val)
    (p : Fin 256) (q : Fin 2048) :
    k0_pay1 (F := Ideal) y0 y1 y2 (ix2 p q) = norm (A p.val) (G 0) (B 0) q.val := by
  pointwise [k0_pay1, h0, h1, h2]
  rfl

variable {A G B : ℕ → ℕ → EReal}
variable (m : (ℓ : Loc nD τ sig) → Buf (Elt Ideal) ℓ) (c : Dev nD)
variable (h0 : ∀ i : S4096x2048.Idx, m (c.tc.loc main_arg0) i = A (i 0).val (i 1).val)
variable (h1 : ∀ i : S1x2048.Idx, m (c.tc.loc main_arg1) i = G (i 0).val (i 1).val)
variable (h2 : ∀ i : S1x2048.Idx, m (c.tc.loc main_arg2) i = B (i 0).val (i 1).val)

include h0 in
theorem blk0 (t : Fin cfg0.N) (r : Fin 256) (k : Fin 2048) : iblk m c 0 t (ix2 r k) = A (256 * t.val + r.val) k.val := by
  have hN : t.val < 16 := t.isLt
  blk_simp [iblk, V]
  rw [h0]
  refine congrArg₂ A ?_ ?_ <;> blk_simp [idx0] <;> first | rfl | omega

include h1 in
theorem blk1 (t : Fin cfg0.N) (r : Fin 1) (k : Fin 2048) : iblk m c 1 t (ix2 r k) = G 0 k.val := by
  have hN : t.val < 16 := t.isLt
  blk_simp [iblk, V]
  rw [h1]
  refine congrArg₂ G ?_ ?_ <;> blk_simp [idx1] <;> first | rfl | omega

include h2 in
theorem blk2 (t : Fin cfg0.N) (r : Fin 1) (k : Fin 2048) : iblk m c 2 t (ix2 r k) = B 0 k.val := by
  have hN : t.val < 16 := t.isLt
  blk_simp [iblk, V]
  rw [h2]
  refine congrArg₂ B ?_ ?_ <;> blk_simp [idx2] <;> first | rfl | omega

include h0 h1 h2 in
theorem pay_at (t : Fin cfg0.N) (y : S256x2048.Idx) : k0_pay1 (F := Ideal) (iblk m c 0 t) (iblk m c 1 t) (iblk m c 2 t) y
    = norm (A (256 * t.val + (y 0).val)) (G 0) (B 0) (y 1).val := by
  obtain ⟨p, q, rfl⟩ : ∃ p q, y = ix2 p q := ⟨_, _, eq_ix2 y⟩
  exact pay_eq (A := fun r k => A (256 * t.val + r) k) (G := G) (B := B) (blk0 m c h0 t) (blk1 m c h1 t) (blk2 m c h2 t) p q

include h0 h1 h2 in
theorem arr3 : (dats m 0 c).arrAt 3 cfg0.N = fun i : S4096x2048.Idx => norm (A (i 0).val) (G 0) (B 0) (i 1).val := by
  refine (dats m 0 c).arrAt_eq_of_covers 3 _ (by decide +kernel) fun t hf y => ?_
  have hN : t.val < 16 := t.isLt
  blk_simp
  rw [after0_3]
  unfold out0_3
  frame_out
  refine (pay_at m c h0 h1 h2 t y).trans ?_
  blk_simp [idx3]
  refine congrArg₂ (fun r k => norm (A r) (G 0) (B 0) k) ?_ ?_ <;> first | rfl | omega

include h0 h1 h2 in
theorem arr4 : (dats m 0 c).arrAt 4 cfg0.N = fun i : S4096x2048.Idx => norm (A (i 0).val) (G 0) (B 0) (i 1).val := by
  refine (dats m 0 c).arrAt_eq_of_covers 4 _ (by decide +kernel) fun t hf y => ?_
  have hN : t.val < 16 := t.isLt
  blk_simp
  rw [after0_4]
  unfold out0_4
  frame_out
  refine (pay_at m c h0 h1 h2 t y).trans ?_
  blk_simp [idx4]
  refine congrArg₂ (fun r k => norm (A r) (G 0) (B 0) k) ?_ ?_ <;> first | rfl | omega

end Cert.Kernel21Ideal.Ln

namespace Cert.LnTie21

open Cert.Tab Cert.Ln

theorem frame_ref : @Cert.quiescent_Reference21Ideal Cert.Reference21Ideal.Gen.facts := fun m ρ _ =>
  (θ_run Cert.Reference21Ideal.defs _ _).mono (fun r h => ⟨fun c => (h c).2.2, sem_eq_zero_of_no_sems (by decide) r.2⟩)
    (Cert.Reference21Ideal.Value.run (F := Ideal) m ρ)

theorem algebraic : @Cert.algebraic_Kernel21Ideal_Reference21Ideal Cert.Kernel21Ideal.Gen.facts Cert.Reference21Ideal.Gen.facts := by
  intro m g m' g' _ hagree
  refine ⟨fun c => (Cert.Kernel21Ideal.Gen.dats m 0 c).arrAt 3 Cert.Kernel21Ideal.cfg0.N,
    fun c => (Cert.Kernel21Ideal.Gen.dats m 0 c).arrAt 4 Cert.Kernel21Ideal.cfg0.N, Cert.Kernel21Ideal.Value.run_blocks m g, ?_⟩
  refine (θ_run Cert.Reference21Ideal.defs _ _).mono (fun r h c => ?_) (Cert.Reference21Ideal.Value.run m' g')
  obtain ⟨r0, r1, rest⟩ := h c
  obtain ⟨a0, a1, a2⟩ := hagree c
  rw [Cert.Reference21Ideal.Read.val_main_v19_eq, a0, a1, a2] at r0
  rw [Cert.Reference21Ideal.Read.val_main_v20_eq, a0, a1, a2] at r1
  exact ⟨r0.trans ((funext fun i => Cert.Reference21Ideal.Ln.ref_eq (fun i => eq_tab _ i) (fun i => eq_tab _ i) (fun i => eq_tab _ i) i).trans
      (Cert.Kernel21Ideal.Ln.arr3 m c (fun i => eq_tab _ i) (fun i => eq_tab _ i) (fun i => eq_tab _ i)).symm),
    r1.trans ((funext fun i => Cert.Reference21Ideal.Ln.ref_eq (fun i => eq_tab _ i) (fun i => eq_tab _ i) (fun i => eq_tab _ i) i).trans
      (Cert.Kernel21Ideal.Ln.arr4 m c (fun i => eq_tab _ i) (fun i => eq_tab _ i) (fun i => eq_tab _ i)).symm), rest⟩

end Cert.LnTie21

end
-- ==== Proof.AdamReal.lean ====
/- One AdamW step, entry by entry, on arrays of rank three read by their places. -/
module

public import Idealize.ShloMosaic.Lib.Pipeline.ValueKit
public import Idealize.ShloMosaic.Lib.Pipeline.ReadBack
public import proofs.«01_k».proof.Proof.MmTab

@[expose] public section

set_option maxRecDepth 16384

noncomputable section

open Idealize.ShloMosaic Idealize.ShloMosaic.TcCoe Idealize.SL.Sem
open Idealize.ShloMosaic.Pipeline (Dat)

namespace Cert.Ad

/-- The new first moment. -/
def mo (m g : EReal) : EReal := Ideal.ofBits .f32 0x3F666666#32 * m + Ideal.ofBits .f32 0x3DCCCCCD#32 * g

/-- The new second moment. -/
def vo (v g : EReal) : EReal := Ideal.ofBits .f32 0x3F7FBE77#32 * v + Ideal.ofBits .f32 0x3A83126F#32 * (g * g)

/-- The change of the weight. -/
def de (w m v g : EReal) : EReal :=
  Ideal.ofBits .f32 0xBA83126F#32 *
    (Ideal.div (Ideal.div (mo m g) (Ideal.ofBits .f32 0x3F26BD02#32))
        (Ideal.sqrt (Ideal.div (vo v g) (Ideal.ofBits .f32 0x3C231ACC#32)) + Ideal.ofBits .f32 0x322BCC77#32)
      + Ideal.ofBits .f32 0x3C23D70A#32 * w)

variable (W M V G : ℕ → ℕ → ℕ → EReal) (l r c : ℕ)

/-- The new first moments of a stack of layers. -/
def moT : EReal := mo (M l r c) (G l r c)

/-- The new second moments. -/
def voT : EReal := vo (V l r c) (G l r c)

/-- The changes of the weights. -/
def deT : EReal := de (W l r c) (M l r c) (V l r c) (G l r c)

/-- A stack of one layer. -/
def one (A : ℕ → ℕ → EReal) (l r c : ℕ) : EReal := A r c

/-- A stack of two layers. -/
def two (A B : ℕ → ℕ → EReal) (l r c : ℕ) : EReal := if l = 0 then A r c else B r c

theorem at3 (f : ℕ → ℕ → ℕ → EReal) {l l' r r' c c' : ℕ} (hl : l = l') (hr : r = r') (hc : c = c') : f l r c = f l' r' c' := by
  rw [hl, hr, hc]

end Cert.Ad

end
-- ==== Proof.Ad24.lean ====
/- The optimiser's step on one output weight of a mixer: the kernel's four results and the reference's. -/
module

public import Idealize.ShloMosaic.Lib.Pipeline.ValueKit
public import Idealize.ShloMosaic.Lib.Pipeline.ReadBack
public import proofs.«01_k».proof.Defs
public import proofs.«01_k».proof.Proof.MmTab
public import proofs.«01_k».proof.Proof.AdamReal
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read

@[expose] public section

set_option maxRecDepth 16384

noncomputable section

open Idealize.ShloMosaic Idealize.ShloMosaic.TcCoe Idealize.SL.Sem
open Idealize.ShloMosaic.Pipeline (Dat)

namespace Cert.Reference24Ideal.Ad

open Cert.Reference24Ideal Cert.Reference24Ideal.Read Cert.Tab Cert.Ad

variable {W M V : ℕ → ℕ → ℕ → EReal} {G : ℕ → ℕ → EReal} {x0 x1 x2 : S1x512x2048.Idx → EReal} {x3 : S512x2048.Idx → EReal}
variable (h0 : ∀ i, x0 i = W (i 0).val (i 1).val (i 2).val) (h1 : ∀ i, x1 i = M (i 0).val (i 1).val (i 2).val)
  (h2 : ∀ i, x2 i = V (i 0).val (i 1).val (i 2).val) (h3 : ∀ i, x3 i = G (i 0).val (i 1).val)

include h3 in
theorem g_eq (i : S1x512x2048.Idx) : val_main_v0 (F := Ideal) x3 i = (one G) (i 0).val (i 1).val (i 2).val := by
  simp only [val_main_v0_apply, h3]
  rfl

include h1 h3 in
theorem m_eq (i : S1x512x2048.Idx) : val_main_v5 (F := Ideal) x1 x3 i = moT M (one G) (i 0).val (i 1).val (i 2).val := by
  unfold moT mo
  simp only [val_main_v24_apply, val_main_v23_apply, val_main_cst_7_apply, val_main_v22_apply, val_main_v21_apply, val_main_v20_apply, val_main_cst_6_apply, val_main_v19_apply, val_main_v18_apply, val_main_v17_apply, val_main_cst_5_apply, val_main_v16_apply, val_main_v15_apply, val_main_v14_apply, val_main_cst_4_apply, val_main_v13_apply, val_main_v12_apply, val_main_cst_3_apply, val_main_v11_apply, val_main_v10_apply, val_main_v9_apply, val_main_cst_2_apply, val_main_v8_apply, val_main_v7_apply, val_main_v6_apply, val_main_cst_1_apply, val_main_v5_apply, val_main_v4_apply, val_main_v3_apply, val_main_cst_0_apply, val_main_v2_apply, val_main_v1_apply, val_main_cst_apply, g_eq h3, h1, Ideal.addf_def, Ideal.mulf_def, Ideal.ofBits_def]

include h2 h3 in
theorem v_eq (i : S1x512x2048.Idx) : val_main_v11 (F := Ideal) x2 x3 i = voT V (one G) (i 0).val (i 1).val (i 2).val := by
  unfold voT vo
  simp only [val_main_v24_apply, val_main_v23_apply, val_main_cst_7_apply, val_main_v22_apply, val_main_v21_apply, val_main_v20_apply, val_main_cst_6_apply, val_main_v19_apply, val_main_v18_apply, val_main_v17_apply, val_main_cst_5_apply, val_main_v16_apply, val_main_v15_apply, val_main_v14_apply, val_main_cst_4_apply, val_main_v13_apply, val_main_v12_apply, val_main_cst_3_apply, val_main_v11_apply, val_main_v10_apply, val_main_v9_apply, val_main_cst_2_apply, val_main_v8_apply, val_main_v7_apply, val_main_v6_apply, val_main_cst_1_apply, val_main_v5_apply, val_main_v4_apply, val_main_v3_apply, val_main_cst_0_apply, val_main_v2_apply, val_main_v1_apply, val_main_cst_apply, g_eq h3, h2, Ideal.addf_def, Ideal.mulf_def, Ideal.ofBits_def]

include h0 h1 h2 h3 in
theorem d_eq (i : S1x512x2048.Idx) : val_main_v24 (F := Ideal) x0 x1 x2 x3 i = deT W M V (one G) (i 0).val (i 1).val (i 2).val := by
  have em := m_eq h1 h3 i
  have ev := v_eq h2 h3 i
  unfold moT at em
  unfold voT at ev
  unfold deT de
  rw [← em, ← ev]
  simp only [val_main_v24_apply, val_main_v23_apply, val_main_cst_7_apply, val_main_v22_apply, val_main_v21_apply, val_main_v20_apply, val_main_cst_6_apply, val_main_v19_apply, val_main_v18_apply, val_main_v17_apply, val_main_cst_5_apply, val_main_v16_apply, val_main_v15_apply, val_main_v14_apply, val_main_cst_4_apply, val_main_v13_apply, val_main_v12_apply, val_main_cst_3_apply, val_main_v11_apply, val_main_v10_apply, val_main_v9_apply, val_main_cst_2_apply, val_main_v8_apply, val_main_v7_apply, val_main_v6_apply, val_main_cst_1_apply, val_main_v5_apply, val_main_v4_apply, val_main_v3_apply, val_main_cst_0_apply, val_main_v2_apply, val_main_v1_apply, val_main_cst_apply, h0, Ideal.addf_def, Ideal.mulf_def, Ideal.ofBits_def]
  rfl

end Cert.Reference24Ideal.Ad

namespace Cert.Kernel24Ideal.Ad

open Cert.Kernel24Ideal Cert.Kernel24Ideal.Gen Cert.Tab Cert.Ad

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![0, t.val, 0] :=
  (by decide +kernel : ∀ t : Fin grid0.N, win0_1.index t = ![0, t.val, 0])
theorem idx2 : ∀ t : Fin cfg0.N, win0_2.index t = ![0, t.val, 0] :=
  (by decide +kernel : ∀ t : Fin grid0.N, win0_2.index t = ![0, t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![0, t.val, 0] :=
  (by decide +kernel : ∀ t : Fin grid0.N, win0_4.index t = ![0, t.val, 0])
theorem idx5 : ∀ t : Fin cfg0.N, win0_5.index t = ![0, t.val, 0] :=
  (by decide +kernel : ∀ t : Fin grid0.N, win0_5.index t = ![0, t.val, 0])
theorem idx6 : ∀ t : Fin cfg0.N, win0_6.index t = ![0, t.val, 0] :=
  (by decide +kernel : ∀ t : Fin grid0.N, win0_6.index t = ![0, t.val, 0])
theorem idx7 : ∀ t : Fin cfg0.N, win0_7.index t = ![0, t.val, 0] :=
  (by decide +kernel : ∀ t : Fin grid0.N, win0_7.index t = ![0, t.val, 0])

section
variable {W M V G : ℕ → ℕ → EReal} {y0 y1 y2 : S1x128x2048.Idx → EReal} {y3 : S128x2048.Idx → EReal}
  (h0 : ∀ (z : Fin 1) (p : Fin 128) (q : Fin 2048), y0 (ix3 z p q) = W p.val q.val) (h1 : ∀ (z : Fin 1) (p : Fin 128) (q : Fin 2048), y1 (ix3 z p q) = M p.val q.val)
  (h2 : ∀ (z : Fin 1) (p : Fin 128) (q : Fin 2048), y2 (ix3 z p q) = V p.val q.val) (hg : ∀ (p : Fin 128) (q : Fin 2048), y3 (ix2 p q) = G p.val q.val)
  (z : Fin 1) (p : Fin 128) (q : Fin 2048)

include h0 h1 h2 hg in
theorem pd : k0_pay6 (F := Ideal) y3 y0 y1 y2 (ix3 z p q) = de (W p.val q.val) (M p.val q.val) (V p.val q.val) (G p.val q.val) := by
  unfold de mo vo
  pointwise [k0_pay6, k0_pay4, k0_pay5, h0, h1, h2, hg]

include h1 hg in
theorem pm : k0_pay1 (F := Ideal) (k0_pay4 y3 y1) (ix3 z p q) = mo (M p.val q.val) (G p.val q.val) := by
  unfold mo
  pointwise [k0_pay1, k0_pay4, h1, hg]

include h2 hg in
theorem pv : k0_pay2 (F := Ideal) (k0_pay5 y3 y2) (ix3 z p q) = vo (V p.val q.val) (G p.val q.val) := by
  unfold vo
  pointwise [k0_pay2, k0_pay5, h2, hg]

include hg in
theorem pg : k0_pay3 (F := Ideal) y3 (ix3 z p q) = G p.val q.val := by
  pointwise [k0_pay3, hg]
end

variable {W M Y : ℕ → ℕ → ℕ → EReal} {G : ℕ → ℕ → EReal}
variable (m : (ℓ : Loc nD τ sig) → Buf (Elt Ideal) ℓ) (c : Dev nD)
variable (h0 : ∀ i : S1x512x2048.Idx, m (c.tc.loc main_arg0) i = W (i 0).val (i 1).val (i 2).val)
variable (h1 : ∀ i : S1x512x2048.Idx, m (c.tc.loc main_arg1) i = M (i 0).val (i 1).val (i 2).val)
variable (h2 : ∀ i : S1x512x2048.Idx, m (c.tc.loc main_arg2) i = Y (i 0).val (i 1).val (i 2).val)
variable (h3 : ∀ i : S512x2048.Idx, m (c.tc.loc main_arg3) i = G (i 0).val (i 1).val)

include h0 in
theorem blk0 (t : Fin cfg0.N) (z : Fin 1) (r : Fin 128) (k : Fin 2048) : iblk m c 0 t (ix3 z r k) = W 0 (128 * t.val + r.val) k.val := by
  have hN : t.val < 4 := t.isLt
  have hz := z.isLt
  blk_simp [iblk, V]
  rw [h0]
  refine at3 W ?_ ?_ ?_ <;> blk_simp [idx0] <;> first | rfl | omega

include h1 in
theorem blk1 (t : Fin cfg0.N) (z : Fin 1) (r : Fin 128) (k : Fin 2048) : iblk m c 1 t (ix3 z r k) = M 0 (128 * t.val + r.val) k.val := by
  have hN : t.val < 4 := t.isLt
  have hz := z.isLt
  blk_simp [iblk, V]
  rw [h1]
  refine at3 M ?_ ?_ ?_ <;> blk_simp [idx1] <;> first | rfl | omega

include h2 in
theorem blk2 (t : Fin cfg0.N) (z : Fin 1) (r : Fin 128) (k : Fin 2048) : iblk m c 2 t (ix3 z r k) = Y 0 (128 * t.val + r.val) k.val := by
  have hN : t.val < 4 := t.isLt
  have hz := z.isLt
  blk_simp [iblk, V]
  rw [h2]
  refine at3 Y ?_ ?_ ?_ <;> blk_simp [idx2] <;> first | rfl | omega

include h3 in
theorem blk3 (t : Fin cfg0.N) (r : Fin 128) (k : Fin 2048) : iblk m c 3 t (ix2 r k) = one G 0 (128 * t.val + r.val) k.val := by
  have hN : t.val < 4 := t.isLt
  blk_simp [iblk, V]
  rw [h3]
  refine congrArg₂ G ?_ ?_ <;> blk_simp [idx3] <;> first | rfl | omega

include h0 h1 h2 h3 in
theorem arr4 : (dats m 0 c).arrAt 4 cfg0.N = fun i : S1x512x2048.Idx => (deT W M Y (one G)) (i 0).val (i 1).val (i 2).val := by
  refine (dats m 0 c).arrAt_eq_of_covers 4 _ (by decide +kernel) fun t hf y => ?_
  have hN : t.val < 4 := t.isLt
  blk_simp
  rw [after0_4]
  unfold out0_4
  frame_out
  obtain ⟨z, p, q, rfl⟩ : ∃ z p q, y = ix3 z p q := ⟨_, _, _, eq_ix3 y⟩
  have hz := z.isLt
  refine (pd (W := fun r k => W 0 (128 * t.val + r) k) (M := fun r k => M 0 (128 * t.val + r) k) (V := fun r k => Y 0 (128 * t.val + r) k) (G := fun r k => (one G) 0 (128 * t.val + r) k) (blk0 m c h0 t) (blk1 m c h1 t) (blk2 m c h2 t) (blk3 m c h3 t) z p q).trans ?_
  refine Eq.trans (b := (deT W M Y (one G)) 0 (128 * t.val + p.val) q.val) rfl ?_
  blk_simp [idx4]
  refine at3 (deT W M Y (one G)) ?_ ?_ ?_ <;> first | rfl | omega

include h1 h3 in
theorem arr5 : (dats m 0 c).arrAt 5 cfg0.N = fun i : S1x512x2048.Idx => (moT M (one G)) (i 0).val (i 1).val (i 2).val := by
  refine (dats m 0 c).arrAt_eq_of_covers 5 _ (by decide +kernel) fun t hf y => ?_
  have hN : t.val < 4 := t.isLt
  blk_simp
  rw [after0_5]
  unfold out0_5
  frame_out
  obtain ⟨z, p, q, rfl⟩ : ∃ z p q, y = ix3 z p q := ⟨_, _, _, eq_ix3 y⟩
  have hz := z.isLt
  refine (pm (M := fun r k => M 0 (128 * t.val + r) k) (G := fun r k => (one G) 0 (128 * t.val + r) k) (blk1 m c h1 t) (blk3 m c h3 t) z p q).trans ?_
  refine Eq.trans (b := (moT M (one G)) 0 (128 * t.val + p.val) q.val) rfl ?_
  blk_simp [idx5]
  refine at3 (moT M (one G)) ?_ ?_ ?_ <;> first | rfl | omega

include h2 h3 in
theorem arr6 : (dats m 0 c).arrAt 6 cfg0.N = fun i : S1x512x2048.Idx => (voT Y (one G)) (i 0).val (i 1).val (i 2).val := by
  refine (dats m 0 c).arrAt_eq_of_covers 6 _ (by decide +kernel) fun t hf y => ?_
  have hN : t.val < 4 := t.isLt
  blk_simp
  rw [after0_6]
  unfold out0_6
  frame_out
  obtain ⟨z, p, q, rfl⟩ : ∃ z p q, y = ix3 z p q := ⟨_, _, _, eq_ix3 y⟩
  have hz := z.isLt
  refine (pv (V := fun r k => Y 0 (128 * t.val + r) k) (G := fun r k => (one G) 0 (128 * t.val + r) k) (blk2 m c h2 t) (blk3 m c h3 t) z p q).trans ?_
  refine Eq.trans (b := (voT Y (one G)) 0 (128 * t.val + p.val) q.val) rfl ?_
  blk_simp [idx6]
  refine at3 (voT Y (one G)) ?_ ?_ ?_ <;> first | rfl | omega

include h3 in
theorem arr7 : (dats m 0 c).arrAt 7 cfg0.N = fun i : S1x512x2048.Idx => (one G) (i 0).val (i 1).val (i 2).val := by
  refine (dats m 0 c).arrAt_eq_of_covers 7 _ (by decide +kernel) fun t hf y => ?_
  have hN : t.val < 4 := t.isLt
  blk_simp
  rw [after0_7]
  unfold out0_7
  frame_out
  obtain ⟨z, p, q, rfl⟩ : ∃ z p q, y = ix3 z p q := ⟨_, _, _, eq_ix3 y⟩
  have hz := z.isLt
  refine (pg (G := fun r k => (one G) 0 (128 * t.val + r) k) (blk3 m c h3 t) z p q).trans ?_
  refine Eq.trans (b := (one G) 0 (128 * t.val + p.val) q.val) rfl ?_
  blk_simp [idx7]
  refine at3 (one G) ?_ ?_ ?_ <;> first | rfl | omega

end Cert.Kernel24Ideal.Ad

namespace Cert.AdTie24

open Cert.Tab

theorem frame_ref : @Cert.quiescent_Reference24Ideal Cert.Reference24Ideal.Gen.facts := fun m ρ _ =>
  (θ_run Cert.Reference24Ideal.defs _ _).mono (fun r h => ⟨fun c => (h c).2.2.2.2, sem_eq_zero_of_no_sems (by decide) r.2⟩)
    (Cert.Reference24Ideal.Value.run (F := Ideal) m ρ)

theorem algebraic : @Cert.algebraic_Kernel24Ideal_Reference24Ideal Cert.Kernel24Ideal.Gen.facts Cert.Reference24Ideal.Gen.facts := by
  intro m g m' g' _ hagree
  refine ⟨fun c => (Cert.Kernel24Ideal.Gen.dats m 0 c).arrAt 4 Cert.Kernel24Ideal.cfg0.N, fun c => (Cert.Kernel24Ideal.Gen.dats m 0 c).arrAt 5 Cert.Kernel24Ideal.cfg0.N,
    fun c => (Cert.Kernel24Ideal.Gen.dats m 0 c).arrAt 6 Cert.Kernel24Ideal.cfg0.N, fun c => (Cert.Kernel24Ideal.Gen.dats m 0 c).arrAt 7 Cert.Kernel24Ideal.cfg0.N, Cert.Kernel24Ideal.Value.run_blocks m g, ?_⟩
  refine (θ_run Cert.Reference24Ideal.defs _ _).mono (fun r h c => ?_) (Cert.Reference24Ideal.Value.run m' g')
  obtain ⟨r0, r1, r2, r3, rest⟩ := h c
  obtain ⟨a0, a1, a2, a3⟩ := hagree c
  replace r0 := r0.trans (Cert.Reference24Ideal.Read.val_main_v24_eq (F := Ideal) (m' (c.tc.loc Cert.Reference24Ideal.main_arg0)) (m' (c.tc.loc Cert.Reference24Ideal.main_arg1)) (m' (c.tc.loc Cert.Reference24Ideal.main_arg2)) (m' (c.tc.loc Cert.Reference24Ideal.main_arg3)))
  rw [a0, a1, a2, a3] at r0
  replace r1 := r1.trans (Cert.Reference24Ideal.Read.val_main_v5_eq (F := Ideal) (m' (c.tc.loc Cert.Reference24Ideal.main_arg1)) (m' (c.tc.loc Cert.Reference24Ideal.main_arg3)))
  rw [a1, a3] at r1
  replace r2 := r2.trans (Cert.Reference24Ideal.Read.val_main_v11_eq (F := Ideal) (m' (c.tc.loc Cert.Reference24Ideal.main_arg2)) (m' (c.tc.loc Cert.Reference24Ideal.main_arg3)))
  rw [a2, a3] at r2
  replace r3 := r3.trans (Cert.Reference24Ideal.Read.val_main_v0_eq (F := Ideal) (m' (c.tc.loc Cert.Reference24Ideal.main_arg3)))
  rw [a3] at r3
  exact ⟨r0.trans ((funext fun i => Cert.Reference24Ideal.Ad.d_eq (fun i => eq_tab3 _ i) (fun i => eq_tab3 _ i) (fun i => eq_tab3 _ i) (fun i => eq_tab _ i) i).trans (Cert.Kernel24Ideal.Ad.arr4 m c (fun i => eq_tab3 _ i) (fun i => eq_tab3 _ i) (fun i => eq_tab3 _ i) (fun i => eq_tab _ i)).symm),
    r1.trans ((funext fun i => Cert.Reference24Ideal.Ad.m_eq (fun i => eq_tab3 _ i) (fun i => eq_tab _ i) i).trans (Cert.Kernel24Ideal.Ad.arr5 m c (fun i => eq_tab3 _ i) (fun i => eq_tab _ i)).symm),
    r2.trans ((funext fun i => Cert.Reference24Ideal.Ad.v_eq (fun i => eq_tab3 _ i) (fun i => eq_tab _ i) i).trans (Cert.Kernel24Ideal.Ad.arr6 m c (fun i => eq_tab3 _ i) (fun i => eq_tab _ i)).symm),
    r3.trans ((funext fun i => Cert.Reference24Ideal.Ad.g_eq (fun i => eq_tab _ i) i).trans (Cert.Kernel24Ideal.Ad.arr7 m c (fun i => eq_tab _ i)).symm), rest⟩

end Cert.AdTie24

end
-- ==== Proof.Ad25.lean ====
/- The optimiser's step on the gated mixer's input weight: the kernel's four results and the reference's. -/
module

public import Idealize.ShloMosaic.Lib.Pipeline.ValueKit
public import Idealize.ShloMosaic.Lib.Pipeline.ReadBack
public import proofs.«01_k».proof.Defs
public import proofs.«01_k».proof.Proof.MmTab
public import proofs.«01_k».proof.Proof.AdamReal
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read

@[expose] public section

set_option maxRecDepth 16384

noncomputable section

open Idealize.ShloMosaic Idealize.ShloMosaic.TcCoe Idealize.SL.Sem
open Idealize.ShloMosaic.Pipeline (Dat)

namespace Cert.Reference25Ideal.Ad

open Cert.Reference25Ideal Cert.Reference25Ideal.Read Cert.Tab Cert.Ad

variable {W M V : ℕ → ℕ → ℕ → EReal} {G : ℕ → ℕ → EReal} {x0 x1 x2 : S1x2048x1024.Idx → EReal} {x3 : S2048x1024.Idx → EReal}
variable (h0 : ∀ i, x0 i = W (i 0).val (i 1).val (i 2).val) (h1 : ∀ i, x1 i = M (i 0).val (i 1).val (i 2).val)
  (h2 : ∀ i, x2 i = V (i 0).val (i 1).val (i 2).val) (h3 : ∀ i, x3 i = G (i 0).val (i 1).val)

include h3 in
theorem g_eq (i : S1x2048x1024.Idx) : val_main_v0 (F := Ideal) x3 i = (one G) (i 0).val (i 1).val (i 2).val := by
  simp only [val_main_v0_apply, h3]
  rfl

include h1 h3 in
theorem m_eq (i : S1x2048x1024.Idx) : val_main_v5 (F := Ideal) x1 x3 i = moT M (one G) (i 0).val (i 1).val (i 2).val := by
  unfold moT mo
  simp only [val_main_v24_apply, val_main_v23_apply, val_main_cst_7_apply, val_main_v22_apply, val_main_v21_apply, val_main_v20_apply, val_main_cst_6_apply, val_main_v19_apply, val_main_v18_apply, val_main_v17_apply, val_main_cst_5_apply, val_main_v16_apply, val_main_v15_apply, val_main_v14_apply, val_main_cst_4_apply, val_main_v13_apply, val_main_v12_apply, val_main_cst_3_apply, val_main_v11_apply, val_main_v10_apply, val_main_v9_apply, val_main_cst_2_apply, val_main_v8_apply, val_main_v7_apply, val_main_v6_apply, val_main_cst_1_apply, val_main_v5_apply, val_main_v4_apply, val_main_v3_apply, val_main_cst_0_apply, val_main_v2_apply, val_main_v1_apply, val_main_cst_apply, g_eq h3, h1, Ideal.addf_def, Ideal.mulf_def, Ideal.ofBits_def]

include h2 h3 in
theorem v_eq (i : S1x2048x1024.Idx) : val_main_v11 (F := Ideal) x2 x3 i = voT V (one G) (i 0).val (i 1).val (i 2).val := by
  unfold voT vo
  simp only [val_main_v24_apply, val_main_v23_apply, val_main_cst_7_apply, val_main_v22_apply, val_main_v21_apply, val_main_v20_apply, val_main_cst_6_apply, val_main_v19_apply, val_main_v18_apply, val_main_v17_apply, val_main_cst_5_apply, val_main_v16_apply, val_main_v15_apply, val_main_v14_apply, val_main_cst_4_apply, val_main_v13_apply, val_main_v12_apply, val_main_cst_3_apply, val_main_v11_apply, val_main_v10_apply, val_main_v9_apply, val_main_cst_2_apply, val_main_v8_apply, val_main_v7_apply, val_main_v6_apply, val_main_cst_1_apply, val_main_v5_apply, val_main_v4_apply, val_main_v3_apply, val_main_cst_0_apply, val_main_v2_apply, val_main_v1_apply, val_main_cst_apply, g_eq h3, h2, Ideal.addf_def, Ideal.mulf_def, Ideal.ofBits_def]

include h0 h1 h2 h3 in
theorem d_eq (i : S1x2048x1024.Idx) : val_main_v24 (F := Ideal) x0 x1 x2 x3 i = deT W M V (one G) (i 0).val (i 1).val (i 2).val := by
  have em := m_eq h1 h3 i
  have ev := v_eq h2 h3 i
  unfold moT at em
  unfold voT at ev
  unfold deT de
  rw [← em, ← ev]
  simp only [val_main_v24_apply, val_main_v23_apply, val_main_cst_7_apply, val_main_v22_apply, val_main_v21_apply, val_main_v20_apply, val_main_cst_6_apply, val_main_v19_apply, val_main_v18_apply, val_main_v17_apply, val_main_cst_5_apply, val_main_v16_apply, val_main_v15_apply, val_main_v14_apply, val_main_cst_4_apply, val_main_v13_apply, val_main_v12_apply, val_main_cst_3_apply, val_main_v11_apply, val_main_v10_apply, val_main_v9_apply, val_main_cst_2_apply, val_main_v8_apply, val_main_v7_apply, val_main_v6_apply, val_main_cst_1_apply, val_main_v5_apply, val_main_v4_apply, val_main_v3_apply, val_main_cst_0_apply, val_main_v2_apply, val_main_v1_apply, val_main_cst_apply, h0, Ideal.addf_def, Ideal.mulf_def, Ideal.ofBits_def]
  rfl

end Cert.Reference25Ideal.Ad

namespace Cert.Kernel25Ideal.Ad

open Cert.Kernel25Ideal Cert.Kernel25Ideal.Gen Cert.Tab Cert.Ad

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![0, t.val, 0] :=
  (by decide +kernel : ∀ t : Fin grid0.N, win0_1.index t = ![0, t.val, 0])
theorem idx2 : ∀ t : Fin cfg0.N, win0_2.index t = ![0, t.val, 0] :=
  (by decide +kernel : ∀ t : Fin grid0.N, win0_2.index t = ![0, t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![0, t.val, 0] :=
  (by decide +kernel : ∀ t : Fin grid0.N, win0_4.index t = ![0, t.val, 0])
theorem idx5 : ∀ t : Fin cfg0.N, win0_5.index t = ![0, t.val, 0] :=
  (by decide +kernel : ∀ t : Fin grid0.N, win0_5.index t = ![0, t.val, 0])
theorem idx6 : ∀ t : Fin cfg0.N, win0_6.index t = ![0, t.val, 0] :=
  (by decide +kernel : ∀ t : Fin grid0.N, win0_6.index t = ![0, t.val, 0])
theorem idx7 : ∀ t : Fin cfg0.N, win0_7.index t = ![0, t.val, 0] :=
  (by decide +kernel : ∀ t : Fin grid0.N, win0_7.index t = ![0, t.val, 0])

section
variable {W M V G : ℕ → ℕ → EReal} {y0 y1 y2 : S1x256x1024.Idx → EReal} {y3 : S256x1024.Idx → EReal}
  (h0 : ∀ (z : Fin 1) (p : Fin 256) (q : Fin 1024), y0 (ix3 z p q) = W p.val q.val) (h1 : ∀ (z : Fin 1) (p : Fin 256) (q : Fin 1024), y1 (ix3 z p q) = M p.val q.val)
  (h2 : ∀ (z : Fin 1) (p : Fin 256) (q : Fin 1024), y2 (ix3 z p q) = V p.val q.val) (hg : ∀ (p : Fin 256) (q : Fin 1024), y3 (ix2 p q) = G p.val q.val)
  (z : Fin 1) (p : Fin 256) (q : Fin 1024)

include h0 h1 h2 hg in
theorem pd : k0_pay6 (F := Ideal) y3 y0 y1 y2 (ix3 z p q) = de (W p.val q.val) (M p.val q.val) (V p.val q.val) (G p.val q.val) := by
  unfold de mo vo
  pointwise [k0_pay6, k0_pay4, k0_pay5, h0, h1, h2, hg]

include h1 hg in
theorem pm : k0_pay1 (F := Ideal) (k0_pay4 y3 y1) (ix3 z p q) = mo (M p.val q.val) (G p.val q.val) := by
  unfold mo
  pointwise [k0_pay1, k0_pay4, h1, hg]

include h2 hg in
theorem pv : k0_pay2 (F := Ideal) (k0_pay5 y3 y2) (ix3 z p q) = vo (V p.val q.val) (G p.val q.val) := by
  unfold vo
  pointwise [k0_pay2, k0_pay5, h2, hg]

include hg in
theorem pg : k0_pay3 (F := Ideal) y3 (ix3 z p q) = G p.val q.val := by
  pointwise [k0_pay3, hg]
end

variable {W M Y : ℕ → ℕ → ℕ → EReal} {G : ℕ → ℕ → EReal}
variable (m : (ℓ : Loc nD τ sig) → Buf (Elt Ideal) ℓ) (c : Dev nD)
variable (h0 : ∀ i : S1x2048x1024.Idx, m (c.tc.loc main_arg0) i = W (i 0).val (i 1).val (i 2).val)
variable (h1 : ∀ i : S1x2048x1024.Idx, m (c.tc.loc main_arg1) i = M (i 0).val (i 1).val (i 2).val)
variable (h2 : ∀ i : S1x2048x1024.Idx, m (c.tc.loc main_arg2) i = Y (i 0).val (i 1).val (i 2).val)
variable (h3 : ∀ i : S2048x1024.Idx, m (c.tc.loc main_arg3) i = G (i 0).val (i 1).val)

include h0 in
theorem blk0 (t : Fin cfg0.N) (z : Fin 1) (r : Fin 256) (k : Fin 1024) : iblk m c 0 t (ix3 z r k) = W 0 (256 * t.val + r.val) k.val := by
  have hN : t.val < 8 := t.isLt
  have hz := z.isLt
  blk_simp [iblk, V]
  rw [h0]
  refine at3 W ?_ ?_ ?_ <;> blk_simp [idx0] <;> first | rfl | omega

include h1 in
theorem blk1 (t : Fin cfg0.N) (z : Fin 1) (r : Fin 256) (k : Fin 1024) : iblk m c 1 t (ix3 z r k) = M 0 (256 * t.val + r.val) k.val := by
  have hN : t.val < 8 := t.isLt
  have hz := z.isLt
  blk_simp [iblk, V]
  rw [h1]
  refine at3 M ?_ ?_ ?_ <;> blk_simp [idx1] <;> first | rfl | omega

include h2 in
theorem blk2 (t : Fin cfg0.N) (z : Fin 1) (r : Fin 256) (k : Fin 1024) : iblk m c 2 t (ix3 z r k) = Y 0 (256 * t.val + r.val) k.val := by
  have hN : t.val < 8 := t.isLt
  have hz := z.isLt
  blk_simp [iblk, V]
  rw [h2]
  refine at3 Y ?_ ?_ ?_ <;> blk_simp [idx2] <;> first | rfl | omega

include h3 in
theorem blk3 (t : Fin cfg0.N) (r : Fin 256) (k : Fin 1024) : iblk m c 3 t (ix2 r k) = one G 0 (256 * t.val + r.val) k.val := by
  have hN : t.val < 8 := t.isLt
  blk_simp [iblk, V]
  rw [h3]
  refine congrArg₂ G ?_ ?_ <;> blk_simp [idx3] <;> first | rfl | omega

include h0 h1 h2 h3 in
theorem arr4 : (dats m 0 c).arrAt 4 cfg0.N = fun i : S1x2048x1024.Idx => (deT W M Y (one G)) (i 0).val (i 1).val (i 2).val := by
  refine (dats m 0 c).arrAt_eq_of_covers 4 _ (by decide +kernel) fun t hf y => ?_
  have hN : t.val < 8 := t.isLt
  blk_simp
  rw [after0_4]
  unfold out0_4
  frame_out
  obtain ⟨z, p, q, rfl⟩ : ∃ z p q, y = ix3 z p q := ⟨_, _, _, eq_ix3 y⟩
  have hz := z.isLt
  refine (pd (W := fun r k => W 0 (256 * t.val + r) k) (M := fun r k => M 0 (256 * t.val + r) k) (V := fun r k => Y 0 (256 * t.val + r) k) (G := fun r k => (one G) 0 (256 * t.val + r) k) (blk0 m c h0 t) (blk1 m c h1 t) (blk2 m c h2 t) (blk3 m c h3 t) z p q).trans ?_
  refine Eq.trans (b := (deT W M Y (one G)) 0 (256 * t.val + p.val) q.val) rfl ?_
  blk_simp [idx4]
  refine at3 (deT W M Y (one G)) ?_ ?_ ?_ <;> first | rfl | omega

include h1 h3 in
theorem arr5 : (dats m 0 c).arrAt 5 cfg0.N = fun i : S1x2048x1024.Idx => (moT M (one G)) (i 0).val (i 1).val (i 2).val := by
  refine (dats m 0 c).arrAt_eq_of_covers 5 _ (by decide +kernel) fun t hf y => ?_
  have hN : t.val < 8 := t.isLt
  blk_simp
  rw [after0_5]
  unfold out0_5
  frame_out
  obtain ⟨z, p, q, rfl⟩ : ∃ z p q, y = ix3 z p q := ⟨_, _, _, eq_ix3 y⟩
  have hz := z.isLt
  refine (pm (M := fun r k => M 0 (256 * t.val + r) k) (G := fun r k => (one G) 0 (256 * t.val + r) k) (blk1 m c h1 t) (blk3 m c h3 t) z p q).trans ?_
  refine Eq.trans (b := (moT M (one G)) 0 (256 * t.val + p.val) q.val) rfl ?_
  blk_simp [idx5]
  refine at3 (moT M (one G)) ?_ ?_ ?_ <;> first | rfl | omega

include h2 h3 in
theorem arr6 : (dats m 0 c).arrAt 6 cfg0.N = fun i : S1x2048x1024.Idx => (voT Y (one G)) (i 0).val (i 1).val (i 2).val := by
  refine (dats m 0 c).arrAt_eq_of_covers 6 _ (by decide +kernel) fun t hf y => ?_
  have hN : t.val < 8 := t.isLt
  blk_simp
  rw [after0_6]
  unfold out0_6
  frame_out
  obtain ⟨z, p, q, rfl⟩ : ∃ z p q, y = ix3 z p q := ⟨_, _, _, eq_ix3 y⟩
  have hz := z.isLt
  refine (pv (V := fun r k => Y 0 (256 * t.val + r) k) (G := fun r k => (one G) 0 (256 * t.val + r) k) (blk2 m c h2 t) (blk3 m c h3 t) z p q).trans ?_
  refine Eq.trans (b := (voT Y (one G)) 0 (256 * t.val + p.val) q.val) rfl ?_
  blk_simp [idx6]
  refine at3 (voT Y (one G)) ?_ ?_ ?_ <;> first | rfl | omega

include h3 in
theorem arr7 : (dats m 0 c).arrAt 7 cfg0.N = fun i : S1x2048x1024.Idx => (one G) (i 0).val (i 1).val (i 2).val := by
  refine (dats m 0 c).arrAt_eq_of_covers 7 _ (by decide +kernel) fun t hf y => ?_
  have hN : t.val < 8 := t.isLt
  blk_simp
  rw [after0_7]
  unfold out0_7
  frame_out
  obtain ⟨z, p, q, rfl⟩ : ∃ z p q, y = ix3 z p q := ⟨_, _, _, eq_ix3 y⟩
  have hz := z.isLt
  refine (pg (G := fun r k => (one G) 0 (256 * t.val + r) k) (blk3 m c h3 t) z p q).trans ?_
  refine Eq.trans (b := (one G) 0 (256 * t.val + p.val) q.val) rfl ?_
  blk_simp [idx7]
  refine at3 (one G) ?_ ?_ ?_ <;> first | rfl | omega

end Cert.Kernel25Ideal.Ad

namespace Cert.AdTie25

open Cert.Tab

theorem frame_ref : @Cert.quiescent_Reference25Ideal Cert.Reference25Ideal.Gen.facts := fun m ρ _ =>
  (θ_run Cert.Reference25Ideal.defs _ _).mono (fun r h => ⟨fun c => (h c).2.2.2.2, sem_eq_zero_of_no_sems (by decide) r.2⟩)
    (Cert.Reference25Ideal.Value.run (F := Ideal) m ρ)

theorem algebraic : @Cert.algebraic_Kernel25Ideal_Reference25Ideal Cert.Kernel25Ideal.Gen.facts Cert.Reference25Ideal.Gen.facts := by
  intro m g m' g' _ hagree
  refine ⟨fun c => (Cert.Kernel25Ideal.Gen.dats m 0 c).arrAt 4 Cert.Kernel25Ideal.cfg0.N, fun c => (Cert.Kernel25Ideal.Gen.dats m 0 c).arrAt 5 Cert.Kernel25Ideal.cfg0.N,
    fun c => (Cert.Kernel25Ideal.Gen.dats m 0 c).arrAt 6 Cert.Kernel25Ideal.cfg0.N, fun c => (Cert.Kernel25Ideal.Gen.dats m 0 c).arrAt 7 Cert.Kernel25Ideal.cfg0.N, Cert.Kernel25Ideal.Value.run_blocks m g, ?_⟩
  refine (θ_run Cert.Reference25Ideal.defs _ _).mono (fun r h c => ?_) (Cert.Reference25Ideal.Value.run m' g')
  obtain ⟨r0, r1, r2, r3, rest⟩ := h c
  obtain ⟨a0, a1, a2, a3⟩ := hagree c
  replace r0 := r0.trans (Cert.Reference25Ideal.Read.val_main_v24_eq (F := Ideal) (m' (c.tc.loc Cert.Reference25Ideal.main_arg0)) (m' (c.tc.loc Cert.Reference25Ideal.main_arg1)) (m' (c.tc.loc Cert.Reference25Ideal.main_arg2)) (m' (c.tc.loc Cert.Reference25Ideal.main_arg3)))
  rw [a0, a1, a2, a3] at r0
  replace r1 := r1.trans (Cert.Reference25Ideal.Read.val_main_v5_eq (F := Ideal) (m' (c.tc.loc Cert.Reference25Ideal.main_arg1)) (m' (c.tc.loc Cert.Reference25Ideal.main_arg3)))
  rw [a1, a3] at r1
  replace r2 := r2.trans (Cert.Reference25Ideal.Read.val_main_v11_eq (F := Ideal) (m' (c.tc.loc Cert.Reference25Ideal.main_arg2)) (m' (c.tc.loc Cert.Reference25Ideal.main_arg3)))
  rw [a2, a3] at r2
  replace r3 := r3.trans (Cert.Reference25Ideal.Read.val_main_v0_eq (F := Ideal) (m' (c.tc.loc Cert.Reference25Ideal.main_arg3)))
  rw [a3] at r3
  exact ⟨r0.trans ((funext fun i => Cert.Reference25Ideal.Ad.d_eq (fun i => eq_tab3 _ i) (fun i => eq_tab3 _ i) (fun i => eq_tab3 _ i) (fun i => eq_tab _ i) i).trans (Cert.Kernel25Ideal.Ad.arr4 m c (fun i => eq_tab3 _ i) (fun i => eq_tab3 _ i) (fun i => eq_tab3 _ i) (fun i => eq_tab _ i)).symm),
    r1.trans ((funext fun i => Cert.Reference25Ideal.Ad.m_eq (fun i => eq_tab3 _ i) (fun i => eq_tab _ i) i).trans (Cert.Kernel25Ideal.Ad.arr5 m c (fun i => eq_tab3 _ i) (fun i => eq_tab _ i)).symm),
    r2.trans ((funext fun i => Cert.Reference25Ideal.Ad.v_eq (fun i => eq_tab3 _ i) (fun i => eq_tab _ i) i).trans (Cert.Kernel25Ideal.Ad.arr6 m c (fun i => eq_tab3 _ i) (fun i => eq_tab _ i)).symm),
    r3.trans ((funext fun i => Cert.Reference25Ideal.Ad.g_eq (fun i => eq_tab _ i) i).trans (Cert.Kernel25Ideal.Ad.arr7 m c (fun i => eq_tab _ i)).symm), rest⟩

end Cert.AdTie25

end
-- ==== Proof.Ad26.lean ====
/- The optimiser's step on the recurrent mixer's input weight: the kernel's four results and the reference's. -/
module

public import Idealize.ShloMosaic.Lib.Pipeline.ValueKit
public import Idealize.ShloMosaic.Lib.Pipeline.ReadBack
public import proofs.«01_k».proof.Defs
public import proofs.«01_k».proof.Proof.MmTab
public import proofs.«01_k».proof.Proof.AdamReal
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal.Read

@[expose] public section

set_option maxRecDepth 16384

noncomputable section

open Idealize.ShloMosaic Idealize.ShloMosaic.TcCoe Idealize.SL.Sem
open Idealize.ShloMosaic.Pipeline (Dat)

namespace Cert.Reference26Ideal.Ad

open Cert.Reference26Ideal Cert.Reference26Ideal.Read Cert.Tab Cert.Ad

variable {W M V : ℕ → ℕ → ℕ → EReal} {G : ℕ → ℕ → EReal} {x0 x1 x2 : S1x2048x2048.Idx → EReal} {x3 : S2048x2048.Idx → EReal}
variable (h0 : ∀ i, x0 i = W (i 0).val (i 1).val (i 2).val) (h1 : ∀ i, x1 i = M (i 0).val (i 1).val (i 2).val)
  (h2 : ∀ i, x2 i = V (i 0).val (i 1).val (i 2).val) (h3 : ∀ i, x3 i = G (i 0).val (i 1).val)

include h3 in
theorem g_eq (i : S1x2048x2048.Idx) : val_main_v0 (F := Ideal) x3 i = (one G) (i 0).val (i 1).val (i 2).val := by
  simp only [val_main_v0_apply, h3]
  rfl

include h1 h3 in
theorem m_eq (i : S1x2048x2048.Idx) : val_main_v5 (F := Ideal) x1 x3 i = moT M (one G) (i 0).val (i 1).val (i 2).val := by
  unfold moT mo
  simp only [val_main_v24_apply, val_main_v23_apply, val_main_cst_7_apply, val_main_v22_apply, val_main_v21_apply, val_main_v20_apply, val_main_cst_6_apply, val_main_v19_apply, val_main_v18_apply, val_main_v17_apply, val_main_cst_5_apply, val_main_v16_apply, val_main_v15_apply, val_main_v14_apply, val_main_cst_4_apply, val_main_v13_apply, val_main_v12_apply, val_main_cst_3_apply, val_main_v11_apply, val_main_v10_apply, val_main_v9_apply, val_main_cst_2_apply, val_main_v8_apply, val_main_v7_apply, val_main_v6_apply, val_main_cst_1_apply, val_main_v5_apply, val_main_v4_apply, val_main_v3_apply, val_main_cst_0_apply, val_main_v2_apply, val_main_v1_apply, val_main_cst_apply, g_eq h3, h1, Ideal.addf_def, Ideal.mulf_def, Ideal.ofBits_def]

include h2 h3 in
theorem v_eq (i : S1x2048x2048.Idx) : val_main_v11 (F := Ideal) x2 x3 i = voT V (one G) (i 0).val (i 1).val (i 2).val := by
  unfold voT vo
  simp only [val_main_v24_apply, val_main_v23_apply, val_main_cst_7_apply, val_main_v22_apply, val_main_v21_apply, val_main_v20_apply, val_main_cst_6_apply, val_main_v19_apply, val_main_v18_apply, val_main_v17_apply, val_main_cst_5_apply, val_main_v16_apply, val_main_v15_apply, val_main_v14_apply, val_main_cst_4_apply, val_main_v13_apply, val_main_v12_apply, val_main_cst_3_apply, val_main_v11_apply, val_main_v10_apply, val_main_v9_apply, val_main_cst_2_apply, val_main_v8_apply, val_main_v7_apply, val_main_v6_apply, val_main_cst_1_apply, val_main_v5_apply, val_main_v4_apply, val_main_v3_apply, val_main_cst_0_apply, val_main_v2_apply, val_main_v1_apply, val_main_cst_apply, g_eq h3, h2, Ideal.addf_def, Ideal.mulf_def, Ideal.ofBits_def]

include h0 h1 h2 h3 in
theorem d_eq (i : S1x2048x2048.Idx) : val_main_v24 (F := Ideal) x0 x1 x2 x3 i = deT W M V (one G) (i 0).val (i 1).val (i 2).val := by
  have em := m_eq h1 h3 i
  have ev := v_eq h2 h3 i
  unfold moT at em
  unfold voT at ev
  unfold deT de
  rw [← em, ← ev]
  simp only [val_main_v24_apply, val_main_v23_apply, val_main_cst_7_apply, val_main_v22_apply, val_main_v21_apply, val_main_v20_apply, val_main_cst_6_apply, val_main_v19_apply, val_main_v18_apply, val_main_v17_apply, val_main_cst_5_apply, val_main_v16_apply, val_main_v15_apply, val_main_v14_apply, val_main_cst_4_apply, val_main_v13_apply, val_main_v12_apply, val_main_cst_3_apply, val_main_v11_apply, val_main_v10_apply, val_main_v9_apply, val_main_cst_2_apply, val_main_v8_apply, val_main_v7_apply, val_main_v6_apply, val_main_cst_1_apply, val_main_v5_apply, val_main_v4_apply, val_main_v3_apply, val_main_cst_0_apply, val_main_v2_apply, val_main_v1_apply, val_main_cst_apply, h0, Ideal.addf_def, Ideal.mulf_def, Ideal.ofBits_def]
  rfl

end Cert.Reference26Ideal.Ad

namespace Cert.Kernel26Ideal.Ad

open Cert.Kernel26Ideal Cert.Kernel26Ideal.Gen Cert.Tab Cert.Ad

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![0, t.val, 0] :=
  (by decide +kernel : ∀ t : Fin grid0.N, win0_1.index t = ![0, t.val, 0])
theorem idx2 : ∀ t : Fin cfg0.N, win0_2.index t = ![0, t.val, 0] :=
  (by decide +kernel : ∀ t : Fin grid0.N, win0_2.index t = ![0, t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![0, t.val, 0] :=
  (by decide +kernel : ∀ t : Fin grid0.N, win0_4.index t = ![0, t.val, 0])
theorem idx5 : ∀ t : Fin cfg0.N, win0_5.index t = ![0, t.val, 0] :=
  (by decide +kernel : ∀ t : Fin grid0.N, win0_5.index t = ![0, t.val, 0])
theorem idx6 : ∀ t : Fin cfg0.N, win0_6.index t = ![0, t.val, 0] :=
  (by decide +kernel : ∀ t : Fin grid0.N, win0_6.index t = ![0, t.val, 0])
theorem idx7 : ∀ t : Fin cfg0.N, win0_7.index t = ![0, t.val, 0] :=
  (by decide +kernel : ∀ t : Fin grid0.N, win0_7.index t = ![0, t.val, 0])

section
variable {W M V G : ℕ → ℕ → EReal} {y0 y1 y2 : S1x128x2048.Idx → EReal} {y3 : S128x2048.Idx → EReal}
  (h0 : ∀ (z : Fin 1) (p : Fin 128) (q : Fin 2048), y0 (ix3 z p q) = W p.val q.val) (h1 : ∀ (z : Fin 1) (p : Fin 128) (q : Fin 2048), y1 (ix3 z p q) = M p.val q.val)
  (h2 : ∀ (z : Fin 1) (p : Fin 128) (q : Fin 2048), y2 (ix3 z p q) = V p.val q.val) (hg : ∀ (p : Fin 128) (q : Fin 2048), y3 (ix2 p q) = G p.val q.val)
  (z : Fin 1) (p : Fin 128) (q : Fin 2048)

include h0 h1 h2 hg in
theorem pd : k0_pay6 (F := Ideal) y3 y0 y1 y2 (ix3 z p q) = de (W p.val q.val) (M p.val q.val) (V p.val q.val) (G p.val q.val) := by
  unfold de mo vo
  pointwise [k0_pay6, k0_pay4, k0_pay5, h0, h1, h2, hg]

include h1 hg in
theorem pm : k0_pay1 (F := Ideal) (k0_pay4 y3 y1) (ix3 z p q) = mo (M p.val q.val) (G p.val q.val) := by
  unfold mo
  pointwise [k0_pay1, k0_pay4, h1, hg]

include h2 hg in
theorem pv : k0_pay2 (F := Ideal) (k0_pay5 y3 y2) (ix3 z p q) = vo (V p.val q.val) (G p.val q.val) := by
  unfold vo
  pointwise [k0_pay2, k0_pay5, h2, hg]

include hg in
theorem pg : k0_pay3 (F := Ideal) y3 (ix3 z p q) = G p.val q.val := by
  pointwise [k0_pay3, hg]
end

variable {W M Y : ℕ → ℕ → ℕ → EReal} {G : ℕ → ℕ → EReal}
variable (m : (ℓ : Loc nD τ sig) → Buf (Elt Ideal) ℓ) (c : Dev nD)
variable (h0 : ∀ i : S1x2048x2048.Idx, m (c.tc.loc main_arg0) i = W (i 0).val (i 1).val (i 2).val)
variable (h1 : ∀ i : S1x2048x2048.Idx, m (c.tc.loc main_arg1) i = M (i 0).val (i 1).val (i 2).val)
variable (h2 : ∀ i : S1x2048x2048.Idx, m (c.tc.loc main_arg2) i = Y (i 0).val (i 1).val (i 2).val)
variable (h3 : ∀ i : S2048x2048.Idx, m (c.tc.loc main_arg3) i = G (i 0).val (i 1).val)

include h0 in
theorem blk0 (t : Fin cfg0.N) (z : Fin 1) (r : Fin 128) (k : Fin 2048) : iblk m c 0 t (ix3 z r k) = W 0 (128 * t.val + r.val) k.val := by
  have hN : t.val < 16 := t.isLt
  have hz := z.isLt
  blk_simp [iblk, V]
  rw [h0]
  refine at3 W ?_ ?_ ?_ <;> blk_simp [idx0] <;> first | rfl | omega

include h1 in
theorem blk1 (t : Fin cfg0.N) (z : Fin 1) (r : Fin 128) (k : Fin 2048) : iblk m c 1 t (ix3 z r k) = M 0 (128 * t.val + r.val) k.val := by
  have hN : t.val < 16 := t.isLt
  have hz := z.isLt
  blk_simp [iblk, V]
  rw [h1]
  refine at3 M ?_ ?_ ?_ <;> blk_simp [idx1] <;> first | rfl | omega

include h2 in
theorem blk2 (t : Fin cfg0.N) (z : Fin 1) (r : Fin 128) (k : Fin 2048) : iblk m c 2 t (ix3 z r k) = Y 0 (128 * t.val + r.val) k.val := by
  have hN : t.val < 16 := t.isLt
  have hz := z.isLt
  blk_simp [iblk, V]
  rw [h2]
  refine at3 Y ?_ ?_ ?_ <;> blk_simp [idx2] <;> first | rfl | omega

include h3 in
theorem blk3 (t : Fin cfg0.N) (r : Fin 128) (k : Fin 2048) : iblk m c 3 t (ix2 r k) = one G 0 (128 * t.val + r.val) k.val := by
  have hN : t.val < 16 := t.isLt
  blk_simp [iblk, V]
  rw [h3]
  refine congrArg₂ G ?_ ?_ <;> blk_simp [idx3] <;> first | rfl | omega

include h0 h1 h2 h3 in
theorem arr4 : (dats m 0 c).arrAt 4 cfg0.N = fun i : S1x2048x2048.Idx => (deT W M Y (one G)) (i 0).val (i 1).val (i 2).val := by
  refine (dats m 0 c).arrAt_eq_of_covers 4 _ (by decide +kernel) fun t hf y => ?_
  have hN : t.val < 16 := t.isLt
  blk_simp
  rw [after0_4]
  unfold out0_4
  frame_out
  obtain ⟨z, p, q, rfl⟩ : ∃ z p q, y = ix3 z p q := ⟨_, _, _, eq_ix3 y⟩
  have hz := z.isLt
  refine (pd (W := fun r k => W 0 (128 * t.val + r) k) (M := fun r k => M 0 (128 * t.val + r) k) (V := fun r k => Y 0 (128 * t.val + r) k) (G := fun r k => (one G) 0 (128 * t.val + r) k) (blk0 m c h0 t) (blk1 m c h1 t) (blk2 m c h2 t) (blk3 m c h3 t) z p q).trans ?_
  refine Eq.trans (b := (deT W M Y (one G)) 0 (128 * t.val + p.val) q.val) rfl ?_
  blk_simp [idx4]
  refine at3 (deT W M Y (one G)) ?_ ?_ ?_ <;> first | rfl | omega

include h1 h3 in
theorem arr5 : (dats m 0 c).arrAt 5 cfg0.N = fun i : S1x2048x2048.Idx => (moT M (one G)) (i 0).val (i 1).val (i 2).val := by
  refine (dats m 0 c).arrAt_eq_of_covers 5 _ (by decide +kernel) fun t hf y => ?_
  have hN : t.val < 16 := t.isLt
  blk_simp
  rw [after0_5]
  unfold out0_5
  frame_out
  obtain ⟨z, p, q, rfl⟩ : ∃ z p q, y = ix3 z p q := ⟨_, _, _, eq_ix3 y⟩
  have hz := z.isLt
  refine (pm (M := fun r k => M 0 (128 * t.val + r) k) (G := fun r k => (one G) 0 (128 * t.val + r) k) (blk1 m c h1 t) (blk3 m c h3 t) z p q).trans ?_
  refine Eq.trans (b := (moT M (one G)) 0 (128 * t.val + p.val) q.val) rfl ?_
  blk_simp [idx5]
  refine at3 (moT M (one G)) ?_ ?_ ?_ <;> first | rfl | omega

include h2 h3 in
theorem arr6 : (dats m 0 c).arrAt 6 cfg0.N = fun i : S1x2048x2048.Idx => (voT Y (one G)) (i 0).val (i 1).val (i 2).val := by
  refine (dats m 0 c).arrAt_eq_of_covers 6 _ (by decide +kernel) fun t hf y => ?_
  have hN : t.val < 16 := t.isLt
  blk_simp
  rw [after0_6]
  unfold out0_6
  frame_out
  obtain ⟨z, p, q, rfl⟩ : ∃ z p q, y = ix3 z p q := ⟨_, _, _, eq_ix3 y⟩
  have hz := z.isLt
  refine (pv (V := fun r k => Y 0 (128 * t.val + r) k) (G := fun r k => (one G) 0 (128 * t.val + r) k) (blk2 m c h2 t) (blk3 m c h3 t) z p q).trans ?_
  refine Eq.trans (b := (voT Y (one G)) 0 (128 * t.val + p.val) q.val) rfl ?_
  blk_simp [idx6]
  refine at3 (voT Y (one G)) ?_ ?_ ?_ <;> first | rfl | omega

include h3 in
theorem arr7 : (dats m 0 c).arrAt 7 cfg0.N = fun i : S1x2048x2048.Idx => (one G) (i 0).val (i 1).val (i 2).val := by
  refine (dats m 0 c).arrAt_eq_of_covers 7 _ (by decide +kernel) fun t hf y => ?_
  have hN : t.val < 16 := t.isLt
  blk_simp
  rw [after0_7]
  unfold out0_7
  frame_out
  obtain ⟨z, p, q, rfl⟩ : ∃ z p q, y = ix3 z p q := ⟨_, _, _, eq_ix3 y⟩
  have hz := z.isLt
  refine (pg (G := fun r k => (one G) 0 (128 * t.val + r) k) (blk3 m c h3 t) z p q).trans ?_
  refine Eq.trans (b := (one G) 0 (128 * t.val + p.val) q.val) rfl ?_
  blk_simp [idx7]
  refine at3 (one G) ?_ ?_ ?_ <;> first | rfl | omega

end Cert.Kernel26Ideal.Ad

namespace Cert.AdTie26

open Cert.Tab

theorem frame_ref : @Cert.quiescent_Reference26Ideal Cert.Reference26Ideal.Gen.facts := fun m ρ _ =>
  (θ_run Cert.Reference26Ideal.defs _ _).mono (fun r h => ⟨fun c => (h c).2.2.2.2, sem_eq_zero_of_no_sems (by decide) r.2⟩)
    (Cert.Reference26Ideal.Value.run (F := Ideal) m ρ)

theorem algebraic : @Cert.algebraic_Kernel26Ideal_Reference26Ideal Cert.Kernel26Ideal.Gen.facts Cert.Reference26Ideal.Gen.facts := by
  intro m g m' g' _ hagree
  refine ⟨fun c => (Cert.Kernel26Ideal.Gen.dats m 0 c).arrAt 4 Cert.Kernel26Ideal.cfg0.N, fun c => (Cert.Kernel26Ideal.Gen.dats m 0 c).arrAt 5 Cert.Kernel26Ideal.cfg0.N,
    fun c => (Cert.Kernel26Ideal.Gen.dats m 0 c).arrAt 6 Cert.Kernel26Ideal.cfg0.N, fun c => (Cert.Kernel26Ideal.Gen.dats m 0 c).arrAt 7 Cert.Kernel26Ideal.cfg0.N, Cert.Kernel26Ideal.Value.run_blocks m g, ?_⟩
  refine (θ_run Cert.Reference26Ideal.defs _ _).mono (fun r h c => ?_) (Cert.Reference26Ideal.Value.run m' g')
  obtain ⟨r0, r1, r2, r3, rest⟩ := h c
  obtain ⟨a0, a1, a2, a3⟩ := hagree c
  replace r0 := r0.trans (Cert.Reference26Ideal.Read.val_main_v24_eq (F := Ideal) (m' (c.tc.loc Cert.Reference26Ideal.main_arg0)) (m' (c.tc.loc Cert.Reference26Ideal.main_arg1)) (m' (c.tc.loc Cert.Reference26Ideal.main_arg2)) (m' (c.tc.loc Cert.Reference26Ideal.main_arg3)))
  rw [a0, a1, a2, a3] at r0
  replace r1 := r1.trans (Cert.Reference26Ideal.Read.val_main_v5_eq (F := Ideal) (m' (c.tc.loc Cert.Reference26Ideal.main_arg1)) (m' (c.tc.loc Cert.Reference26Ideal.main_arg3)))
  rw [a1, a3] at r1
  replace r2 := r2.trans (Cert.Reference26Ideal.Read.val_main_v11_eq (F := Ideal) (m' (c.tc.loc Cert.Reference26Ideal.main_arg2)) (m' (c.tc.loc Cert.Reference26Ideal.main_arg3)))
  rw [a2, a3] at r2
  replace r3 := r3.trans (Cert.Reference26Ideal.Read.val_main_v0_eq (F := Ideal) (m' (c.tc.loc Cert.Reference26Ideal.main_arg3)))
  rw [a3] at r3
  exact ⟨r0.trans ((funext fun i => Cert.Reference26Ideal.Ad.d_eq (fun i => eq_tab3 _ i) (fun i => eq_tab3 _ i) (fun i => eq_tab3 _ i) (fun i => eq_tab _ i) i).trans (Cert.Kernel26Ideal.Ad.arr4 m c (fun i => eq_tab3 _ i) (fun i => eq_tab3 _ i) (fun i => eq_tab3 _ i) (fun i => eq_tab _ i)).symm),
    r1.trans ((funext fun i => Cert.Reference26Ideal.Ad.m_eq (fun i => eq_tab3 _ i) (fun i => eq_tab _ i) i).trans (Cert.Kernel26Ideal.Ad.arr5 m c (fun i => eq_tab3 _ i) (fun i => eq_tab _ i)).symm),
    r2.trans ((funext fun i => Cert.Reference26Ideal.Ad.v_eq (fun i => eq_tab3 _ i) (fun i => eq_tab _ i) i).trans (Cert.Kernel26Ideal.Ad.arr6 m c (fun i => eq_tab3 _ i) (fun i => eq_tab _ i)).symm),
    r3.trans ((funext fun i => Cert.Reference26Ideal.Ad.g_eq (fun i => eq_tab _ i) i).trans (Cert.Kernel26Ideal.Ad.arr7 m c (fun i => eq_tab _ i)).symm), rest⟩

end Cert.AdTie26

end
-- ==== Proof.Ad27.lean ====
/- The optimiser's step on the first feed-forward weights of the two layers: the kernel's four results and the reference's. -/
module

public import Idealize.ShloMosaic.Lib.Pipeline.ValueKit
public import Idealize.ShloMosaic.Lib.Pipeline.ReadBack
public import proofs.«01_k».proof.Defs
public import proofs.«01_k».proof.Proof.MmTab
public import proofs.«01_k».proof.Proof.AdamReal
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Reference27Ideal.Read

@[expose] public section

set_option maxRecDepth 16384

noncomputable section

open Idealize.ShloMosaic Idealize.ShloMosaic.TcCoe Idealize.SL.Sem
open Idealize.ShloMosaic.Pipeline (Dat)

namespace Cert.Reference27Ideal.Ad

open Cert.Reference27Ideal Cert.Reference27Ideal.Read Cert.Tab Cert.Ad

variable {W M V : ℕ → ℕ → ℕ → EReal} {G H : ℕ → ℕ → EReal} {x0 x1 x2 : S2x2048x2816.Idx → EReal} {x3 x4 : S2048x2816.Idx → EReal}
variable (h0 : ∀ i, x0 i = W (i 0).val (i 1).val (i 2).val) (h1 : ∀ i, x1 i = M (i 0).val (i 1).val (i 2).val)
  (h2 : ∀ i, x2 i = V (i 0).val (i 1).val (i 2).val) (h3 : ∀ i, x3 i = G (i 0).val (i 1).val) (h4 : ∀ i, x4 i = H (i 0).val (i 1).val)

include h3 h4 in
theorem g_eq (i : S2x2048x2816.Idx) : val_main_v2 (F := Ideal) x3 x4 i = (two G H) (i 0).val (i 1).val (i 2).val := by
  have hi : (i 0).val < 2 := (i 0).isLt
  unfold val_main_v2 two
  pointwise [val_main_v0_apply, val_main_v1_apply, h3, h4]
  split_ifs <;> first | rfl | omega

include h1 h3 h4 in
theorem m_eq (i : S2x2048x2816.Idx) : val_main_v7 (F := Ideal) x1 x3 x4 i = moT M (two G H) (i 0).val (i 1).val (i 2).val := by
  unfold moT mo
  simp only [val_main_v26_apply, val_main_v25_apply, val_main_cst_7_apply, val_main_v24_apply, val_main_v23_apply, val_main_v22_apply, val_main_cst_6_apply, val_main_v21_apply, val_main_v20_apply, val_main_v19_apply, val_main_cst_5_apply, val_main_v18_apply, val_main_v17_apply, val_main_v16_apply, val_main_cst_4_apply, val_main_v15_apply, val_main_v14_apply, val_main_cst_3_apply, val_main_v13_apply, val_main_v12_apply, val_main_v11_apply, val_main_cst_2_apply, val_main_v10_apply, val_main_v9_apply, val_main_v8_apply, val_main_cst_1_apply, val_main_v7_apply, val_main_v6_apply, val_main_v5_apply, val_main_cst_0_apply, val_main_v4_apply, val_main_v3_apply, val_main_cst_apply, g_eq h3 h4, h1, Ideal.addf_def, Ideal.mulf_def, Ideal.ofBits_def]

include h2 h3 h4 in
theorem v_eq (i : S2x2048x2816.Idx) : val_main_v13 (F := Ideal) x2 x3 x4 i = voT V (two G H) (i 0).val (i 1).val (i 2).val := by
  unfold voT vo
  simp only [val_main_v26_apply, val_main_v25_apply, val_main_cst_7_apply, val_main_v24_apply, val_main_v23_apply, val_main_v22_apply, val_main_cst_6_apply, val_main_v21_apply, val_main_v20_apply, val_main_v19_apply, val_main_cst_5_apply, val_main_v18_apply, val_main_v17_apply, val_main_v16_apply, val_main_cst_4_apply, val_main_v15_apply, val_main_v14_apply, val_main_cst_3_apply, val_main_v13_apply, val_main_v12_apply, val_main_v11_apply, val_main_cst_2_apply, val_main_v10_apply, val_main_v9_apply, val_main_v8_apply, val_main_cst_1_apply, val_main_v7_apply, val_main_v6_apply, val_main_v5_apply, val_main_cst_0_apply, val_main_v4_apply, val_main_v3_apply, val_main_cst_apply, g_eq h3 h4, h2, Ideal.addf_def, Ideal.mulf_def, Ideal.ofBits_def]

include h0 h1 h2 h3 h4 in
theorem d_eq (i : S2x2048x2816.Idx) : val_main_v26 (F := Ideal) x0 x1 x2 x3 x4 i = deT W M V (two G H) (i 0).val (i 1).val (i 2).val := by
  have em := m_eq h1 h3 h4 i
  have ev := v_eq h2 h3 h4 i
  unfold moT at em
  unfold voT at ev
  unfold deT de
  rw [← em, ← ev]
  simp only [val_main_v26_apply, val_main_v25_apply, val_main_cst_7_apply, val_main_v24_apply, val_main_v23_apply, val_main_v22_apply, val_main_cst_6_apply, val_main_v21_apply, val_main_v20_apply, val_main_v19_apply, val_main_cst_5_apply, val_main_v18_apply, val_main_v17_apply, val_main_v16_apply, val_main_cst_4_apply, val_main_v15_apply, val_main_v14_apply, val_main_cst_3_apply, val_main_v13_apply, val_main_v12_apply, val_main_v11_apply, val_main_cst_2_apply, val_main_v10_apply, val_main_v9_apply, val_main_v8_apply, val_main_cst_1_apply, val_main_v7_apply, val_main_v6_apply, val_main_v5_apply, val_main_cst_0_apply, val_main_v4_apply, val_main_v3_apply, val_main_cst_apply, h0, Ideal.addf_def, Ideal.mulf_def, Ideal.ofBits_def]
  rfl

end Cert.Reference27Ideal.Ad

namespace Cert.Kernel27Ideal.Ad

open Cert.Kernel27Ideal Cert.Kernel27Ideal.Gen Cert.Tab Cert.Ad

theorem coord0 : ∀ t : Fin cfg0.N, (grid0.coords t 0).val = t.val / 16 :=
  (by decide +kernel : ∀ t : Fin grid0.N, (grid0.coords t 0).val = t.val / 16)
theorem idx0 : ∀ t : Fin cfg0.N, win0_0.index t = ![t.val / 16, t.val % 16, 0] :=
  (by decide +kernel : ∀ t : Fin grid0.N, win0_0.index t = ![t.val / 16, t.val % 16, 0])
theorem idx1 : ∀ t : Fin cfg0.N, win0_1.index t = ![t.val / 16, t.val % 16, 0] :=
  (by decide +kernel : ∀ t : Fin grid0.N, win0_1.index t = ![t.val / 16, t.val % 16, 0])
theorem idx2 : ∀ t : Fin cfg0.N, win0_2.index t = ![t.val / 16, t.val % 16, 0] :=
  (by decide +kernel : ∀ t : Fin grid0.N, win0_2.index t = ![t.val / 16, t.val % 16, 0])
theorem idx3 : ∀ t : Fin cfg0.N, win0_3.index t = ![if t.val < 16 then t.val else 0, 0] :=
  (by decide +kernel : ∀ t : Fin grid0.N, win0_3.index t = ![if t.val < 16 then t.val else 0, 0])
theorem idx4 : ∀ t : Fin cfg0.N, win0_4.index t = ![if t.val < 16 then 0 else t.val - 16, 0] :=
  (by decide +kernel : ∀ t : Fin grid0.N, win0_4.index t = ![if t.val < 16 then 0 else t.val - 16, 0])
theorem idx5 : ∀ t : Fin cfg0.N, win0_5.index t = ![t.val / 16, t.val % 16, 0] :=
  (by decide +kernel : ∀ t : Fin grid0.N, win0_5.index t = ![t.val / 16, t.val % 16, 0])
theorem idx6 : ∀ t : Fin cfg0.N, win0_6.index t = ![t.val / 16, t.val % 16, 0] :=
  (by decide +kernel : ∀ t : Fin grid0.N, win0_6.index t = ![t.val / 16, t.val % 16, 0])
theorem idx7 : ∀ t : Fin cfg0.N, win0_7.index t = ![t.val / 16, t.val % 16, 0] :=
  (by decide +kernel : ∀ t : Fin grid0.N, win0_7.index t = ![t.val / 16, t.val % 16, 0])
theorem idx8 : ∀ t : Fin cfg0.N, win0_8.index t = ![t.val / 16, t.val % 16, 0] :=
  (by decide +kernel : ∀ t : Fin grid0.N, win0_8.index t = ![t.val / 16, t.val % 16, 0])

section
variable {W M V G : ℕ → ℕ → EReal} {y0 y1 y2 : S1x128x2816.Idx → EReal} {y3 y4 : S128x2816.Idx → EReal} {i : grid0.Coords}
  (h0 : ∀ (z : Fin 1) (p : Fin 128) (q : Fin 2816), y0 (ix3 z p q) = W p.val q.val) (h1 : ∀ (z : Fin 1) (p : Fin 128) (q : Fin 2816), y1 (ix3 z p q) = M p.val q.val)
  (h2 : ∀ (z : Fin 1) (p : Fin 128) (q : Fin 2816), y2 (ix3 z p q) = V p.val q.val) (hg : ∀ (p : Fin 128) (q : Fin 2816), k0_pay5 (F := Ideal) i y3 y4 (ix2 p q) = G p.val q.val)
  (z : Fin 1) (p : Fin 128) (q : Fin 2816)

include h0 h1 h2 hg in
theorem pd : k0_pay1 (F := Ideal) (k0_pay8 i y3 y4 y0 y1 y2) (ix3 z p q) = de (W p.val q.val) (M p.val q.val) (V p.val q.val) (G p.val q.val) := by
  unfold de mo vo
  pointwise [k0_pay1, k0_pay8, k0_pay6, k0_pay7, h0, h1, h2, hg]

include h1 hg in
theorem pm : k0_pay2 (F := Ideal) (k0_pay6 i y3 y4 y1) (ix3 z p q) = mo (M p.val q.val) (G p.val q.val) := by
  unfold mo
  pointwise [k0_pay2, k0_pay6, h1, hg]

include h2 hg in
theorem pv : k0_pay3 (F := Ideal) (k0_pay7 i y3 y4 y2) (ix3 z p q) = vo (V p.val q.val) (G p.val q.val) := by
  unfold vo
  pointwise [k0_pay3, k0_pay7, h2, hg]

include hg in
theorem pg : k0_pay4 (F := Ideal) (k0_pay5 i y3 y4) (ix3 z p q) = G p.val q.val := by
  pointwise [k0_pay4, hg]
end

variable {W M Y : ℕ → ℕ → ℕ → EReal} {G H : ℕ → ℕ → EReal}
variable (m : (ℓ : Loc nD τ sig) → Buf (Elt Ideal) ℓ) (c : Dev nD)
variable (h0 : ∀ i : S2x2048x2816.Idx, m (c.tc.loc main_arg0) i = W (i 0).val (i 1).val (i 2).val)
variable (h1 : ∀ i : S2x2048x2816.Idx, m (c.tc.loc main_arg1) i = M (i 0).val (i 1).val (i 2).val)
variable (h2 : ∀ i : S2x2048x2816.Idx, m (c.tc.loc main_arg2) i = Y (i 0).val (i 1).val (i 2).val)
variable (h3 : ∀ i : S2048x2816.Idx, m (c.tc.loc main_arg3) i = G (i 0).val (i 1).val)
variable (h4 : ∀ i : S2048x2816.Idx, m (c.tc.loc main_arg4) i = H (i 0).val (i 1).val)

include h0 in
theorem blk0 (t : Fin cfg0.N) (z : Fin 1) (r : Fin 128) (k : Fin 2816) : iblk m c 0 t (ix3 z r k) = W (t.val / 16) (128 * (t.val % 16) + r.val) k.val := by
  have hN : t.val < 32 := t.isLt
  have hz := z.isLt
  blk_simp [iblk, V]
  rw [h0]
  refine at3 W ?_ ?_ ?_ <;> blk_simp [idx0] <;> first | rfl | omega

include h1 in
theorem blk1 (t : Fin cfg0.N) (z : Fin 1) (r : Fin 128) (k : Fin 2816) : iblk m c 1 t (ix3 z r k) = M (t.val / 16) (128 * (t.val % 16) + r.val) k.val := by
  have hN : t.val < 32 := t.isLt
  have hz := z.isLt
  blk_simp [iblk, V]
  rw [h1]
  refine at3 M ?_ ?_ ?_ <;> blk_simp [idx1] <;> first | rfl | omega

include h2 in
theorem blk2 (t : Fin cfg0.N) (z : Fin 1) (r : Fin 128) (k : Fin 2816) : iblk m c 2 t (ix3 z r k) = Y (t.val / 16) (128 * (t.val % 16) + r.val) k.val := by
  have hN : t.val < 32 := t.isLt
  have hz := z.isLt
  blk_simp [iblk, V]
  rw [h2]
  refine at3 Y ?_ ?_ ?_ <;> blk_simp [idx2] <;> first | rfl | omega

include h3 in
theorem blk3 (t : Fin cfg0.N) (ht : t.val < 16) (r : Fin 128) (k : Fin 2816) : iblk m c 3 t (ix2 r k) = G (128 * t.val + r.val) k.val := by
  have hN : t.val < 32 := t.isLt
  blk_simp [iblk, V]
  rw [h3]
  refine congrArg₂ G ?_ ?_ <;> blk_simp [idx3] <;> first | rfl | (rw [if_pos ht]; omega) | omega

include h4 in
theorem blk4 (t : Fin cfg0.N) (ht : ¬ t.val < 16) (r : Fin 128) (k : Fin 2816) : iblk m c 4 t (ix2 r k) = H (128 * (t.val - 16) + r.val) k.val := by
  have hN : t.val < 32 := t.isLt
  blk_simp [iblk, V]
  rw [h4]
  refine congrArg₂ H ?_ ?_ <;> blk_simp [idx4] <;> first | rfl | (rw [if_neg ht]; omega) | omega

include h3 h4 in
theorem grad_at (t : Fin cfg0.N) (r : Fin 128) (k : Fin 2816) :
    k0_pay5 (F := Ideal) (grid0.coords t) (iblk m c 3 t) (iblk m c 4 t) (ix2 r k) = two G H (t.val / 16) (128 * (t.val % 16) + r.val) k.val := by
  have hN : t.val < 32 := t.isLt
  by_cases ht : t.val < 16
  · have e : t.val / 16 = 0 := by omega
    have e' : t.val % 16 = t.val := by omega
    refine Eq.trans ?_ ((blk3 m c h3 t ht r k).trans ?_)
    · simp only [k0_pay5, coord0, e]; rfl
    · rw [two, if_pos e, e']
  · have e : t.val / 16 = 1 := by omega
    have e' : t.val % 16 = t.val - 16 := by omega
    refine Eq.trans ?_ ((blk4 m c h4 t ht r k).trans ?_)
    · simp only [k0_pay5, coord0, e]; rfl
    · rw [two, if_neg (by omega), e']

include h0 h1 h2 h3 h4 in
theorem arr5 : (dats m 0 c).arrAt 5 cfg0.N = fun i : S2x2048x2816.Idx => (deT W M Y (two G H)) (i 0).val (i 1).val (i 2).val := by
  refine (dats m 0 c).arrAt_eq_of_covers 5 _ (by decide +kernel) fun t hf y => ?_
  have hN : t.val < 32 := t.isLt
  blk_simp
  rw [after0_5]
  unfold out0_5
  frame_out
  obtain ⟨z, p, q, rfl⟩ : ∃ z p q, y = ix3 z p q := ⟨_, _, _, eq_ix3 y⟩
  have hz := z.isLt
  refine (pd (W := fun r k => W (t.val / 16) (128 * (t.val % 16) + r) k) (M := fun r k => M (t.val / 16) (128 * (t.val % 16) + r) k) (V := fun r k => Y (t.val / 16) (128 * (t.val % 16) + r) k) (G := fun r k => (two G H) (t.val / 16) (128 * (t.val % 16) + r) k) (blk0 m c h0 t) (blk1 m c h1 t) (blk2 m c h2 t) (grad_at m c h3 h4 t) z p q).trans ?_
  refine Eq.trans (b := (deT W M Y (two G H)) (t.val / 16) (128 * (t.val % 16) + p.val) q.val) rfl ?_
  blk_simp [idx5]
  refine at3 (deT W M Y (two G H)) ?_ ?_ ?_ <;> first | rfl | omega

include h1 h3 h4 in
theorem arr6 : (dats m 0 c).arrAt 6 cfg0.N = fun i : S2x2048x2816.Idx => (moT M (two G H)) (i 0).val (i 1).val (i 2).val := by
  refine (dats m 0 c).arrAt_eq_of_covers 6 _ (by decide +kernel) fun t hf y => ?_
  have hN : t.val < 32 := t.isLt
  blk_simp
  rw [after0_6]
  unfold out0_6
  frame_out
  obtain ⟨z, p, q, rfl⟩ : ∃ z p q, y = ix3 z p q := ⟨_, _, _, eq_ix3 y⟩
  have hz := z.isLt
  refine (pm (M := fun r k => M (t.val / 16) (128 * (t.val % 16) + r) k) (G := fun r k => (two G H) (t.val / 16) (128 * (t.val % 16) + r) k) (blk1 m c h1 t) (grad_at m c h3 h4 t) z p q).trans ?_
  refine Eq.trans (b := (moT M (two G H)) (t.val / 16) (128 * (t.val % 16) + p.val) q.val) rfl ?_
  blk_simp [idx6]
  refine at3 (moT M (two G H)) ?_ ?_ ?_ <;> first | rfl | omega

include h2 h3 h4 in
theorem arr7 : (dats m 0 c).arrAt 7 cfg0.N = fun i : S2x2048x2816.Idx => (voT Y (two G H)) (i 0).val (i 1).val (i 2).val := by
  refine (dats m 0 c).arrAt_eq_of_covers 7 _ (by decide +kernel) fun t hf y => ?_
  have hN : t.val < 32 := t.isLt
  blk_simp
  rw [after0_7]
  unfold out0_7
  frame_out
  obtain ⟨z, p, q, rfl⟩ : ∃ z p q, y = ix3 z p q := ⟨_, _, _, eq_ix3 y⟩
  have hz := z.isLt
  refine (pv (V := fun r k => Y (t.val / 16) (128 * (t.val % 16) + r) k) (G := fun r k => (two G H) (t.val / 16) (128 * (t.val % 16) + r) k) (blk2 m c h2 t) (grad_at m c h3 h4 t) z p q).trans ?_
  refine Eq.trans (b := (voT Y (two G H)) (t.val / 16) (128 * (t.val % 16) + p.val) q.val) rfl ?_
  blk_simp [idx7]
  refine at3 (voT Y (two G H)) ?_ ?_ ?_ <;> first | rfl | omega

include h3 h4 in
theorem arr8 : (dats m 0 c).arrAt 8 cfg0.N = fun i : S2x2048x2816.Idx => (two G H) (i 0).val (i 1).val (i 2).val := by
  refine (dats m 0 c).arrAt_eq_of_covers 8 _ (by decide +kernel) fun t hf y => ?_
  have hN : t.val < 32 := t.isLt
  blk_simp
  rw [after0_8]
  unfold out0_8
  frame_out
  obtain ⟨z, p, q, rfl⟩ : ∃ z p q, y = ix3 z p q := ⟨_, _, _, eq_ix3 y⟩
  have hz := z.isLt
  refine (pg (G := fun r k => (two G H) (t.val / 16) (128 * (t.val % 16) + r) k) (grad_at m c h3 h4 t) z p q).trans ?_
  refine Eq.trans (b := (two G H) (t.val / 16) (128 * (t.val % 16) + p.val) q.val) rfl ?_
  blk_simp [idx8]
  refine at3 (two G H) ?_ ?_ ?_ <;> first | rfl | omega

end Cert.Kernel27Ideal.Ad

namespace Cert.AdTie27

open Cert.Tab

theorem frame_ref : @Cert.quiescent_Reference27Ideal Cert.Reference27Ideal.Gen.facts := fun m ρ _ =>
  (θ_run Cert.Reference27Ideal.defs _ _).mono (fun r h => ⟨fun c => (h c).2.2.2.2, sem_eq_zero_of_no_sems (by decide) r.2⟩)
    (Cert.Reference27Ideal.Value.run (F := Ideal) m ρ)

theorem algebraic : @Cert.algebraic_Kernel27Ideal_Reference27Ideal Cert.Kernel27Ideal.Gen.facts Cert.Reference27Ideal.Gen.facts := by
  intro m g m' g' _ hagree
  refine ⟨fun c => (Cert.Kernel27Ideal.Gen.dats m 0 c).arrAt 5 Cert.Kernel27Ideal.cfg0.N, fun c => (Cert.Kernel27Ideal.Gen.dats m 0 c).arrAt 6 Cert.Kernel27Ideal.cfg0.N,
    fun c => (Cert.Kernel27Ideal.Gen.dats m 0 c).arrAt 7 Cert.Kernel27Ideal.cfg0.N, fun c => (Cert.Kernel27Ideal.Gen.dats m 0 c).arrAt 8 Cert.Kernel27Ideal.cfg0.N, Cert.Kernel27Ideal.Value.run_blocks m g, ?_⟩
  refine (θ_run Cert.Reference27Ideal.defs _ _).mono (fun r h c => ?_) (Cert.Reference27Ideal.Value.run m' g')
  obtain ⟨r0, r1, r2, r3, rest⟩ := h c
  obtain ⟨a0, a1, a2, a3, a4⟩ := hagree c
  replace r0 := r0.trans (Cert.Reference27Ideal.Read.val_main_v26_eq (F := Ideal) (m' (c.tc.loc Cert.Reference27Ideal.main_arg0)) (m' (c.tc.loc Cert.Reference27Ideal.main_arg1)) (m' (c.tc.loc Cert.Reference27Ideal.main_arg2)) (m' (c.tc.loc Cert.Reference27Ideal.main_arg3)) (m' (c.tc.loc Cert.Reference27Ideal.main_arg4)))
  rw [a0, a1, a2, a3, a4] at r0
  replace r1 := r1.trans (Cert.Reference27Ideal.Read.val_main_v7_eq (F := Ideal) (m' (c.tc.loc Cert.Reference27Ideal.main_arg1)) (m' (c.tc.loc Cert.Reference27Ideal.main_arg3)) (m' (c.tc.loc Cert.Reference27Ideal.main_arg4)))
  rw [a1, a3, a4] at r1
  replace r2 := r2.trans (Cert.Reference27Ideal.Read.val_main_v13_eq (F := Ideal) (m' (c.tc.loc Cert.Reference27Ideal.main_arg2)) (m' (c.tc.loc Cert.Reference27Ideal.main_arg3)) (m' (c.tc.loc Cert.Reference27Ideal.main_arg4)))
  rw [a2, a3, a4] at r2
  replace r3 := r3.trans (Cert.Reference27Ideal.Read.val_main_v2_eq (F := Ideal) (m' (c.tc.loc Cert.Reference27Ideal.main_arg3)) (m' (c.tc.loc Cert.Reference27Ideal.main_arg4)))
  rw [a3, a4] at r3
  exact ⟨r0.trans ((funext fun i => Cert.Reference27Ideal.Ad.d_eq (fun i => eq_tab3 _ i) (fun i => eq_tab3 _ i) (fun i => eq_tab3 _ i) (fun i => eq_tab _ i) (fun i => eq_tab _ i) i).trans (Cert.Kernel27Ideal.Ad.arr5 m c (fun i => eq_tab3 _ i) (fun i => eq_tab3 _ i) (fun i => eq_tab3 _ i) (fun i => eq_tab _ i) (fun i => eq_tab _ i)).symm),
    r1.trans ((funext fun i => Cert.Reference27Ideal.Ad.m_eq (fun i => eq_tab3 _ i) (fun i => eq_tab _ i) (fun i => eq_tab _ i) i).trans (Cert.Kernel27Ideal.Ad.arr6 m c (fun i => eq_tab3 _ i) (fun i => eq_tab _ i) (fun i => eq_tab _ i)).symm),
    r2.trans ((funext fun i => Cert.Reference27Ideal.Ad.v_eq (fun i => eq_tab3 _ i) (fun i => eq_tab _ i) (fun i => eq_tab _ i) i).trans (Cert.Kernel27Ideal.Ad.arr7 m c (fun i => eq_tab3 _ i) (fun i => eq_tab _ i) (fun i => eq_tab _ i)).symm),
    r3.trans ((funext fun i => Cert.Reference27Ideal.Ad.g_eq (fun i => eq_tab _ i) (fun i => eq_tab _ i) i).trans (Cert.Kernel27Ideal.Ad.arr8 m c (fun i => eq_tab _ i) (fun i => eq_tab _ i)).symm), rest⟩

end Cert.AdTie27

end
-- ==== Proof.Ad28.lean ====
/- The optimiser's step on the second feed-forward weights of the two layers: the kernel's four results and the reference's. -/
module

public import Idealize.ShloMosaic.Lib.Pipeline.ValueKit
public import Idealize.ShloMosaic.Lib.Pipeline.ReadBack
public import proofs.«01_k».proof.Defs
public import proofs.«01_k».proof.Proof.MmTab
public import proofs.«01_k».proof.Proof.AdamReal
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Reference28Ideal.Read

@[expose] public section

set_option maxRecDepth 16384

noncomputable section

open Idealize.ShloMosaic Idealize.ShloMosaic.TcCoe Idealize.SL.Sem
open Idealize.ShloMosaic.Pipeline (Dat)

namespace Cert.Reference28Ideal.Ad

open Cert.Reference28Ideal Cert.Reference28Ideal.Read Cert.Tab Cert.Ad

variable {W M V : ℕ → ℕ → ℕ → EReal} {G H : ℕ → ℕ → EReal} {x0 x1 x2 : S2x1408x2048.Idx → EReal} {x3 x4 : S1408x2048.Idx → EReal}
variable (h0 : ∀ i, x0 i = W (i 0).val (i 1).val (i 2).val) (h1 : ∀ i, x1 i = M (i 0).val (i 1).val (i 2).val)
  (h2 : ∀ i, x2 i = V (i 0).val (i 1).val (i 2).val) (h3 : ∀ i, x3 i = G (i 0).val (i 1).val) (h4 : ∀ i, x4 i = H (i 0).val (i 1).val)

include h3 h4 in
theorem g_eq (i : S2x1408x2048.Idx) : val_main_v2 (F := Ideal) x3 x4 i = (two G H) (i 0).val (i 1).val (i 2).val := by
  have hi : (i 0).val < 2 := (i 0).isLt
  unfold val_main_v2 two
  pointwise [val_main_v0_apply, val_main_v1_apply, h3, h4]
  split_ifs <;> first | rfl | omega

include h1 h3 h4 in
theorem m_eq (i : S2x1408x2048.Idx) : val_main_v7 (F := Ideal) x1 x3 x4 i = moT M (two G H) (i 0).val (i 1).val (i 2).val := by
  unfold moT mo
  simp only [val_main_v26_apply, val_main_v25_apply, val_main_cst_7_apply, val_main_v24_apply, val_main_v23_apply, val_main_v22_apply, val_main_cst_6_apply, val_main_v21_apply, val_main_v20_apply, val_main_v19_apply, val_main_cst_5_apply, val_main_v18_apply, val_main_v17_apply, val_main_v16_apply, val_main_cst_4_apply, val_main_v15_apply, val_main_v14_apply, val_main_cst_3_apply, val_main_v13_apply, val_main_v12_apply, val_main_v11_apply, val_main_cst_2_apply, val_main_v10_apply, val_main_v9_apply, val_main_v8_apply, val_main_cst_1_apply, val_main_v7_apply, val_main_v6_apply, val_main_v5_apply, val_main_cst_0_apply, val_main_v4_apply, val_main_v3_apply, val_main_cst_apply, g_eq h3 h4, h1, Ideal.addf_def, Ideal.mulf_def, Ideal.ofBits_def]

include h2 h3 h4 in
theorem v_eq (i : S2x1408x2048.Idx) : val_main_v13 (F := Ideal) x2 x3 x4 i = voT V (two G H) (i 0).val (i 1).val (i 2).val := by
  unfold voT vo
  simp only [val_main_v26_apply, val_main_v25_apply, val_main_cst_7_apply, val_main_v24_apply, val_main_v23_apply, val_main_v22_apply, val_main_cst_6_apply, val_main_v21_apply, val_main_v20_apply, val_main_v19_apply, val_main_cst_5_apply, val_main_v18_apply, val_main_v17_apply, val_main_v16_apply, val_main_cst_4_apply, val_main_v15_apply, val_main_v14_apply, val_main_cst_3_apply, val_main_v13_apply, val_main_v12_apply, val_main_v11_apply, val_main_cst_2_apply, val_main_v10_apply, val_main_v9_apply, val_main_v8_apply, val_main_cst_1_apply, val_main_v7_apply, val_main_v6_apply, val_main_v5_apply, val_main_cst_0_apply, val_main_v4_apply, val_main_v3_apply, val_main_cst_apply, g_eq h3 h4, h2, Ideal.addf_def, Ideal.mulf_def, Ideal.ofBits_def]

include h0 h1 h2 h3 h4 in
theorem d_eq (i : S2x1408x2048.Idx) : val_main_v26 (F := Ideal) x0 x1 x2 x3 x4 i = deT W M V (two G H) (i 0).val (i 1).val (i 2).val := by
  have em := m_eq h1 h3 h4 i
  have ev := v_eq h2 h3 h4 i
  unfold moT at em
  unfold voT at ev
  unfold deT de
  rw [← em, ← ev]
  simp only [val_main_v26_apply, val_main_v25_apply, val_main_cst_7_apply, val_main_v24_apply, val_main_v23_apply, val_main_v22_apply, val_main_cst_6_apply, val_main_v21_apply, val_main_v20_apply, val_main_v19_apply, val_main_cst_5_apply, val_main_v18_apply, val_main_v17_apply, val_main_v16_apply, val_main_cst_4_apply, val_main_v15_apply, val_main_v14_apply, val_main_cst_3_apply, val_main_v13_apply, val_main_v12_apply, val_main_v11_apply, val_main_cst_2_apply, val_main_v10_apply, val_main_v9_apply, val_main_v8_apply, val_main_cst_1_apply, val_main_v7_apply, val_main_v6_apply, val_main_v5_apply, val_main_cst_0_apply, val_main_v4_apply, val_main_v3_apply, val_main_cst_apply, h0, Ideal.addf_def, Ideal.mulf_def, Ideal.ofBits_def]
  rfl

end Cert.Reference28Ideal.Ad

namespace Cert.Kernel28Ideal.Ad

open Cert.Kernel28Ideal Cert.Kernel28Ideal.Gen Cert.Tab Cert.Ad

theorem coord0 : ∀ t : Fin cfg0.N, (grid0.coords t 0).val = t.val / 11 :=
  (by decide +kernel : ∀ t : Fin grid0.N, (grid0.coords t 0).val = t.val / 11)
theorem idx0 : ∀ t : Fin cfg0.N, win0_0.index t = ![t.val / 11, t.val % 11, 0] :=
  (by decide +kernel : ∀ t : Fin grid0.N, win0_0.index t = ![t.val / 11, t.val % 11, 0])
theorem idx1 : ∀ t : Fin cfg0.N, win0_1.index t = ![t.val / 11, t.val % 11, 0] :=
  (by decide +kernel : ∀ t : Fin grid0.N, win0_1.index t = ![t.val / 11, t.val % 11, 0])
theorem idx2 : ∀ t : Fin cfg0.N, win0_2.index t = ![t.val / 11, t.val % 11, 0] :=
  (by decide +kernel : ∀ t : Fin grid0.N, win0_2.index t = ![t.val / 11, t.val % 11, 0])
theorem idx3 : ∀ t : Fin cfg0.N, win0_3.index t = ![if t.val < 11 then t.val else 0, 0] :=
  (by decide +kernel : ∀ t : Fin grid0.N, win0_3.index t = ![if t.val < 11 then t.val else 0, 0])
theorem idx4 : ∀ t : Fin cfg0.N, win0_4.index t = ![if t.val < 11 then 0 else t.val - 11, 0] :=
  (by decide +kernel : ∀ t : Fin grid0.N, win0_4.index t = ![if t.val < 11 then 0 else t.val - 11, 0])
theorem idx5 : ∀ t : Fin cfg0.N, win0_5.index t = ![t.val / 11, t.val % 11, 0] :=
  (by decide +kernel : ∀ t : Fin grid0.N, win0_5.index t = ![t.val / 11, t.val % 11, 0])
theorem idx6 : ∀ t : Fin cfg0.N, win0_6.index t = ![t.val / 11, t.val % 11, 0] :=
  (by decide +kernel : ∀ t : Fin grid0.N, win0_6.index t = ![t.val / 11, t.val % 11, 0])
theorem idx7 : ∀ t : Fin cfg0.N, win0_7.index t = ![t.val / 11, t.val % 11, 0] :=
  (by decide +kernel : ∀ t : Fin grid0.N, win0_7.index t = ![t.val / 11, t.val % 11, 0])
theorem idx8 : ∀ t : Fin cfg0.N, win0_8.index t = ![t.val / 11, t.val % 11, 0] :=
  (by decide +kernel : ∀ t : Fin grid0.N, win0_8.index t = ![t.val / 11, t.val % 11, 0])

section
variable {W M V G : ℕ → ℕ → EReal} {y0 y1 y2 : S1x128x2048.Idx → EReal} {y3 y4 : S128x2048.Idx → EReal} {i : grid0.Coords}
  (h0 : ∀ (z : Fin 1) (p : Fin 128) (q : Fin 2048), y0 (ix3 z p q) = W p.val q.val) (h1 : ∀ (z : Fin 1) (p : Fin 128) (q : Fin 2048), y1 (ix3 z p q) = M p.val q.val)
  (h2 : ∀ (z : Fin 1) (p : Fin 128) (q : Fin 2048), y2 (ix3 z p q) = V p.val q.val) (hg : ∀ (p : Fin 128) (q : Fin 2048), k0_pay5 (F := Ideal) i y3 y4 (ix2 p q) = G p.val q.val)
  (z : Fin 1) (p : Fin 128) (q : Fin 2048)

include h0 h1 h2 hg in
theorem pd : k0_pay1 (F := Ideal) (k0_pay8 i y3 y4 y0 y1 y2) (ix3 z p q) = de (W p.val q.val) (M p.val q.val) (V p.val q.val) (G p.val q.val) := by
  unfold de mo vo
  pointwise [k0_pay1, k0_pay8, k0_pay6, k0_pay7, h0, h1, h2, hg]

include h1 hg in
theorem pm : k0_pay2 (F := Ideal) (k0_pay6 i y3 y4 y1) (ix3 z p q) = mo (M p.val q.val) (G p.val q.val) := by
  unfold mo
  pointwise [k0_pay2, k0_pay6, h1, hg]

include h2 hg in
theorem pv : k0_pay3 (F := Ideal) (k0_pay7 i y3 y4 y2) (ix3 z p q) = vo (V p.val q.val) (G p.val q.val) := by
  unfold vo
  pointwise [k0_pay3, k0_pay7, h2, hg]

include hg in
theorem pg : k0_pay4 (F := Ideal) (k0_pay5 i y3 y4) (ix3 z p q) = G p.val q.val := by
  pointwise [k0_pay4, hg]
end

variable {W M Y : ℕ → ℕ → ℕ → EReal} {G H : ℕ → ℕ → EReal}
variable (m : (ℓ : Loc nD τ sig) → Buf (Elt Ideal) ℓ) (c : Dev nD)
variable (h0 : ∀ i : S2x1408x2048.Idx, m (c.tc.loc main_arg0) i = W (i 0).val (i 1).val (i 2).val)
variable (h1 : ∀ i : S2x1408x2048.Idx, m (c.tc.loc main_arg1) i = M (i 0).val (i 1).val (i 2).val)
variable (h2 : ∀ i : S2x1408x2048.Idx, m (c.tc.loc main_arg2) i = Y (i 0).val (i 1).val (i 2).val)
variable (h3 : ∀ i : S1408x2048.Idx, m (c.tc.loc main_arg3) i = G (i 0).val (i 1).val)
variable (h4 : ∀ i : S1408x2048.Idx, m (c.tc.loc main_arg4) i = H (i 0).val (i 1).val)

include h0 in
theorem blk0 (t : Fin cfg0.N) (z : Fin 1) (r : Fin 128) (k : Fin 2048) : iblk m c 0 t (ix3 z r k) = W (t.val / 11) (128 * (t.val % 11) + r.val) k.val := by
  have hN : t.val < 22 := t.isLt
  have hz := z.isLt
  blk_simp [iblk, V]
  rw [h0]
  refine at3 W ?_ ?_ ?_ <;> blk_simp [idx0] <;> first | rfl | omega

include h1 in
theorem blk1 (t : Fin cfg0.N) (z : Fin 1) (r : Fin 128) (k : Fin 2048) : iblk m c 1 t (ix3 z r k) = M (t.val / 11) (128 * (t.val % 11) + r.val) k.val := by
  have hN : t.val < 22 := t.isLt
  have hz := z.isLt
  blk_simp [iblk, V]
  rw [h1]
  refine at3 M ?_ ?_ ?_ <;> blk_simp [idx1] <;> first | rfl | omega

include h2 in
theorem blk2 (t : Fin cfg0.N) (z : Fin 1) (r : Fin 128) (k : Fin 2048) : iblk m c 2 t (ix3 z r k) = Y (t.val / 11) (128 * (t.val % 11) + r.val) k.val := by
  have hN : t.val < 22 := t.isLt
  have hz := z.isLt
  blk_simp [iblk, V]
  rw [h2]
  refine at3 Y ?_ ?_ ?_ <;> blk_simp [idx2] <;> first | rfl | omega

include h3 in
theorem blk3 (t : Fin cfg0.N) (ht : t.val < 11) (r : Fin 128) (k : Fin 2048) : iblk m c 3 t (ix2 r k) = G (128 * t.val + r.val) k.val := by
  have hN : t.val < 22 := t.isLt
  blk_simp [iblk, V]
  rw [h3]
  refine congrArg₂ G ?_ ?_ <;> blk_simp [idx3] <;> first | rfl | (rw [if_pos ht]; omega) | omega

include h4 in
theorem blk4 (t : Fin cfg0.N) (ht : ¬ t.val < 11) (r : Fin 128) (k : Fin 2048) : iblk m c 4 t (ix2 r k) = H (128 * (t.val - 11) + r.val) k.val := by
  have hN : t.val < 22 := t.isLt
  blk_simp [iblk, V]
  rw [h4]
  refine congrArg₂ H ?_ ?_ <;> blk_simp [idx4] <;> first | rfl | (rw [if_neg ht]; omega) | omega

include h3 h4 in
theorem grad_at (t : Fin cfg0.N) (r : Fin 128) (k : Fin 2048) :
    k0_pay5 (F := Ideal) (grid0.coords t) (iblk m c 3 t) (iblk m c 4 t) (ix2 r k) = two G H (t.val / 11) (128 * (t.val % 11) + r.val) k.val := by
  have hN : t.val < 22 := t.isLt
  by_cases ht : t.val < 11
  · have e : t.val / 11 = 0 := by omega
    have e' : t.val % 11 = t.val := by omega
    refine Eq.trans ?_ ((blk3 m c h3 t ht r k).trans ?_)
    · simp only [k0_pay5, coord0, e]; rfl
    · rw [two, if_pos e, e']
  · have e : t.val / 11 = 1 := by omega
    have e' : t.val % 11 = t.val - 11 := by omega
    refine Eq.trans ?_ ((blk4 m c h4 t ht r k).trans ?_)
    · simp only [k0_pay5, coord0, e]; rfl
    · rw [two, if_neg (by omega), e']

include h0 h1 h2 h3 h4 in
theorem arr5 : (dats m 0 c).arrAt 5 cfg0.N = fun i : S2x1408x2048.Idx => (deT W M Y (two G H)) (i 0).val (i 1).val (i 2).val := by
  refine (dats m 0 c).arrAt_eq_of_covers 5 _ (by decide +kernel) fun t hf y => ?_
  have hN : t.val < 22 := t.isLt
  blk_simp
  rw [after0_5]
  unfold out0_5
  frame_out
  obtain ⟨z, p, q, rfl⟩ : ∃ z p q, y = ix3 z p q := ⟨_, _, _, eq_ix3 y⟩
  have hz := z.isLt
  refine (pd (W := fun r k => W (t.val / 11) (128 * (t.val % 11) + r) k) (M := fun r k => M (t.val / 11) (128 * (t.val % 11) + r) k) (V := fun r k => Y (t.val / 11) (128 * (t.val % 11) + r) k) (G := fun r k => (two G H) (t.val / 11) (128 * (t.val % 11) + r) k) (blk0 m c h0 t) (blk1 m c h1 t) (blk2 m c h2 t) (grad_at m c h3 h4 t) z p q).trans ?_
  refine Eq.trans (b := (deT W M Y (two G H)) (t.val / 11) (128 * (t.val % 11) + p.val) q.val) rfl ?_
  blk_simp [idx5]
  refine at3 (deT W M Y (two G H)) ?_ ?_ ?_ <;> first | rfl | omega

include h1 h3 h4 in
theorem arr6 : (dats m 0 c).arrAt 6 cfg0.N = fun i : S2x1408x2048.Idx => (moT M (two G H)) (i 0).val (i 1).val (i 2).val := by
  refine (dats m 0 c).arrAt_eq_of_covers 6 _ (by decide +kernel) fun t hf y => ?_
  have hN : t.val < 22 := t.isLt
  blk_simp
  rw [after0_6]
  unfold out0_6
  frame_out
  obtain ⟨z, p, q, rfl⟩ : ∃ z p q, y = ix3 z p q := ⟨_, _, _, eq_ix3 y⟩
  have hz := z.isLt
  refine (pm (M := fun r k => M (t.val / 11) (128 * (t.val % 11) + r) k) (G := fun r k => (two G H) (t.val / 11) (128 * (t.val % 11) + r) k) (blk1 m c h1 t) (grad_at m c h3 h4 t) z p q).trans ?_
  refine Eq.trans (b := (moT M (two G H)) (t.val / 11) (128 * (t.val % 11) + p.val) q.val) rfl ?_
  blk_simp [idx6]
  refine at3 (moT M (two G H)) ?_ ?_ ?_ <;> first | rfl | omega

include h2 h3 h4 in
theorem arr7 : (dats m 0 c).arrAt 7 cfg0.N = fun i : S2x1408x2048.Idx => (voT Y (two G H)) (i 0).val (i 1).val (i 2).val := by
  refine (dats m 0 c).arrAt_eq_of_covers 7 _ (by decide +kernel) fun t hf y => ?_
  have hN : t.val < 22 := t.isLt
  blk_simp
  rw [after0_7]
  unfold out0_7
  frame_out
  obtain ⟨z, p, q, rfl⟩ : ∃ z p q, y = ix3 z p q := ⟨_, _, _, eq_ix3 y⟩
  have hz := z.isLt
  refine (pv (V := fun r k => Y (t.val / 11) (128 * (t.val % 11) + r) k) (G := fun r k => (two G H) (t.val / 11) (128 * (t.val % 11) + r) k) (blk2 m c h2 t) (grad_at m c h3 h4 t) z p q).trans ?_
  refine Eq.trans (b := (voT Y (two G H)) (t.val / 11) (128 * (t.val % 11) + p.val) q.val) rfl ?_
  blk_simp [idx7]
  refine at3 (voT Y (two G H)) ?_ ?_ ?_ <;> first | rfl | omega

include h3 h4 in
theorem arr8 : (dats m 0 c).arrAt 8 cfg0.N = fun i : S2x1408x2048.Idx => (two G H) (i 0).val (i 1).val (i 2).val := by
  refine (dats m 0 c).arrAt_eq_of_covers 8 _ (by decide +kernel) fun t hf y => ?_
  have hN : t.val < 22 := t.isLt
  blk_simp
  rw [after0_8]
  unfold out0_8
  frame_out
  obtain ⟨z, p, q, rfl⟩ : ∃ z p q, y = ix3 z p q := ⟨_, _, _, eq_ix3 y⟩
  have hz := z.isLt
  refine (pg (G := fun r k => (two G H) (t.val / 11) (128 * (t.val % 11) + r) k) (grad_at m c h3 h4 t) z p q).trans ?_
  refine Eq.trans (b := (two G H) (t.val / 11) (128 * (t.val % 11) + p.val) q.val) rfl ?_
  blk_simp [idx8]
  refine at3 (two G H) ?_ ?_ ?_ <;> first | rfl | omega

end Cert.Kernel28Ideal.Ad

namespace Cert.AdTie28

open Cert.Tab

theorem frame_ref : @Cert.quiescent_Reference28Ideal Cert.Reference28Ideal.Gen.facts := fun m ρ _ =>
  (θ_run Cert.Reference28Ideal.defs _ _).mono (fun r h => ⟨fun c => (h c).2.2.2.2, sem_eq_zero_of_no_sems (by decide) r.2⟩)
    (Cert.Reference28Ideal.Value.run (F := Ideal) m ρ)

theorem algebraic : @Cert.algebraic_Kernel28Ideal_Reference28Ideal Cert.Kernel28Ideal.Gen.facts Cert.Reference28Ideal.Gen.facts := by
  intro m g m' g' _ hagree
  refine ⟨fun c => (Cert.Kernel28Ideal.Gen.dats m 0 c).arrAt 5 Cert.Kernel28Ideal.cfg0.N, fun c => (Cert.Kernel28Ideal.Gen.dats m 0 c).arrAt 6 Cert.Kernel28Ideal.cfg0.N,
    fun c => (Cert.Kernel28Ideal.Gen.dats m 0 c).arrAt 7 Cert.Kernel28Ideal.cfg0.N, fun c => (Cert.Kernel28Ideal.Gen.dats m 0 c).arrAt 8 Cert.Kernel28Ideal.cfg0.N, Cert.Kernel28Ideal.Value.run_blocks m g, ?_⟩
  refine (θ_run Cert.Reference28Ideal.defs _ _).mono (fun r h c => ?_) (Cert.Reference28Ideal.Value.run m' g')
  obtain ⟨r0, r1, r2, r3, rest⟩ := h c
  obtain ⟨a0, a1, a2, a3, a4⟩ := hagree c
  replace r0 := r0.trans (Cert.Reference28Ideal.Read.val_main_v26_eq (F := Ideal) (m' (c.tc.loc Cert.Reference28Ideal.main_arg0)) (m' (c.tc.loc Cert.Reference28Ideal.main_arg1)) (m' (c.tc.loc Cert.Reference28Ideal.main_arg2)) (m' (c.tc.loc Cert.Reference28Ideal.main_arg3)) (m' (c.tc.loc Cert.Reference28Ideal.main_arg4)))
  rw [a0, a1, a2, a3, a4] at r0
  replace r1 := r1.trans (Cert.Reference28Ideal.Read.val_main_v7_eq (F := Ideal) (m' (c.tc.loc Cert.Reference28Ideal.main_arg1)) (m' (c.tc.loc Cert.Reference28Ideal.main_arg3)) (m' (c.tc.loc Cert.Reference28Ideal.main_arg4)))
  rw [a1, a3, a4] at r1
  replace r2 := r2.trans (Cert.Reference28Ideal.Read.val_main_v13_eq (F := Ideal) (m' (c.tc.loc Cert.Reference28Ideal.main_arg2)) (m' (c.tc.loc Cert.Reference28Ideal.main_arg3)) (m' (c.tc.loc Cert.Reference28Ideal.main_arg4)))
  rw [a2, a3, a4] at r2
  replace r3 := r3.trans (Cert.Reference28Ideal.Read.val_main_v2_eq (F := Ideal) (m' (c.tc.loc Cert.Reference28Ideal.main_arg3)) (m' (c.tc.loc Cert.Reference28Ideal.main_arg4)))
  rw [a3, a4] at r3
  exact ⟨r0.trans ((funext fun i => Cert.Reference28Ideal.Ad.d_eq (fun i => eq_tab3 _ i) (fun i => eq_tab3 _ i) (fun i => eq_tab3 _ i) (fun i => eq_tab _ i) (fun i => eq_tab _ i) i).trans (Cert.Kernel28Ideal.Ad.arr5 m c (fun i => eq_tab3 _ i) (fun i => eq_tab3 _ i) (fun i => eq_tab3 _ i) (fun i => eq_tab _ i) (fun i => eq_tab _ i)).symm),
    r1.trans ((funext fun i => Cert.Reference28Ideal.Ad.m_eq (fun i => eq_tab3 _ i) (fun i => eq_tab _ i) (fun i => eq_tab _ i) i).trans (Cert.Kernel28Ideal.Ad.arr6 m c (fun i => eq_tab3 _ i) (fun i => eq_tab _ i) (fun i => eq_tab _ i)).symm),
    r2.trans ((funext fun i => Cert.Reference28Ideal.Ad.v_eq (fun i => eq_tab3 _ i) (fun i => eq_tab _ i) (fun i => eq_tab _ i) i).trans (Cert.Kernel28Ideal.Ad.arr7 m c (fun i => eq_tab3 _ i) (fun i => eq_tab _ i) (fun i => eq_tab _ i)).symm),
    r3.trans ((funext fun i => Cert.Reference28Ideal.Ad.g_eq (fun i => eq_tab _ i) (fun i => eq_tab _ i) i).trans (Cert.Kernel28Ideal.Ad.arr8 m c (fun i => eq_tab _ i) (fun i => eq_tab _ i)).symm), rest⟩

end Cert.AdTie28

end
-- ==== Proof.Ad29.lean ====
/- The optimiser's step on the packed small weights: the kernel's four results and the reference's. -/
module

public import Idealize.ShloMosaic.Lib.Pipeline.ValueKit
public import Idealize.ShloMosaic.Lib.Pipeline.ReadBack
public import proofs.«01_k».proof.Defs
public import proofs.«01_k».proof.Proof.MmTab
public import proofs.«01_k».proof.Proof.AdamReal
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Reference29Ideal.Read

@[expose] public section

set_option maxRecDepth 16384

noncomputable section

open Idealize.ShloMosaic Idealize.ShloMosaic.TcCoe Idealize.SL.Sem
open Idealize.ShloMosaic.Pipeline (Dat)

namespace Cert.Reference29Ideal.Ad

open Cert.Reference29Ideal Cert.Reference29Ideal.Read Cert.Tab Cert.Ad

variable {W M V : ℕ → ℕ → ℕ → EReal} {G : ℕ → ℕ → EReal} {x0 x1 x2 : S1x2560x128.Idx → EReal} {x3 : S2560x128.Idx → EReal}
variable (h0 : ∀ i, x0 i = W (i 0).val (i 1).val (i 2).val) (h1 : ∀ i, x1 i = M (i 0).val (i 1).val (i 2).val)
  (h2 : ∀ i, x2 i = V (i 0).val (i 1).val (i 2).val) (h3 : ∀ i, x3 i = G (i 0).val (i 1).val)

include h3 in
theorem g_eq (i : S1x2560x128.Idx) : val_main_v0 (F := Ideal) x3 i = (one G) (i 0).val (i 1).val (i 2).val := by
  simp only [val_main_v0_apply, h3]
  rfl

include h1 h3 in
theorem m_eq (i : S1x2560x128.Idx) : val_main_v5 (F := Ideal) x1 x3 i = moT M (one G) (i 0).val (i 1).val (i 2).val := by
  unfold moT mo
  simp only [val_main_v24_apply, val_main_v23_apply, val_main_cst_7_apply, val_main_v22_apply, val_main_v21_apply, val_main_v20_apply, val_main_cst_6_apply, val_main_v19_apply, val_main_v18_apply, val_main_v17_apply, val_main_cst_5_apply, val_main_v16_apply, val_main_v15_apply, val_main_v14_apply, val_main_cst_4_apply, val_main_v13_apply, val_main_v12_apply, val_main_cst_3_apply, val_main_v11_apply, val_main_v10_apply, val_main_v9_apply, val_main_cst_2_apply, val_main_v8_apply, val_main_v7_apply, val_main_v6_apply, val_main_cst_1_apply, val_main_v5_apply, val_main_v4_apply, val_main_v3_apply, val_main_cst_0_apply, val_main_v2_apply, val_main_v1_apply, val_main_cst_apply, g_eq h3, h1, Ideal.addf_def, Ideal.mulf_def, Ideal.ofBits_def]

include h2 h3 in
theorem v_eq (i : S1x2560x128.Idx) : val_main_v11 (F := Ideal) x2 x3 i = voT V (one G) (i 0).val (i 1).val (i 2).val := by
  unfold voT vo
  simp only [val_main_v24_apply, val_main_v23_apply, val_main_cst_7_apply, val_main_v22_apply, val_main_v21_apply, val_main_v20_apply, val_main_cst_6_apply, val_main_v19_apply, val_main_v18_apply, val_main_v17_apply, val_main_cst_5_apply, val_main_v16_apply, val_main_v15_apply, val_main_v14_apply, val_main_cst_4_apply, val_main_v13_apply, val_main_v12_apply, val_main_cst_3_apply, val_main_v11_apply, val_main_v10_apply, val_main_v9_apply, val_main_cst_2_apply, val_main_v8_apply, val_main_v7_apply, val_main_v6_apply, val_main_cst_1_apply, val_main_v5_apply, val_main_v4_apply, val_main_v3_apply, val_main_cst_0_apply, val_main_v2_apply, val_main_v1_apply, val_main_cst_apply, g_eq h3, h2, Ideal.addf_def, Ideal.mulf_def, Ideal.ofBits_def]

include h0 h1 h2 h3 in
theorem d_eq (i : S1x2560x128.Idx) : val_main_v24 (F := Ideal) x0 x1 x2 x3 i = deT W M V (one G) (i 0).val (i 1).val (i 2).val := by
  have em := m_eq h1 h3 i
  have ev := v_eq h2 h3 i
  unfold moT at em
  unfold voT at ev
  unfold deT de
  rw [← em, ← ev]
  simp only [val_main_v24_apply, val_main_v23_apply, val_main_cst_7_apply, val_main_v22_apply, val_main_v21_apply, val_main_v20_apply, val_main_cst_6_apply, val_main_v19_apply, val_main_v18_apply, val_main_v17_apply, val_main_cst_5_apply, val_main_v16_apply, val_main_v15_apply, val_main_v14_apply, val_main_cst_4_apply, val_main_v13_apply, val_main_v12_apply, val_main_cst_3_apply, val_main_v11_apply, val_main_v10_apply, val_main_v9_apply, val_main_cst_2_apply, val_main_v8_apply, val_main_v7_apply, val_main_v6_apply, val_main_cst_1_apply, val_main_v5_apply, val_main_v4_apply, val_main_v3_apply, val_main_cst_0_apply, val_main_v2_apply, val_main_v1_apply, val_main_cst_apply, h0, Ideal.addf_def, Ideal.mulf_def, Ideal.ofBits_def]
  rfl

end Cert.Reference29Ideal.Ad

namespace Cert.Kernel29Ideal.Ad

open Cert.Kernel29Ideal Cert.Kernel29Ideal.Gen Cert.Tab Cert.Ad

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![0, t.val, 0] :=
  (by decide +kernel : ∀ t : Fin grid0.N, win0_1.index t = ![0, t.val, 0])
theorem idx2 : ∀ t : Fin cfg0.N, win0_2.index t = ![0, t.val, 0] :=
  (by decide +kernel : ∀ t : Fin grid0.N, win0_2.index t = ![0, t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![0, t.val, 0] :=
  (by decide +kernel : ∀ t : Fin grid0.N, win0_4.index t = ![0, t.val, 0])
theorem idx5 : ∀ t : Fin cfg0.N, win0_5.index t = ![0, t.val, 0] :=
  (by decide +kernel : ∀ t : Fin grid0.N, win0_5.index t = ![0, t.val, 0])
theorem idx6 : ∀ t : Fin cfg0.N, win0_6.index t = ![0, t.val, 0] :=
  (by decide +kernel : ∀ t : Fin grid0.N, win0_6.index t = ![0, t.val, 0])
theorem idx7 : ∀ t : Fin cfg0.N, win0_7.index t = ![0, t.val, 0] :=
  (by decide +kernel : ∀ t : Fin grid0.N, win0_7.index t = ![0, t.val, 0])

section
variable {W M V G : ℕ → ℕ → EReal} {y0 y1 y2 : S1x512x128.Idx → EReal} {y3 : S512x128.Idx → EReal}
  (h0 : ∀ (z : Fin 1) (p : Fin 512) (q : Fin 128), y0 (ix3 z p q) = W p.val q.val) (h1 : ∀ (z : Fin 1) (p : Fin 512) (q : Fin 128), y1 (ix3 z p q) = M p.val q.val)
  (h2 : ∀ (z : Fin 1) (p : Fin 512) (q : Fin 128), y2 (ix3 z p q) = V p.val q.val) (hg : ∀ (p : Fin 512) (q : Fin 128), y3 (ix2 p q) = G p.val q.val)
  (z : Fin 1) (p : Fin 512) (q : Fin 128)

include h0 h1 h2 hg in
theorem pd : k0_pay6 (F := Ideal) y3 y0 y1 y2 (ix3 z p q) = de (W p.val q.val) (M p.val q.val) (V p.val q.val) (G p.val q.val) := by
  unfold de mo vo
  pointwise [k0_pay6, k0_pay4, k0_pay5, h0, h1, h2, hg]

include h1 hg in
theorem pm : k0_pay1 (F := Ideal) (k0_pay4 y3 y1) (ix3 z p q) = mo (M p.val q.val) (G p.val q.val) := by
  unfold mo
  pointwise [k0_pay1, k0_pay4, h1, hg]

include h2 hg in
theorem pv : k0_pay2 (F := Ideal) (k0_pay5 y3 y2) (ix3 z p q) = vo (V p.val q.val) (G p.val q.val) := by
  unfold vo
  pointwise [k0_pay2, k0_pay5, h2, hg]

include hg in
theorem pg : k0_pay3 (F := Ideal) y3 (ix3 z p q) = G p.val q.val := by
  pointwise [k0_pay3, hg]
end

variable {W M Y : ℕ → ℕ → ℕ → EReal} {G : ℕ → ℕ → EReal}
variable (m : (ℓ : Loc nD τ sig) → Buf (Elt Ideal) ℓ) (c : Dev nD)
variable (h0 : ∀ i : S1x2560x128.Idx, m (c.tc.loc main_arg0) i = W (i 0).val (i 1).val (i 2).val)
variable (h1 : ∀ i : S1x2560x128.Idx, m (c.tc.loc main_arg1) i = M (i 0).val (i 1).val (i 2).val)
variable (h2 : ∀ i : S1x2560x128.Idx, m (c.tc.loc main_arg2) i = Y (i 0).val (i 1).val (i 2).val)
variable (h3 : ∀ i : S2560x128.Idx, m (c.tc.loc main_arg3) i = G (i 0).val (i 1).val)

include h0 in
theorem blk0 (t : Fin cfg0.N) (z : Fin 1) (r : Fin 512) (k : Fin 128) : iblk m c 0 t (ix3 z r k) = W 0 (512 * t.val + r.val) k.val := by
  have hN : t.val < 5 := t.isLt
  have hz := z.isLt
  blk_simp [iblk, V]
  rw [h0]
  refine at3 W ?_ ?_ ?_ <;> blk_simp [idx0] <;> first | rfl | omega

include h1 in
theorem blk1 (t : Fin cfg0.N) (z : Fin 1) (r : Fin 512) (k : Fin 128) : iblk m c 1 t (ix3 z r k) = M 0 (512 * t.val + r.val) k.val := by
  have hN : t.val < 5 := t.isLt
  have hz := z.isLt
  blk_simp [iblk, V]
  rw [h1]
  refine at3 M ?_ ?_ ?_ <;> blk_simp [idx1] <;> first | rfl | omega

include h2 in
theorem blk2 (t : Fin cfg0.N) (z : Fin 1) (r : Fin 512) (k : Fin 128) : iblk m c 2 t (ix3 z r k) = Y 0 (512 * t.val + r.val) k.val := by
  have hN : t.val < 5 := t.isLt
  have hz := z.isLt
  blk_simp [iblk, V]
  rw [h2]
  refine at3 Y ?_ ?_ ?_ <;> blk_simp [idx2] <;> first | rfl | omega

include h3 in
theorem blk3 (t : Fin cfg0.N) (r : Fin 512) (k : Fin 128) : iblk m c 3 t (ix2 r k) = one G 0 (512 * t.val + r.val) k.val := by
  have hN : t.val < 5 := t.isLt
  blk_simp [iblk, V]
  rw [h3]
  refine congrArg₂ G ?_ ?_ <;> blk_simp [idx3] <;> first | rfl | omega

include h0 h1 h2 h3 in
theorem arr4 : (dats m 0 c).arrAt 4 cfg0.N = fun i : S1x2560x128.Idx => (deT W M Y (one G)) (i 0).val (i 1).val (i 2).val := by
  refine (dats m 0 c).arrAt_eq_of_covers 4 _ (by decide +kernel) fun t hf y => ?_
  have hN : t.val < 5 := t.isLt
  blk_simp
  rw [after0_4]
  unfold out0_4
  frame_out
  obtain ⟨z, p, q, rfl⟩ : ∃ z p q, y = ix3 z p q := ⟨_, _, _, eq_ix3 y⟩
  have hz := z.isLt
  refine (pd (W := fun r k => W 0 (512 * t.val + r) k) (M := fun r k => M 0 (512 * t.val + r) k) (V := fun r k => Y 0 (512 * t.val + r) k) (G := fun r k => (one G) 0 (512 * t.val + r) k) (blk0 m c h0 t) (blk1 m c h1 t) (blk2 m c h2 t) (blk3 m c h3 t) z p q).trans ?_
  refine Eq.trans (b := (deT W M Y (one G)) 0 (512 * t.val + p.val) q.val) rfl ?_
  blk_simp [idx4]
  refine at3 (deT W M Y (one G)) ?_ ?_ ?_ <;> first | rfl | omega

include h1 h3 in
theorem arr5 : (dats m 0 c).arrAt 5 cfg0.N = fun i : S1x2560x128.Idx => (moT M (one G)) (i 0).val (i 1).val (i 2).val := by
  refine (dats m 0 c).arrAt_eq_of_covers 5 _ (by decide +kernel) fun t hf y => ?_
  have hN : t.val < 5 := t.isLt
  blk_simp
  rw [after0_5]
  unfold out0_5
  frame_out
  obtain ⟨z, p, q, rfl⟩ : ∃ z p q, y = ix3 z p q := ⟨_, _, _, eq_ix3 y⟩
  have hz := z.isLt
  refine (pm (M := fun r k => M 0 (512 * t.val + r) k) (G := fun r k => (one G) 0 (512 * t.val + r) k) (blk1 m c h1 t) (blk3 m c h3 t) z p q).trans ?_
  refine Eq.trans (b := (moT M (one G)) 0 (512 * t.val + p.val) q.val) rfl ?_
  blk_simp [idx5]
  refine at3 (moT M (one G)) ?_ ?_ ?_ <;> first | rfl | omega

include h2 h3 in
theorem arr6 : (dats m 0 c).arrAt 6 cfg0.N = fun i : S1x2560x128.Idx => (voT Y (one G)) (i 0).val (i 1).val (i 2).val := by
  refine (dats m 0 c).arrAt_eq_of_covers 6 _ (by decide +kernel) fun t hf y => ?_
  have hN : t.val < 5 := t.isLt
  blk_simp
  rw [after0_6]
  unfold out0_6
  frame_out
  obtain ⟨z, p, q, rfl⟩ : ∃ z p q, y = ix3 z p q := ⟨_, _, _, eq_ix3 y⟩
  have hz := z.isLt
  refine (pv (V := fun r k => Y 0 (512 * t.val + r) k) (G := fun r k => (one G) 0 (512 * t.val + r) k) (blk2 m c h2 t) (blk3 m c h3 t) z p q).trans ?_
  refine Eq.trans (b := (voT Y (one G)) 0 (512 * t.val + p.val) q.val) rfl ?_
  blk_simp [idx6]
  refine at3 (voT Y (one G)) ?_ ?_ ?_ <;> first | rfl | omega

include h3 in
theorem arr7 : (dats m 0 c).arrAt 7 cfg0.N = fun i : S1x2560x128.Idx => (one G) (i 0).val (i 1).val (i 2).val := by
  refine (dats m 0 c).arrAt_eq_of_covers 7 _ (by decide +kernel) fun t hf y => ?_
  have hN : t.val < 5 := t.isLt
  blk_simp
  rw [after0_7]
  unfold out0_7
  frame_out
  obtain ⟨z, p, q, rfl⟩ : ∃ z p q, y = ix3 z p q := ⟨_, _, _, eq_ix3 y⟩
  have hz := z.isLt
  refine (pg (G := fun r k => (one G) 0 (512 * t.val + r) k) (blk3 m c h3 t) z p q).trans ?_
  refine Eq.trans (b := (one G) 0 (512 * t.val + p.val) q.val) rfl ?_
  blk_simp [idx7]
  refine at3 (one G) ?_ ?_ ?_ <;> first | rfl | omega

end Cert.Kernel29Ideal.Ad

namespace Cert.AdTie29

open Cert.Tab

theorem frame_ref : @Cert.quiescent_Reference29Ideal Cert.Reference29Ideal.Gen.facts := fun m ρ _ =>
  (θ_run Cert.Reference29Ideal.defs _ _).mono (fun r h => ⟨fun c => (h c).2.2.2.2, sem_eq_zero_of_no_sems (by decide) r.2⟩)
    (Cert.Reference29Ideal.Value.run (F := Ideal) m ρ)

theorem algebraic : @Cert.algebraic_Kernel29Ideal_Reference29Ideal Cert.Kernel29Ideal.Gen.facts Cert.Reference29Ideal.Gen.facts := by
  intro m g m' g' _ hagree
  refine ⟨fun c => (Cert.Kernel29Ideal.Gen.dats m 0 c).arrAt 4 Cert.Kernel29Ideal.cfg0.N, fun c => (Cert.Kernel29Ideal.Gen.dats m 0 c).arrAt 5 Cert.Kernel29Ideal.cfg0.N,
    fun c => (Cert.Kernel29Ideal.Gen.dats m 0 c).arrAt 6 Cert.Kernel29Ideal.cfg0.N, fun c => (Cert.Kernel29Ideal.Gen.dats m 0 c).arrAt 7 Cert.Kernel29Ideal.cfg0.N, Cert.Kernel29Ideal.Value.run_blocks m g, ?_⟩
  refine (θ_run Cert.Reference29Ideal.defs _ _).mono (fun r h c => ?_) (Cert.Reference29Ideal.Value.run m' g')
  obtain ⟨r0, r1, r2, r3, rest⟩ := h c
  obtain ⟨a0, a1, a2, a3⟩ := hagree c
  replace r0 := r0.trans (Cert.Reference29Ideal.Read.val_main_v24_eq (F := Ideal) (m' (c.tc.loc Cert.Reference29Ideal.main_arg0)) (m' (c.tc.loc Cert.Reference29Ideal.main_arg1)) (m' (c.tc.loc Cert.Reference29Ideal.main_arg2)) (m' (c.tc.loc Cert.Reference29Ideal.main_arg3)))
  rw [a0, a1, a2, a3] at r0
  replace r1 := r1.trans (Cert.Reference29Ideal.Read.val_main_v5_eq (F := Ideal) (m' (c.tc.loc Cert.Reference29Ideal.main_arg1)) (m' (c.tc.loc Cert.Reference29Ideal.main_arg3)))
  rw [a1, a3] at r1
  replace r2 := r2.trans (Cert.Reference29Ideal.Read.val_main_v11_eq (F := Ideal) (m' (c.tc.loc Cert.Reference29Ideal.main_arg2)) (m' (c.tc.loc Cert.Reference29Ideal.main_arg3)))
  rw [a2, a3] at r2
  replace r3 := r3.trans (Cert.Reference29Ideal.Read.val_main_v0_eq (F := Ideal) (m' (c.tc.loc Cert.Reference29Ideal.main_arg3)))
  rw [a3] at r3
  exact ⟨r0.trans ((funext fun i => Cert.Reference29Ideal.Ad.d_eq (fun i => eq_tab3 _ i) (fun i => eq_tab3 _ i) (fun i => eq_tab3 _ i) (fun i => eq_tab _ i) i).trans (Cert.Kernel29Ideal.Ad.arr4 m c (fun i => eq_tab3 _ i) (fun i => eq_tab3 _ i) (fun i => eq_tab3 _ i) (fun i => eq_tab _ i)).symm),
    r1.trans ((funext fun i => Cert.Reference29Ideal.Ad.m_eq (fun i => eq_tab3 _ i) (fun i => eq_tab _ i) i).trans (Cert.Kernel29Ideal.Ad.arr5 m c (fun i => eq_tab3 _ i) (fun i => eq_tab _ i)).symm),
    r2.trans ((funext fun i => Cert.Reference29Ideal.Ad.v_eq (fun i => eq_tab3 _ i) (fun i => eq_tab _ i) i).trans (Cert.Kernel29Ideal.Ad.arr6 m c (fun i => eq_tab3 _ i) (fun i => eq_tab _ i)).symm),
    r3.trans ((funext fun i => Cert.Reference29Ideal.Ad.g_eq (fun i => eq_tab _ i) i).trans (Cert.Kernel29Ideal.Ad.arr7 m c (fun i => eq_tab _ i)).symm), rest⟩

end Cert.AdTie29

end
-- ==== Proof.Gf22.lean ====
/- The convolution gate of the forward pass: the kernel's result and the reference's. -/
module

public import Idealize.ShloMosaic.Lib.Pipeline.ValueKit
public import Idealize.ShloMosaic.Lib.Pipeline.ReadBack
public import proofs.«01_k».proof.Defs
public import proofs.«01_k».proof.Proof.MmTab
public import proofs.«01_k».proof.Proof.ConvPay
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read

@[expose] public section

set_option maxRecDepth 16384

noncomputable section

open Idealize.ShloMosaic Idealize.ShloMosaic.TcCoe Idealize.SL.Sem
open Idealize.ShloMosaic.Pipeline (Dat)

namespace Cert.Gf

/-- The first half of `u`, two zero rows before it. -/
def ap (U : ℕ → ℕ → EReal) (t c : ℕ) : EReal := if t < 2 then 0 else U (t - 2) c

/-- The convolution's result before the gate. -/
def pre (U W CB : ℕ → ℕ → EReal) (t c : ℕ) : EReal :=
  W 0 c * ap U t c + W 1 c * ap U (t + 1) c + W 2 c * ap U (t + 2) c + CB 0 c

/-- The logistic function. -/
def lg (x : EReal) : EReal := Ideal.div 1 (1 + Ideal.exp (-x))

/-- Half of one plus the hyperbolic tangent of half of `x` is the logistic function of `x`, at every extended real. -/
theorem lg_eq (x : EReal) : Ideal.ofBits .f32 0x3F000000#32 + Ideal.ofBits .f32 0x3F000000#32 * Ideal.tanh (Ideal.ofBits .f32 0x3F000000#32 * x) = lg x := by
  rw [Cert.Finite.ofBits_half]
  induction x with
  | bot =>
    rw [EReal.coe_mul_bot_of_pos (by norm_num), Ideal.tanh_bot, lg, EReal.neg_bot]
    rw [show (-1 : EReal) = ((-1 : ℝ) : EReal) from rfl, ← EReal.coe_mul, ← EReal.coe_add]
    rw [show Ideal.exp ⊤ = ⊤ from rfl, show (1 : EReal) + ⊤ = ⊤ from rfl, Ideal.div, if_neg (by simp), EReal.inv_top, mul_zero]
    norm_num
  | top =>
    rw [EReal.coe_mul_top_of_pos (by norm_num), Ideal.tanh_top, lg, EReal.neg_top]
    rw [show (1 : EReal) = ((1 : ℝ) : EReal) from rfl, ← EReal.coe_mul, ← EReal.coe_add]
    rw [show Ideal.exp ⊥ = 0 from rfl, add_zero, Cert.Finite.div_real _ (by norm_num)]
    norm_num
  | coe x =>
    rw [← EReal.coe_mul, Ideal.tanh_coe, ← EReal.coe_mul, ← EReal.coe_add, Cert.Kernel2Ideal.Conv.half_tanh, lg]
    exact (Cert.Reference2Ideal.Conv.logistic_eq x).symm

/-- A choice by whether a small number is a given one. -/
theorem sel_eq {α : Type} {q n : ℕ} (hq : q < 512) (hn : n < 512) (x y : α) :
    Scalar.select (IntOp.cmpi .eq (BitVec.ofNat 32 q) (BitVec.ofNat 32 n)) x y = if q = n then x else y := by
  have e : (BitVec.ofNat 32 q = BitVec.ofNat 32 n) ↔ q = n := by
    constructor
    · intro h
      have := congrArg BitVec.toNat h
      simp only [BitVec.toNat_ofNat] at this
      omega
    · rintro rfl; rfl
  by_cases h : q = n
  · rw [if_pos h, h]; simp [IntOp.cmpi, Scalar.select]
  · rw [if_neg h];
    have : (BitVec.ofNat 32 q == BitVec.ofNat 32 n) = false := by rw [beq_eq_false_iff_ne]; exact fun c => h (e.mp c)
    simp [IntOp.cmpi, Scalar.select, this]

/-- The gate. -/
def gt (U W CB : ℕ → ℕ → EReal) (t c : ℕ) : EReal := pre U W CB t c * lg (pre U W CB t c) * U t (5632 + c)

end Cert.Gf

namespace Cert.Reference22Ideal.Gf

open Cert.Reference22Ideal Cert.Reference22Ideal.Read Cert.Tab Cert.Gf

variable {U W CB : ℕ → ℕ → EReal} {x0 : S4096x11264.Idx → EReal} {x1 : S3x5632.Idx → EReal} {x2 : S1x5632.Idx → EReal}
variable (h0 : ∀ i, x0 i = U (i 0).val (i 1).val) (h1 : ∀ i, x1 i = W (i 0).val (i 1).val) (h2 : ∀ i, x2 i = CB (i 0).val (i 1).val)

include h0 in
theorem v3_eq (i : S4098x5632.Idx) : val_main_v3 (F := Ideal) x0 i = ap U (i 0).val (i 1).val := by
  unfold val_main_v3 ap
  pointwise [val_main_v2_apply, val_main_cst_apply, val_main_v0_apply, h0]
  split_ifs <;> rfl

include h0 h1 h2 in
theorem v27_eq (i : S4096x5632.Idx) : val_main_v27 (F := Ideal) x0 x1 x2 i = pre U W CB (i 0).val (i 1).val := by
  have b (k : ℕ) (hk : k < 5632) : k % 5632 = k := Nat.mod_eq_of_lt hk
  have hi : (i 1).val < 5632 := (i 1).isLt
  simp only [val_main_v27_apply, val_main_v26_apply, val_main_v25_apply, val_main_v24_apply, val_main_v23_apply,
    val_main_v22_apply, val_main_v21_apply, val_main_v20_apply, val_main_v19_apply, val_main_v18_apply, val_main_v17_apply,
    val_main_v16_apply, val_main_v15_apply, val_main_v14_apply, val_main_v13_apply, val_main_v12_apply, val_main_v11_apply,
    val_main_cst_0_apply, val_main_v10_apply, val_main_v9_apply, val_main_v8_apply, val_main_v7_apply, val_main_v6_apply,
    val_main_v5_apply, val_main_v4_apply, v3_eq h0, h1, h2, Ideal.addf_def, Ideal.mulf_def, Ideal.ofBits_def, Ideal.ofBits_zero_f32, zero_add, b _ hi]
  unfold pre
  simp only [Nat.add_comm _ (i 0).val, Nat.add_zero]

include h0 h1 h2 in
theorem ref_eq (i : S4096x5632.Idx) : val_main_v30 (F := Ideal) x0 x1 x2 i = gt U W CB (i 0).val (i 1).val := by
  unfold gt lg
  simp only [val_main_v30_apply, val_main_v29_apply, val_main_v28_apply, val_main_call0_v5_apply, val_main_call0_v4_apply, val_main_call0_cst_0_apply,
    val_main_call0_v3_apply, val_main_call0_v2_apply, val_main_call0_cst_apply, val_main_call0_v1_apply, val_main_call0_v0_apply, val_main_v1_apply,
    v27_eq h0 h1 h2, h0, Ideal.ofBits_def, Cert.Finite.ofBits_one]
  rfl

end Cert.Reference22Ideal.Gf

namespace Cert.Kernel22Ideal.Gf

open Cert.Kernel22Ideal Cert.Kernel22Ideal.Gen Cert.Tab Cert.Gf

theorem coord0 : ∀ t : Fin cfg0.N, (grid0.coords t 0).val = t.val / 4 :=
  (by decide +kernel : ∀ t : Fin grid0.N, (grid0.coords t 0).val = t.val / 4)
theorem idx0 : ∀ t : Fin cfg0.N, win0_0.index t = ![t.val / 4, t.val % 4] :=
  (by decide +kernel : ∀ t : Fin grid0.N, win0_0.index t = ![t.val / 4, t.val % 4])
theorem idx1 : ∀ t : Fin cfg0.N, win0_1.index t = ![64 * (t.val / 4) - 1, t.val % 4] :=
  (by decide +kernel : ∀ t : Fin grid0.N, win0_1.index t = ![64 * (t.val / 4) - 1, t.val % 4])
theorem idx2 : ∀ t : Fin cfg0.N, win0_2.index t = ![t.val / 4, 4 + t.val % 4] :=
  (by decide +kernel : ∀ t : Fin grid0.N, win0_2.index t = ![t.val / 4, 4 + t.val % 4])
theorem idx3 : ∀ t : Fin cfg0.N, win0_3.index t = ![0, t.val % 4] :=
  (by decide +kernel : ∀ t : Fin grid0.N, win0_3.index t = ![0, t.val % 4])
theorem idx4 : ∀ t : Fin cfg0.N, win0_4.index t = ![0, t.val % 4] :=
  (by decide +kernel : ∀ t : Fin grid0.N, win0_4.index t = ![0, t.val % 4])
theorem idx5 : ∀ t : Fin cfg0.N, win0_5.index t = ![t.val / 4, t.val % 4] :=
  (by decide +kernel : ∀ t : Fin grid0.N, win0_5.index t = ![t.val / 4, t.val % 4])

section
variable {U W CB : ℕ → ℕ → EReal} {R C : ℕ} {i : grid0.Coords} (hi : (i 0).val = R)
  {v0 : Vec Ideal S512x1408 .f32} (hv0 : ∀ (r : Fin 512) (c : Fin 1408), v0 (ix2 r c) = U (512 * R + r.val) (1408 * C + c.val))
  {v2 : Vec Ideal S8x1408 .f32} (hv2 : 0 < R → ∀ (r : Fin 8) (c : Fin 1408), v2 (ix2 r c) = U (512 * R - 8 + r.val) (1408 * C + c.val))
  {v26 : Vec Ideal S3x1408 .f32} (hv26 : ∀ (r : Fin 3) (c : Fin 1408), v26 (ix2 r c) = W r.val (1408 * C + c.val))
  {v38 : Vec Ideal S1x1408 .f32} (hv38 : ∀ (r : Fin 1) (c : Fin 1408), v38 (ix2 r c) = CB 0 (1408 * C + c.val))
  {v49 : Vec Ideal S512x1408 .f32} (hv49 : ∀ (r : Fin 512) (c : Fin 1408), v49 (ix2 r c) = U (512 * R + r.val) (5632 + (1408 * C + c.val)))

include hi hv0 hv2 hv26 hv38 in
theorem pay2_eq (hR : R ≤ 7) (q : Fin 512) (c : Fin 1408) :
    k0_pay2 i v0 v2 v26 v38 (ix2 q c) = pre U W CB (512 * R + q.val) (1408 * C + c.val) := by
  pointwise [k0_pay2, hv0, hv26, hv38]
  simp only [hi, Cert.Kernel2Ideal.Conv.sel_pos hR]
  have hq := q.isLt
  rw [sel_eq (n := 0) hq (by norm_num), sel_eq (n := 0) hq (by norm_num), sel_eq (n := 1) hq (by norm_num)]
  unfold pre
  have e2 : ap U (512 * R + q.val + 2) (1408 * C + c.val) = U (512 * R + q.val) (1408 * C + c.val) := by
    unfold ap; rw [if_neg (by omega)]; rfl
  have e1 : (if q.val = 0 then (if 0 < R then v2 (ix2 7 c) else 0) else U (512 * R + (q.val + 512 - 1) % 512) (1408 * C + c.val))
      = ap U (512 * R + q.val + 1) (1408 * C + c.val) := by
    unfold ap
    split_ifs <;> first
      | omega
      | rfl
      | (rw [hv2 ‹_›]; exact congrArg₂ U (by change 512 * R - 8 + 7 = _; omega) rfl)
      | exact congrArg₂ U (by omega) rfl
  have e0 : (if q.val = 0 then (if 0 < R then v2 (ix2 6 c) else 0) else
        (if q.val = 1 then (if 0 < R then v2 (ix2 7 c) else 0) else U (512 * R + (q.val + 512 - 2) % 512) (1408 * C + c.val)))
      = ap U (512 * R + q.val) (1408 * C + c.val) := by
    unfold ap
    split_ifs <;> first
      | omega
      | rfl
      | (rw [hv2 ‹_›]; exact congrArg₂ U (by change 512 * R - 8 + 7 = _; omega) rfl)
      | (rw [hv2 ‹_›]; exact congrArg₂ U (by change 512 * R - 8 + 6 = _; omega) rfl)
      | exact congrArg₂ U (by omega) rfl
  rw [e0, e1, e2]
  generalize W 0 _ * ap U _ _ = a
  generalize W 1 _ * ap U _ _ = b
  generalize W 2 _ * U _ _ = d
  rw [add_right_comm a b d, add_comm a d, add_right_comm d a b]

include hi hv0 hv2 hv26 hv38 hv49 in
theorem pay1_eq (hR : R ≤ 7) (q : Fin 512) (c : Fin 1408) :
    (k0_pay1 (k0_pay2 i v0 v2 v26 v38) k0_pay3 v49 (ix2 q c) : EReal) = gt U W CB (512 * R + q.val) (1408 * C + c.val) := by
  unfold gt
  rw [← lg_eq]
  pointwise [k0_pay1, k0_pay3, hv49, pay2_eq hi hv0 hv2 hv26 hv38 hR]
end

variable {U W CB : ℕ → ℕ → EReal}
variable (m : (ℓ : Loc nD τ sig) → Buf (Elt Ideal) ℓ) (c : Dev nD)
variable (h0 : ∀ i : S4096x11264.Idx, m (c.tc.loc main_arg0) i = U (i 0).val (i 1).val)
variable (h1 : ∀ i : S3x5632.Idx, m (c.tc.loc main_arg1) i = W (i 0).val (i 1).val)
variable (h2 : ∀ i : S1x5632.Idx, m (c.tc.loc main_arg2) i = CB (i 0).val (i 1).val)

include h0 in
theorem blk0 (t : Fin cfg0.N) (r : Fin 512) (k : Fin 1408) : iblk m c 0 t (ix2 r k) = U (512 * (t.val / 4) + r.val) (1408 * (t.val % 4) + k.val) := by
  have hN : t.val < 32 := t.isLt
  blk_simp [iblk, V]
  rw [h0]
  refine congrArg₂ U ?_ ?_ <;> blk_simp [idx0] <;> first | rfl | omega

include h0 in
theorem blk1 (t : Fin cfg0.N) (ht : 0 < t.val / 4) (r : Fin 8) (k : Fin 1408) :
    iblk m c 1 t (ix2 r k) = U (512 * (t.val / 4) - 8 + r.val) (1408 * (t.val % 4) + k.val) := by
  have hN : t.val < 32 := t.isLt
  blk_simp [iblk, V]
  rw [h0]
  refine congrArg₂ U ?_ ?_ <;> blk_simp [idx1] <;> omega

include h0 in
theorem blk2 (t : Fin cfg0.N) (r : Fin 512) (k : Fin 1408) :
    iblk m c 2 t (ix2 r k) = U (512 * (t.val / 4) + r.val) (5632 + (1408 * (t.val % 4) + k.val)) := by
  have hN : t.val < 32 := t.isLt
  blk_simp [iblk, V]
  rw [h0]
  refine congrArg₂ U ?_ ?_ <;> blk_simp [idx2] <;> first | rfl | omega

include h1 in
theorem blk3 (t : Fin cfg0.N) (r : Fin 3) (k : Fin 1408) : iblk m c 3 t (ix2 r k) = W r.val (1408 * (t.val % 4) + k.val) := by
  have hN : t.val < 32 := t.isLt
  blk_simp [iblk, V]
  rw [h1]
  refine congrArg₂ W ?_ ?_ <;> blk_simp [idx3] <;> first | rfl | omega

include h2 in
theorem blk4 (t : Fin cfg0.N) (r : Fin 1) (k : Fin 1408) : iblk m c 4 t (ix2 r k) = CB 0 (1408 * (t.val % 4) + k.val) := by
  have hN : t.val < 32 := t.isLt
  blk_simp [iblk, V]
  rw [h2]
  refine congrArg₂ CB ?_ ?_ <;> blk_simp [idx4] <;> first | rfl | omega

include h0 h1 h2 in
theorem arr : (dats m 0 c).arrAt 5 cfg0.N = fun i : S4096x5632.Idx => gt U W CB (i 0).val (i 1).val := by
  refine (dats m 0 c).arrAt_eq_of_covers 5 _ (by decide +kernel) fun t hf y => ?_
  have hN : t.val < 32 := t.isLt
  blk_simp
  rw [after0_5]
  unfold out0_5
  frame_out
  obtain ⟨p, q, rfl⟩ : ∃ p q, y = ix2 p q := ⟨_, _, eq_ix2 y⟩
  refine (pay1_eq (coord0 t) (blk0 m c h0 t) (fun ht => blk1 m c h0 t ht) (blk3 m c h1 t) (blk4 m c h2 t) (blk2 m c h0 t) (by omega) p q).trans ?_
  blk_simp [idx5]
  refine congrArg₂ (gt U W CB) ?_ ?_ <;> first | rfl | omega

end Cert.Kernel22Ideal.Gf

namespace Cert.GfTie22

open Cert.Tab

theorem frame_ref : @Cert.quiescent_Reference22Ideal Cert.Reference22Ideal.Gen.facts := fun m ρ _ =>
  (θ_run Cert.Reference22Ideal.defs _ _).mono (fun r h => ⟨fun c => (h c).2, sem_eq_zero_of_no_sems (by decide) r.2⟩)
    (Cert.Reference22Ideal.Value.run (F := Ideal) m ρ)

theorem algebraic : @Cert.algebraic_Kernel22Ideal_Reference22Ideal Cert.Kernel22Ideal.Gen.facts Cert.Reference22Ideal.Gen.facts := by
  intro m g m' g' _ hagree
  refine ⟨fun c => (Cert.Kernel22Ideal.Gen.dats m 0 c).arrAt 5 Cert.Kernel22Ideal.cfg0.N, Cert.Kernel22Ideal.Value.run_blocks m g, ?_⟩
  refine (θ_run Cert.Reference22Ideal.defs _ _).mono (fun r h c => ?_) (Cert.Reference22Ideal.Value.run m' g')
  obtain ⟨r0, rest⟩ := h c
  obtain ⟨a0, a1, a2⟩ := hagree c
  rw [Cert.Reference22Ideal.Read.val_main_v30_eq, a0, a1, a2] at r0
  exact ⟨r0.trans ((funext fun i => Cert.Reference22Ideal.Gf.ref_eq (fun i => eq_tab _ i) (fun i => eq_tab _ i) (fun i => eq_tab _ i) i).trans
    (Cert.Kernel22Ideal.Gf.arr m c (fun i => eq_tab _ i) (fun i => eq_tab _ i) (fun i => eq_tab _ i)).symm), rest⟩

end Cert.GfTie22

end
-- ==== Proof.Gf23.lean ====
/- The chunked spatial gate of the forward pass: the kernel's result and the reference's. -/
module

public import Idealize.ShloMosaic.Lib.Pipeline.ValueKit
public import Idealize.ShloMosaic.Lib.Pipeline.ReadBack
public import proofs.«01_k».proof.Defs
public import proofs.«01_k».proof.Proof.MmTab
public import proofs.«01_k».proof.Proof.SgReal
public import proofs.«01_k».proof.Proof.Ln21
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read

@[expose] public section

set_option maxRecDepth 16384

noncomputable section

open Idealize.ShloMosaic Idealize.ShloMosaic.TcCoe Idealize.SL.Sem
open Idealize.ShloMosaic.Pipeline (Dat)

namespace Cert.Sf

/-- The exact gelu. -/
def gl (x : EReal) : EReal :=
  Ideal.ofBits .f32 0x3F000000#32 * x * (1 + Ideal.erf (x * (((Real.sqrt 2)⁻¹ : ℝ) : EReal)))

variable (P G B : ℕ → ℕ → EReal) (W : ℕ → ℕ → ℕ → EReal) (BS : ℕ → ℕ → EReal)

/-- The normalized second half. -/
def vn (r k : ℕ) : EReal := Ln.norm (fun j => gl (P r (2048 + j))) (G 0) (B 0) k

/-- The mixing matrices below the diagonal. -/
def wc (g a b : ℕ) : EReal := if b ≤ a then W g a b else 0

/-- The mixed half with its bias. -/
def gate (r k : ℕ) : EReal :=
  (∑ s : Fin 128, wc W (k / 128) (r % 128) s.val * vn P G B (128 * (r / 128) + s.val) k) + BS (r % 128) (k / 128)

/-- The gated result. -/
def out (r k : ℕ) : EReal := gl (P r k) * gate P G B W BS r k

end Cert.Sf

namespace Cert.Reference23Ideal.Gf

open Cert.Reference23Ideal Cert.Reference23Ideal.Read Cert.Tab Cert.Sf

variable {P G B : ℕ → ℕ → EReal} {W : ℕ → ℕ → ℕ → EReal} {BS : ℕ → ℕ → EReal}
variable {x0 : S4096x4096.Idx → EReal} {x1 x2 : S1x2048.Idx → EReal} {x3 : S16x128x128.Idx → EReal} {x4 : S128x16.Idx → EReal}
variable (h0 : ∀ i, x0 i = P (i 0).val (i 1).val) (h1 : ∀ i, x1 i = G (i 0).val (i 1).val) (h2 : ∀ i, x2 i = B (i 0).val (i 1).val)
  (h3 : ∀ i, x3 i = W (i 0).val (i 1).val (i 2).val) (h4 : ∀ i, x4 i = BS (i 0).val (i 1).val)

theorem v3_eq (i : S_.Idx) : val_main_v3 (F := Ideal) i = (((Real.sqrt 2)⁻¹ : ℝ) : EReal) := by
  simp only [val_main_v3_apply, val_main_cst_0_apply, Ideal.ofBits_def, Cert.Finite.ofBits_half, Ideal.hostUnary_sqrt_def, Ideal.sqrt_coe]
  rw [if_neg (by norm_num), Cert.Sg.sqrt_half]

include h0 in
theorem v7_eq (i : S4096x4096.Idx) : val_main_v7 (F := Ideal) x0 i = gl (P (i 0).val (i 1).val) := by
  simp only [val_main_v7_apply, val_main_v1_apply, val_main_v0_apply, val_main_cst_apply, val_main_v6_apply, val_main_v5_apply, val_main_v2_apply,
    val_main_v4_apply, v3_eq, h0, Ideal.ofBits_def, Ideal.negf_def, Ideal.hostNegf_def, Ideal.mulf_def, Ideal.hostUnary_erfc_def]
  rw [EReal.neg_mul, Ideal.erfc_neg, gl]

include h0 h1 h2 in
theorem v29_eq (i : S4096x2048.Idx) : val_main_v29 (F := Ideal) x0 x1 x2 i = vn P G B (i 0).val (i 1).val := by
  pointwise [val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_v11, val_main_v10, val_main_v9, v7_eq h0, val_main_cst_1, val_main_cst_2, val_main_cst_3, val_main_cst_4, val_main_cst_5,
    h1, h2]
  rfl

include h0 h1 h2 in
theorem v30_eq (i : S32x128x16x128.Idx) : val_main_v30 (F := Ideal) x0 x1 x2 i
    = vn P G B (128 * (i 0).val + (i 1).val) (128 * (i 2).val + (i 3).val) := by
  have l1 : (i 1).val < 128 := (i 1).isLt
  have l2 : (i 2).val < 16 := (i 2).isLt
  have l3 : (i 3).val < 128 := (i 3).isLt
  simp only [val_main_v30_apply, v29_eq h0 h1 h2]
  rw [show ((((i 0).val * 128 + (i 1).val) * 16 + (i 2).val) * 128 + (i 3).val) / 2048 = 128 * (i 0).val + (i 1).val by omega,
    show ((((i 0).val * 128 + (i 1).val) * 16 + (i 2).val) * 128 + (i 3).val) % 2048 = 128 * (i 2).val + (i 3).val by omega]

theorem v32_eq (i : S128x128.Idx) : val_main_v32 (F := Ideal) i = if (i 1).val ≤ (i 0).val then (1 : EReal) else 0 := by
  have l0 : (i 0).val < 128 := (i 0).isLt
  have l1 : (i 1).val < 128 := (i 1).isLt
  pointwise [val_main_v32_apply, val_main_v31_apply, val_main_cst_6_apply, val_main_call0_v4_apply, val_main_call0_v2_apply,
    val_main_call0_v0_apply, val_main_call0_v1_apply, val_main_call0_c_apply, val_main_call0_v3_apply, val_main_call0_v5_apply,
    val_main_call0_cst_apply]
  rw [show IntOp.addi (BitVec.ofNat 32 (i 0).val) 0#32 = BitVec.ofNat 32 (i 0).val from BitVec.add_zero _, Cert.Sg.select_tril l0 l1]

include h3 in
theorem v35_eq (i : S16x128x128.Idx) : val_main_v35 (F := Ideal) x3 i = wc W (i 0).val (i 1).val (i 2).val := by
  simp only [val_main_v35_apply, val_main_v34_apply, val_main_v33_apply, v32_eq, h3, Ideal.mulf_def]
  unfold wc
  split_ifs <;> simp

include h0 h1 h2 h3 in
theorem v36_eq (i : S16x32x128x128.Idx) : val_main_v36 (F := Ideal) x0 x1 x2 x3 i
    = ∑ s : Fin 128, wc W (i 0).val (i 3).val s.val * vn P G B (128 * (i 1).val + s.val) (128 * (i 0).val + (i 2).val) := by
  simp only [val_main_v36_apply, v30_eq h0 h1 h2, v35_eq h3]
  exact Finset.sum_congr rfl fun k _ => mul_comm _ _

include h0 h1 h2 h3 h4 in
theorem ref_eq (i : S4096x2048.Idx) :
    val_main_v44 (F := Ideal) x0 x1 x2 x3 x4 i = out P G B W BS (i 0).val (i 1).val := by
  have l1 : (i 1).val < 2048 := (i 1).isLt
  have e : val_main_v42 (F := Ideal) x0 x1 x2 x3 x4 i = gate P G B W BS (i 0).val (i 1).val := by
    simp only [val_main_v42_apply, val_main_v41_apply, val_main_v40_apply, val_main_v39_apply, val_main_v38_apply, val_main_v37_apply,
      v36_eq h0 h1 h2 h3, h4, Ideal.addf_def]
    rw [show ((i 0).val * 2048 + (i 1).val) / 262144 = (i 0).val / 128 by omega,
      show ((i 0).val * 2048 + (i 1).val) / 2048 % 128 = (i 0).val % 128 by omega,
      show ((i 0).val * 2048 + (i 1).val) / 128 % 16 = (i 1).val / 128 by omega,
      show ((i 0).val * 2048 + (i 1).val) % 128 = (i 1).val % 128 by omega, Nat.div_add_mod]
    rfl
  have e8 : val_main_v8 (F := Ideal) x0 i = gl (P (i 0).val (i 1).val) := by
    simp only [val_main_v8_apply, v7_eq h0, Nat.zero_add]
  rw [val_main_v44_apply, val_main_v43_apply, e, e8]
  rfl

end Cert.Reference23Ideal.Gf

namespace Cert.Kernel23Ideal.Gf

open Cert.Kernel23Ideal Cert.Kernel23Ideal.Gen Cert.Tab Cert.Sf

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0, 0] :=
  (by decide +kernel : ∀ t : Fin grid0.N, win0_3.index t = ![0, 0, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val, 0] :=
  (by decide +kernel : ∀ t : Fin grid0.N, win0_5.index t = ![t.val, 0])

theorem hs_eq : Named.named (F := Ideal) κ "inv_sqrt2" (φ := .f32) 0x3F3504F3#32 = (((Real.sqrt 2)⁻¹ : ℝ) : EReal) :=
  IdealRules.named_const.ideal_named_scalar _ _ _ _ rfl

section
variable {P G B : ℕ → ℕ → EReal} {T : ℕ}
variable {v0 : Vec Ideal S128x4096 .f32} (hp : ∀ (r : Fin 128) (c : Fin 4096), v0 (ix2 r c) = P (128 * T + r.val) c.val)
  {v27 : Vec Ideal S1x2048 .f32} (hg : ∀ (r : Fin 1) (c : Fin 2048), v27 (ix2 r c) = G 0 c.val)
  {v30 : Vec Ideal S1x2048 .f32} (hb : ∀ (r : Fin 1) (c : Fin 2048), v30 (ix2 r c) = B 0 c.val)

include hp in
theorem pay3_eq (q : Fin 128) (k : Fin 4096) : (k0_pay3 v0 (ix2 q k) : EReal) = gl (P (128 * T + q.val) k.val) := by
  pointwise [k0_pay3, hp, hs_eq]
  rfl

include hp in
theorem pay4_eq (q : Fin 128) (k : Fin 2048) : (k0_pay4 v0 (ix2 q k) : EReal) = gl (P (128 * T + q.val) k.val) := by
  pointwise [k0_pay4, pay3_eq hp]

include hp hg hb in
theorem pay5_eq (q : Fin 128) (k : Fin 2048) : (k0_pay5 v0 v27 v30 (ix2 q k) : EReal) = vn P G B (128 * T + q.val) k.val := by
  pointwise [k0_pay5, pay3_eq hp, hg, hb]
  rfl
end

variable {P G B : ℕ → ℕ → EReal} {W : ℕ → ℕ → ℕ → EReal} {BS : ℕ → ℕ → EReal}
variable (m : (ℓ : Loc nD τ sig) → Buf (Elt Ideal) ℓ) (c : Dev nD)
variable (h0 : ∀ i : S4096x4096.Idx, m (c.tc.loc main_arg0) i = P (i 0).val (i 1).val)
  (h1 : ∀ i : S1x2048.Idx, m (c.tc.loc main_arg1) i = G (i 0).val (i 1).val)
  (h2 : ∀ i : S1x2048.Idx, m (c.tc.loc main_arg2) i = B (i 0).val (i 1).val)
  (h3 : ∀ i : S16x128x128.Idx, m (c.tc.loc main_arg3) i = W (i 0).val (i 1).val (i 2).val)
  (h4 : ∀ i : S128x16.Idx, m (c.tc.loc main_arg4) i = BS (i 0).val (i 1).val)

include h0 in
theorem blk0 (t : Fin cfg0.N) (r : Fin 128) (k : Fin 4096) : iblk m c 0 t (ix2 r k) = P (128 * t.val + r.val) k.val := by
  have hN : t.val < 32 := t.isLt
  blk_simp [iblk, V]
  rw [h0]
  refine congrArg₂ P ?_ ?_ <;> blk_simp [idx0] <;> first | rfl | omega

include h1 in
theorem blk1 (t : Fin cfg0.N) (r : Fin 1) (k : Fin 2048) : iblk m c 1 t (ix2 r k) = G 0 k.val := by
  have hN : t.val < 32 := t.isLt
  blk_simp [iblk, V]
  rw [h1]
  refine congrArg₂ G ?_ ?_ <;> blk_simp [idx1] <;> first | rfl | omega

include h2 in
theorem blk2 (t : Fin cfg0.N) (r : Fin 1) (k : Fin 2048) : iblk m c 2 t (ix2 r k) = B 0 k.val := by
  have hN : t.val < 32 := t.isLt
  blk_simp [iblk, V]
  rw [h2]
  refine congrArg₂ B ?_ ?_ <;> blk_simp [idx2] <;> first | rfl | omega

include h3 in
theorem blk3 (t : Fin cfg0.N) (g : Fin 16) (a b : Fin 128) : iblk m c 3 t (ix3 g a b) = W g.val a.val b.val := by
  have hN : t.val < 32 := t.isLt
  blk_simp [iblk, V]
  rw [h3]
  congr 1 <;> blk_simp [idx3] <;> first | rfl | omega

include h4 in
theorem blk4 (t : Fin cfg0.N) (a : Fin 128) (g : Fin 16) : iblk m c 4 t (ix2 a g) = BS a.val g.val := by
  have hN : t.val < 32 := t.isLt
  blk_simp [iblk, V]
  rw [h4]
  refine congrArg₂ BS ?_ ?_ <;> blk_simp [idx4] <;> first | rfl | omega

/-- A row of the mixing matrix against the normalized half, with the bias, times the other half. -/
theorem out_sum {T q k g : ℕ} (hq : q < 128) (hk : k / 128 = g) :
    gl (P (128 * T + q) k) * ((∑ x : Fin 128, Scalar.select (IntOp.cmpi .sge (BitVec.ofNat 32 q) (BitVec.ofNat 32 x.val))
      (W g q x.val * vn P G B (128 * T + x.val) k) (0 : EReal)) + BS q g) = out P G B W BS (128 * T + q) k := by
  rw [out, gate, hk, show (128 * T + q) % 128 = q by omega, show (128 * T + q) / 128 = T by omega]
  refine congrArg (_ * ·) (congrArg (· + _) (Finset.sum_congr rfl fun x _ => ?_))
  rw [Cert.Sg.select_tril hq x.isLt, wc]
  split_ifs
  · rfl
  · rw [zero_mul]

set_option maxHeartbeats 2000000 in
include h0 h1 h2 h3 h4 in
theorem out5 (t : Fin cfg0.N) (i : S128x2048.Idx) :
    (out0_5 (iblk m c 0 t) (iblk m c 1 t) (iblk m c 2 t) (iblk m c 3 t) (iblk m c 4 t) i : EReal) = out P G B W BS (128 * t.val + (i 0).val) (i 1).val := by
  have hN : t.val < 32 := t.isLt
  have hp := blk0 m c h0 t
  have hg := blk1 m c h1 t
  have hb := blk2 m c h2 t
  have hw := blk3 m c h3 t
  have hs := blk4 m c h4 t
  unfold_out out0_5
  frame_out
  canon_tiles x e using (View.cover_of_tiledBy _ ![128, 128] (by sl_kernel_rfl) i)
  all_goals
    pointwise [hw, hs, pay4_eq hp, pay5_eq hp hg hb, k0_pay1, k0_pay2, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23, k0_pay24, k0_pay25, k0_pay26, k0_pay27]
    refine (out_sum (x 0).isLt (by omega)).trans ?_
    exact congrArg₂ (out P G B W BS) (congrArg _ e0.symm) e1.symm

include h0 h1 h2 h3 h4 in
theorem arr : (dats m 0 c).arrAt 5 cfg0.N = fun i : S4096x2048.Idx => out P G B W BS (i 0).val (i 1).val := by
  refine (dats m 0 c).arrAt_eq_of_covers 5 _ (by decide +kernel) fun t hf y => ?_
  have hN : t.val < 32 := t.isLt
  blk_simp
  rw [after0_5]
  refine (out5 m c h0 h1 h2 h3 h4 t y).trans ?_
  blk_simp [idx5]
  refine congrArg₂ (out P G B W BS) ?_ ?_ <;> first | rfl | omega

end Cert.Kernel23Ideal.Gf

namespace Cert.GfTie23

open Cert.Tab

theorem frame_ref : @Cert.quiescent_Reference23Ideal Cert.Reference23Ideal.Gen.facts := fun m ρ _ =>
  (θ_run Cert.Reference23Ideal.defs _ _).mono (fun r h => ⟨fun c => (h c).2, sem_eq_zero_of_no_sems (by decide) r.2⟩)
    (Cert.Reference23Ideal.Value.run (F := Ideal) m ρ)

theorem algebraic : @Cert.algebraic_Kernel23Ideal_Reference23Ideal Cert.Kernel23Ideal.Gen.facts Cert.Reference23Ideal.Gen.facts := by
  intro m g m' g' _ hagree
  refine ⟨fun c => (Cert.Kernel23Ideal.Gen.dats m 0 c).arrAt 5 Cert.Kernel23Ideal.cfg0.N, Cert.Kernel23Ideal.Value.run_blocks m g, ?_⟩
  refine (θ_run Cert.Reference23Ideal.defs _ _).mono (fun r h c => ?_) (Cert.Reference23Ideal.Value.run m' g')
  obtain ⟨r0, rest⟩ := h c
  obtain ⟨a0, a1, a2, a3, a4⟩ := hagree c
  rw [Cert.Reference23Ideal.Read.val_main_v44_eq, a0, a1, a2, a3, a4] at r0
  exact ⟨r0.trans ((funext fun i => Cert.Reference23Ideal.Gf.ref_eq (fun i => eq_tab _ i) (fun i => eq_tab _ i) (fun i => eq_tab _ i)
      (fun i => eq_tab3 _ i) (fun i => eq_tab _ i) i).trans
    (Cert.Kernel23Ideal.Gf.arr m c (fun i => eq_tab _ i) (fun i => eq_tab _ i) (fun i => eq_tab _ i)
      (fun i => eq_tab3 _ i) (fun i => eq_tab _ i)).symm), rest⟩

end Cert.GfTie23

end
-- ==== Proof.lean ====
/- The proof of the claim: the runs, the named constants and the equal results. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.ConvTie
public import proofs.«01_k».proof.Proof.SgTie
public import proofs.«01_k».proof.Proof.Gen.Kernel3.Frame
public import proofs.«01_k».proof.Proof.Mm3
public import proofs.«01_k».proof.Proof.Gen.Kernel4.Frame
public import proofs.«01_k».proof.Proof.Mm4
public import proofs.«01_k».proof.Proof.Gen.Kernel5.Frame
public import proofs.«01_k».proof.Proof.Mm5
public import proofs.«01_k».proof.Proof.Gen.Kernel6.Frame
public import proofs.«01_k».proof.Proof.Mm6
public import proofs.«01_k».proof.Proof.Gen.Kernel7.Frame
public import proofs.«01_k».proof.Proof.Mm7
public import proofs.«01_k».proof.Proof.Gen.Kernel8.Frame
public import proofs.«01_k».proof.Proof.Mm8
public import proofs.«01_k».proof.Proof.Gen.Kernel9.Frame
public import proofs.«01_k».proof.Proof.Mm9
public import proofs.«01_k».proof.Proof.Gen.Kernel10.Frame
public import proofs.«01_k».proof.Proof.Mm10
public import proofs.«01_k».proof.Proof.Gen.Kernel11.Frame
public import proofs.«01_k».proof.Proof.Mm11
public import proofs.«01_k».proof.Proof.Gen.Kernel12.Frame
public import proofs.«01_k».proof.Proof.Mm12
public import proofs.«01_k».proof.Proof.Gen.Kernel13.Frame
public import proofs.«01_k».proof.Proof.Mm13
public import proofs.«01_k».proof.Proof.Gen.Kernel14.Frame
public import proofs.«01_k».proof.Proof.Mm14
public import proofs.«01_k».proof.Proof.Gen.Kernel15.Frame
public import proofs.«01_k».proof.Proof.Mm15
public import proofs.«01_k».proof.Proof.Gen.Kernel16.Frame
public import proofs.«01_k».proof.Proof.Mm16
public import proofs.«01_k».proof.Proof.Gen.Kernel17.Frame
public import proofs.«01_k».proof.Proof.Mm17
public import proofs.«01_k».proof.Proof.Gen.Kernel18.Frame
public import proofs.«01_k».proof.Proof.Mm18
public import proofs.«01_k».proof.Proof.Gen.Kernel19.Frame
public import proofs.«01_k».proof.Proof.Ln19
public import proofs.«01_k».proof.Proof.Gen.Kernel20.Frame
public import proofs.«01_k».proof.Proof.Ln20
public import proofs.«01_k».proof.Proof.Gen.Kernel21.Frame
public import proofs.«01_k».proof.Proof.Ln21
public import proofs.«01_k».proof.Proof.Gen.Kernel22.Frame
public import proofs.«01_k».proof.Proof.Gen.Kernel24.Frame
public import proofs.«01_k».proof.Proof.Ad24
public import proofs.«01_k».proof.Proof.Gen.Kernel25.Frame
public import proofs.«01_k».proof.Proof.Ad25
public import proofs.«01_k».proof.Proof.Gen.Kernel26.Frame
public import proofs.«01_k».proof.Proof.Ad26
public import proofs.«01_k».proof.Proof.Gen.Kernel27.Frame
public import proofs.«01_k».proof.Proof.Ad27
public import proofs.«01_k».proof.Proof.Gen.Kernel28.Frame
public import proofs.«01_k».proof.Proof.Ad28
public import proofs.«01_k».proof.Proof.Gen.Kernel29.Frame
public import proofs.«01_k».proof.Proof.Ad29
public import proofs.«01_k».proof.Proof.Gf22
public import proofs.«01_k».proof.Proof.Gen.Kernel23.Frame
public import proofs.«01_k».proof.Proof.Gf23
public import Idealize.ShloMosaic.Adequacy
public import Idealize.ShloMosaic.Init

@[expose] public section

noncomputable section

namespace Cert.Proof

open Idealize.ShloMosaic Idealize.SL.Sem

/-- The gate gradient's reference ends with its arguments unchanged; it has no semaphore. -/
theorem frame_sg_ref : @Cert.quiescent_ReferenceIdeal Cert.ReferenceIdeal.Gen.facts := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The convolution gradient's reference ends with its arguments unchanged; it has no semaphore. -/
theorem frame_conv_ref : @Cert.quiescent_Reference2Ideal Cert.Reference2Ideal.Gen.facts := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

theorem preserves : Cert.preserves_Kernel_KernelIdeal :=
  ⟨IdealRules.named_const.statement Cert.KernelIdeal.κ "inv_sqrt2" .f32 0x3F3504F3#32 _ rfl,
    IdealRules.named_const.statement Cert.KernelIdeal.κ "inv_sqrt2pi" .f32 0x3ECC422A#32 _ rfl⟩

theorem preserves23 : Cert.preserves_Kernel23_Kernel23Ideal :=
  IdealRules.named_const.statement Cert.Kernel23Ideal.κ "inv_sqrt2" .f32 0x3F3504F3#32 _ rfl

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.SgTie.preFacts, Cert.ConvTie.preFacts, Cert.LnTie19.preFacts,
    fun m ρ _ => Cert.Kernel.Gen.frame m ρ, fun m ρ _ => Cert.KernelIdeal.Gen.frame m ρ, fun m ρ _ => Cert.KernelIdeal.Gen.frame m ρ, frame_sg_ref,
    fun m ρ _ => frame_sg_ref m ρ trivial,
    fun m ρ _ => Cert.Kernel2.Gen.frame m ρ, fun m ρ _ => Cert.Kernel2Ideal.Gen.frame m ρ, fun m ρ _ => Cert.Kernel2Ideal.Gen.frame m ρ,
    frame_conv_ref, fun m ρ _ => frame_conv_ref m ρ trivial,
    fun m ρ _ => Cert.Kernel3.Gen.frame m ρ, fun m ρ _ => Cert.Kernel3Ideal.Gen.frame m ρ, Cert.MmTie3.frame_ref,
    fun m ρ _ => Cert.Kernel4.Gen.frame m ρ, fun m ρ _ => Cert.Kernel4Ideal.Gen.frame m ρ, Cert.MmTie4.frame_ref,
    fun m ρ _ => Cert.Kernel5.Gen.frame m ρ, fun m ρ _ => Cert.Kernel5Ideal.Gen.frame m ρ, Cert.MmTie5.frame_ref,
    fun m ρ _ => Cert.Kernel6.Gen.frame m ρ, fun m ρ _ => Cert.Kernel6Ideal.Gen.frame m ρ, Cert.MmTie6.frame_ref,
    fun m ρ _ => Cert.Kernel7.Gen.frame m ρ, fun m ρ _ => Cert.Kernel7Ideal.Gen.frame m ρ, Cert.MmTie7.frame_ref,
    fun m ρ _ => Cert.Kernel8.Gen.frame m ρ, fun m ρ _ => Cert.Kernel8Ideal.Gen.frame m ρ, Cert.MmTie8.frame_ref,
    fun m ρ _ => Cert.Kernel9.Gen.frame m ρ, fun m ρ _ => Cert.Kernel9Ideal.Gen.frame m ρ, Cert.MmTie9.frame_ref,
    fun m ρ _ => Cert.Kernel10.Gen.frame m ρ, fun m ρ _ => Cert.Kernel10Ideal.Gen.frame m ρ, Cert.MmTie10.frame_ref,
    fun m ρ _ => Cert.Kernel11.Gen.frame m ρ, fun m ρ _ => Cert.Kernel11Ideal.Gen.frame m ρ, Cert.MmTie11.frame_ref,
    fun m ρ _ => Cert.Kernel12.Gen.frame m ρ, fun m ρ _ => Cert.Kernel12Ideal.Gen.frame m ρ, Cert.MmTie12.frame_ref,
    fun m ρ _ => Cert.Kernel13.Gen.frame m ρ, fun m ρ _ => Cert.Kernel13Ideal.Gen.frame m ρ, Cert.MmTie13.frame_ref,
    fun m ρ _ => Cert.Kernel14.Gen.frame m ρ, fun m ρ _ => Cert.Kernel14Ideal.Gen.frame m ρ, Cert.MmTie14.frame_ref,
    fun m ρ _ => Cert.Kernel15.Gen.frame m ρ, fun m ρ _ => Cert.Kernel15Ideal.Gen.frame m ρ, Cert.MmTie15.frame_ref,
    fun m ρ _ => Cert.Kernel16.Gen.frame m ρ, fun m ρ _ => Cert.Kernel16Ideal.Gen.frame m ρ, Cert.MmTie16.frame_ref,
    fun m ρ _ => Cert.Kernel17.Gen.frame m ρ, fun m ρ _ => Cert.Kernel17Ideal.Gen.frame m ρ, Cert.MmTie17.frame_ref,
    fun m ρ _ => Cert.Kernel18.Gen.frame m ρ, fun m ρ _ => Cert.Kernel18Ideal.Gen.frame m ρ, Cert.MmTie18.frame_ref,
    fun m ρ _ => Cert.Kernel19.Gen.frame m ρ, fun m ρ _ => Cert.Kernel19Ideal.Gen.frame m ρ, fun m ρ _ => Cert.Kernel19Ideal.Gen.frame m ρ,
    Cert.LnTie19.frame_ref, fun m ρ _ => Cert.LnTie19.frame_ref m ρ trivial,
    fun m ρ _ => Cert.Kernel20.Gen.frame m ρ, fun m ρ _ => Cert.Kernel20Ideal.Gen.frame m ρ, fun m ρ _ => Cert.Kernel20Ideal.Gen.frame m ρ,
    Cert.LnTie20.frame_ref, fun m ρ _ => Cert.LnTie20.frame_ref m ρ trivial,
    fun m ρ _ => Cert.Kernel21.Gen.frame m ρ, fun m ρ _ => Cert.Kernel21Ideal.Gen.frame m ρ, Cert.LnTie21.frame_ref,
    fun m ρ _ => Cert.Kernel22.Gen.frame m ρ, fun m ρ _ => Cert.Kernel22Ideal.Gen.frame m ρ, Cert.GfTie22.frame_ref,
    fun m ρ _ => Cert.Kernel23.Gen.frame m ρ, fun m ρ _ => Cert.Kernel23Ideal.Gen.frame m ρ, Cert.GfTie23.frame_ref,
    fun m ρ _ => Cert.Kernel24.Gen.frame m ρ, fun m ρ _ => Cert.Kernel24Ideal.Gen.frame m ρ, Cert.AdTie24.frame_ref,
    fun m ρ _ => Cert.Kernel25.Gen.frame m ρ, fun m ρ _ => Cert.Kernel25Ideal.Gen.frame m ρ, Cert.AdTie25.frame_ref,
    fun m ρ _ => Cert.Kernel26.Gen.frame m ρ, fun m ρ _ => Cert.Kernel26Ideal.Gen.frame m ρ, Cert.AdTie26.frame_ref,
    fun m ρ _ => Cert.Kernel27.Gen.frame m ρ, fun m ρ _ => Cert.Kernel27Ideal.Gen.frame m ρ, Cert.AdTie27.frame_ref,
    fun m ρ _ => Cert.Kernel28.Gen.frame m ρ, fun m ρ _ => Cert.Kernel28Ideal.Gen.frame m ρ, Cert.AdTie28.frame_ref,
    fun m ρ _ => Cert.Kernel29.Gen.frame m ρ, fun m ρ _ => Cert.Kernel29Ideal.Gen.frame m ρ, Cert.AdTie29.frame_ref,
    preserves, Cert.SgTie.algebraic, trivial, Cert.ConvTie.algebraic,
    trivial, Cert.MmTie3.algebraic,
    trivial, Cert.MmTie4.algebraic,
    trivial, Cert.MmTie5.algebraic,
    trivial, Cert.MmTie6.algebraic,
    trivial, Cert.MmTie7.algebraic,
    trivial, Cert.MmTie8.algebraic,
    trivial, Cert.MmTie9.algebraic,
    trivial, Cert.MmTie10.algebraic,
    trivial, Cert.MmTie11.algebraic,
    trivial, Cert.MmTie12.algebraic,
    trivial, Cert.MmTie13.algebraic,
    trivial, Cert.MmTie14.algebraic,
    trivial, Cert.MmTie15.algebraic,
    trivial, Cert.MmTie16.algebraic,
    trivial, Cert.MmTie17.algebraic,
    trivial, Cert.MmTie18.algebraic,
    trivial, Cert.LnTie19.algebraic,
    trivial, Cert.LnTie20.algebraic,
    trivial, Cert.LnTie21.algebraic,
    trivial, Cert.GfTie22.algebraic,
    preserves23, Cert.GfTie23.algebraic,
    trivial, Cert.AdTie24.algebraic,
    trivial, Cert.AdTie25.algebraic,
    trivial, Cert.AdTie26.algebraic,
    trivial, Cert.AdTie27.algebraic,
    trivial, Cert.AdTie28.algebraic,
    trivial, Cert.AdTie29.algebraic⟩

end Cert.Proof

end
